-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Gmlp (m : (ℓ : Loc Cert.Gmlp.nD Cert.Gmlp.τ Cert.Gmlp.sig) → Buf (Elt Bits) ℓ) : Prop :=
  True

def Pre_GmlpIdeal (m : (ℓ : Loc Cert.GmlpIdeal.nD Cert.GmlpIdeal.τ Cert.GmlpIdeal.sig) → Buf (Elt Ideal) ℓ) : Prop :=
  True

def Pre_GmlpRefIdeal (m : (ℓ : Loc Cert.GmlpRefIdeal.nD Cert.GmlpRefIdeal.τ Cert.GmlpRefIdeal.sig) → Buf (Elt Ideal) ℓ) : Prop :=
  True

def Pre_Reorder (m : (ℓ : Loc Cert.Reorder.nD Cert.Reorder.τ Cert.Reorder.sig) → Buf (Elt Bits) ℓ) : Prop :=
  True

def Pre_ReorderIdeal (m : (ℓ : Loc Cert.ReorderIdeal.nD Cert.ReorderIdeal.τ Cert.ReorderIdeal.sig) → Buf (Elt Ideal) ℓ) : Prop :=
  True

def Pre_ReorderRefIdeal (m : (ℓ : Loc Cert.ReorderRefIdeal.nD Cert.ReorderRefIdeal.τ Cert.ReorderRefIdeal.sig) → Buf (Elt Ideal) ℓ) : Prop :=
  True

def Pre_Compress (m : (ℓ : Loc Cert.Compress.nD Cert.Compress.τ Cert.Compress.sig) → Buf (Elt Bits) ℓ) : Prop :=
  True

def Pre_CompressIdeal (m : (ℓ : Loc Cert.CompressIdeal.nD Cert.CompressIdeal.τ Cert.CompressIdeal.sig) → Buf (Elt Ideal) ℓ) : Prop :=
  True

def Pre_CompressIdeal_finite_compression [hPre_finite_compression : Cert.Pre_finite_compression.Facts] (m : (ℓ : Loc Cert.CompressIdeal.nD Cert.CompressIdeal.τ Cert.CompressIdeal.sig) → Buf (Elt Ideal) ℓ) : Prop :=
  ∀ c : Dev Cert.CompressIdeal.nD,
    (Cert.Pre_finite_compression.fn (F := Ideal) (m ((c.tc : Thread Cert.CompressIdeal.nD Cert.CompressIdeal.τ).loc Cert.CompressIdeal.main_arg0)) (m ((c.tc : Thread Cert.CompressIdeal.nD Cert.CompressIdeal.τ).loc Cert.CompressIdeal.main_arg1)) (m ((c.tc : Thread Cert.CompressIdeal.nD Cert.CompressIdeal.τ).loc Cert.CompressIdeal.main_arg2)) (m ((c.tc : Thread Cert.CompressIdeal.nD Cert.CompressIdeal.τ).loc Cert.CompressIdeal.main_arg3)) (m ((c.tc : Thread Cert.CompressIdeal.nD Cert.CompressIdeal.τ).loc Cert.CompressIdeal.main_arg4)) (m ((c.tc : Thread Cert.CompressIdeal.nD Cert.CompressIdeal.τ).loc Cert.CompressIdeal.main_arg5)) (m ((c.tc : Thread Cert.CompressIdeal.nD Cert.CompressIdeal.τ).loc Cert.CompressIdeal.main_arg6))) = (fun _ => 1#1)

def Pre_CompressRefIdeal (m : (ℓ : Loc Cert.CompressRefIdeal.nD Cert.CompressRefIdeal.τ Cert.CompressRefIdeal.sig) → Buf (Elt Ideal) ℓ) : Prop :=
  True

def Pre_CompressRefIdeal_finite_compression [hPre_finite_compression : Cert.Pre_finite_compression.Facts] (m : (ℓ : Loc Cert.CompressRefIdeal.nD Cert.CompressRefIdeal.τ Cert.CompressRefIdeal.sig) → Buf (Elt Ideal) ℓ) : Prop :=
  ∀ c : Dev Cert.CompressRefIdeal.nD,
    (Cert.Pre_finite_compression.fn (F := Ideal) (m ((c.tc : Thread Cert.CompressRefIdeal.nD Cert.CompressRefIdeal.τ).loc Cert.CompressRefIdeal.main_arg0)) (m ((c.tc : Thread Cert.CompressRefIdeal.nD Cert.CompressRefIdeal.τ).loc Cert.CompressRefIdeal.main_arg1)) (m ((c.tc : Thread Cert.CompressRefIdeal.nD Cert.CompressRefIdeal.τ).loc Cert.CompressRefIdeal.main_arg2)) (m ((c.tc : Thread Cert.CompressRefIdeal.nD Cert.CompressRefIdeal.τ).loc Cert.CompressRefIdeal.main_arg3)) (m ((c.tc : Thread Cert.CompressRefIdeal.nD Cert.CompressRefIdeal.τ).loc Cert.CompressRefIdeal.main_arg4)) (m ((c.tc : Thread Cert.CompressRefIdeal.nD Cert.CompressRefIdeal.τ).loc Cert.CompressRefIdeal.main_arg5)) (m ((c.tc : Thread Cert.CompressRefIdeal.nD Cert.CompressRefIdeal.τ).loc Cert.CompressRefIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_Gmlp [hGmlp : Cert.Gmlp.Facts] : Prop :=
  ∀ (m : (ℓ : Loc Cert.Gmlp.nD Cert.Gmlp.τ Cert.Gmlp.sig) → Buf (Elt Bits) ℓ) (g : Dev Cert.Gmlp.nD → PrngReg), Pre_Gmlp m →
    θ_run (Cert.Gmlp.defs (F := Bits)) (onTc (τ := Cert.Gmlp.τ) (Cert.Gmlp.main (F := Bits))) ⟨m, fun _ => 0, g⟩ (fun r => (∀ c : Dev Cert.Gmlp.nD,
      r.2.mem ((c.tc : Thread Cert.Gmlp.nD Cert.Gmlp.τ).loc Cert.Gmlp.main_arg0) = m ((c.tc : Thread Cert.Gmlp.nD Cert.Gmlp.τ).loc Cert.Gmlp.main_arg0)
      ∧ r.2.mem ((c.tc : Thread Cert.Gmlp.nD Cert.Gmlp.τ).loc Cert.Gmlp.main_arg1) = m ((c.tc : Thread Cert.Gmlp.nD Cert.Gmlp.τ).loc Cert.Gmlp.main_arg1)
      ∧ r.2.mem ((c.tc : Thread Cert.Gmlp.nD Cert.Gmlp.τ).loc Cert.Gmlp.main_arg2) = m ((c.tc : Thread Cert.Gmlp.nD Cert.Gmlp.τ).loc Cert.Gmlp.main_arg2)
      ∧ r.2.mem ((c.tc : Thread Cert.Gmlp.nD Cert.Gmlp.τ).loc Cert.Gmlp.main_arg3) = m ((c.tc : Thread Cert.Gmlp.nD Cert.Gmlp.τ).loc Cert.Gmlp.main_arg3)
      ∧ r.2.mem ((c.tc : Thread Cert.Gmlp.nD Cert.Gmlp.τ).loc Cert.Gmlp.main_arg4) = m ((c.tc : Thread Cert.Gmlp.nD Cert.Gmlp.τ).loc Cert.Gmlp.main_arg4))
      ∧ r.2.sem = fun _ => 0)

def quiescent_GmlpIdeal [hGmlpIdeal : Cert.GmlpIdeal.Facts] : Prop :=
  ∀ (m : (ℓ : Loc Cert.GmlpIdeal.nD Cert.GmlpIdeal.τ Cert.GmlpIdeal.sig) → Buf (Elt Ideal) ℓ) (g : Dev Cert.GmlpIdeal.nD → PrngReg), Pre_GmlpIdeal m →
    θ_run (Cert.GmlpIdeal.defs (F := Ideal)) (onTc (τ := Cert.GmlpIdeal.τ) (Cert.GmlpIdeal.main (F := Ideal))) ⟨m, fun _ => 0, g⟩ (fun r => (∀ c : Dev Cert.GmlpIdeal.nD,
      r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
      ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
      ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
      ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
      ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4))
      ∧ r.2.sem = fun _ => 0)

def quiescent_GmlpRefIdeal [hGmlpRefIdeal : Cert.GmlpRefIdeal.Facts] : Prop :=
  ∀ (m : (ℓ : Loc Cert.GmlpRefIdeal.nD Cert.GmlpRefIdeal.τ Cert.GmlpRefIdeal.sig) → Buf (Elt Ideal) ℓ) (g : Dev Cert.GmlpRefIdeal.nD → PrngReg), Pre_GmlpRefIdeal m →
    θ_run (Cert.GmlpRefIdeal.defs (F := Ideal)) (onTc (τ := Cert.GmlpRefIdeal.τ) (Cert.GmlpRefIdeal.main (F := Ideal))) ⟨m, fun _ => 0, g⟩ (fun r => (∀ c : Dev Cert.GmlpRefIdeal.nD,
      r.2.mem ((c.tc : Thread Cert.GmlpRefIdeal.nD Cert.GmlpRefIdeal.τ).loc Cert.GmlpRefIdeal.main_arg0) = m ((c.tc : Thread Cert.GmlpRefIdeal.nD Cert.GmlpRefIdeal.τ).loc Cert.GmlpRefIdeal.main_arg0)
      ∧ r.2.mem ((c.tc : Thread Cert.GmlpRefIdeal.nD Cert.GmlpRefIdeal.τ).loc Cert.GmlpRefIdeal.main_arg1) = m ((c.tc : Thread Cert.GmlpRefIdeal.nD Cert.GmlpRefIdeal.τ).loc Cert.GmlpRefIdeal.main_arg1)
      ∧ r.2.mem ((c.tc : Thread Cert.GmlpRefIdeal.nD Cert.GmlpRefIdeal.τ).loc Cert.GmlpRefIdeal.main_arg2) = m ((c.tc : Thread Cert.GmlpRefIdeal.nD Cert.GmlpRefIdeal.τ).loc Cert.GmlpRefIdeal.main_arg2)
      ∧ r.2.mem ((c.tc : Thread Cert.GmlpRefIdeal.nD Cert.GmlpRefIdeal.τ).loc Cert.GmlpRefIdeal.main_arg3) = m ((c.tc : Thread Cert.GmlpRefIdeal.nD Cert.GmlpRefIdeal.τ).loc Cert.GmlpRefIdeal.main_arg3)
      ∧ r.2.mem ((c.tc : Thread Cert.GmlpRefIdeal.nD Cert.GmlpRefIdeal.τ).loc Cert.GmlpRefIdeal.main_arg4) = m ((c.tc : Thread Cert.GmlpRefIdeal.nD Cert.GmlpRefIdeal.τ).loc Cert.GmlpRefIdeal.main_arg4))
      ∧ r.2.sem = fun _ => 0)

def quiescent_Reorder [hReorder : Cert.Reorder.Facts] : Prop :=
  ∀ (m : (ℓ : Loc Cert.Reorder.nD Cert.Reorder.τ Cert.Reorder.sig) → Buf (Elt Bits) ℓ) (g : Dev Cert.Reorder.nD → PrngReg), Pre_Reorder m →
    θ_run (Cert.Reorder.defs (F := Bits)) (onTc (τ := Cert.Reorder.τ) (Cert.Reorder.main (F := Bits))) ⟨m, fun _ => 0, g⟩ (fun r => (∀ c : Dev Cert.Reorder.nD,
      r.2.mem ((c.tc : Thread Cert.Reorder.nD Cert.Reorder.τ).loc Cert.Reorder.main_arg0) = m ((c.tc : Thread Cert.Reorder.nD Cert.Reorder.τ).loc Cert.Reorder.main_arg0))
      ∧ r.2.sem = fun _ => 0)

def quiescent_ReorderIdeal [hReorderIdeal : Cert.ReorderIdeal.Facts] : Prop :=
  ∀ (m : (ℓ : Loc Cert.ReorderIdeal.nD Cert.ReorderIdeal.τ Cert.ReorderIdeal.sig) → Buf (Elt Ideal) ℓ) (g : Dev Cert.ReorderIdeal.nD → PrngReg), Pre_ReorderIdeal m →
    θ_run (Cert.ReorderIdeal.defs (F := Ideal)) (onTc (τ := Cert.ReorderIdeal.τ) (Cert.ReorderIdeal.main (F := Ideal))) ⟨m, fun _ => 0, g⟩ (fun r => (∀ c : Dev Cert.ReorderIdeal.nD,
      r.2.mem ((c.tc : Thread Cert.ReorderIdeal.nD Cert.ReorderIdeal.τ).loc Cert.ReorderIdeal.main_arg0) = m ((c.tc : Thread Cert.ReorderIdeal.nD Cert.ReorderIdeal.τ).loc Cert.ReorderIdeal.main_arg0))
      ∧ r.2.sem = fun _ => 0)

def quiescent_ReorderRefIdeal [hReorderRefIdeal : Cert.ReorderRefIdeal.Facts] : Prop :=
  ∀ (m : (ℓ : Loc Cert.ReorderRefIdeal.nD Cert.ReorderRefIdeal.τ Cert.ReorderRefIdeal.sig) → Buf (Elt Ideal) ℓ) (g : Dev Cert.ReorderRefIdeal.nD → PrngReg), Pre_ReorderRefIdeal m →
    θ_run (Cert.ReorderRefIdeal.defs (F := Ideal)) (onTc (τ := Cert.ReorderRefIdeal.τ) (Cert.ReorderRefIdeal.main (F := Ideal))) ⟨m, fun _ => 0, g⟩ (fun r => (∀ c : Dev Cert.ReorderRefIdeal.nD,
      r.2.mem ((c.tc : Thread Cert.ReorderRefIdeal.nD Cert.ReorderRefIdeal.τ).loc Cert.ReorderRefIdeal.main_arg0) = m ((c.tc : Thread Cert.ReorderRefIdeal.nD Cert.ReorderRefIdeal.τ).loc Cert.ReorderRefIdeal.main_arg0))
      ∧ r.2.sem = fun _ => 0)

def quiescent_Compress [hCompress : Cert.Compress.Facts] : Prop :=
  ∀ (m : (ℓ : Loc Cert.Compress.nD Cert.Compress.τ Cert.Compress.sig) → Buf (Elt Bits) ℓ) (g : Dev Cert.Compress.nD → PrngReg), Pre_Compress m →
    θ_run (Cert.Compress.defs (F := Bits)) (onTc (τ := Cert.Compress.τ) (Cert.Compress.main (F := Bits))) ⟨m, fun _ => 0, g⟩ (fun r => (∀ c : Dev Cert.Compress.nD,
      r.2.mem ((c.tc : Thread Cert.Compress.nD Cert.Compress.τ).loc Cert.Compress.main_arg0) = m ((c.tc : Thread Cert.Compress.nD Cert.Compress.τ).loc Cert.Compress.main_arg0)
      ∧ r.2.mem ((c.tc : Thread Cert.Compress.nD Cert.Compress.τ).loc Cert.Compress.main_arg1) = m ((c.tc : Thread Cert.Compress.nD Cert.Compress.τ).loc Cert.Compress.main_arg1)
      ∧ r.2.mem ((c.tc : Thread Cert.Compress.nD Cert.Compress.τ).loc Cert.Compress.main_arg2) = m ((c.tc : Thread Cert.Compress.nD Cert.Compress.τ).loc Cert.Compress.main_arg2)
      ∧ r.2.mem ((c.tc : Thread Cert.Compress.nD Cert.Compress.τ).loc Cert.Compress.main_arg3) = m ((c.tc : Thread Cert.Compress.nD Cert.Compress.τ).loc Cert.Compress.main_arg3)
      ∧ r.2.mem ((c.tc : Thread Cert.Compress.nD Cert.Compress.τ).loc Cert.Compress.main_arg4) = m ((c.tc : Thread Cert.Compress.nD Cert.Compress.τ).loc Cert.Compress.main_arg4)
      ∧ r.2.mem ((c.tc : Thread Cert.Compress.nD Cert.Compress.τ).loc Cert.Compress.main_arg5) = m ((c.tc : Thread Cert.Compress.nD Cert.Compress.τ).loc Cert.Compress.main_arg5)
      ∧ r.2.mem ((c.tc : Thread Cert.Compress.nD Cert.Compress.τ).loc Cert.Compress.main_arg6) = m ((c.tc : Thread Cert.Compress.nD Cert.Compress.τ).loc Cert.Compress.main_arg6))
      ∧ r.2.sem = fun _ => 0)

def quiescent_CompressIdeal [hCompressIdeal : Cert.CompressIdeal.Facts] : Prop :=
  ∀ (m : (ℓ : Loc Cert.CompressIdeal.nD Cert.CompressIdeal.τ Cert.CompressIdeal.sig) → Buf (Elt Ideal) ℓ) (g : Dev Cert.CompressIdeal.nD → PrngReg), Pre_CompressIdeal m →
    θ_run (Cert.CompressIdeal.defs (F := Ideal)) (onTc (τ := Cert.CompressIdeal.τ) (Cert.CompressIdeal.main (F := Ideal))) ⟨m, fun _ => 0, g⟩ (fun r => (∀ c : Dev Cert.CompressIdeal.nD,
      r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
      ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
      ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
      ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3)
      ∧ r.2.mem ((c.tc : Thread Cert.CompressIdeal.nD Cert.CompressIdeal.τ).loc Cert.CompressIdeal.main_arg4) = m ((c.tc : Thread Cert.CompressIdeal.nD Cert.CompressIdeal.τ).loc Cert.CompressIdeal.main_arg4)
      ∧ r.2.mem ((c.tc : Thread Cert.CompressIdeal.nD Cert.CompressIdeal.τ).loc Cert.CompressIdeal.main_arg5) = m ((c.tc : Thread Cert.CompressIdeal.nD Cert.CompressIdeal.τ).loc Cert.CompressIdeal.main_arg5)
      ∧ r.2.mem ((c.tc : Thread Cert.CompressIdeal.nD Cert.CompressIdeal.τ).loc Cert.CompressIdeal.main_arg6) = m ((c.tc : Thread Cert.CompressIdeal.nD Cert.CompressIdeal.τ).loc Cert.CompressIdeal.main_arg6))
      ∧ r.2.sem = fun _ => 0)

def quiescent_CompressIdeal_pre_finite_compression [hCompressIdeal : Cert.CompressIdeal.Facts] [hPre_finite_compression : Cert.Pre_finite_compression.Facts] : Prop :=
  ∀ (m : (ℓ : Loc Cert.CompressIdeal.nD Cert.CompressIdeal.τ Cert.CompressIdeal.sig) → Buf (Elt Ideal) ℓ) (g : Dev Cert.CompressIdeal.nD → PrngReg), Pre_CompressIdeal_finite_compression m →
    θ_run (Cert.CompressIdeal.defs (F := Ideal)) (onTc (τ := Cert.CompressIdeal.τ) (Cert.CompressIdeal.main (F := Ideal))) ⟨m, fun _ => 0, g⟩ (fun r => (∀ c : Dev Cert.CompressIdeal.nD,
      r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
      ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
      ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
      ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3)
      ∧ r.2.mem ((c.tc : Thread Cert.CompressIdeal.nD Cert.CompressIdeal.τ).loc Cert.CompressIdeal.main_arg4) = m ((c.tc : Thread Cert.CompressIdeal.nD Cert.CompressIdeal.τ).loc Cert.CompressIdeal.main_arg4)
      ∧ r.2.mem ((c.tc : Thread Cert.CompressIdeal.nD Cert.CompressIdeal.τ).loc Cert.CompressIdeal.main_arg5) = m ((c.tc : Thread Cert.CompressIdeal.nD Cert.CompressIdeal.τ).loc Cert.CompressIdeal.main_arg5)
      ∧ r.2.mem ((c.tc : Thread Cert.CompressIdeal.nD Cert.CompressIdeal.τ).loc Cert.CompressIdeal.main_arg6) = m ((c.tc : Thread Cert.CompressIdeal.nD Cert.CompressIdeal.τ).loc Cert.CompressIdeal.main_arg6))
      ∧ r.2.sem = fun _ => 0)

def quiescent_CompressRefIdeal [hCompressRefIdeal : Cert.CompressRefIdeal.Facts] : Prop :=
  ∀ (m : (ℓ : Loc Cert.CompressRefIdeal.nD Cert.CompressRefIdeal.τ Cert.CompressRefIdeal.sig) → Buf (Elt Ideal) ℓ) (g : Dev Cert.CompressRefIdeal.nD → PrngReg), Pre_CompressRefIdeal m →
    θ_run (Cert.CompressRefIdeal.defs (F := Ideal)) (onTc (τ := Cert.CompressRefIdeal.τ) (Cert.CompressRefIdeal.main (F := Ideal))) ⟨m, fun _ => 0, g⟩ (fun r => (∀ c : Dev Cert.CompressRefIdeal.nD,
      r.2.mem ((c.tc : Thread Cert.CompressRefIdeal.nD Cert.CompressRefIdeal.τ).loc Cert.CompressRefIdeal.main_arg0) = m ((c.tc : Thread Cert.CompressRefIdeal.nD Cert.CompressRefIdeal.τ).loc Cert.CompressRefIdeal.main_arg0)
      ∧ r.2.mem ((c.tc : Thread Cert.CompressRefIdeal.nD Cert.CompressRefIdeal.τ).loc Cert.CompressRefIdeal.main_arg1) = m ((c.tc : Thread Cert.CompressRefIdeal.nD Cert.CompressRefIdeal.τ).loc Cert.CompressRefIdeal.main_arg1)
      ∧ r.2.mem ((c.tc : Thread Cert.CompressRefIdeal.nD Cert.CompressRefIdeal.τ).loc Cert.CompressRefIdeal.main_arg2) = m ((c.tc : Thread Cert.CompressRefIdeal.nD Cert.CompressRefIdeal.τ).loc Cert.CompressRefIdeal.main_arg2)
      ∧ r.2.mem ((c.tc : Thread Cert.CompressRefIdeal.nD Cert.CompressRefIdeal.τ).loc Cert.CompressRefIdeal.main_arg3) = m ((c.tc : Thread Cert.CompressRefIdeal.nD Cert.CompressRefIdeal.τ).loc Cert.CompressRefIdeal.main_arg3)
      ∧ r.2.mem ((c.tc : Thread Cert.CompressRefIdeal.nD Cert.CompressRefIdeal.τ).loc Cert.CompressRefIdeal.main_arg4) = m ((c.tc : Thread Cert.CompressRefIdeal.nD Cert.CompressRefIdeal.τ).loc Cert.CompressRefIdeal.main_arg4)
      ∧ r.2.mem ((c.tc : Thread Cert.CompressRefIdeal.nD Cert.CompressRefIdeal.τ).loc Cert.CompressRefIdeal.main_arg5) = m ((c.tc : Thread Cert.CompressRefIdeal.nD Cert.CompressRefIdeal.τ).loc Cert.CompressRefIdeal.main_arg5)
      ∧ r.2.mem ((c.tc : Thread Cert.CompressRefIdeal.nD Cert.CompressRefIdeal.τ).loc Cert.CompressRefIdeal.main_arg6) = m ((c.tc : Thread Cert.CompressRefIdeal.nD Cert.CompressRefIdeal.τ).loc Cert.CompressRefIdeal.main_arg6))
      ∧ r.2.sem = fun _ => 0)

def quiescent_CompressRefIdeal_pre_finite_compression [hCompressRefIdeal : Cert.CompressRefIdeal.Facts] [hPre_finite_compression : Cert.Pre_finite_compression.Facts] : Prop :=
  ∀ (m : (ℓ : Loc Cert.CompressRefIdeal.nD Cert.CompressRefIdeal.τ Cert.CompressRefIdeal.sig) → Buf (Elt Ideal) ℓ) (g : Dev Cert.CompressRefIdeal.nD → PrngReg), Pre_CompressRefIdeal_finite_compression m →
    θ_run (Cert.CompressRefIdeal.defs (F := Ideal)) (onTc (τ := Cert.CompressRefIdeal.τ) (Cert.CompressRefIdeal.main (F := Ideal))) ⟨m, fun _ => 0, g⟩ (fun r => (∀ c : Dev Cert.CompressRefIdeal.nD,
      r.2.mem ((c.tc : Thread Cert.CompressRefIdeal.nD Cert.CompressRefIdeal.τ).loc Cert.CompressRefIdeal.main_arg0) = m ((c.tc : Thread Cert.CompressRefIdeal.nD Cert.CompressRefIdeal.τ).loc Cert.CompressRefIdeal.main_arg0)
      ∧ r.2.mem ((c.tc : Thread Cert.CompressRefIdeal.nD Cert.CompressRefIdeal.τ).loc Cert.CompressRefIdeal.main_arg1) = m ((c.tc : Thread Cert.CompressRefIdeal.nD Cert.CompressRefIdeal.τ).loc Cert.CompressRefIdeal.main_arg1)
      ∧ r.2.mem ((c.tc : Thread Cert.CompressRefIdeal.nD Cert.CompressRefIdeal.τ).loc Cert.CompressRefIdeal.main_arg2) = m ((c.tc : Thread Cert.CompressRefIdeal.nD Cert.CompressRefIdeal.τ).loc Cert.CompressRefIdeal.main_arg2)
      ∧ r.2.mem ((c.tc : Thread Cert.CompressRefIdeal.nD Cert.CompressRefIdeal.τ).loc Cert.CompressRefIdeal.main_arg3) = m ((c.tc : Thread Cert.CompressRefIdeal.nD Cert.CompressRefIdeal.τ).loc Cert.CompressRefIdeal.main_arg3)
      ∧ r.2.mem ((c.tc : Thread Cert.CompressRefIdeal.nD Cert.CompressRefIdeal.τ).loc Cert.CompressRefIdeal.main_arg4) = m ((c.tc : Thread Cert.CompressRefIdeal.nD Cert.CompressRefIdeal.τ).loc Cert.CompressRefIdeal.main_arg4)
      ∧ r.2.mem ((c.tc : Thread Cert.CompressRefIdeal.nD Cert.CompressRefIdeal.τ).loc Cert.CompressRefIdeal.main_arg5) = m ((c.tc : Thread Cert.CompressRefIdeal.nD Cert.CompressRefIdeal.τ).loc Cert.CompressRefIdeal.main_arg5)
      ∧ r.2.mem ((c.tc : Thread Cert.CompressRefIdeal.nD Cert.CompressRefIdeal.τ).loc Cert.CompressRefIdeal.main_arg6) = m ((c.tc : Thread Cert.CompressRefIdeal.nD Cert.CompressRefIdeal.τ).loc Cert.CompressRefIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v24) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v6_0)) (v1 : (c : Dev Cert.MergeIdeal.nD) → Buf (Elt Ideal) ((c.tc : Thread Cert.MergeIdeal.nD Cert.MergeIdeal.τ).loc Cert.MergeIdeal.main_v6_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v6_0) = v0 c
          ∧ r.2.mem ((c.tc : Thread Cert.MergeIdeal.nD Cert.MergeIdeal.τ).loc Cert.MergeIdeal.main_v6_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v44) = v0 c
          ∧ r.2.mem ((c.tc : Thread Cert.MergeRefIdeal.nD Cert.MergeRefIdeal.τ).loc Cert.MergeRefIdeal.main_v58) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v1) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v18) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_Gmlp_GmlpIdeal : Prop :=
  True

def algebraic_GmlpIdeal_GmlpRefIdeal [hGmlpIdeal : Cert.GmlpIdeal.Facts] [hGmlpRefIdeal : Cert.GmlpRefIdeal.Facts] : Prop :=
  ∀ (m : (ℓ : Loc Cert.GmlpIdeal.nD Cert.GmlpIdeal.τ Cert.GmlpIdeal.sig) → Buf (Elt Ideal) ℓ) (g : Dev Cert.GmlpIdeal.nD → PrngReg)
    (m' : (ℓ : Loc Cert.GmlpRefIdeal.nD Cert.GmlpRefIdeal.τ Cert.GmlpRefIdeal.sig) → Buf (Elt Ideal) ℓ) (g' : Dev Cert.GmlpRefIdeal.nD → PrngReg), Pre_GmlpIdeal m →
    (∀ c : Dev Cert.GmlpIdeal.nD,
      m' ((c.tc : Thread Cert.GmlpRefIdeal.nD Cert.GmlpRefIdeal.τ).loc Cert.GmlpRefIdeal.main_arg0) = m ((c.tc : Thread Cert.GmlpIdeal.nD Cert.GmlpIdeal.τ).loc Cert.GmlpIdeal.main_arg0)
      ∧ m' ((c.tc : Thread Cert.GmlpRefIdeal.nD Cert.GmlpRefIdeal.τ).loc Cert.GmlpRefIdeal.main_arg1) = m ((c.tc : Thread Cert.GmlpIdeal.nD Cert.GmlpIdeal.τ).loc Cert.GmlpIdeal.main_arg1)
      ∧ m' ((c.tc : Thread Cert.GmlpRefIdeal.nD Cert.GmlpRefIdeal.τ).loc Cert.GmlpRefIdeal.main_arg2) = m ((c.tc : Thread Cert.GmlpIdeal.nD Cert.GmlpIdeal.τ).loc Cert.GmlpIdeal.main_arg2)
      ∧ m' ((c.tc : Thread Cert.GmlpRefIdeal.nD Cert.GmlpRefIdeal.τ).loc Cert.GmlpRefIdeal.main_arg3) = m ((c.tc : Thread Cert.GmlpIdeal.nD Cert.GmlpIdeal.τ).loc Cert.GmlpIdeal.main_arg3)
      ∧ m' ((c.tc : Thread Cert.GmlpRefIdeal.nD Cert.GmlpRefIdeal.τ).loc Cert.GmlpRefIdeal.main_arg4) = m ((c.tc : Thread Cert.GmlpIdeal.nD Cert.GmlpIdeal.τ).loc Cert.GmlpIdeal.main_arg4)) →
    ∃ (v0 : (c : Dev Cert.GmlpIdeal.nD) → Buf (Elt Ideal) ((c.tc : Thread Cert.GmlpIdeal.nD Cert.GmlpIdeal.τ).loc Cert.GmlpIdeal.main_v3)),
      θ_run (Cert.GmlpIdeal.defs (F := Ideal)) (onTc (τ := Cert.GmlpIdeal.τ) (Cert.GmlpIdeal.main (F := Ideal))) ⟨m, fun _ => 0, g⟩ (fun r => ∀ c : Dev Cert.GmlpIdeal.nD,
          r.2.mem ((c.tc : Thread Cert.GmlpIdeal.nD Cert.GmlpIdeal.τ).loc Cert.GmlpIdeal.main_v3) = v0 c
          ∧ r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
          ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
          ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
          ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
          ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4))
      ∧ θ_run (Cert.GmlpRefIdeal.defs (F := Ideal)) (onTc (τ := Cert.GmlpRefIdeal.τ) (Cert.GmlpRefIdeal.main (F := Ideal))) ⟨m', fun _ => 0, g'⟩ (fun r => ∀ c : Dev Cert.GmlpRefIdeal.nD,
          r.2.mem ((c.tc : Thread Cert.GmlpRefIdeal.nD Cert.GmlpRefIdeal.τ).loc Cert.GmlpRefIdeal.main_v67) = v0 c
          ∧ r.2.mem ((c.tc : Thread Cert.GmlpRefIdeal.nD Cert.GmlpRefIdeal.τ).loc Cert.GmlpRefIdeal.main_arg0) = m' ((c.tc : Thread Cert.GmlpRefIdeal.nD Cert.GmlpRefIdeal.τ).loc Cert.GmlpRefIdeal.main_arg0)
          ∧ r.2.mem ((c.tc : Thread Cert.GmlpRefIdeal.nD Cert.GmlpRefIdeal.τ).loc Cert.GmlpRefIdeal.main_arg1) = m' ((c.tc : Thread Cert.GmlpRefIdeal.nD Cert.GmlpRefIdeal.τ).loc Cert.GmlpRefIdeal.main_arg1)
          ∧ r.2.mem ((c.tc : Thread Cert.GmlpRefIdeal.nD Cert.GmlpRefIdeal.τ).loc Cert.GmlpRefIdeal.main_arg2) = m' ((c.tc : Thread Cert.GmlpRefIdeal.nD Cert.GmlpRefIdeal.τ).loc Cert.GmlpRefIdeal.main_arg2)
          ∧ r.2.mem ((c.tc : Thread Cert.GmlpRefIdeal.nD Cert.GmlpRefIdeal.τ).loc Cert.GmlpRefIdeal.main_arg3) = m' ((c.tc : Thread Cert.GmlpRefIdeal.nD Cert.GmlpRefIdeal.τ).loc Cert.GmlpRefIdeal.main_arg3)
          ∧ r.2.mem ((c.tc : Thread Cert.GmlpRefIdeal.nD Cert.GmlpRefIdeal.τ).loc Cert.GmlpRefIdeal.main_arg4) = m' ((c.tc : Thread Cert.GmlpRefIdeal.nD Cert.GmlpRefIdeal.τ).loc Cert.GmlpRefIdeal.main_arg4))

def preserves_Reorder_ReorderIdeal : Prop :=
  True

def algebraic_ReorderIdeal_ReorderRefIdeal [hReorderIdeal : Cert.ReorderIdeal.Facts] [hReorderRefIdeal : Cert.ReorderRefIdeal.Facts] : Prop :=
  ∀ (m : (ℓ : Loc Cert.ReorderIdeal.nD Cert.ReorderIdeal.τ Cert.ReorderIdeal.sig) → Buf (Elt Ideal) ℓ) (g : Dev Cert.ReorderIdeal.nD → PrngReg)
    (m' : (ℓ : Loc Cert.ReorderRefIdeal.nD Cert.ReorderRefIdeal.τ Cert.ReorderRefIdeal.sig) → Buf (Elt Ideal) ℓ) (g' : Dev Cert.ReorderRefIdeal.nD → PrngReg), Pre_ReorderIdeal m →
    (∀ c : Dev Cert.ReorderIdeal.nD,
      m' ((c.tc : Thread Cert.ReorderRefIdeal.nD Cert.ReorderRefIdeal.τ).loc Cert.ReorderRefIdeal.main_arg0) = m ((c.tc : Thread Cert.ReorderIdeal.nD Cert.ReorderIdeal.τ).loc Cert.ReorderIdeal.main_arg0)) →
    ∃ (v0 : (c : Dev Cert.ReorderIdeal.nD) → Buf (Elt Ideal) ((c.tc : Thread Cert.ReorderIdeal.nD Cert.ReorderIdeal.τ).loc Cert.ReorderIdeal.main_v1)),
      θ_run (Cert.ReorderIdeal.defs (F := Ideal)) (onTc (τ := Cert.ReorderIdeal.τ) (Cert.ReorderIdeal.main (F := Ideal))) ⟨m, fun _ => 0, g⟩ (fun r => ∀ c : Dev Cert.ReorderIdeal.nD,
          r.2.mem ((c.tc : Thread Cert.ReorderIdeal.nD Cert.ReorderIdeal.τ).loc Cert.ReorderIdeal.main_v1) = v0 c
          ∧ r.2.mem ((c.tc : Thread Cert.ReorderIdeal.nD Cert.ReorderIdeal.τ).loc Cert.ReorderIdeal.main_arg0) = m ((c.tc : Thread Cert.ReorderIdeal.nD Cert.ReorderIdeal.τ).loc Cert.ReorderIdeal.main_arg0))
      ∧ θ_run (Cert.ReorderRefIdeal.defs (F := Ideal)) (onTc (τ := Cert.ReorderRefIdeal.τ) (Cert.ReorderRefIdeal.main (F := Ideal))) ⟨m', fun _ => 0, g'⟩ (fun r => ∀ c : Dev Cert.ReorderRefIdeal.nD,
          r.2.mem ((c.tc : Thread Cert.ReorderRefIdeal.nD Cert.ReorderRefIdeal.τ).loc Cert.ReorderRefIdeal.main_v13) = v0 c
          ∧ r.2.mem ((c.tc : Thread Cert.ReorderRefIdeal.nD Cert.ReorderRefIdeal.τ).loc Cert.ReorderRefIdeal.main_arg0) = m' ((c.tc : Thread Cert.ReorderRefIdeal.nD Cert.ReorderRefIdeal.τ).loc Cert.ReorderRefIdeal.main_arg0))

def preserves_Compress_CompressIdeal : Prop :=
  True

def algebraic_CompressIdeal_CompressRefIdeal_pre_finite_compression [hCompressIdeal : Cert.CompressIdeal.Facts] [hCompressRefIdeal : Cert.CompressRefIdeal.Facts] [hPre_finite_compression : Cert.Pre_finite_compression.Facts] : Prop :=
  ∀ (m : (ℓ : Loc Cert.CompressIdeal.nD Cert.CompressIdeal.τ Cert.CompressIdeal.sig) → Buf (Elt Ideal) ℓ) (g : Dev Cert.CompressIdeal.nD → PrngReg)
    (m' : (ℓ : Loc Cert.CompressRefIdeal.nD Cert.CompressRefIdeal.τ Cert.CompressRefIdeal.sig) → Buf (Elt Ideal) ℓ) (g' : Dev Cert.CompressRefIdeal.nD → PrngReg), Pre_CompressIdeal_finite_compression m →
    (∀ c : Dev Cert.CompressIdeal.nD,
      m' ((c.tc : Thread Cert.CompressRefIdeal.nD Cert.CompressRefIdeal.τ).loc Cert.CompressRefIdeal.main_arg0) = m ((c.tc : Thread Cert.CompressIdeal.nD Cert.CompressIdeal.τ).loc Cert.CompressIdeal.main_arg0)
      ∧ m' ((c.tc : Thread Cert.CompressRefIdeal.nD Cert.CompressRefIdeal.τ).loc Cert.CompressRefIdeal.main_arg1) = m ((c.tc : Thread Cert.CompressIdeal.nD Cert.CompressIdeal.τ).loc Cert.CompressIdeal.main_arg1)
      ∧ m' ((c.tc : Thread Cert.CompressRefIdeal.nD Cert.CompressRefIdeal.τ).loc Cert.CompressRefIdeal.main_arg2) = m ((c.tc : Thread Cert.CompressIdeal.nD Cert.CompressIdeal.τ).loc Cert.CompressIdeal.main_arg2)
      ∧ m' ((c.tc : Thread Cert.CompressRefIdeal.nD Cert.CompressRefIdeal.τ).loc Cert.CompressRefIdeal.main_arg3) = m ((c.tc : Thread Cert.CompressIdeal.nD Cert.CompressIdeal.τ).loc Cert.CompressIdeal.main_arg3)
      ∧ m' ((c.tc : Thread Cert.CompressRefIdeal.nD Cert.CompressRefIdeal.τ).loc Cert.CompressRefIdeal.main_arg4) = m ((c.tc : Thread Cert.CompressIdeal.nD Cert.CompressIdeal.τ).loc Cert.CompressIdeal.main_arg4)
      ∧ m' ((c.tc : Thread Cert.CompressRefIdeal.nD Cert.CompressRefIdeal.τ).loc Cert.CompressRefIdeal.main_arg5) = m ((c.tc : Thread Cert.CompressIdeal.nD Cert.CompressIdeal.τ).loc Cert.CompressIdeal.main_arg5)
      ∧ m' ((c.tc : Thread Cert.CompressRefIdeal.nD Cert.CompressRefIdeal.τ).loc Cert.CompressRefIdeal.main_arg6) = m ((c.tc : Thread Cert.CompressIdeal.nD Cert.CompressIdeal.τ).loc Cert.CompressIdeal.main_arg6)) →
    ∃ (v0 : (c : Dev Cert.CompressIdeal.nD) → Buf (Elt Ideal) ((c.tc : Thread Cert.CompressIdeal.nD Cert.CompressIdeal.τ).loc Cert.CompressIdeal.main_v9)) (v1 : (c : Dev Cert.CompressIdeal.nD) → Buf (Elt Ideal) ((c.tc : Thread Cert.CompressIdeal.nD Cert.CompressIdeal.τ).loc Cert.CompressIdeal.main_v11)),
      θ_run (Cert.CompressIdeal.defs (F := Ideal)) (onTc (τ := Cert.CompressIdeal.τ) (Cert.CompressIdeal.main (F := Ideal))) ⟨m, fun _ => 0, g⟩ (fun r => ∀ c : Dev Cert.CompressIdeal.nD,
          r.2.mem ((c.tc : Thread Cert.CompressIdeal.nD Cert.CompressIdeal.τ).loc Cert.CompressIdeal.main_v9) = v0 c
          ∧ r.2.mem ((c.tc : Thread Cert.CompressIdeal.nD Cert.CompressIdeal.τ).loc Cert.CompressIdeal.main_v11) = v1 c
          ∧ r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
          ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
          ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
          ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3)
          ∧ r.2.mem ((c.tc : Thread Cert.CompressIdeal.nD Cert.CompressIdeal.τ).loc Cert.CompressIdeal.main_arg4) = m ((c.tc : Thread Cert.CompressIdeal.nD Cert.CompressIdeal.τ).loc Cert.CompressIdeal.main_arg4)
          ∧ r.2.mem ((c.tc : Thread Cert.CompressIdeal.nD Cert.CompressIdeal.τ).loc Cert.CompressIdeal.main_arg5) = m ((c.tc : Thread Cert.CompressIdeal.nD Cert.CompressIdeal.τ).loc Cert.CompressIdeal.main_arg5)
          ∧ r.2.mem ((c.tc : Thread Cert.CompressIdeal.nD Cert.CompressIdeal.τ).loc Cert.CompressIdeal.main_arg6) = m ((c.tc : Thread Cert.CompressIdeal.nD Cert.CompressIdeal.τ).loc Cert.CompressIdeal.main_arg6))
      ∧ θ_run (Cert.CompressRefIdeal.defs (F := Ideal)) (onTc (τ := Cert.CompressRefIdeal.τ) (Cert.CompressRefIdeal.main (F := Ideal))) ⟨m', fun _ => 0, g'⟩ (fun r => ∀ c : Dev Cert.CompressRefIdeal.nD,
          r.2.mem ((c.tc : Thread Cert.CompressRefIdeal.nD Cert.CompressRefIdeal.τ).loc Cert.CompressRefIdeal.main_v38) = v0 c
          ∧ r.2.mem ((c.tc : Thread Cert.CompressRefIdeal.nD Cert.CompressRefIdeal.τ).loc Cert.CompressRefIdeal.main_v78) = v1 c
          ∧ r.2.mem ((c.tc : Thread Cert.CompressRefIdeal.nD Cert.CompressRefIdeal.τ).loc Cert.CompressRefIdeal.main_arg0) = m' ((c.tc : Thread Cert.CompressRefIdeal.nD Cert.CompressRefIdeal.τ).loc Cert.CompressRefIdeal.main_arg0)
          ∧ r.2.mem ((c.tc : Thread Cert.CompressRefIdeal.nD Cert.CompressRefIdeal.τ).loc Cert.CompressRefIdeal.main_arg1) = m' ((c.tc : Thread Cert.CompressRefIdeal.nD Cert.CompressRefIdeal.τ).loc Cert.CompressRefIdeal.main_arg1)
          ∧ r.2.mem ((c.tc : Thread Cert.CompressRefIdeal.nD Cert.CompressRefIdeal.τ).loc Cert.CompressRefIdeal.main_arg2) = m' ((c.tc : Thread Cert.CompressRefIdeal.nD Cert.CompressRefIdeal.τ).loc Cert.CompressRefIdeal.main_arg2)
          ∧ r.2.mem ((c.tc : Thread Cert.CompressRefIdeal.nD Cert.CompressRefIdeal.τ).loc Cert.CompressRefIdeal.main_arg3) = m' ((c.tc : Thread Cert.CompressRefIdeal.nD Cert.CompressRefIdeal.τ).loc Cert.CompressRefIdeal.main_arg3)
          ∧ r.2.mem ((c.tc : Thread Cert.CompressRefIdeal.nD Cert.CompressRefIdeal.τ).loc Cert.CompressRefIdeal.main_arg4) = m' ((c.tc : Thread Cert.CompressRefIdeal.nD Cert.CompressRefIdeal.τ).loc Cert.CompressRefIdeal.main_arg4)
          ∧ r.2.mem ((c.tc : Thread Cert.CompressRefIdeal.nD Cert.CompressRefIdeal.τ).loc Cert.CompressRefIdeal.main_arg5) = m' ((c.tc : Thread Cert.CompressRefIdeal.nD Cert.CompressRefIdeal.τ).loc Cert.CompressRefIdeal.main_arg5)
          ∧ r.2.mem ((c.tc : Thread Cert.CompressRefIdeal.nD Cert.CompressRefIdeal.τ).loc Cert.CompressRefIdeal.main_arg6) = m' ((c.tc : Thread Cert.CompressRefIdeal.nD Cert.CompressRefIdeal.τ).loc Cert.CompressRefIdeal.main_arg6))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hInProj : Cert.InProj.Facts) (hInProjIdeal : Cert.InProjIdeal.Facts) (hInProjRefIdeal : Cert.InProjRefIdeal.Facts) (hGmlp : Cert.Gmlp.Facts) (hGmlpIdeal : Cert.GmlpIdeal.Facts) (hGmlpRefIdeal : Cert.GmlpRefIdeal.Facts) (hReorder : Cert.Reorder.Facts) (hReorderIdeal : Cert.ReorderIdeal.Facts) (hReorderRefIdeal : Cert.ReorderRefIdeal.Facts) (hCompress : Cert.Compress.Facts) (hCompressIdeal : Cert.CompressIdeal.Facts) (hCompressRefIdeal : Cert.CompressRefIdeal.Facts) (hPre_finite_compression : Cert.Pre_finite_compression.Facts),
    quiescent_Kernel (hKernel := hKernel)
    ∧ quiescent_KernelIdeal (hKernelIdeal := hKernelIdeal)
    ∧ quiescent_ReferenceIdeal (hReferenceIdeal := hReferenceIdeal)
    ∧ quiescent_Ffn (hFfn := hFfn)
    ∧ quiescent_FfnIdeal (hFfnIdeal := hFfnIdeal)
    ∧ quiescent_FfnRefIdeal (hFfnRefIdeal := hFfnRefIdeal)
    ∧ quiescent_Merge (hMerge := hMerge)
    ∧ quiescent_MergeIdeal (hMergeIdeal := hMergeIdeal)
    ∧ quiescent_MergeRefIdeal (hMergeRefIdeal := hMergeRefIdeal)
    ∧ quiescent_InProj (hInProj := hInProj)
    ∧ quiescent_InProjIdeal (hInProjIdeal := hInProjIdeal)
    ∧ quiescent_InProjRefIdeal (hInProjRefIdeal := hInProjRefIdeal)
    ∧ quiescent_Gmlp (hGmlp := hGmlp)
    ∧ quiescent_GmlpIdeal (hGmlpIdeal := hGmlpIdeal)
    ∧ quiescent_GmlpRefIdeal (hGmlpRefIdeal := hGmlpRefIdeal)
    ∧ quiescent_Reorder (hReorder := hReorder)
    ∧ quiescent_ReorderIdeal (hReorderIdeal := hReorderIdeal)
    ∧ quiescent_ReorderRefIdeal (hReorderRefIdeal := hReorderRefIdeal)
    ∧ quiescent_Compress (hCompress := hCompress)
    ∧ quiescent_CompressIdeal (hCompressIdeal := hCompressIdeal)
    ∧ quiescent_CompressIdeal_pre_finite_compression (hCompressIdeal := hCompressIdeal) (hPre_finite_compression := hPre_finite_compression)
    ∧ quiescent_CompressRefIdeal (hCompressRefIdeal := hCompressRefIdeal)
    ∧ quiescent_CompressRefIdeal_pre_finite_compression (hCompressRefIdeal := hCompressRefIdeal) (hPre_finite_compression := hPre_finite_compression)
    ∧ preserves_Kernel_KernelIdeal
    ∧ algebraic_KernelIdeal_ReferenceIdeal (hKernelIdeal := hKernelIdeal) (hReferenceIdeal := hReferenceIdeal)
    ∧ preserves_Ffn_FfnIdeal
    ∧ algebraic_FfnIdeal_FfnRefIdeal (hFfnIdeal := hFfnIdeal) (hFfnRefIdeal := hFfnRefIdeal)
    ∧ preserves_Merge_MergeIdeal
    ∧ algebraic_MergeIdeal_MergeRefIdeal (hMergeIdeal := hMergeIdeal) (hMergeRefIdeal := hMergeRefIdeal)
    ∧ preserves_InProj_InProjIdeal
    ∧ algebraic_InProjIdeal_InProjRefIdeal (hInProjIdeal := hInProjIdeal) (hInProjRefIdeal := hInProjRefIdeal)
    ∧ preserves_Gmlp_GmlpIdeal
    ∧ algebraic_GmlpIdeal_GmlpRefIdeal (hGmlpIdeal := hGmlpIdeal) (hGmlpRefIdeal := hGmlpRefIdeal)
    ∧ preserves_Reorder_ReorderIdeal
    ∧ algebraic_ReorderIdeal_ReorderRefIdeal (hReorderIdeal := hReorderIdeal) (hReorderRefIdeal := hReorderRefIdeal)
    ∧ preserves_Compress_CompressIdeal
    ∧ algebraic_CompressIdeal_CompressRefIdeal_pre_finite_compression (hCompressIdeal := hCompressIdeal) (hCompressRefIdeal := hCompressRefIdeal) (hPre_finite_compression := hPre_finite_compression)
-- ==== Pre_finite_compression.lean ====
abbrev S16384x10240 : Shape := ⟨2, ![16384, 10240]⟩
abbrev S32x64 : Shape := ⟨2, ![32, 64]⟩
abbrev S2048x256 : Shape := ⟨2, ![2048, 256]⟩
abbrev S256x64 : Shape := ⟨2, ![256, 64]⟩
abbrev S_ : Shape := ⟨0, ![]⟩

class Facts : Prop where
  bcast_S_S32x64 : S_.BroadcastsInDim S32x64 (![] : Fin 0 → Fin S32x64.rank)
  reducesTo_S32x64_S_d0_1 : S32x64.ReducesTo [0, 1] S_
  h_S_ : 0 < S_.numel
  bcast_S_S2048x256 : S_.BroadcastsInDim S2048x256 (![] : Fin 0 → Fin S2048x256.rank)
  reducesTo_S2048x256_S_d0_1 : S2048x256.ReducesTo [0, 1] S_

variable [Facts]

def fn_part1 {F : FTy → Type} [FloatOps F] (main_v13 : IVec S_ 1) (main_v16 : IVec S2048x256 1) : IVec S_ 1 :=
  let main_c_5 : IVec S_ 1 := constantI S_ 1 1#1
  let main_v17 : IVec S_ 1 := (fun x v => Host.reduce IntOp.andi x v reducesTo_S2048x256_S_d0_1 h_S_) main_v16 main_c_5
  let main_v18 : IVec S_ 1 := andi main_v13 main_v17
  main_v18

def fn {F : FTy → Type} [FloatOps F] (main_arg0 : FVec F S16384x10240 .bf16) (main_arg1 : FVec F S32x64 .f32) (main_arg2 : FVec F S32x64 .f32) (main_arg3 : FVec F S2048x256 .f32) (main_arg4 : FVec F S256x64 .f32) (main_arg5 : FVec F S2048x256 .f32) (main_arg6 : FVec F S256x64 .f32) : IVec S_ 1 :=
  let main_v0 : FVec F S32x64 .f32 := Host.absf main_arg1
  let main_cst : FVec F S_ .f32 := constant S_ .f32 0x7F800000#32
  let main_v1 : FVec F S32x64 .f32 := broadcastInDim S32x64 ![] bcast_S_S32x64 main_cst
  let main_v2 : IVec S32x64 1 := cmpf .olt main_v0 main_v1
  let main_c : IVec S_ 1 := constantI S_ 1 1#1
  let main_v3 : IVec S_ 1 := (fun x v => Host.reduce IntOp.andi x v reducesTo_S32x64_S_d0_1 h_S_) main_v2 main_c
  let main_v4 : FVec F S2048x256 .f32 := Host.absf main_arg3
  let main_cst_0 : FVec F S_ .f32 := constant S_ .f32 0x7F800000#32
  let main_v5 : FVec F S2048x256 .f32 := broadcastInDim S2048x256 ![] bcast_S_S2048x256 main_cst_0
  let main_v6 : IVec S2048x256 1 := cmpf .olt main_v4 main_v5
  let main_c_1 : IVec S_ 1 := constantI S_ 1 1#1
  let main_v7 : IVec S_ 1 := (fun x v => Host.reduce IntOp.andi x v reducesTo_S2048x256_S_d0_1 h_S_) main_v6 main_c_1
  let main_v8 : IVec S_ 1 := andi main_v3 main_v7
  let main_v9 : FVec F S32x64 .f32 := Host.absf main_arg2
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_v14 : FVec F S2048x256 .f32 := Host.absf main_arg5
  let main_cst_4 : FVec F S_ .f32 := constant S_ .f32 0x7F800000#32
  let main_v15 : FVec F S2048x256 .f32 := broadcastInDim S2048x256 ![] bcast_S_S2048x256 main_cst_4
  let main_v16 : IVec S2048x256 1 := cmpf .olt main_v14 main_v15
  fn_part1 (F := F) main_v13 main_v16
-- ==== Kernel.lean ====
abbrev S16384x10240 : Shape := ⟨2, ![16384, 10240]⟩
abbrev S4x1024 : Shape := ⟨2, ![4, 1024]⟩
abbrev S1024 : Shape := ⟨1, ![1024]⟩
abbrev S16x64x64 : Shape := ⟨3, ![16, 64, 64]⟩
abbrev S1x1024 : Shape := ⟨2, ![1, 1024]⟩
abbrev S4x4 : Shape := ⟨2, ![4, 4]⟩
abbrev S_ : Shape := ⟨0, ![]⟩
abbrev S4x4x64x64 : Shape := ⟨4, ![4, 4, 64, 64]⟩
abbrev S4x4x64x1x64 : Shape := ⟨5, ![4, 4, 64, 1, 64]⟩
abbrev S1x4x1x4x1 : Shape := ⟨5, ![1, 4, 1, 4, 1]⟩
abbrev S4x4x64x4x64 : Shape := ⟨5, ![4, 4, 64, 4, 64]⟩
abbrev S4x256x256 : Shape := ⟨3, ![4, 256, 256]⟩
abbrev S4x256x512 : Shape := ⟨3, ![4, 256, 512]⟩
abbrev S16384x1024 : Shape := ⟨2, ![16384, 1024]⟩
abbrev S512x1024 : Shape := ⟨2, ![512, 1024]⟩
abbrev S520x1024 : Shape := ⟨2, ![520, 1024]⟩
abbrev S8x1024 : Shape := ⟨2, ![8, 1024]⟩
abbrev S64x8x256 : Shape := ⟨3, ![64, 8, 256]⟩
abbrev S512x256 : Shape := ⟨2, ![512, 256]⟩
abbrev S1x256x512 : Shape := ⟨3, ![1, 256, 512]⟩
abbrev S256x512 : Shape := ⟨2, ![256, 512]⟩
abbrev S512x512 : Shape := ⟨2, ![512, 512]⟩
abbrev S1x256 : Shape := ⟨2, ![1, 256]⟩
abbrev S16x1024 : Shape := ⟨2, ![16, 1024]⟩

abbrev nBuf : Space → Nat
  | .hbm => 36
  | .vmem => 16
  | .smem => 0
  | _ => 0

abbrev bufTy : (tb : Table) → Fin (tcTables nBuf tb) → BufTy
  | .hbm, ⟨0, _⟩ => ⟨S16384x10240, .bf16⟩
  | .hbm, ⟨1, _⟩ => ⟨S4x1024, .f32⟩
  | .hbm, ⟨2, _⟩ => ⟨S1024, .f32⟩
  | .hbm, ⟨3, _⟩ => ⟨S16x64x64, .f32⟩
  | .hbm, ⟨4, _⟩ => ⟨S1024, .f32⟩
  | .hbm, ⟨5, _⟩ => ⟨S16x64x64, .f32⟩
  | .hbm, ⟨6, _⟩ => ⟨S1024, .f32⟩
  | .hbm, ⟨7, _⟩ => ⟨S1024, .f32⟩
  | .hbm, ⟨8, _⟩ => ⟨S1x1024, .f32⟩
  | .hbm, ⟨9, _⟩ => ⟨S4x4, .i32⟩
  | .hbm, ⟨10, _⟩ => ⟨S4x4, .i32⟩
  | .hbm, ⟨11, _⟩ => ⟨S_, .i32⟩
  | .hbm, ⟨12, _⟩ => ⟨S4x4, .i32⟩
  | .hbm, ⟨13, _⟩ => ⟨S4x4, .i32⟩
  | .hbm, ⟨14, _⟩ => ⟨S4x4, .i1⟩
  | .hbm, ⟨15, _⟩ => ⟨S4x4, .f32⟩
  | .hbm, ⟨16, _⟩ => ⟨S4x4x64x64, .f32⟩
  | .hbm, ⟨17, _⟩ => ⟨S4x4x64x1x64, .f32⟩
  | .hbm, ⟨18, _⟩ => ⟨S1x4x1x4x1, .f32⟩
  | .hbm, ⟨19, _⟩ => ⟨S4x4x64x4x64, .f32⟩
  | .hbm, ⟨20, _⟩ => ⟨S4x4x64x4x64, .f32⟩
  | .hbm, ⟨21, _⟩ => ⟨S4x4x64x4x64, .f32⟩
  | .hbm, ⟨22, _⟩ => ⟨S4x256x256, .f32⟩
  | .hbm, ⟨23, _⟩ => ⟨S4x4x64x64, .f32⟩
  | .hbm, ⟨24, _⟩ => ⟨S4x4x64x1x64, .f32⟩
  | .hbm, ⟨25, _⟩ => ⟨S1x4x1x4x1, .f32⟩
  | .hbm, ⟨26, _⟩ => ⟨S4x4x64x4x64, .f32⟩
  | .hbm, ⟨27, _⟩ => ⟨S4x4x64x4x64, .f32⟩
  | .hbm, ⟨28, _⟩ => ⟨S4x4x64x4x64, .f32⟩
  | .hbm, ⟨29, _⟩ => ⟨S4x256x256, .f32⟩
  | .hbm, ⟨30, _⟩ => ⟨S4x256x512, .f32⟩
  | .hbm, ⟨31, _⟩ => ⟨S4x256x512, .bf16⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S4x1024, .f32⟩
  | .local _ .vmem, ⟨5, _⟩ => ⟨S1x1024, .f32⟩
  | .local _ .vmem, ⟨6, _⟩ => ⟨S4x256x512, .bf16⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .bf16⟩
  | .local _ .vmem, ⟨11, _⟩ => ⟨S512x1024, .bf16⟩
  | .local _ .vmem, ⟨12, _⟩ => ⟨S520x1024, .f32⟩
  | .local _ .vmem, ⟨13, _⟩ => ⟨S512x1024, .f32⟩
  | .local _ .vmem, ⟨14, _⟩ => ⟨S512x1024, .f32⟩
  | .local _ .vmem, ⟨15, _⟩ => ⟨S8x1024, .f32⟩
  | _, _ => ⟨S16384x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c0_i32_153 : BitVec 32 := 0#32
  let c32_i32 : BitVec 32 := 32#32
  let v401 : BitVec 32 := Scalar.addi c0_i32_153 c32_i32
  let c1_i32_154 : BitVec 32 := 1#32
  ⟨c0_i32_153, v401, c1_i32_154⟩
def k0_mult1 (k0_t1 : Fin k0_t1_loop.trips) : BitVec 32 :=
  let c0_i32_153 : BitVec 32 := 0#32
  let c1_i32_154 : BitVec 32 := 1#32
  let arg15 : BitVec 32 := Scf.iv c0_i32_153 c1_i32_154 k0_t1
  let c16_i32 : BitVec 32 := 16#32
  let v408 : BitVec 32 := Scalar.muli arg15 c16_i32
  v408
def k0_off1 (k0_t1 : Fin k0_t1_loop.trips) : Fin 2 → Nat :=
  let c0_i32_153 : BitVec 32 := 0#32
  let c1_i32_154 : BitVec 32 := 1#32
  let arg15 : BitVec 32 := Scf.iv c0_i32_153 c1_i32_154 k0_t1
  let c16_i32 : BitVec 32 := 16#32
  let v408 : BitVec 32 := Scalar.muli arg15 c16_i32
  let v409 : BitVec 32 := v408
  let v410 : Index := Scalar.indexCast v409
  let c0_158 : Index := 0#32
  ![v410.toNat, 0]
def k0_off2 (k0_t1 : Fin k0_t1_loop.trips) (c0_i32_163 : BitVec 32) : Fin 2 → Nat :=
  let c0_i32_153 : BitVec 32 := 0#32
  let c1_i32_154 : BitVec 32 := 1#32
  let arg15 : BitVec 32 := Scf.iv c0_i32_153 c1_i32_154 k0_t1
  let c16_i32 : BitVec 32 := 16#32
  let v408 : BitVec 32 := Scalar.muli arg15 c16_i32
  let v409 : BitVec 32 := v408
  let v426 : BitVec 32 := Scalar.addi v409 c0_i32_163
  let v427 : Index := Scalar.indexCast v426
  let c0_164 : Index := 0#32
  ![v427.toNat, 0]
def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c2_i32 : BitVec 32 := 2#32
  let c0_i32 : BitVec 32 := 0#32
  ![v1.toNat, c2_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c3_i32 : BitVec 32 := 3#32
  let c0_i32 : BitVec 32 := 0#32
  ![v1.toNat, c3_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S16384x10240 : Shape := ⟨2, ![16384, 10240]⟩
abbrev S4x1024 : Shape := ⟨2, ![4, 1024]⟩
abbrev S1024 : Shape := ⟨1, ![1024]⟩
abbrev S16x64x64 : Shape := ⟨3, ![16, 64, 64]⟩
abbrev S16384x1024 : Shape := ⟨2, ![16384, 1024]⟩
abbrev S8x2048x1024 : Shape := ⟨3, ![8, 2048, 1024]⟩
abbrev S_ : Shape := ⟨0, ![]⟩
abbrev S8x2051x1024 : Shape := ⟨3, ![8, 2051, 1024]⟩
abbrev S1x1024 : Shape := ⟨2, ![1, 1024]⟩
abbrev S1x1x1024 : Shape := ⟨3, ![1, 1, 1024]⟩
abbrev S8x2048x16x64 : Shape := ⟨4, ![8, 2048, 16, 64]⟩
abbrev S16x64x8x2048 : Shape := ⟨4, ![16, 64, 8, 2048]⟩
abbrev S8x1024 : Shape := ⟨2, ![8, 1024]⟩
abbrev S2048x8x1024 : Shape := ⟨3, ![2048, 8, 1024]⟩
abbrev S1x8x1024 : Shape := ⟨3, ![1, 8, 1024]⟩

abbrev nBuf : Space → Nat
  | .hbm => 156
  | .vmem => 0
  | .smem => 0
  | _ => 0

abbrev hbmTy0_0 (i : Nat) : BufTy := match i % 128 with
  | 0 => ⟨S16384x10240, .bf16⟩
  | 1 => ⟨S4x1024, .f32⟩
  | 2 => ⟨S1024, .f32⟩
  | 3 => ⟨S16x64x64, .f32⟩
  | 4 => ⟨S1024, .f32⟩
  | 5 => ⟨S16x64x64, .f32⟩
  | 6 => ⟨S1024, .f32⟩
  | 7 => ⟨S1024, .f32⟩
  | 8 => ⟨S16384x10240, .f32⟩
  | 9 => ⟨S16384x1024, .f32⟩
  | 10 => ⟨S8x2048x1024, .f32⟩
  | 11 => ⟨S16384x1024, .f32⟩
  | 12 => ⟨S8x2048x1024, .f32⟩
  | 13 => ⟨S_, .i32⟩
  | 14 => ⟨S_, .f32⟩
  | 15 => ⟨S8x2051x1024, .f32⟩
  | 16 => ⟨S1x1024, .f32⟩
  | 17 => ⟨S1024, .f32⟩
  | 18 => ⟨S8x2048x1024, .f32⟩
  | 19 => ⟨S1x1x1024, .f32⟩
  | 20 => ⟨S8x2048x1024, .f32⟩
  | 21 => ⟨S8x2048x1024, .f32⟩
  | 22 => ⟨S1x1024, .f32⟩
  | 23 => ⟨S1024, .f32⟩
  | 24 => ⟨S8x2048x1024, .f32⟩
  | 25 => ⟨S1x1x1024, .f32⟩
  | 26 => ⟨S8x2048x1024, .f32⟩
  | 27 => ⟨S8x2048x1024, .f32⟩
  | 28 => ⟨S8x2048x1024, .f32⟩
  | 29 => ⟨S1x1024, .f32⟩
  | 30 => ⟨S1024, .f32⟩
  | 31 => ⟨S8x2048x1024, .f32⟩
  | 32 => ⟨S1x1x1024, .f32⟩
  | 33 => ⟨S8x2048x1024, .f32⟩
  | 34 => ⟨S8x2048x1024, .f32⟩
  | 35 => ⟨S8x2048x1024, .f32⟩
  | 36 => ⟨S1x1024, .f32⟩
  | 37 => ⟨S1024, .f32⟩
  | 38 => ⟨S8x2048x1024, .f32⟩
  | 39 => ⟨S1x1x1024, .f32⟩
  | 40 => ⟨S8x2048x1024, .f32⟩
  | 41 => ⟨S8x2048x1024, .f32⟩
  | 42 => ⟨S8x2048x1024, .f32⟩
  | 43 => ⟨S1x1x1024, .f32⟩
  | 44 => ⟨S8x2048x1024, .f32⟩
  | 45 => ⟨S8x2048x1024, .f32⟩
  | 46 => ⟨S8x2048x16x64, .f32⟩
  | 47 => ⟨S16x64x8x2048, .f32⟩
  | 48 => ⟨S8x2048x16x64, .f32⟩
  | 49 => ⟨S8x2048x1024, .f32⟩
  | 50 => ⟨S1x1x1024, .f32⟩
  | 51 => ⟨S8x2048x1024, .f32⟩
  | 52 => ⟨S8x2048x1024, .f32⟩
  | 53 => ⟨S8x2048x1024, .f32⟩
  | 54 => ⟨S8x2048x1024, .f32⟩
  | 55 => ⟨S_, .f32⟩
  | 56 => ⟨S8x2048x1024, .f32⟩
  | 57 => ⟨S8x2048x1024, .f32⟩
  | 58 => ⟨S_, .f32⟩
  | 59 => ⟨S8x2048x1024, .f32⟩
  | 60 => ⟨S8x2048x1024, .f32⟩
  | 61 => ⟨S16x64x8x2048, .f32⟩
  | 62 => ⟨S8x2048x16x64, .f32⟩
  | 63 => ⟨S8x2048x1024, .f32⟩
  | 64 => ⟨S1x1x1024, .f32⟩
  | 65 => ⟨S8x2048x1024, .f32⟩
  | 66 => ⟨S8x2048x1024, .f32⟩
  | 67 => ⟨S8x2048x1024, .f32⟩
  | 68 => ⟨S8x2048x1024, .f32⟩
  | 69 => ⟨S_, .f32⟩
  | 70 => ⟨S8x2048x1024, .f32⟩
  | 71 => ⟨S8x2048x1024, .f32⟩
  | 72 => ⟨S_, .f32⟩
  | 73 => ⟨S8x2048x1024, .f32⟩
  | 74 => ⟨S8x2048x1024, .f32⟩
  | 75 => ⟨S_, .f32⟩
  | 76 => ⟨S8x2048x1024, .f32⟩
  | 77 => ⟨S8x2048x1024, .f32⟩
  | 78 => ⟨S1024, .f32⟩
  | 79 => ⟨S_, .f32⟩
  | 80 => ⟨S1024, .f32⟩
  | 81 => ⟨S1024, .f32⟩
  | 82 => ⟨S1024, .f32⟩
  | 83 => ⟨S1024, .f32⟩
  | 84 => ⟨S1024, .i1⟩
  | 85 => ⟨S1024, .f32⟩
  | 86 => ⟨S1024, .f32⟩
  | 87 => ⟨S1024, .f32⟩
  | 88 => ⟨S1024, .f32⟩
  | 89 => ⟨S1024, .f32⟩
  | 90 => ⟨S1024, .f32⟩
  | 91 => ⟨S1024, .f32⟩
  | 92 => ⟨S1024, .f32⟩
  | 93 => ⟨S1x1x1024, .f32⟩
  | 94 => ⟨S8x2048x1024, .f32⟩
  | 95 => ⟨S8x2048x1024, .f32⟩
  | 96 => ⟨S8x2048x1024, .f32⟩
  | 97 => ⟨S_, .f32⟩
  | 98 => ⟨S8x2048x1024, .f32⟩
  | 99 => ⟨S8x2048x1024, .f32⟩
  | 100 => ⟨S8x2048x1024, .f32⟩
  | 101 => ⟨S8x2048x1024, .f32⟩
  | 102 => ⟨S8x2048x1024, .f32⟩
  | 103 => ⟨S8x2048x1024, .f32⟩
  | 104 => ⟨S8x2048x1024, .f32⟩
  | 105 => ⟨S_, .f32⟩
  | 106 => ⟨S8x1024, .f32⟩
  | 107 => ⟨S2048x8x1024, .f32⟩
  | 108 => ⟨S2048x8x1024, .f32⟩
  | 109 => ⟨S_, .f32⟩
  | 110 => ⟨S2048x8x1024, .f32⟩
  | 111 => ⟨S_, .i32⟩
  | 112 => ⟨S2048x8x1024, .f32⟩
  | 113 => ⟨S2048x8x1024, .f32⟩
  | 114 => ⟨S_, .i32⟩
  | 115 => ⟨S8x1024, .f32⟩
  | 116 => ⟨S2048x8x1024, .f32⟩
  | 117 => ⟨S_, .i32⟩
  | 118 => ⟨S_, .i1⟩
  | 119 => ⟨S_, .i32⟩
  | 120 => ⟨S_, .i32⟩
  | 121 => ⟨S1x8x1024, .f32⟩
  | 122 => ⟨S8x1024, .f32⟩
  | 123 => ⟨S_, .i32⟩
  | 124 => ⟨S_, .i32⟩
  | 125 => ⟨S1x8x1024, .f32⟩
  | 126 => ⟨S8x1024, .f32⟩
  | 127 => ⟨S8x1024, .f32⟩
  | _ => ⟨S16384x10240, .bf16⟩

abbrev hbmTy0_1 (i : Nat) : BufTy := match i % 128 with
  | 0 => ⟨S8x1024, .f32⟩
  | 1 => ⟨S1x8x1024, .f32⟩
  | 2 => ⟨S_, .i32⟩
  | 3 => ⟨S_, .i32⟩
  | 4 => ⟨S2048x8x1024, .f32⟩
  | 5 => ⟨S_, .i32⟩
  | 6 => ⟨S_, .i32⟩
  | 7 => ⟨S8x2048x1024, .f32⟩
  | 8 => ⟨S8x2048x1024, .f32⟩
  | 9 => ⟨S8x2048x1024, .f32⟩
  | 10 => ⟨S_, .f32⟩
  | 11 => ⟨S8x2048x1024, .f32⟩
  | 12 => ⟨S8x2048x1024, .f32⟩
  | 13 => ⟨S8x2048x1024, .f32⟩
  | 14 => ⟨S_, .f32⟩
  | 15 => ⟨S8x2048x1024, .f32⟩
  | 16 => ⟨S8x2048x1024, .f32⟩
  | 17 => ⟨S8x2048x1024, .f32⟩
  | 18 => ⟨S_, .f32⟩
  | 19 => ⟨S8x2048x1024, .f32⟩
  | 20 => ⟨S8x2048x1024, .f32⟩
  | 21 => ⟨S_, .f32⟩
  | 22 => ⟨S8x2048x1024, .f32⟩
  | 23 => ⟨S8x2048x1024, .f32⟩
  | 24 => ⟨S8x2048x1024, .f32⟩
  | 25 => ⟨S8x2048x1024, .f32⟩
  | 26 => ⟨S16384x1024, .f32⟩
  | 27 => ⟨S16384x1024, .bf16⟩
  | _ => ⟨S16384x10240, .bf16⟩

abbrev hbmTy (i : Nat) : BufTy := match i / 128 with
  | 0 => hbmTy0_0 i
  | 1 => hbmTy0_1 i
  | _ => ⟨S16384x10240, .bf16⟩

abbrev bufTy : (tb : Table) → Fin (tcTables nBuf tb) → BufTy
  | .hbm, ⟨i, _⟩ => hbmTy i
  | _, _ => ⟨S16384x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst : Ref sig .tc := ⟨.hbm, 55, rfl⟩
abbrev main_v45 : Ref sig .tc := ⟨.hbm, 56, rfl⟩
abbrev main_v46 : Ref sig .tc := ⟨.hbm, 57, rfl⟩
abbrev main_cst_0 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_cst_1 : Ref sig .tc := ⟨.hbm, 69, rfl⟩
abbrev main_v57 : Ref sig .tc := ⟨.hbm, 70, rfl⟩
abbrev main_v58 : Ref sig .tc := ⟨.hbm, 71, rfl⟩
abbrev main_cst_2 : Ref sig .tc := ⟨.hbm, 72, rfl⟩
abbrev main_v59 : Ref sig .tc := ⟨.hbm, 73, rfl⟩
abbrev main_v60 : Ref sig .tc := ⟨.hbm, 74, rfl⟩
abbrev main_cst_3 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_call1_cst : Ref sig .tc := ⟨.hbm, 79, rfl⟩
abbrev main_call1_v0 : Ref sig .tc := ⟨.hbm, 80, rfl⟩
abbrev main_call1_v1 : Ref sig .tc := ⟨.hbm, 81, rfl⟩
abbrev main_call1_v2 : Ref sig .tc := ⟨.hbm, 82, rfl⟩
abbrev main_call1_v3 : Ref sig .tc := ⟨.hbm, 83, rfl⟩
abbrev main_call1_v4 : Ref sig .tc := ⟨.hbm, 84, rfl⟩
abbrev main_call1_v5 : Ref sig .tc := ⟨.hbm, 85, rfl⟩
abbrev main_call1_v6 : Ref sig .tc := ⟨.hbm, 86, rfl⟩
abbrev main_call1_v7 : Ref sig .tc := ⟨.hbm, 87, rfl⟩
abbrev main_call1_v8 : Ref sig .tc := ⟨.hbm, 88, rfl⟩
abbrev main_call1_v9 : Ref sig .tc := ⟨.hbm, 89, rfl⟩
abbrev main_call1_v10 : Ref sig .tc := ⟨.hbm, 90, rfl⟩
abbrev main_call1_v11 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_4 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_5 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_6 : Ref sig .tc := ⟨.hbm, 109, rfl⟩
abbrev main_v79 : Ref sig .tc := ⟨.hbm, 110, rfl⟩
abbrev main_c_7 : Ref sig .tc := ⟨.hbm, 111, rfl⟩
abbrev main_v80_0 : Ref sig .tc := ⟨.hbm, 112, rfl⟩
abbrev main_v80_1 : Ref sig .tc := ⟨.hbm, 113, rfl⟩
abbrev main_v80_2 : Ref sig .tc := ⟨.hbm, 114, rfl⟩
abbrev main_v80_3 : Ref sig .tc := ⟨.hbm, 115, rfl⟩
abbrev main_v80_4 : Ref sig .tc := ⟨.hbm, 116, rfl⟩
abbrev main_while0c_c_16 : Ref sig .tc := ⟨.hbm, 117, rfl⟩
abbrev main_while0c_v98 : Ref sig .tc := ⟨.hbm, 118, rfl⟩
abbrev main_while0b_call2_c : Ref sig .tc := ⟨.hbm, 119, rfl⟩
abbrev main_while0b_call2_c_0 : Ref sig .tc := ⟨.hbm, 120, rfl⟩
abbrev main_while0b_call2_v0 : Ref sig .tc := ⟨.hbm, 121, rfl⟩
abbrev main_while0b_v98 : Ref sig .tc := ⟨.hbm, 122, rfl⟩
abbrev main_while0b_call3_c : Ref sig .tc := ⟨.hbm, 123, rfl⟩
abbrev main_while0b_call3_c_0 : Ref sig .tc := ⟨.hbm, 124, rfl⟩
abbrev main_while0b_call3_v0 : Ref sig .tc := ⟨.hbm, 125, rfl⟩
abbrev main_while0b_v99 : Ref sig .tc := ⟨.hbm, 126, rfl⟩
abbrev main_while0b_v100 : Ref sig .tc := ⟨.hbm, 127, rfl⟩
abbrev main_while0b_v101 : Ref sig .tc := ⟨.hbm, 128, rfl⟩
abbrev main_while0b_call4_v0 : Ref sig .tc := ⟨.hbm, 129, rfl⟩
abbrev main_while0b_call4_c : Ref sig .tc := ⟨.hbm, 130, rfl⟩
abbrev main_while0b_call4_c_0 : Ref sig .tc := ⟨.hbm, 131, rfl⟩
abbrev main_while0b_v102 : Ref sig .tc := ⟨.hbm, 132, rfl⟩
abbrev main_while0b_c_16 : Ref sig .tc := ⟨.hbm, 133, rfl⟩
abbrev main_while0b_v103 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_cst_8 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_cst_9 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_cst_10 : Ref sig .tc := ⟨.hbm, 146, rfl⟩
abbrev main_v90 : Ref sig .tc := ⟨.hbm, 147, rfl⟩
abbrev main_v91 : Ref sig .tc := ⟨.hbm, 148, rfl⟩
abbrev main_cst_11 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩

abbrev nD : Nat := 1
abbrev τ : Topo := Topo.v7x

variable {F : FTy → Type} [FloatOps F]

abbrev main_while0_count : Scf.Loop 32 := ⟨0#32, 2048#32, 1#32⟩
-- ==== Ffn.lean ====
abbrev S16384x1024 : Shape := ⟨2, ![16384, 1024]⟩
abbrev S2x1024x5632 : Shape := ⟨3, ![2, 1024, 5632]⟩
abbrev S2x2816x1024 : Shape := ⟨3, ![2, 2816, 1024]⟩
abbrev S1024 : Shape := ⟨1, ![1024]⟩
abbrev S1x1024 : Shape := ⟨2, ![1, 1024]⟩
abbrev S512x1024 : Shape := ⟨2, ![512, 1024]⟩
abbrev S1x1024x5632 : Shape := ⟨3, ![1, 1024, 5632]⟩
abbrev S1x2816x1024 : Shape := ⟨3, ![1, 2816, 1024]⟩
abbrev S1x1024x1536 : Shape := ⟨3, ![1, 1024, 1536]⟩
abbrev S1024x1536 : Shape := ⟨2, ![1024, 1536]⟩
abbrev S512x1536 : Shape := ⟨2, ![512, 1536]⟩
abbrev S1x1536x1024 : Shape := ⟨3, ![1, 1536, 1024]⟩
abbrev S1536x1024 : Shape := ⟨2, ![1536, 1024]⟩
abbrev S1x1024x1280 : Shape := ⟨3, ![1, 1024, 1280]⟩
abbrev S1024x1280 : Shape := ⟨2, ![1024, 1280]⟩
abbrev S512x1280 : Shape := ⟨2, ![512, 1280]⟩
abbrev S1x1280x1024 : Shape := ⟨3, ![1, 1280, 1024]⟩
abbrev S1280x1024 : Shape := ⟨2, ![1280, 1024]⟩
abbrev S512 : Shape := ⟨1, ![512]⟩
abbrev S512x1 : Shape := ⟨2, ![512, 1]⟩

abbrev nBuf : Space → Nat
  | .hbm => 9
  | .vmem => 10
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S2x1024x5632, .f32⟩
  | .hbm, ⟨3, _⟩ => ⟨S2x2816x1024, .f32⟩
  | .hbm, ⟨4, _⟩ => ⟨S1024, .f32⟩
  | .hbm, ⟨5, _⟩ => ⟨S2x1024x5632, .bf16⟩
  | .hbm, ⟨6, _⟩ => ⟨S2x2816x1024, .bf16⟩
  | .hbm, ⟨7, _⟩ => ⟨S1x1024, .f32⟩
  | .hbm, ⟨8, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1x1024x5632, .bf16⟩
  | .local _ .vmem, ⟨5, _⟩ => ⟨S1x2816x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnRefIdeal.lean ====
abbrev S16384x1024 : Shape := ⟨2, ![16384, 1024]⟩
abbrev S2x1024x5632 : Shape := ⟨3, ![2, 1024, 5632]⟩
abbrev S2x2816x1024 : Shape := ⟨3, ![2, 2816, 1024]⟩
abbrev S1024 : Shape := ⟨1, ![1024]⟩
abbrev S1x1024x5632 : Shape := ⟨3, ![1, 1024, 5632]⟩
abbrev S1024x5632 : Shape := ⟨2, ![1024, 5632]⟩
abbrev S16384x5632 : Shape := ⟨2, ![16384, 5632]⟩
abbrev S16384x2816 : Shape := ⟨2, ![16384, 2816]⟩
abbrev S_ : Shape := ⟨0, ![]⟩
abbrev S1x2816x1024 : Shape := ⟨3, ![1, 2816, 1024]⟩
abbrev S2816x1024 : Shape := ⟨2, ![2816, 1024]⟩
abbrev S16384 : Shape := ⟨1, ![16384]⟩
abbrev S16384x1 : Shape := ⟨2, ![16384, 1]⟩
abbrev S1x1024 : Shape := ⟨2, ![1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S2x1024x5632, .f32⟩
  | .hbm, ⟨3, _⟩ => ⟨S2x2816x1024, .f32⟩
  | .hbm, ⟨4, _⟩ => ⟨S1024, .f32⟩
  | .hbm, ⟨5, _⟩ => ⟨S16384x1024, .f32⟩
  | .hbm, ⟨6, _⟩ => ⟨S1x1024x5632, .f32⟩
  | .hbm, ⟨7, _⟩ => ⟨S1024x5632, .f32⟩
  | .hbm, ⟨8, _⟩ => ⟨S16384x5632, .f32⟩
  | .hbm, ⟨9, _⟩ => ⟨S16384x2816, .f32⟩
  | .hbm, ⟨10, _⟩ => ⟨S16384x2816, .f32⟩
  | .hbm, ⟨11, _⟩ => ⟨S16384x2816, .f32⟩
  | .hbm, ⟨12, _⟩ => ⟨S16384x2816, .f32⟩
  | .hbm, ⟨13, _⟩ => ⟨S_, .f32⟩
  | .hbm, ⟨14, _⟩ => ⟨S16384x2816, .f32⟩
  | .hbm, ⟨15, _⟩ => ⟨S16384x2816, .f32⟩
  | .hbm, ⟨16, _⟩ => ⟨S_, .f32⟩
  | .hbm, ⟨17, _⟩ => ⟨S16384x2816, .f32⟩
  | .hbm, ⟨18, _⟩ => ⟨S16384x2816, .f32⟩
  | .hbm, ⟨19, _⟩ => ⟨S16384x2816, .f32⟩
  | .hbm, ⟨20, _⟩ => ⟨S16384x2816, .f32⟩
  | .hbm, ⟨21, _⟩ => ⟨S1x2816x1024, .f32⟩
  | .hbm, ⟨22, _⟩ => ⟨S2816x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S16384x1, .f32⟩
  | .hbm, ⟨35, _⟩ => ⟨S16384x1024, .f32⟩
  | .hbm, ⟨36, _⟩ => ⟨S16384x1024, .f32⟩
  | .hbm, ⟨37, _⟩ => ⟨S1x1024, .f32⟩
  | .hbm, ⟨38, _⟩ => ⟨S16384x1024, .f32⟩
  | .hbm, ⟨39, _⟩ => ⟨S16384x1024, .f32⟩
  | .hbm, ⟨40, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_v13 : Ref sig .tc := ⟨.hbm, 27, rfl⟩
abbrev main_cst_0 : Ref sig .tc := ⟨.hbm, 28, rfl⟩
abbrev main_v14 : Ref sig .tc := ⟨.hbm, 29, rfl⟩
abbrev main_v15 : Ref sig .tc := ⟨.hbm, 30, rfl⟩
abbrev main_cst_1 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩

abbrev nD : Nat := 1
abbrev τ : Topo := Topo.v7x

variable {F : FTy → Type} [FloatOps F]
-- ==== Merge.lean ====
abbrev S16384x1024 : Shape := ⟨2, ![16384, 1024]⟩
abbrev S16384x10240 : Shape := ⟨2, ![16384, 10240]⟩
abbrev S2x1024x1024 : Shape := ⟨3, ![2, 1024, 1024]⟩
abbrev S1024 : Shape := ⟨1, ![1024]⟩
abbrev S1x1024 : Shape := ⟨2, ![1, 1024]⟩
abbrev S512x1024 : Shape := ⟨2, ![512, 1024]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 19
  | .vmem => 24
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x10240, .bf16⟩
  | .hbm, ⟨4, _⟩ => ⟨S16384x1024, .f32⟩
  | .hbm, ⟨5, _⟩ => ⟨S2x1024x1024, .f32⟩
  | .hbm, ⟨6, _⟩ => ⟨S2x1024x1024, .f32⟩
  | .hbm, ⟨7, _⟩ => ⟨S2x1024x1024, .f32⟩
  | .hbm, ⟨8, _⟩ => ⟨S2x1024x1024, .f32⟩
  | .hbm, ⟨9, _⟩ => ⟨S1024, .f32⟩
  | .hbm, ⟨10, _⟩ => ⟨S1024, .f32⟩
  | .hbm, ⟨11, _⟩ => ⟨S2x1024x1024, .bf16⟩
  | .hbm, ⟨12, _⟩ => ⟨S2x1024x1024, .bf16⟩
  | .hbm, ⟨13, _⟩ => ⟨S2x1024x1024, .bf16⟩
  | .hbm, ⟨14, _⟩ => ⟨S2x1024x1024, .bf16⟩
  | .hbm, ⟨15, _⟩ => ⟨S1x1024, .f32⟩
  | .hbm, ⟨16, _⟩ => ⟨S1x1024, .f32⟩
  | .hbm, ⟨17, _⟩ => ⟨S16384x1024, .f32⟩
  | .hbm, ⟨18, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S1x1024x1024, .bf16⟩
  | .local _ .vmem, ⟨15, _⟩ => ⟨S1x1024x1024, .bf16⟩
  | .local _ .vmem, ⟨16, _⟩ => ⟨S1x1024x1024, .bf16⟩
  | .local _ .vmem, ⟨17, _⟩ => ⟨S1x1024x1024, .bf16⟩
  | .local _ .vmem, ⟨18, _⟩ => ⟨S1x1024, .f32⟩
  | .local _ .vmem, ⟨19, _⟩ => ⟨S1x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .bf16⟩
  | .local _ .vmem, ⟨23, _⟩ => ⟨S512x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MergeRefIdeal.lean ====
abbrev S16384x1024 : Shape := ⟨2, ![16384, 1024]⟩
abbrev S16384x10240 : Shape := ⟨2, ![16384, 10240]⟩
abbrev S2x1024x1024 : Shape := ⟨3, ![2, 1024, 1024]⟩
abbrev S1024 : Shape := ⟨1, ![1024]⟩
abbrev S16384x3072 : Shape := ⟨2, ![16384, 3072]⟩
abbrev S_ : Shape := ⟨0, ![]⟩
abbrev S1x1024x1024 : Shape := ⟨3, ![1, 1024, 1024]⟩
abbrev S1024x1024 : Shape := ⟨2, ![1024, 1024]⟩
abbrev S16384 : Shape := ⟨1, ![16384]⟩
abbrev S16384x1 : Shape := ⟨2, ![16384, 1]⟩
abbrev S1x1024 : Shape := ⟨2, ![1, 1024]⟩

abbrev nBuf : Space → Nat
  | .hbm => 78
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x10240, .bf16⟩
  | .hbm, ⟨4, _⟩ => ⟨S16384x1024, .f32⟩
  | .hbm, ⟨5, _⟩ => ⟨S2x1024x1024, .f32⟩
  | .hbm, ⟨6, _⟩ => ⟨S2x1024x1024, .f32⟩
  | .hbm, ⟨7, _⟩ => ⟨S2x1024x1024, .f32⟩
  | .hbm, ⟨8, _⟩ => ⟨S2x1024x1024, .f32⟩
  | .hbm, ⟨9, _⟩ => ⟨S1024, .f32⟩
  | .hbm, ⟨10, _⟩ => ⟨S1024, .f32⟩
  | .hbm, ⟨11, _⟩ => ⟨S16384x10240, .f32⟩
  | .hbm, ⟨12, _⟩ => ⟨S16384x3072, .f32⟩
  | .hbm, ⟨13, _⟩ => ⟨S16384x3072, .f32⟩
  | .hbm, ⟨14, _⟩ => ⟨S16384x3072, .f32⟩
  | .hbm, ⟨15, _⟩ => ⟨S_, .f32⟩
  | .hbm, ⟨16, _⟩ => ⟨S16384x3072, .f32⟩
  | .hbm, ⟨17, _⟩ => ⟨S16384x3072, .f32⟩
  | .hbm, ⟨18, _⟩ => ⟨S_, .f32⟩
  | .hbm, ⟨19, _⟩ => ⟨S16384x3072, .f32⟩
  | .hbm, ⟨20, _⟩ => ⟨S16384x3072, .f32⟩
  | .hbm, ⟨21, _⟩ => ⟨S16384x1024, .f32⟩
  | .hbm, ⟨22, _⟩ => ⟨S16384x1024, .f32⟩
  | .hbm, ⟨23, _⟩ => ⟨S1x1024x1024, .f32⟩
  | .hbm, ⟨24, _⟩ => ⟨S1024x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S1x1024x1024, .f32⟩
  | .hbm, ⟨30, _⟩ => ⟨S1024x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S1x1024x1024, .f32⟩
  | .hbm, ⟨37, _⟩ => ⟨S1024x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S1x1024x1024, .f32⟩
  | .hbm, ⟨42, _⟩ => ⟨S1024x1024, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S16384, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S16384x1, .f32⟩
  | .hbm, ⟨55, _⟩ => ⟨S16384x1024, .f32⟩
  | .hbm, ⟨56, _⟩ => ⟨S16384x1024, .f32⟩
  | .hbm, ⟨57, _⟩ => ⟨S1x1024, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S_, .f32⟩
  | .hbm, ⟨63, _⟩ => ⟨S16384, .f32⟩
  | .hbm, ⟨64, _⟩ => ⟨S16384x1, .f32⟩
  | .hbm, ⟨65, _⟩ => ⟨S_, .f32⟩
  | .hbm, ⟨66, _⟩ => ⟨S16384x1, .f32⟩
  | .hbm, ⟨67, _⟩ => ⟨S16384x1, .f32⟩
  | .hbm, ⟨68, _⟩ => ⟨S_, .f32⟩
  | .hbm, ⟨69, _⟩ => ⟨S16384x1, .f32⟩
  | .hbm, ⟨70, _⟩ => ⟨S16384x1, .f32⟩
  | .hbm, ⟨71, _⟩ => ⟨S16384x1, .f32⟩
  | .hbm, ⟨72, _⟩ => ⟨S16384x1024, .f32⟩
  | .hbm, ⟨73, _⟩ => ⟨S16384x1024, .f32⟩
  | .hbm, ⟨74, _⟩ => ⟨S1x1024, .f32⟩
  | .hbm, ⟨75, _⟩ => ⟨S16384x1024, .f32⟩
  | .hbm, ⟨76, _⟩ => ⟨S16384x1024, .f32⟩
  | .hbm, ⟨77, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_1 : Ref sig .tc := ⟨.hbm, 45, rfl⟩
abbrev main_v32 : Ref sig .tc := ⟨.hbm, 46, rfl⟩
abbrev main_v33 : Ref sig .tc := ⟨.hbm, 47, rfl⟩
abbrev main_cst_2 : Ref sig .tc := ⟨.hbm, 48, rfl⟩
abbrev main_v34 : Ref sig .tc := ⟨.hbm, 49, rfl⟩
abbrev main_v35 : Ref sig .tc := ⟨.hbm, 50, rfl⟩
abbrev main_cst_3 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_4 : Ref sig .tc := ⟨.hbm, 62, rfl⟩
abbrev main_v46 : Ref sig .tc := ⟨.hbm, 63, rfl⟩
abbrev main_v47 : Ref sig .tc := ⟨.hbm, 64, rfl⟩
abbrev main_cst_5 : Ref sig .tc := ⟨.hbm, 65, rfl⟩
abbrev main_v48 : Ref sig .tc := ⟨.hbm, 66, rfl⟩
abbrev main_v49 : Ref sig .tc := ⟨.hbm, 67, rfl⟩
abbrev main_cst_6 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩

abbrev nD : Nat := 1
abbrev τ : Topo := Topo.v7x

variable {F : FTy → Type} [FloatOps F]
-- ==== InProj.lean ====
abbrev S16384x1024 : Shape := ⟨2, ![16384, 1024]⟩
abbrev S1024 : Shape := ⟨1, ![1024]⟩
abbrev S2x10240x1024 : Shape := ⟨3, ![2, 10240, 1024]⟩
abbrev S1x1024 : Shape := ⟨2, ![1, 1024]⟩
abbrev S16384x10240 : Shape := ⟨2, ![16384, 10240]⟩
abbrev S2048x1024 : Shape := ⟨2, ![2048, 1024]⟩
abbrev S1x2048x1024 : Shape := ⟨3, ![1, 2048, 1024]⟩
abbrev S2048x2048 : Shape := ⟨2, ![2048, 2048]⟩
abbrev S2048 : Shape := ⟨1, ![2048]⟩
abbrev S2048x1 : Shape := ⟨2, ![2048, 1]⟩

abbrev nBuf : Space → Nat
  | .hbm => 5
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S2x10240x1024, .bf16⟩
  | .hbm, ⟨3, _⟩ => ⟨S1x1024, .f32⟩
  | .hbm, ⟨4, _⟩ => ⟨S16384x10240, .bf16⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1x2048x1024, .bf16⟩
  | .local _ .vmem, ⟨4, _⟩ => ⟨S1x2048x1024, .bf16⟩
  | .local _ .vmem, ⟨5, _⟩ => ⟨S2048x2048, .bf16⟩
  | .local _ .vmem, ⟨6, _⟩ => ⟨S2048x2048, .bf16⟩
  | .local _ .vmem, ⟨7, _⟩ => ⟨S2048x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InProjRefIdeal.lean ====
abbrev S16384x1024 : Shape := ⟨2, ![16384, 1024]⟩
abbrev S1024 : Shape := ⟨1, ![1024]⟩
abbrev S2x10240x1024 : Shape := ⟨3, ![2, 10240, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x10240x1024 : Shape := ⟨3, ![1, 10240, 1024]⟩
abbrev S10240x1024 : Shape := ⟨2, ![10240, 1024]⟩
abbrev S1024x10240 : Shape := ⟨2, ![1024, 10240]⟩
abbrev S16384x10240 : Shape := ⟨2, ![16384, 10240]⟩

abbrev nBuf : Space → Nat
  | .hbm => 25
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S2x10240x1024, .bf16⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S1x10240x1024, .bf16⟩
  | .hbm, ⟨20, _⟩ => ⟨S10240x1024, .bf16⟩
  | .hbm, ⟨21, _⟩ => ⟨S10240x1024, .f32⟩
  | .hbm, ⟨22, _⟩ => ⟨S1024x10240, .f32⟩
  | .hbm, ⟨23, _⟩ => ⟨S16384x10240, .f32⟩
  | .hbm, ⟨24, _⟩ => ⟨S16384x10240, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Gmlp.lean ====
abbrev S16384x10240 : Shape := ⟨2, ![16384, 10240]⟩
abbrev S1024 : Shape := ⟨1, ![1024]⟩
abbrev S4x128x128 : Shape := ⟨3, ![4, 128, 128]⟩
abbrev S4x128 : Shape := ⟨2, ![4, 128]⟩
abbrev S1x1024 : Shape := ⟨2, ![1, 1024]⟩
abbrev S128x4 : Shape := ⟨2, ![128, 4]⟩
abbrev S16384x1024 : Shape := ⟨2, ![16384, 1024]⟩
abbrev S1024x1024 : Shape := ⟨2, ![1024, 1024]⟩
abbrev S128x128 : Shape := ⟨2, ![128, 128]⟩
abbrev S1x128x128 : Shape := ⟨3, ![1, 128, 128]⟩
abbrev S128x1024 : Shape := ⟨2, ![128, 1024]⟩
abbrev S128 : Shape := ⟨1, ![128]⟩
abbrev S128x1 : Shape := ⟨2, ![128, 1]⟩
abbrev S128x256 : Shape := ⟨2, ![128, 256]⟩

abbrev nBuf : Space → Nat
  | .hbm => 9
  | .vmem => 10
  | .smem => 0
  | _ => 0

abbrev bufTy : (tb : Table) → Fin (tcTables nBuf tb) → BufTy
  | .hbm, ⟨0, _⟩ => ⟨S16384x10240, .bf16⟩
  | .hbm, ⟨1, _⟩ => ⟨S1024, .f32⟩
  | .hbm, ⟨2, _⟩ => ⟨S1024, .f32⟩
  | .hbm, ⟨3, _⟩ => ⟨S4x128x128, .f32⟩
  | .hbm, ⟨4, _⟩ => ⟨S4x128, .f32⟩
  | .hbm, ⟨5, _⟩ => ⟨S1x1024, .f32⟩
  | .hbm, ⟨6, _⟩ => ⟨S1x1024, .f32⟩
  | .hbm, ⟨7, _⟩ => ⟨S128x4, .f32⟩
  | .hbm, ⟨8, _⟩ => ⟨S16384x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S4x128x128, .f32⟩
  | .local _ .vmem, ⟨7, _⟩ => ⟨S128x4, .f32⟩
  | .local _ .vmem, ⟨8, _⟩ => ⟨S1024x1024, .bf16⟩
  | .local _ .vmem, ⟨9, _⟩ => ⟨S1024x1024, .bf16⟩
  | _, _ => ⟨S16384x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GmlpRefIdeal.lean ====
abbrev S16384x10240 : Shape := ⟨2, ![16384, 10240]⟩
abbrev S1024 : Shape := ⟨1, ![1024]⟩
abbrev S4x128x128 : Shape := ⟨3, ![4, 128, 128]⟩
abbrev S4x128 : Shape := ⟨2, ![4, 128]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S128x128x4x256 : Shape := ⟨4, ![128, 128, 4, 256]⟩
abbrev S128x128 : Shape := ⟨2, ![128, 128]⟩
abbrev S1x128x128 : Shape := ⟨3, ![1, 128, 128]⟩
abbrev S4x128x256x128 : Shape := ⟨4, ![4, 128, 256, 128]⟩
abbrev S128x4 : Shape := ⟨2, ![128, 4]⟩
abbrev S1x128x4x1 : Shape := ⟨4, ![1, 128, 4, 1]⟩

abbrev nBuf : Space → Nat
  | .hbm => 95
  | .vmem => 0
  | .smem => 0
  | _ => 0

abbrev bufTy : (tb : Table) → Fin (tcTables nBuf tb) → BufTy
  | .hbm, ⟨0, _⟩ => ⟨S16384x10240, .bf16⟩
  | .hbm, ⟨1, _⟩ => ⟨S1024, .f32⟩
  | .hbm, ⟨2, _⟩ => ⟨S1024, .f32⟩
  | .hbm, ⟨3, _⟩ => ⟨S4x128x128, .f32⟩
  | .hbm, ⟨4, _⟩ => ⟨S4x128, .f32⟩
  | .hbm, ⟨5, _⟩ => ⟨S16384x10240, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S_, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S_, .f32⟩
  | .hbm, ⟨43, _⟩ => ⟨S16384, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S_, .f32⟩
  | .hbm, ⟨52, _⟩ => ⟨S16384, .f32⟩
  | .hbm, ⟨53, _⟩ => ⟨S16384x1, .f32⟩
  | .hbm, ⟨54, _⟩ => ⟨S_, .f32⟩
  | .hbm, ⟨55, _⟩ => ⟨S16384x1, .f32⟩
  | .hbm, ⟨56, _⟩ => ⟨S16384x1, .f32⟩
  | .hbm, ⟨57, _⟩ => ⟨S16384x1024, .f32⟩
  | .hbm, ⟨58, _⟩ => ⟨S16384x1024, .f32⟩
  | .hbm, ⟨59, _⟩ => ⟨S_, .f32⟩
  | .hbm, ⟨60, _⟩ => ⟨S16384x1, .f32⟩
  | .hbm, ⟨61, _⟩ => ⟨S16384x1, .f32⟩
  | .hbm, ⟨62, _⟩ => ⟨S16384x1, .f32⟩
  | .hbm, ⟨63, _⟩ => ⟨S16384x1024, .f32⟩
  | .hbm, ⟨64, _⟩ => ⟨S16384x1024, .f32⟩
  | .hbm, ⟨65, _⟩ => ⟨S1x1024, .f32⟩
  | .hbm, ⟨66, _⟩ => ⟨S16384x1024, .f32⟩
  | .hbm, ⟨67, _⟩ => ⟨S16384x1024, .f32⟩
  | .hbm, ⟨68, _⟩ => ⟨S1x1024, .f32⟩
  | .hbm, ⟨69, _⟩ => ⟨S16384x1024, .f32⟩
  | .hbm, ⟨70, _⟩ => ⟨S16384x1024, .f32⟩
  | .hbm, ⟨71, _⟩ => ⟨S128x128x4x256, .f32⟩
  | .hbm, ⟨72, _⟩ => ⟨S_, .f32⟩
  | .hbm, ⟨73, _⟩ => ⟨S128x128, .f32⟩
  | .hbm, ⟨74, _⟩ => ⟨S128x128, .i32⟩
  | .hbm, ⟨75, _⟩ => ⟨S_, .i32⟩
  | .hbm, ⟨76, _⟩ => ⟨S128x128, .i32⟩
  | .hbm, ⟨77, _⟩ => ⟨S128x128, .i32⟩
  | .hbm, ⟨78, _⟩ => ⟨S128x128, .i32⟩
  | .hbm, ⟨79, _⟩ => ⟨S128x128, .i1⟩
  | .hbm, ⟨80, _⟩ => ⟨S_, .f32⟩
  | .hbm, ⟨81, _⟩ => ⟨S128x128, .f32⟩
  | .hbm, ⟨82, _⟩ => ⟨S128x128, .f32⟩
  | .hbm, ⟨83, _⟩ => ⟨S1x128x128, .f32⟩
  | .hbm, ⟨84, _⟩ => ⟨S4x128x128, .f32⟩
  | .hbm, ⟨85, _⟩ => ⟨S4x128x128, .f32⟩
  | .hbm, ⟨86, _⟩ => ⟨S4x128x256x128, .f32⟩
  | .hbm, ⟨87, _⟩ => ⟨S128x128x4x256, .f32⟩
  | .hbm, ⟨88, _⟩ => ⟨S128x4, .f32⟩
  | .hbm, ⟨89, _⟩ => ⟨S1x128x4x1, .f32⟩
  | .hbm, ⟨90, _⟩ => ⟨S128x128x4x256, .f32⟩
  | .hbm, ⟨91, _⟩ => ⟨S128x128x4x256, .f32⟩
  | .hbm, ⟨92, _⟩ => ⟨S16384x1024, .f32⟩
  | .hbm, ⟨93, _⟩ => ⟨S16384x1024, .f32⟩
  | .hbm, ⟨94, _⟩ => ⟨S16384x1024, .bf16⟩
  | _, _ => ⟨S16384x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_9 : Ref sig .tc := ⟨.hbm, 51, rfl⟩
abbrev main_v36 : Ref sig .tc := ⟨.hbm, 52, rfl⟩
abbrev main_v37 : Ref sig .tc := ⟨.hbm, 53, rfl⟩
abbrev main_cst_10 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_11 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_12 : Ref sig .tc := ⟨.hbm, 72, rfl⟩
abbrev main_v54 : Ref sig .tc := ⟨.hbm, 73, rfl⟩
abbrev main_call0_v0 : Ref sig .tc := ⟨.hbm, 74, rfl⟩
abbrev main_call0_c : Ref sig .tc := ⟨.hbm, 75, rfl⟩
abbrev main_call0_v1 : Ref sig .tc := ⟨.hbm, 76, rfl⟩
abbrev main_call0_v2 : Ref sig .tc := ⟨.hbm, 77, rfl⟩
abbrev main_call0_v3 : Ref sig .tc := ⟨.hbm, 78, rfl⟩
abbrev main_call0_v4 : Ref sig .tc := ⟨.hbm, 79, rfl⟩
abbrev main_call0_cst : Ref sig .tc := ⟨.hbm, 80, rfl⟩
abbrev main_call0_v5 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩

abbrev nD : Nat := 1
abbrev τ : Topo := Topo.v7x

variable {F : FTy → Type} [FloatOps F]
-- ==== Reorder.lean ====
abbrev S2x1024x9776 : Shape := ⟨3, ![2, 1024, 9776]⟩
abbrev S2x9776x1024 : Shape := ⟨3, ![2, 9776, 1024]⟩
abbrev S2x10240x1024 : Shape := ⟨3, ![2, 10240, 1024]⟩
abbrev S1x9776x256 : Shape := ⟨3, ![1, 9776, 256]⟩
abbrev S1x10240x256 : Shape := ⟨3, ![1, 10240, 256]⟩
abbrev S1x2048x256 : Shape := ⟨3, ![1, 2048, 256]⟩
abbrev S2048x256 : Shape := ⟨2, ![2048, 256]⟩
abbrev S1x5120x256 : Shape := ⟨3, ![1, 5120, 256]⟩
abbrev S5120x256 : Shape := ⟨2, ![5120, 256]⟩
abbrev S1x512x256 : Shape := ⟨3, ![1, 512, 256]⟩
abbrev S512x256 : Shape := ⟨2, ![512, 256]⟩
abbrev S1x48x256 : Shape := ⟨3, ![1, 48, 256]⟩
abbrev S48x256 : Shape := ⟨2, ![48, 256]⟩
abbrev S464x256 : Shape := ⟨2, ![464, 256]⟩
abbrev S1x464x256 : Shape := ⟨3, ![1, 464, 256]⟩
abbrev S1x1024x256 : Shape := ⟨3, ![1, 1024, 256]⟩
abbrev S1024x256 : Shape := ⟨2, ![1024, 256]⟩

abbrev nBuf : Space → Nat
  | .hbm => 3
  | .vmem => 4
  | .smem => 0
  | _ => 0

abbrev bufTy : (tb : Table) → Fin (tcTables nBuf tb) → BufTy
  | .hbm, ⟨0, _⟩ => ⟨S2x1024x9776, .f32⟩
  | .hbm, ⟨1, _⟩ => ⟨S2x9776x1024, .f32⟩
  | .hbm, ⟨2, _⟩ => ⟨S2x10240x1024, .bf16⟩
  | .local _ .vmem, ⟨0, _⟩ => ⟨S1x9776x256, .f32⟩
  | .local _ .vmem, ⟨1, _⟩ => ⟨S1x9776x256, .f32⟩
  | .local _ .vmem, ⟨2, _⟩ => ⟨S1x10240x256, .bf16⟩
  | .local _ .vmem, ⟨3, _⟩ => ⟨S1x10240x256, .bf16⟩
  | _, _ => ⟨S2x1024x9776, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x9776x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x10240x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== ReorderRefIdeal.lean ====
abbrev S2x1024x9776 : Shape := ⟨3, ![2, 1024, 9776]⟩
abbrev S2x9776x1024 : Shape := ⟨3, ![2, 9776, 1024]⟩
abbrev S2x1024x1024 : Shape := ⟨3, ![2, 1024, 1024]⟩
abbrev S2x1536x1024 : Shape := ⟨3, ![2, 1536, 1024]⟩
abbrev S2x48x1024 : Shape := ⟨3, ![2, 48, 1024]⟩
abbrev S2x5120x1024 : Shape := ⟨3, ![2, 5120, 1024]⟩
abbrev S_ : Shape := ⟨0, ![]⟩
abbrev S2x464x1024 : Shape := ⟨3, ![2, 464, 1024]⟩
abbrev S2x512x1024 : Shape := ⟨3, ![2, 512, 1024]⟩
abbrev S2x10240x1024 : Shape := ⟨3, ![2, 10240, 1024]⟩

abbrev nBuf : Space → Nat
  | .hbm => 17
  | .vmem => 0
  | .smem => 0
  | _ => 0

abbrev bufTy : (tb : Table) → Fin (tcTables nBuf tb) → BufTy
  | .hbm, ⟨0, _⟩ => ⟨S2x1024x9776, .f32⟩
  | .hbm, ⟨1, _⟩ => ⟨S2x9776x1024, .f32⟩
  | .hbm, ⟨2, _⟩ => ⟨S2x1024x1024, .f32⟩
  | .hbm, ⟨3, _⟩ => ⟨S2x1024x1024, .f32⟩
  | .hbm, ⟨4, _⟩ => ⟨S2x1024x1024, .f32⟩
  | .hbm, ⟨5, _⟩ => ⟨S2x1536x1024, .f32⟩
  | .hbm, ⟨6, _⟩ => ⟨S2x48x1024, .f32⟩
  | .hbm, ⟨7, _⟩ => ⟨S2x5120x1024, .f32⟩
  | .hbm, ⟨8, _⟩ => ⟨S_, .f32⟩
  | .hbm, ⟨9, _⟩ => ⟨S2x464x1024, .f32⟩
  | .hbm, ⟨10, _⟩ => ⟨S2x512x1024, .f32⟩
  | .hbm, ⟨11, _⟩ => ⟨S_, .f32⟩
  | .hbm, ⟨12, _⟩ => ⟨S2x1024x1024, .f32⟩
  | .hbm, ⟨13, _⟩ => ⟨S2x1024x1024, .f32⟩
  | .hbm, ⟨14, _⟩ => ⟨S2x1024x1024, .f32⟩
  | .hbm, ⟨15, _⟩ => ⟨S2x10240x1024, .f32⟩
  | .hbm, ⟨16, _⟩ => ⟨S2x10240x1024, .bf16⟩
  | _, _ => ⟨S2x1024x9776, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Compress.lean ====
abbrev S16384x10240 : Shape := ⟨2, ![16384, 10240]⟩
abbrev S32x64 : Shape := ⟨2, ![32, 64]⟩
abbrev S2048x256 : Shape := ⟨2, ![2048, 256]⟩
abbrev S256x64 : Shape := ⟨2, ![256, 64]⟩
abbrev S1x2048 : Shape := ⟨2, ![1, 2048]⟩
abbrev S64x256 : Shape := ⟨2, ![64, 256]⟩
abbrev S4096x64 : Shape := ⟨2, ![4096, 64]⟩
abbrev S64x4096 : Shape := ⟨2, ![64, 4096]⟩
abbrev S512x64 : Shape := ⟨2, ![512, 64]⟩
abbrev S64x512 : Shape := ⟨2, ![64, 512]⟩
abbrev S2x2048x128 : Shape := ⟨3, ![2, 2048, 128]⟩
abbrev S2048x128 : Shape := ⟨2, ![2048, 128]⟩
abbrev S1x2048x128 : Shape := ⟨3, ![1, 2048, 128]⟩
abbrev S1x128x128 : Shape := ⟨3, ![1, 128, 128]⟩
abbrev S128x128 : Shape := ⟨2, ![128, 128]⟩
abbrev S128x64 : Shape := ⟨2, ![128, 64]⟩
abbrev S128x1024 : Shape := ⟨2, ![128, 1024]⟩
abbrev S512x1024 : Shape := ⟨2, ![512, 1024]⟩
abbrev S1024x256 : Shape := ⟨2, ![1024, 256]⟩
abbrev S512x256 : Shape := ⟨2, ![512, 256]⟩
abbrev S8x2048 : Shape := ⟨2, ![8, 2048]⟩
abbrev S8x256 : Shape := ⟨2, ![8, 256]⟩
abbrev S1x256 : Shape := ⟨2, ![1, 256]⟩
abbrev S8x4x128x64 : Shape := ⟨4, ![8, 4, 128, 64]⟩
abbrev S8x4x127x64 : Shape := ⟨4, ![8, 4, 127, 64]⟩
abbrev S64x8x4x128 : Shape := ⟨4, ![64, 8, 4, 128]⟩
abbrev S64x8x4x127 : Shape := ⟨4, ![64, 8, 4, 127]⟩

abbrev nBuf : Space → Nat
  | .hbm => 20
  | .vmem => 15
  | .smem => 0
  | _ => 0

abbrev bufTy : (tb : Table) → Fin (tcTables nBuf tb) → BufTy
  | .hbm, ⟨0, _⟩ => ⟨S16384x10240, .bf16⟩
  | .hbm, ⟨1, _⟩ => ⟨S32x64, .f32⟩
  | .hbm, ⟨2, _⟩ => ⟨S32x64, .f32⟩
  | .hbm, ⟨3, _⟩ => ⟨S2048x256, .f32⟩
  | .hbm, ⟨4, _⟩ => ⟨S256x64, .f32⟩
  | .hbm, ⟨5, _⟩ => ⟨S2048x256, .f32⟩
  | .hbm, ⟨6, _⟩ => ⟨S256x64, .f32⟩
  | .hbm, ⟨7, _⟩ => ⟨S1x2048, .f32⟩
  | .hbm, ⟨8, _⟩ => ⟨S1x2048, .f32⟩
  | .hbm, ⟨9, _⟩ => ⟨S2048x256, .bf16⟩
  | .hbm, ⟨10, _⟩ => ⟨S256x64, .bf16⟩
  | .hbm, ⟨11, _⟩ => ⟨S2048x256, .bf16⟩
  | .hbm, ⟨12, _⟩ => ⟨S64x256, .f32⟩
  | .hbm, ⟨13, _⟩ => ⟨S64x256, .bf16⟩
  | .hbm, ⟨14, _⟩ => ⟨S4096x64, .f32⟩
  | .hbm, ⟨15, _⟩ => ⟨S64x4096, .f32⟩
  | .hbm, ⟨16, _⟩ => ⟨S8x4x128x64, .f32⟩
  | .hbm, ⟨17, _⟩ => ⟨S8x4x127x64, .f32⟩
  | .hbm, ⟨18, _⟩ => ⟨S64x8x4x128, .f32⟩
  | .hbm, ⟨19, _⟩ => ⟨S64x8x4x127, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S1x2048, .f32⟩
  | .local _ .vmem, ⟨5, _⟩ => ⟨S1x2048, .f32⟩
  | .local _ .vmem, ⟨6, _⟩ => ⟨S2048x256, .bf16⟩
  | .local _ .vmem, ⟨7, _⟩ => ⟨S256x64, .bf16⟩
  | .local _ .vmem, ⟨8, _⟩ => ⟨S2048x256, .bf16⟩
  | .local _ .vmem, ⟨9, _⟩ => ⟨S64x256, .bf16⟩
  | .local _ .vmem, ⟨10, _⟩ => ⟨S512x64, .f32⟩
  | .local _ .vmem, ⟨11, _⟩ => ⟨S512x64, .f32⟩
  | .local _ .vmem, ⟨12, _⟩ => ⟨S64x512, .f32⟩
  | .local _ .vmem, ⟨13, _⟩ => ⟨S64x512, .f32⟩
  | .local _ .vmem, ⟨14, _⟩ => ⟨S2x2048x128, .f32⟩
  | _, _ => ⟨S16384x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c28_i32 : BitVec 32 := 28#32
  let c0_i32 : BitVec 32 := 0#32
  ![arg0.toNat, c28_i32.toNat]

def cc0_transform_1 (i : grid0.Coords) : Fin 2 → Nat :=
  let arg0 : BitVec 32 := BitVec.ofNat 32 (i 0).val
  let c29_i32 : BitVec 32 := 29#32
  let c0_i32 : BitVec 32 := 0#32
  ![arg0.toNat, c29_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== CompressRefIdeal.lean ====
abbrev S16384x10240 : Shape := ⟨2, ![16384, 10240]⟩
abbrev S32x64 : Shape := ⟨2, ![32, 64]⟩
abbrev S2048x256 : Shape := ⟨2, ![2048, 256]⟩
abbrev S256x64 : Shape := ⟨2, ![256, 64]⟩
abbrev S16384x256 : Shape := ⟨2, ![16384, 256]⟩
abbrev S8x2048x4x64 : Shape := ⟨4, ![8, 2048, 4, 64]⟩
abbrev S8x4x2048x64 : Shape := ⟨4, ![8, 4, 2048, 64]⟩
abbrev S127 : Shape := ⟨1, ![127]⟩
abbrev S127x1 : Shape := ⟨2, ![127, 1]⟩
abbrev S_ : Shape := ⟨0, ![]⟩
abbrev S32 : Shape := ⟨1, ![32]⟩
abbrev S1x32 : Shape := ⟨2, ![1, 32]⟩
abbrev S127x32 : Shape := ⟨2, ![127, 32]⟩
abbrev S127x32x1 : Shape := ⟨3, ![127, 32, 1]⟩
abbrev S8x4x127x32x64 : Shape := ⟨5, ![8, 4, 127, 32, 64]⟩
abbrev S1x1x1x32x64 : Shape := ⟨5, ![1, 1, 1, 32, 64]⟩
abbrev S8x4x127x2048 : Shape := ⟨4, ![8, 4, 127, 2048]⟩
abbrev S8x4x127x256 : Shape := ⟨4, ![8, 4, 127, 256]⟩
abbrev S8x4x127x64 : Shape := ⟨4, ![8, 4, 127, 64]⟩
abbrev S64x8x4x127 : Shape := ⟨4, ![64, 8, 4, 127]⟩

abbrev nBuf : Space → Nat
  | .hbm => 100
  | .vmem => 0
  | .smem => 0
  | _ => 0

abbrev bufTy : (tb : Table) → Fin (tcTables nBuf tb) → BufTy
  | .hbm, ⟨0, _⟩ => ⟨S16384x10240, .bf16⟩
  | .hbm, ⟨1, _⟩ => ⟨S32x64, .f32⟩
  | .hbm, ⟨2, _⟩ => ⟨S32x64, .f32⟩
  | .hbm, ⟨3, _⟩ => ⟨S2048x256, .f32⟩
  | .hbm, ⟨4, _⟩ => ⟨S256x64, .f32⟩
  | .hbm, ⟨5, _⟩ => ⟨S2048x256, .f32⟩
  | .hbm, ⟨6, _⟩ => ⟨S256x64, .f32⟩
  | .hbm, ⟨7, _⟩ => ⟨S16384x256, .bf16⟩
  | .hbm, ⟨8, _⟩ => ⟨S16384x256, .f32⟩
  | .hbm, ⟨9, _⟩ => ⟨S8x2048x4x64, .f32⟩
  | .hbm, ⟨10, _⟩ => ⟨S8x4x2048x64, .f32⟩
  | .hbm, ⟨11, _⟩ => ⟨S127, .i32⟩
  | .hbm, ⟨12, _⟩ => ⟨S127x1, .i32⟩
  | .hbm, ⟨13, _⟩ => ⟨S_, .i32⟩
  | .hbm, ⟨14, _⟩ => ⟨S127x1, .i32⟩
  | .hbm, ⟨15, _⟩ => ⟨S127x1, .i32⟩
  | .hbm, ⟨16, _⟩ => ⟨S32, .i32⟩
  | .hbm, ⟨17, _⟩ => ⟨S1x32, .i32⟩
  | .hbm, ⟨18, _⟩ => ⟨S127x32, .i32⟩
  | .hbm, ⟨19, _⟩ => ⟨S127x32, .i32⟩
  | .hbm, ⟨20, _⟩ => ⟨S127x32, .i32⟩
  | .hbm, ⟨21, _⟩ => ⟨S_, .i32⟩
  | .hbm, ⟨22, _⟩ => ⟨S127x32, .i32⟩
  | .hbm, ⟨23, _⟩ => ⟨S127x32, .i1⟩
  | .hbm, ⟨24, _⟩ => ⟨S_, .i32⟩
  | .hbm, ⟨25, _⟩ => ⟨S127x32, .i32⟩
  | .hbm, ⟨26, _⟩ => ⟨S127x32, .i32⟩
  | .hbm, ⟨27, _⟩ => ⟨S127x32, .i32⟩
  | .hbm, ⟨28, _⟩ => ⟨S127x32x1, .i32⟩
  | .hbm, ⟨29, _⟩ => ⟨S8x4x127x32x64, .f32⟩
  | .hbm, ⟨30, _⟩ => ⟨S1x1x1x32x64, .f32⟩
  | .hbm, ⟨31, _⟩ => ⟨S8x4x127x32x64, .f32⟩
  | .hbm, ⟨32, _⟩ => ⟨S8x4x127x32x64, .f32⟩
  | .hbm, ⟨33, _⟩ => ⟨S8x4x127x2048, .f32⟩
  | .hbm, ⟨34, _⟩ => ⟨S8x4x127x256, .f32⟩
  | .hbm, ⟨35, _⟩ => ⟨S8x4x127x256, .f32⟩
  | .hbm, ⟨36, _⟩ => ⟨S8x4x127x256, .f32⟩
  | .hbm, ⟨37, _⟩ => ⟨S_, .f32⟩
  | .hbm, ⟨38, _⟩ => ⟨S8x4x127x256, .f32⟩
  | .hbm, ⟨39, _⟩ => ⟨S8x4x127x256, .f32⟩
  | .hbm, ⟨40, _⟩ => ⟨S8x4x127x256, .f32⟩
  | .hbm, ⟨41, _⟩ => ⟨S_, .f32⟩
  | .hbm, ⟨42, _⟩ => ⟨S8x4x127x256, .f32⟩
  | .hbm, ⟨43, _⟩ => ⟨S8x4x127x256, .f32⟩
  | .hbm, ⟨44, _⟩ => ⟨S8x4x127x256, .f32⟩
  | .hbm, ⟨45, _⟩ => ⟨S_, .f32⟩
  | .hbm, ⟨46, _⟩ => ⟨S8x4x127x256, .f32⟩
  | .hbm, ⟨47, _⟩ => ⟨S8x4x127x256, .f32⟩
  | .hbm, ⟨48, _⟩ => ⟨S_, .f32⟩
  | .hbm, ⟨49, _⟩ => ⟨S8x4x127x256, .f32⟩
  | .hbm, ⟨50, _⟩ => ⟨S8x4x127x256, .f32⟩
  | .hbm, ⟨51, _⟩ => ⟨S8x4x127x256, .f32⟩
  | .hbm, ⟨52, _⟩ => ⟨S8x4x127x64, .f32⟩
  | .hbm, ⟨53, _⟩ => ⟨S16384x256, .bf16⟩
  | .hbm, ⟨54, _⟩ => ⟨S16384x256, .f32⟩
  | .hbm, ⟨55, _⟩ => ⟨S8x2048x4x64, .f32⟩
  | .hbm, ⟨56, _⟩ => ⟨S8x4x2048x64, .f32⟩
  | .hbm, ⟨57, _⟩ => ⟨S127, .i32⟩
  | .hbm, ⟨58, _⟩ => ⟨S127x1, .i32⟩
  | .hbm, ⟨59, _⟩ => ⟨S_, .i32⟩
  | .hbm, ⟨60, _⟩ => ⟨S127x1, .i32⟩
  | .hbm, ⟨61, _⟩ => ⟨S127x1, .i32⟩
  | .hbm, ⟨62, _⟩ => ⟨S32, .i32⟩
  | .hbm, ⟨63, _⟩ => ⟨S1x32, .i32⟩
  | .hbm, ⟨64, _⟩ => ⟨S127x32, .i32⟩
  | .hbm, ⟨65, _⟩ => ⟨S127x32, .i32⟩
  | .hbm, ⟨66, _⟩ => ⟨S127x32, .i32⟩
  | .hbm, ⟨67, _⟩ => ⟨S_, .i32⟩
  | .hbm, ⟨68, _⟩ => ⟨S127x32, .i32⟩
  | .hbm, ⟨69, _⟩ => ⟨S127x32, .i1⟩
  | .hbm, ⟨70, _⟩ => ⟨S_, .i32⟩
  | .hbm, ⟨71, _⟩ => ⟨S127x32, .i32⟩
  | .hbm, ⟨72, _⟩ => ⟨S127x32, .i32⟩
  | .hbm, ⟨73, _⟩ => ⟨S127x32, .i32⟩
  | .hbm, ⟨74, _⟩ => ⟨S127x32x1, .i32⟩
  | .hbm, ⟨75, _⟩ => ⟨S8x4x127x32x64, .f32⟩
  | .hbm, ⟨76, _⟩ => ⟨S1x1x1x32x64, .f32⟩
  | .hbm, ⟨77, _⟩ => ⟨S8x4x127x32x64, .f32⟩
  | .hbm, ⟨78, _⟩ => ⟨S8x4x127x32x64, .f32⟩
  | .hbm, ⟨79, _⟩ => ⟨S8x4x127x2048, .f32⟩
  | .hbm, ⟨80, _⟩ => ⟨S8x4x127x256, .f32⟩
  | .hbm, ⟨81, _⟩ => ⟨S8x4x127x256, .f32⟩
  | .hbm, ⟨82, _⟩ => ⟨S8x4x127x256, .f32⟩
  | .hbm, ⟨83, _⟩ => ⟨S_, .f32⟩
  | .hbm, ⟨84, _⟩ => ⟨S8x4x127x256, .f32⟩
  | .hbm, ⟨85, _⟩ => ⟨S8x4x127x256, .f32⟩
  | .hbm, ⟨86, _⟩ => ⟨S8x4x127x256, .f32⟩
  | .hbm, ⟨87, _⟩ => ⟨S_, .f32⟩
  | .hbm, ⟨88, _⟩ => ⟨S8x4x127x256, .f32⟩
  | .hbm, ⟨89, _⟩ => ⟨S8x4x127x256, .f32⟩
  | .hbm, ⟨90, _⟩ => ⟨S8x4x127x256, .f32⟩
  | .hbm, ⟨91, _⟩ => ⟨S_, .f32⟩
  | .hbm, ⟨92, _⟩ => ⟨S8x4x127x256, .f32⟩
  | .hbm, ⟨93, _⟩ => ⟨S8x4x127x256, .f32⟩
  | .hbm, ⟨94, _⟩ => ⟨S_, .f32⟩
  | .hbm, ⟨95, _⟩ => ⟨S8x4x127x256, .f32⟩
  | .hbm, ⟨96, _⟩ => ⟨S8x4x127x256, .f32⟩
  | .hbm, ⟨97, _⟩ => ⟨S8x4x127x256, .f32⟩
  | .hbm, ⟨98, _⟩ => ⟨S8x4x127x64, .f32⟩
  | .hbm, ⟨99, _⟩ => ⟨S64x8x4x127, .f32⟩
  | _, _ => ⟨S16384x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_0 : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_c_5 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_c_6 : Ref sig .tc := ⟨.hbm, 67, rfl⟩
abbrev main_v52 : Ref sig .tc := ⟨.hbm, 68, rfl⟩
abbrev main_v53 : Ref sig .tc := ⟨.hbm, 69, rfl⟩
abbrev main_c_7 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_8 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_9 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_cst_10 : Ref sig .tc := ⟨.hbm, 91, rfl⟩
abbrev main_v72 : Ref sig .tc := ⟨.hbm, 92, rfl⟩
abbrev main_v73 : Ref sig .tc := ⟨.hbm, 93, rfl⟩
abbrev main_cst_11 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩

abbrev nD : Nat := 1
abbrev τ : Topo := Topo.v7x

variable {F : FTy → Type} [FloatOps F]
-- ==== Proof.Scalars.lean ====
/-
  Scalar facts at the ideal instance, on every extended real: the kernels' hyperbolic tangent form of the logistic
  function, and the decay of the gated recurrence written with a hyperbolic tangent.
-/
module

public import Idealize.ShloMosaic.Lib.Pointwise
public import Idealize.ShloMosaic.Lib.IdealHost

@[expose] public section

noncomputable section

open Idealize.ShloMosaic

namespace Cert.Scalars

/-- The pattern of one half. -/
theorem half : Ideal.ofBits .f32 0x3F000000#32 = ((1 / 2 : ℝ) : EReal) := by
  simp [Ideal.ofBits, Ideal.ieee, -EReal.coe_mul]; norm_num

theorem one : Ideal.ofBits .f32 0x3F800000#32 = 1 := by
  rw [show (1 : EReal) = ((1 : ℝ) : EReal) by norm_cast]
  simp [Ideal.ofBits, Ideal.ieee, -EReal.coe_mul]; norm_num

theorem zero : Ideal.ofBits .f32 0x00000000#32 = 0 := by simp [Ideal.ofBits, Ideal.ieee]

/-- One half of the hyperbolic tangent of half the argument, plus one half, is the logistic function; on the reals. -/
theorem real_sigmoid (x : ℝ) : 1 / 2 * Real.tanh (1 / 2 * x) + 1 / 2 = (1 + Real.exp (-x))⁻¹ := by
  have h2 : Real.exp (-x) = Real.exp (-(1 / 2 * x)) * Real.exp (-(1 / 2 * x)) := by rw [← Real.exp_add]; congr 1; ring
  have h1 : Real.exp (1 / 2 * x) * Real.exp (-(1 / 2 * x)) = 1 := by rw [← Real.exp_add]; simp
  rw [Real.tanh_eq_sinh_div_cosh, Real.sinh_eq, Real.cosh_eq, h2]
  have p := Real.exp_pos (1 / 2 * x); have q := Real.exp_pos (-(1 / 2 * x))
  generalize Real.exp (1 / 2 * x) = a at *
  generalize Real.exp (-(1 / 2 * x)) = b at *
  have hb : b ≠ 0 := q.ne'
  have ea : a = 1 / b := by field_simp; linarith
  subst ea
  have : 1 + b * b ≠ 0 := by positivity
  field_simp
  ring

/-- The same on the extended reals, in the printed form of both sides. -/
theorem sigmoid (x : EReal) :
    Ideal.ofBits .f32 0x3F000000#32 * Ideal.tanh (Ideal.ofBits .f32 0x3F000000#32 * x) + Ideal.ofBits .f32 0x3F000000#32
      = Ideal.logistic x := by
  rw [half]
  induction x with
  | bot =>
    rw [EReal.coe_mul_bot_of_pos (by norm_num), Ideal.tanh_bot, Ideal.logistic_bot,
      show (-1 : EReal) = ((-1 : ℝ) : EReal) by rw [EReal.coe_neg, EReal.coe_one], ← EReal.coe_mul, ← EReal.coe_add]
    norm_num
  | top =>
    rw [EReal.coe_mul_top_of_pos (by norm_num), Ideal.tanh_top, Ideal.logistic_top,
      show (1 : EReal) = ((1 : ℝ) : EReal) by norm_cast, ← EReal.coe_mul, ← EReal.coe_add]
    norm_num
  | coe r =>
    rw [← EReal.coe_mul, Ideal.tanh_coe, Ideal.logistic_coe, ← EReal.coe_mul, ← EReal.coe_add, real_sigmoid]

/-- Minus the hyperbolic tangent times one plus the squared exponential is one minus the exponential of the double; on the reals. -/
theorem real_decay (l : ℝ) : -Real.tanh l * (1 + Real.exp l * Real.exp l) = 1 - Real.exp (2 * l) := by
  have h2 : Real.exp (2 * l) = Real.exp l * Real.exp l := by rw [← Real.exp_add]; congr 1; ring
  have h1 : Real.exp l * Real.exp (-l) = 1 := by rw [← Real.exp_add]; simp
  rw [Real.tanh_eq_sinh_div_cosh, Real.sinh_eq, Real.cosh_eq, h2]
  have p := Real.exp_pos l
  generalize Real.exp (-l) = b at *
  generalize Real.exp l = a at *
  have ha : a ≠ 0 := p.ne'
  have eb : b = 1 / a := by field_simp; linarith
  subst eb
  have : a * a + 1 ≠ 0 := by positivity
  field_simp
  ring

/-- The same on the extended reals that are not positive. -/
theorem decay (l : EReal) (hl : l ≤ 0) :
    -Ideal.tanh l * (1 + Ideal.exp l * Ideal.exp l) = -(Ideal.exp (2 * l) - 1) := by
  induction l with
  | bot =>
    rw [show (2 : EReal) = ((2 : ℝ) : EReal) by norm_cast, EReal.coe_mul_bot_of_pos (by norm_num), Ideal.tanh_bot, Ideal.exp_bot]
    norm_num
  | top => exact absurd hl (by simp)
  | coe r =>
    rw [show (2 : EReal) = ((2 : ℝ) : EReal) by norm_cast, ← EReal.coe_mul, Ideal.tanh_coe, Ideal.exp_coe, Ideal.exp_coe,
      show (1 : EReal) = ((1 : ℝ) : EReal) by norm_cast]
    simp only [← EReal.coe_mul, ← EReal.coe_add, ← EReal.coe_neg, ← EReal.coe_sub]
    rw [real_decay]
    congr 1
    ring

/-- The logistic function is never negative and never infinite. -/
theorem logistic_nonneg (x : EReal) : 0 ≤ Ideal.logistic x := by
  induction x with
  | bot => simp
  | top => simp
  | coe r => rw [Ideal.logistic_coe]; exact_mod_cast by positivity

theorem exp_nonneg (x : EReal) : 0 ≤ Ideal.exp x := by
  induction x with
  | bot => simp
  | top => simp
  | coe r => rw [Ideal.exp_coe]; exact_mod_cast (Real.exp_pos r).le

/-- The exponential of what is not positive is not infinite. -/
theorem exp_ne_top {x : EReal} (h : x ≤ 0) : Ideal.exp x ≠ ⊤ := by
  induction x with
  | bot => simp
  | top => exact absurd h (by simp)
  | coe r => rw [Ideal.exp_coe]; exact EReal.coe_ne_top _

end Cert.Scalars
-- ==== Proof.RglruRun.lean ====
/- The body of the recurrence's kernel, run once from beginning to end in each of its two cases: at the
   first chunk of a sequence, where the carried rows are cleared, and at every other chunk. What the body
   leaves in its output and in the two carried scratch buffers is found as a list of stored pieces. The
   contents of the two carried scratch buffers at the body's start are parameters; the other two are written
   over before they are read. -/
module

public import proofs.«01_k».proof.Proof.Gen.KernelIdeal.Frame
public import proofs.«01_k».proof.Proof.Gen.KernelIdeal.Loops

@[expose] public section

set_option maxRecDepth 16384

noncomputable section

namespace Cert.Calls.Rglru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point's second grid coordinate is zero: the chunk is the first of its sequence. -/
abbrev Starts (i : grid0.Coords) : Prop := (Scalar.cmpi .ne (Scalar.extui (Scalar.cmpi .eq (BitVec.ofNat 32 (i 1).val) 0#32)) 0#32) = 1#1

/-- Four chunks make a sequence, so the first chunks are the points divisible by four. -/
theorem starts_iff (t : Fin cfg0.N) : Starts (grid0.coords t) ↔ t.val % 4 = 0 := by
  have ht : t.val < 32 := Nat.lt_of_lt_of_eq t.isLt N_0
  have e : (grid0.coords t 1).val = t.val / 1 % 4 := Pipeline.Grid.coords_val t 1 (by decide) rfl
  simp only [Starts, e]
  word_cmp

set_option maxHeartbeats 4000000 in
/-- The body at the first chunk of a sequence. -/
noncomputable def firstRun (c : Dev nD) (i : grid0.Coords)
    (arg2 : Memref sig .tc .vmem S512x1024 .bf16) (harg2 : arg2.IsWhole)
    (arg3 : Memref sig .tc .vmem S512x1024 .bf16) (harg3 : arg3.IsWhole)
    (arg4 : Memref sig .tc .vmem S4x1024 .f32) (harg4 : arg4.IsWhole)
    (arg5 : Memref sig .tc .vmem S1x1024 .f32) (harg5 : arg5.IsWhole)
    (arg6 : Memref sig .tc .vmem S4x256x512 .bf16) (harg6 : arg6.IsWhole)
    (arg7 : Memref sig .tc .vmem S1x1024 .f32) (harg7 : arg7.IsWhole)
    (arg8 : Memref sig .tc .vmem S1x1024 .f32) (harg8 : arg8.IsWhole)
    (arg9 : Memref sig .tc .vmem S1x1024 .f32) (harg9 : arg9.IsWhole)
    (arg10 : Memref sig .tc .vmem S512x1024 .bf16) (harg10 : arg10.IsWhole)
    (arg11 : Memref sig .tc .vmem S520x1024 .f32) (harg11 : arg11.IsWhole)
    (arg12 : Memref sig .tc .vmem S512x1024 .f32) (harg12 : arg12.IsWhole)
    (arg13 : Memref sig .tc .vmem S512x1024 .f32) (harg13 : arg13.IsWhole)
    (arg14 : Memref sig .tc .vmem S8x1024 .f32) (harg14 : arg14.IsWhole)
    (hc0 : Starts i)
    (x0 x1 : Vec F S512x1024 .bf16) (x2 : Vec F S4x1024 .f32) (x3 : Vec F S1x1024 .f32) (x4 : Vec F S4x256x512 .bf16) (x5 x6 x7 : Vec F S1x1024 .f32)
    (p0 : Vec F S520x1024 .f32) (p3 : Vec F S8x1024 .f32) :
    Σ' (LO : List (View.Piece (Elt F) S512x1024 .bf16)) (LS0 : List (View.Piece (Elt F) S520x1024 .f32)), { LS3 : List (View.Piece (Elt F) S8x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare p0 ∗ (∃ d, owns (c : Thread nD τ) arg12 fullShare d) ∗ (∃ d, owns (c : Thread nD τ) arg13 fullShare d) ∗ owns (c : Thread nD τ) arg14 fullShare p3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f LO) ∗ (∃ f, arg11.view.loc (c : Thread nD τ) ↦[arg11.view.set]{fullShare} arg11.view.writes (Elt F) f LS0) ∗ (∃ d, owns (c : Thread nD τ) arg12 fullShare d) ∗ (∃ d, owns (c : Thread nD τ) arg13 fullShare d) ∗ (∃ f, arg14.view.loc (c : Thread nD τ) ↦[arg14.view.set]{fullShare} arg14.view.writes (Elt F) f LS3)) -∗ K ⟨⟩))
          ⊢ wp frame (wpE (defs₀ (F := F)) Variants.none c none) E (cc0_rglru i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun E K => ?run⟩
  case run =>
    simp only [cc0_rglru_eq_skeleton]; unfold cc0_rglru_skel
    simp only [k0_part10_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%g0, %hg0, HS0⟩, ⟨%d1, %g1, -, HS1⟩, ⟨%d2, %g2, -, HS2⟩, ⟨%g3, %hg3, HS3⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg11.eq_unread hg0
    obtain rfl := harg14.eq_unread hg3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [HS0]; · iexists _; iexact HS0
    isplitl [HS1]
    · iexists _, _; isplitr; swap; · iexact HS1
      ipureintro; rfl
    isplitl [HS2]
    · iexists _, _; isplitr; swap; · iexact HS2
      ipureintro; rfl
    iexists _; iexact HS3

set_option maxHeartbeats 4000000 in
/-- The body at any other chunk. -/
noncomputable def laterRun (c : Dev nD) (i : grid0.Coords)
    (arg2 : Memref sig .tc .vmem S512x1024 .bf16) (harg2 : arg2.IsWhole)
    (arg3 : Memref sig .tc .vmem S512x1024 .bf16) (harg3 : arg3.IsWhole)
    (arg4 : Memref sig .tc .vmem S4x1024 .f32) (harg4 : arg4.IsWhole)
    (arg5 : Memref sig .tc .vmem S1x1024 .f32) (harg5 : arg5.IsWhole)
    (arg6 : Memref sig .tc .vmem S4x256x512 .bf16) (harg6 : arg6.IsWhole)
    (arg7 : Memref sig .tc .vmem S1x1024 .f32) (harg7 : arg7.IsWhole)
    (arg8 : Memref sig .tc .vmem S1x1024 .f32) (harg8 : arg8.IsWhole)
    (arg9 : Memref sig .tc .vmem S1x1024 .f32) (harg9 : arg9.IsWhole)
    (arg10 : Memref sig .tc .vmem S512x1024 .bf16) (harg10 : arg10.IsWhole)
    (arg11 : Memref sig .tc .vmem S520x1024 .f32) (harg11 : arg11.IsWhole)
    (arg12 : Memref sig .tc .vmem S512x1024 .f32) (harg12 : arg12.IsWhole)
    (arg13 : Memref sig .tc .vmem S512x1024 .f32) (harg13 : arg13.IsWhole)
    (arg14 : Memref sig .tc .vmem S8x1024 .f32) (harg14 : arg14.IsWhole)
    (hc0 : ¬Starts i)
    (x0 x1 : Vec F S512x1024 .bf16) (x2 : Vec F S4x1024 .f32) (x3 : Vec F S1x1024 .f32) (x4 : Vec F S4x256x512 .bf16) (x5 x6 x7 : Vec F S1x1024 .f32)
    (p0 : Vec F S520x1024 .f32) (p3 : Vec F S8x1024 .f32) :
    Σ' (LO : List (View.Piece (Elt F) S512x1024 .bf16)) (LS0 : List (View.Piece (Elt F) S520x1024 .f32)), { LS3 : List (View.Piece (Elt F) S8x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare p0 ∗ (∃ d, owns (c : Thread nD τ) arg12 fullShare d) ∗ (∃ d, owns (c : Thread nD τ) arg13 fullShare d) ∗ owns (c : Thread nD τ) arg14 fullShare p3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f LO) ∗ (∃ f, arg11.view.loc (c : Thread nD τ) ↦[arg11.view.set]{fullShare} arg11.view.writes (Elt F) f LS0) ∗ (∃ d, owns (c : Thread nD τ) arg12 fullShare d) ∗ (∃ d, owns (c : Thread nD τ) arg13 fullShare d) ∗ (∃ f, arg14.view.loc (c : Thread nD τ) ↦[arg14.view.set]{fullShare} arg14.view.writes (Elt F) f LS3)) -∗ K ⟨⟩))
          ⊢ wp frame (wpE (defs₀ (F := F)) Variants.none c none) E (cc0_rglru i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun E K => ?run⟩
  case run =>
    simp only [cc0_rglru_eq_skeleton]; unfold cc0_rglru_skel
    simp only [k0_part10_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%g0, %hg0, HS0⟩, ⟨%d1, %g1, -, HS1⟩, ⟨%d2, %g2, -, HS2⟩, ⟨%g3, %hg3, HS3⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg11.eq_unread hg0
    obtain rfl := harg14.eq_unread hg3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [HS0]; · iexists _; iexact HS0
    isplitl [HS1]
    · iexists _, _; isplitr; swap; · iexact HS1
      ipureintro; rfl
    isplitl [HS2]
    · iexists _, _; isplitr; swap; · iexact HS2
      ipureintro; rfl
    iexists _; iexact HS3

end Cert.Calls.Rglru

end
-- ==== Proof.RglruFrame.lean ====
/- The recurrence's kernel over its grid: what each point's body leaves in the output and in the two scratch
   buffers it carries, the invariant that names those contents point after point, and the run of the whole
   program. The run is over any float values; both programs' frames are taken from it. -/
module

public import proofs.«01_k».proof.Proof.RglruRun
public import proofs.«01_k».proof.Proof.Gen.Kernel.Frame
public import proofs.«01_k».proof.Defs
public import Idealize.ShloMosaic.Lib.Claim

@[expose] public section

set_option maxRecDepth 16384

noncomputable section

namespace Cert.Calls.Rglru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body at a point of the grid -/

abbrev mem0 (t : Fin cfg0.N) : Memref sig .tc .vmem S512x1024 .bf16 := win0_0.stage (cfg0.slots t 0)
abbrev whole0 (t : Fin cfg0.N) : (mem0 t).IsWhole := hstage0_0 ((cfg0.slots t 0).cast nbuf0_0)
abbrev mem1 (t : Fin cfg0.N) : Memref sig .tc .vmem S512x1024 .bf16 := win0_1.stage (cfg0.slots t 1)
abbrev whole1 (t : Fin cfg0.N) : (mem1 t).IsWhole := hstage0_1 ((cfg0.slots t 1).cast nbuf0_1)
abbrev mem2 (t : Fin cfg0.N) : Memref sig .tc .vmem S4x1024 .f32 := win0_2.stage (cfg0.slots t 2)
abbrev whole2 (t : Fin cfg0.N) : (mem2 t).IsWhole := hstage0_2 ((cfg0.slots t 2).cast nbuf0_2)
abbrev mem3 (t : Fin cfg0.N) : Memref sig .tc .vmem S1x1024 .f32 := win0_3.stage (cfg0.slots t 3)
abbrev whole3 (t : Fin cfg0.N) : (mem3 t).IsWhole := hstage0_3 ((cfg0.slots t 3).cast nbuf0_3)
abbrev mem4 (t : Fin cfg0.N) : Memref sig .tc .vmem S4x256x512 .bf16 := win0_4.stage (cfg0.slots t 4)
abbrev whole4 (t : Fin cfg0.N) : (mem4 t).IsWhole := hstage0_4 ((cfg0.slots t 4).cast nbuf0_4)
abbrev mem5 (t : Fin cfg0.N) : Memref sig .tc .vmem S1x1024 .f32 := win0_5.stage (cfg0.slots t 5)
abbrev whole5 (t : Fin cfg0.N) : (mem5 t).IsWhole := hstage0_5 ((cfg0.slots t 5).cast nbuf0_5)
abbrev mem6 (t : Fin cfg0.N) : Memref sig .tc .vmem S1x1024 .f32 := win0_6.stage (cfg0.slots t 6)
abbrev whole6 (t : Fin cfg0.N) : (mem6 t).IsWhole := hstage0_6 ((cfg0.slots t 6).cast nbuf0_6)
abbrev mem7 (t : Fin cfg0.N) : Memref sig .tc .vmem S1x1024 .f32 := win0_7.stage (cfg0.slots t 7)
abbrev whole7 (t : Fin cfg0.N) : (mem7 t).IsWhole := hstage0_7 ((cfg0.slots t 7).cast nbuf0_7)
abbrev mem8 (t : Fin cfg0.N) : Memref sig .tc .vmem S512x1024 .bf16 := win0_8.stage (cfg0.slots t 8)
abbrev whole8 (t : Fin cfg0.N) : (mem8 t).IsWhole := hstage0_8 ((cfg0.slots t 8).cast nbuf0_8)
abbrev scr0 : Memref sig .tc .vmem S520x1024 .f32 := Memref.whole cc0_scratch0
abbrev scr1 : Memref sig .tc .vmem S512x1024 .f32 := Memref.whole cc0_scratch1
abbrev scr2 : Memref sig .tc .vmem S512x1024 .f32 := Memref.whole cc0_scratch2
abbrev scr3 : Memref sig .tc .vmem S8x1024 .f32 := Memref.whole cc0_scratch3

/-- The first chunk's run at a point of the grid, on that point's blocks, -/
abbrev firstAt (c : Dev nD) (t : Fin cfg0.N) (h : Starts (grid0.coords t)) (p0 : Vec F S520x1024 .f32) (p3 : Vec F S8x1024 .f32) :=
  firstRun c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) scr0 (Memref.isWhole_whole _) scr1 (Memref.isWhole_whole _) scr2 (Memref.isWhole_whole _) scr3 (Memref.isWhole_whole _) h (iblk m c 0 t) (iblk m c 1 t) (iblk m c 2 t) (iblk m c 3 t) (iblk m c 4 t) (iblk m c 5 t) (iblk m c 6 t) (iblk m c 7 t) p0 p3

/-- and a later chunk's. -/
abbrev laterAt (c : Dev nD) (t : Fin cfg0.N) (h : ¬ Starts (grid0.coords t)) (p0 : Vec F S520x1024 .f32) (p3 : Vec F S8x1024 .f32) :=
  laterRun c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) scr0 (Memref.isWhole_whole _) scr1 (Memref.isWhole_whole _) scr2 (Memref.isWhole_whole _) scr3 (Memref.isWhole_whole _) h (iblk m c 0 t) (iblk m c 1 t) (iblk m c 2 t) (iblk m c 3 t) (iblk m c 4 t) (iblk m c 5 t) (iblk m c 6 t) (iblk m c 7 t) p0 p3

/-- At the first chunk of a sequence nothing the body leaves depends on what was carried. -/
theorem firstAt_indep (c : Dev nD) (t : Fin cfg0.N) (h : Starts (grid0.coords t)) (p0 q0 : Vec F S520x1024 .f32) (p3 q3 : Vec F S8x1024 .f32) :
    (firstAt m c t h p0 p3).1 = (firstAt m c t h q0 q3).1 ∧ (firstAt m c t h p0 p3).2.1 = (firstAt m c t h q0 q3).2.1
      ∧ (firstAt m c t h p0 p3).2.2.1 = (firstAt m c t h q0 q3).2.2.1 := by
  refine ⟨?_, ?_, ?_⟩
  · rfl
  · rfl
  · rfl
/-- Every row below the trips done is in some piece the loop has stored. -/
theorem loop_cover (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S4x1024 .f32) (harg4 : arg4.IsWhole) (arg5 : Memref sig .tc .vmem S1x1024 .f32) (harg5 : arg5.IsWhole) (arg6 : Memref sig .tc .vmem S4x256x512 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .bf16) (harg10 : arg10.IsWhole) (arg11 : Memref sig .tc .vmem S520x1024 .f32) (harg11 : arg11.IsWhole) (arg12 : Memref sig .tc .vmem S512x1024 .f32) (harg12 : arg12.IsWhole) (arg13 : Memref sig .tc .vmem S512x1024 .f32) (harg13 : arg13.IsWhole) (arg14 : Memref sig .tc .vmem S8x1024 .f32) (harg14 : arg14.IsWhole) (X_arg3 : BufTy.Contents (Elt F) arg3.view.ty) (X_arg12 : BufTy.Contents (Elt F) arg12.view.ty) (X_arg13 : BufTy.Contents (Elt F) arg13.view.ty) (init : Vec F S1x1024 .f32) (n : ℕ) (hn : n ≤ k0_t1_loop.trips)
    (y : S512x1024.Idx) (hy : (y 0).val < 16 * n) :
    ∃ pc ∈ (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 X_arg3 X_arg12 X_arg13 init n).2, y ∈ pc.1.set := by
  induction n with
  | zero => omega
  | succ n ih =>
    have e := st_k0_t1_succ (F := F) Variants.none c none i arg2 harg2 arg3 harg3 arg4 harg4 arg5 harg5 arg6 harg6 arg7 harg7 arg8 harg8 arg9 harg9 arg10 harg10 arg11 harg11 arg12 harg12 arg13 harg13 arg14 harg14 X_arg3 X_arg12 X_arg13 init ⟨n, hn⟩
    dsimp only at e
    rw [e]
    by_cases h : (y 0).val < 16 * n
    · obtain ⟨pc, hp, hm⟩ := ih (Nat.le_of_succ_le hn) h
      exact ⟨pc, List.mem_append_right _ hp, hm⟩
    · unfold tripL_k0_t1 trip_k0_t1
      dsimp only
      refine ⟨_, List.mem_append_left _ (List.mem_singleton_self _), ?_⟩
      rw [Rect.mem_set_unit, k0_off1_eq]
      intro a
      match a with
      | ⟨0, _⟩ => exact ⟨(by show 16 * n ≤ (y 0).val; omega), (by show (y 0).val < 16 * n + 16; omega)⟩
      | ⟨1, _⟩ => exact ⟨Nat.zero_le _, (by show (y 1).val < 0 + 1024; exact Nat.lt_of_lt_of_eq (y 1).isLt (Nat.zero_add _).symm)⟩

theorem trips_eq : k0_t1_loop.trips = 32 := by decide +kernel

theorem first_cover_out (c : Dev nD) (t : Fin cfg0.N) (h : Starts (grid0.coords t)) (p0 : Vec F S520x1024 .f32) (p3 : Vec F S8x1024 .f32) (y : S512x1024.Idx) :
    ∃ pc ∈ (firstAt m c t h p0 p3).1, y ∈ pc.1.set := by
  unfold firstAt firstRun
  dsimp only
  exact loop_cover c _ _ _ _ _ _ _ _ _ _ _ _ _ _ _ _ _ _ _ _ _ _ _ _ _ _ _ _ _ _ _ k0_t1_loop.trips (Nat.le_refl _) y
    (by rw [trips_eq]; exact (y 0).isLt)

theorem first_cover_rows (c : Dev nD) (t : Fin cfg0.N) (h : Starts (grid0.coords t)) (p0 : Vec F S520x1024 .f32) (p3 : Vec F S8x1024 .f32) (y : S520x1024.Idx) :
    ∃ pc ∈ (firstAt m c t h p0 p3).2.1, y ∈ pc.1.set :=
  View.cover_of_tiledBy (firstAt m c t h p0 p3).2.1 ![8, 1024] (by sl_kernel_rfl) y

theorem first_cover_state (c : Dev nD) (t : Fin cfg0.N) (h : Starts (grid0.coords t)) (p0 : Vec F S520x1024 .f32) (p3 : Vec F S8x1024 .f32) (y : S8x1024.Idx) :
    ∃ pc ∈ (firstAt m c t h p0 p3).2.2.1, y ∈ pc.1.set :=
  View.cover_of_tiledL (firstAt m c t h p0 p3).2.2.1 S8x1024.size (by sl_kernel_rfl) y

theorem later_cover_out (c : Dev nD) (t : Fin cfg0.N) (h : ¬ Starts (grid0.coords t)) (p0 : Vec F S520x1024 .f32) (p3 : Vec F S8x1024 .f32) (y : S512x1024.Idx) :
    ∃ pc ∈ (laterAt m c t h p0 p3).1, y ∈ pc.1.set := by
  unfold laterAt laterRun
  dsimp only
  exact loop_cover c _ _ _ _ _ _ _ _ _ _ _ _ _ _ _ _ _ _ _ _ _ _ _ _ _ _ _ _ _ _ _ k0_t1_loop.trips (Nat.le_refl _) y
    (by rw [trips_eq]; exact (y 0).isLt)

theorem later_cover_rows (c : Dev nD) (t : Fin cfg0.N) (h : ¬ Starts (grid0.coords t)) (p0 : Vec F S520x1024 .f32) (p3 : Vec F S8x1024 .f32) (y : S520x1024.Idx) :
    ∃ pc ∈ (laterAt m c t h p0 p3).2.1, y ∈ pc.1.set :=
  View.cover_of_tiledBy (laterAt m c t h p0 p3).2.1 ![8, 1024] (by sl_kernel_rfl) y

theorem later_cover_state (c : Dev nD) (t : Fin cfg0.N) (h : ¬ Starts (grid0.coords t)) (p0 : Vec F S520x1024 .f32) (p3 : Vec F S8x1024 .f32) (y : S8x1024.Idx) :
    ∃ pc ∈ (laterAt m c t h p0 p3).2.2.1, y ∈ pc.1.set :=
  View.cover_of_tiledL (laterAt m c t h p0 p3).2.2.1 S8x1024.size (by sl_kernel_rfl) y

/-- What a point's body leaves in the output, in the carried rows and in the carried state, from what the
    point before left in the last two. -/
def left (c : Dev nD) (t : Fin cfg0.N) (p : Vec F S520x1024 .f32 × Vec F S8x1024 .f32) :
    Vec F S512x1024 .bf16 × Vec F S520x1024 .f32 × Vec F S8x1024 .f32 :=
  if h : Starts (grid0.coords t) then
    (View.canon (firstAt m c t h p.1 p.2).1, View.canon (firstAt m c t h p.1 p.2).2.1, View.canon (firstAt m c t h p.1 p.2).2.2.1)
  else
    (View.canon (laterAt m c t h p.1 p.2).1, View.canon (laterAt m c t h p.1 p.2).2.1, View.canon (laterAt m c t h p.1 p.2).2.2.1)

/-- At the first chunk of a sequence what was carried does not matter. -/
theorem left_indep (c : Dev nD) (t : Fin cfg0.N) (h : Starts (grid0.coords t)) (p q : Vec F S520x1024 .f32 × Vec F S8x1024 .f32) :
    left m c t p = left m c t q := by
  have e := firstAt_indep m c t h p.1 q.1 p.2 q.2
  unfold left
  refine (dif_pos h).trans (Eq.trans ?_ (dif_pos h).symm)
  exact congr (congrArg Prod.mk (congrArg View.canon e.1)) (congr (congrArg Prod.mk (congrArg View.canon e.2.1)) (congrArg View.canon e.2.2))

/-- A body whose stores cover a buffer leaves it at those stores read back. -/
theorem owns_of_cover (c : Dev nD) {S : Shape} {e : EltTy} (v : Memref sig .tc .vmem S e) (L : List (View.Piece (Elt F) S e))
    (h : ∀ y, ∃ pc ∈ L, y ∈ pc.1.set) :
    iprop(∃ f, v.view.loc (c : Thread nD τ) ↦[v.view.set]{fullShare} v.view.writes (Elt F) f L)
      ⊢ (owns (c : Thread nD τ) v fullShare (View.canon L) : sProp 𝕄) := by
  iintro ⟨%f, H⟩
  unfold owns; iexists _; isplitr
  swap; · iexact H
  ipureintro; exact View.read_writes_eq_canon _ _ _ h

set_option maxHeartbeats 3200000 in
/-- The body at a point, whichever its case: from its blocks and what is carried it leaves `left`. -/
theorem body_leaves (c : Dev nD) (t : Fin cfg0.N) (p0 : Vec F S520x1024 .f32) (p3 : Vec F S8x1024 .f32) (K : PUnit → sProp 𝕄) :
    iprop(owns (c : Thread nD τ) (mem0 t) fullShare (iblk m c 0 t) ∗ owns (c : Thread nD τ) (mem1 t) fullShare (iblk m c 1 t) ∗ owns (c : Thread nD τ) (mem2 t) fullShare (iblk m c 2 t) ∗ owns (c : Thread nD τ) (mem3 t) fullShare (iblk m c 3 t) ∗ owns (c : Thread nD τ) (mem4 t) fullShare (iblk m c 4 t) ∗ owns (c : Thread nD τ) (mem5 t) fullShare (iblk m c 5 t) ∗ owns (c : Thread nD τ) (mem6 t) fullShare (iblk m c 6 t) ∗ owns (c : Thread nD τ) (mem7 t) fullShare (iblk m c 7 t) ∗ (∃ d, owns (c : Thread nD τ) (mem8 t) fullShare d)
        ∗ owns (c : Thread nD τ) scr0 fullShare p0 ∗ (∃ d, owns (c : Thread nD τ) scr1 fullShare d) ∗ (∃ d, owns (c : Thread nD τ) scr2 fullShare d) ∗ owns (c : Thread nD τ) scr3 fullShare p3
        ∗ (iprop(owns (c : Thread nD τ) (mem0 t) fullShare (iblk m c 0 t) ∗ owns (c : Thread nD τ) (mem1 t) fullShare (iblk m c 1 t) ∗ owns (c : Thread nD τ) (mem2 t) fullShare (iblk m c 2 t) ∗ owns (c : Thread nD τ) (mem3 t) fullShare (iblk m c 3 t) ∗ owns (c : Thread nD τ) (mem4 t) fullShare (iblk m c 4 t) ∗ owns (c : Thread nD τ) (mem5 t) fullShare (iblk m c 5 t) ∗ owns (c : Thread nD τ) (mem6 t) fullShare (iblk m c 6 t) ∗ owns (c : Thread nD τ) (mem7 t) fullShare (iblk m c 7 t) ∗ owns (c : Thread nD τ) (mem8 t) fullShare (left m c t (p0, p3)).1
          ∗ owns (c : Thread nD τ) scr0 fullShare (left m c t (p0, p3)).2.1 ∗ (∃ d, owns (c : Thread nD τ) scr1 fullShare d) ∗ (∃ d, owns (c : Thread nD τ) scr2 fullShare d) ∗ owns (c : Thread nD τ) scr3 fullShare (left m c t (p0, p3)).2.2) -∗ K ⟨⟩))
      ⊢ wp frame (wpE (defs₀ (F := F)) Variants.none c none) Set.univ (bodyAt0 t) K := by
  unfold bodyAt0
  by_cases h : Starts (grid0.coords t)
  · have e : left m c t (p0, p3) = (View.canon (firstAt m c t h p0 p3).1, View.canon (firstAt m c t h p0 p3).2.1, View.canon (firstAt m c t h p0 p3).2.2.1) := dif_pos h
    rw [e]
    dsimp only
    iintro ⟨H0, H1, H2, H3, H4, H5, H6, H7, H8, HS0, HS1, HS2, HS3, Hk⟩
    iapply ((firstAt m c t h p0 p3).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    isplitl [HS2]; · iexact HS2
    isplitl [HS3]; · iexact HS3
    iintro ⟨H0, H1, H2, H3, H4, H5, H6, H7, H8, HS0, HS1, HS2, HS3⟩
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iapply (owns_of_cover c (mem8 t) _ (first_cover_out m c t h p0 p3)); iexact H8
    isplitl [HS0]; · iapply (owns_of_cover c scr0 _ (first_cover_rows m c t h p0 p3)); iexact HS0
    isplitl [HS1]; · iexact HS1
    isplitl [HS2]; · iexact HS2
    iapply (owns_of_cover c scr3 _ (first_cover_state m c t h p0 p3)); iexact HS3
  · have e : left m c t (p0, p3) = (View.canon (laterAt m c t h p0 p3).1, View.canon (laterAt m c t h p0 p3).2.1, View.canon (laterAt m c t h p0 p3).2.2.1) := dif_neg h
    rw [e]
    dsimp only
    iintro ⟨H0, H1, H2, H3, H4, H5, H6, H7, H8, HS0, HS1, HS2, HS3, Hk⟩
    iapply ((laterAt m c t h p0 p3).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    isplitl [HS2]; · iexact HS2
    isplitl [HS3]; · iexact HS3
    iintro ⟨H0, H1, H2, H3, H4, H5, H6, H7, H8, HS0, HS1, HS2, HS3⟩
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iapply (owns_of_cover c (mem8 t) _ (later_cover_out m c t h p0 p3)); iexact H8
    isplitl [HS0]; · iapply (owns_of_cover c scr0 _ (later_cover_rows m c t h p0 p3)); iexact HS0
    isplitl [HS1]; · iexact HS1
    isplitl [HS2]; · iexact HS2
    iapply (owns_of_cover c scr3 _ (later_cover_state m c t h p0 p3)); iexact HS3

/-! ## The grid -/

/-- The carried scratch before anything ran: nothing depends on it. -/
def nothing : Vec F S520x1024 .f32 × Vec F S8x1024 .f32 := (View.canon [], View.canon [])

/-- What stands in the output and the carried scratch after the points up to the `n`-th. -/
def stateAfter (c : Dev nD) : (n : ℕ) → n < cfg0.N → Vec F S512x1024 .bf16 × Vec F S520x1024 .f32 × Vec F S8x1024 .f32
  | 0, h => left m c ⟨0, h⟩ nothing
  | n + 1, h => left m c ⟨n + 1, h⟩ (stateAfter c n (Nat.lt_of_succ_lt h)).2

theorem stateAfter_pos (c : Dev nD) (n : ℕ) (h : n < cfg0.N) (hz : n ≠ 0) :
    stateAfter m c n h = left m c ⟨n, h⟩ (stateAfter m c (n - 1) (by omega)).2 := by
  cases n with
  | zero => exact absurd rfl hz
  | succ n => rfl

/-- The scratch at some contents, the carried two at named ones. -/
def held (c : Dev nD) (p : Vec F S520x1024 .f32 × Vec F S8x1024 .f32) : sProp 𝕄 :=
  iprop(iprop(owns (c : Thread nD τ) scr0 fullShare p.1 ∗ (∃ d, owns (c : Thread nD τ) scr1 fullShare d) ∗ (∃ d, owns (c : Thread nD τ) scr2 fullShare d) ∗ owns (c : Thread nD τ) scr3 fullShare p.2) ∗ (∃ r, prngReg c r))

theorem scratch_eq (c : Dev nD) :
    (Pipeline.ΦA spec0 c : sProp 𝕄)
      = iprop(iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d)) ∗ (∃ r, prngReg c r)) := by
  unfold Pipeline.ΦA; rw [scopedRest0_eq]; simp only [scr0, scr1, scr2, scr3, owns_whole]; try rfl

/-- The invariant between points: before the first the scratch holds anything, afterwards what was left. -/
def between (c : Dev nD) : (n : ℕ) → n ≤ cfg0.N → sProp 𝕄
  | 0, _ => Pipeline.ΦA spec0 c
  | n + 1, h => held c (stateAfter m c n h).2

theorem between_zero (c : Dev nD) (n : ℕ) (h : n ≤ cfg0.N) (hz : n = 0) : between m c n h = Pipeline.ΦA spec0 c := by
  subst hz; rfl

theorem between_pos (c : Dev nD) (n : ℕ) (h : n ≤ cfg0.N) (hz : n ≠ 0) :
    between m c n h = held c (stateAfter m c (n - 1) (by omega)).2 := by
  cases n with
  | zero => exact absurd rfl hz
  | succ n => rfl

/-- The launch's data: the arrays as the region finds them, each input's block, the output as left. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (stateAfter m c t.val t.isLt).1
  Φ t := between m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = between m c t.val (Nat.le_of_lt t.isLt) := by
  dsimp only [dats]; exact Pipeline.Dat.Φ_castSucc (between m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = (stateAfter m c t.val t.isLt).1 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (mem0 t) fullShare ((dats m 0 c).before 0 t d))
    ∗ (∃ d, owns (c : Thread nD τ) (mem1 t) fullShare ((dats m 0 c).before 1 t d))
    ∗ (∃ d, owns (c : Thread nD τ) (mem2 t) fullShare ((dats m 0 c).before 2 t d))
    ∗ (∃ d, owns (c : Thread nD τ) (mem3 t) fullShare ((dats m 0 c).before 3 t d))
    ∗ (∃ d, owns (c : Thread nD τ) (mem4 t) fullShare ((dats m 0 c).before 4 t d))
    ∗ (∃ d, owns (c : Thread nD τ) (mem5 t) fullShare ((dats m 0 c).before 5 t d))
    ∗ (∃ d, owns (c : Thread nD τ) (mem6 t) fullShare ((dats m 0 c).before 6 t d))
    ∗ (∃ d, owns (c : Thread nD τ) (mem7 t) fullShare ((dats m 0 c).before 7 t d))
    ∗ (∃ d, owns (c : Thread nD τ) (mem8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (mem0 t) fullShare ((dats m 0 c).after 0 t)
    ∗ owns (c : Thread nD τ) (mem1 t) fullShare ((dats m 0 c).after 1 t)
    ∗ owns (c : Thread nD τ) (mem2 t) fullShare ((dats m 0 c).after 2 t)
    ∗ owns (c : Thread nD τ) (mem3 t) fullShare ((dats m 0 c).after 3 t)
    ∗ owns (c : Thread nD τ) (mem4 t) fullShare ((dats m 0 c).after 4 t)
    ∗ owns (c : Thread nD τ) (mem5 t) fullShare ((dats m 0 c).after 5 t)
    ∗ owns (c : Thread nD τ) (mem6 t) fullShare ((dats m 0 c).after 6 t)
    ∗ owns (c : Thread nD τ) (mem7 t) fullShare ((dats m 0 c).after 7 t)
    ∗ owns (c : Thread nD τ) (mem8 t) fullShare ((dats m 0 c).after 8 t))

set_option maxHeartbeats 3200000 in
/-- The body at a point, from the scratch at contents from which it leaves what the next state says. -/
theorem sound_held (c : Dev nD) (t : Fin cfg0.N) (p0 : Vec F S520x1024 .f32) (p3 : Vec F S8x1024 .f32) (hp : stateAfter m c t.val t.isLt = left m c t (p0, p3)) :
    iprop(held c (p0, p3) ∗ (dats m 0 c).owesAt () t.castSucc
    ∗ (∃ d, owns (c : Thread nD τ) (mem0 t) fullShare ((dats m 0 c).before 0 t d))
    ∗ (∃ d, owns (c : Thread nD τ) (mem1 t) fullShare ((dats m 0 c).before 1 t d))
    ∗ (∃ d, owns (c : Thread nD τ) (mem2 t) fullShare ((dats m 0 c).before 2 t d))
    ∗ (∃ d, owns (c : Thread nD τ) (mem3 t) fullShare ((dats m 0 c).before 3 t d))
    ∗ (∃ d, owns (c : Thread nD τ) (mem4 t) fullShare ((dats m 0 c).before 4 t d))
    ∗ (∃ d, owns (c : Thread nD τ) (mem5 t) fullShare ((dats m 0 c).before 5 t d))
    ∗ (∃ d, owns (c : Thread nD τ) (mem6 t) fullShare ((dats m 0 c).before 6 t d))
    ∗ (∃ d, owns (c : Thread nD τ) (mem7 t) fullShare ((dats m 0 c).before 7 t d))
    ∗ (∃ d, owns (c : Thread nD τ) (mem8 t) fullShare ((dats m 0 c).before 8 t d)))
      ⊢ wp frame (wpE (defs₀ (F := F)) Variants.none c none) Set.univ (bodyAt0 t) (fun _ => bodyPost m c t) := by
  unfold bodyPost held
  simp only [before0, before1, before2, before3, before4, before5, before6, before7]
  rw [show (dats m 0 c).owesAt () t.succ = (dats m 0 c).owesAt () t.castSucc from rfl,
    after0, after1, after2, after3, after4, after5, after6, after7, after8,
    show (dats m 0 c).Φ t.succ = held c (stateAfter m c t.val t.isLt).2 from rfl, hp]
  unfold held
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_leaves m c t p0 p3 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  isplitl [HS2]; · iexact HS2
  isplitl [HS3]; · iexact HS3
  iintro ⟨H0, H1, H2, H3, H4, H5, H6, H7, H8, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

set_option maxHeartbeats 3200000 in
/-- The body at every point. -/
theorem sound_body (c : Dev nD) (t : Fin cfg0.N) :
    bodyPre m c t ⊢ wp frame (wpE (defs₀ (F := F)) Variants.none c none) Set.univ (bodyAt0 t) (fun _ => bodyPost m c t) := by
  unfold bodyPre
  rw [inv_castSucc m c t]
  by_cases hz : t.val = 0
  · rw [between_zero m c _ _ hz, scratch_eq]
    iintro ⟨⟨⟨⟨%p0, HS0⟩, HS1, HS2, ⟨%p3, HS3⟩⟩, Hg⟩, Hr⟩
    have hs : Starts (grid0.coords t) := (starts_iff t).mpr (by omega)
    have hp : stateAfter m c t.val t.isLt = left m c t (p0, p3) := by
      obtain ⟨n, hn⟩ := t
      obtain rfl : n = 0 := hz
      exact left_indep m c ⟨0, hn⟩ hs _ _
    iapply (sound_held m c t p0 p3 hp)
    isplitl [HS0 HS1 HS2 HS3 Hg]
    · unfold held
      isplitl [HS0 HS1 HS2 HS3]
      · isplitl [HS0]; · iexact HS0
        isplitl [HS1]; · iexact HS1
        isplitl [HS2]; · iexact HS2
        iexact HS3
      iexact Hg
    iexact Hr
  · rw [between_pos m c _ _ hz]
    exact sound_held m c t _ _ (stateAfter_pos m c t.val t.isLt hz)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = between m c 0 (Nat.zero_le _) from rfl, between_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = between m c (Fin.last cfg0.N).val (Nat.le_refl _) from rfl,
    between_pos m c _ _ (by rw [Fin.val_last]; have : cfg0.N = 32 := N_0; omega), scratch_eq]
  unfold held
  iintro ⟨⟨HS0, HS1, HS2, HS3⟩, Hg⟩
  isplitl [HS0 HS1 HS2 HS3]
  · isplitl [HS0]; · iexists _; iexact HS0
    isplitl [HS1]; · iexact HS1
    isplitl [HS2]; · iexact HS2
    iexists _; iexact HS3
  iexact Hg

/-! ## The run and the frames -/

set_option backward.isDefEq.respectTransparency.types false in
/-- The launch: every array ends as the data say, and every counter at zero. -/
theorem run_quiet : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The arguments end as they began, and every counter at zero, over any float values. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) ((θ_run defs _ _).mono (fun _ h => h.1) (run_quiet m ρ)))
    ((θ_run defs _ _).mono (fun _ h => h.2) (run_quiet m ρ))

theorem frame_ideal : Cert.quiescent_KernelIdeal := fun m ρ _ => run_frame m ρ

/-- The program as launched and its reading at the ideal instance have the same bodies, -/
theorem bodies_eq : Cert.Kernel.defs₀ (F := Bits) = Cert.KernelIdeal.defs₀ (F := Bits) := by
  unfold Cert.Kernel.defs₀ Cert.KernelIdeal.defs₀
  refine congrArg Defs.onTc ?_
  funext a x
  match a with
  | ⟨0, _⟩ => rfl
  | ⟨n + 1, h⟩ => exact absurd h (Nat.not_lt.2 (Nat.le_add_left _ _))

/-- and so the same definitions: the frame proved above over any float values is both programs'. -/
theorem defs_eq : Cert.Kernel.defs (F := Bits) = Cert.KernelIdeal.defs (F := Bits) := by
  unfold Cert.Kernel.defs Cert.KernelIdeal.defs
  rw [bodies_eq]
  rfl

theorem frame_kernel : Cert.quiescent_Kernel := fun m ρ _ => by
  rw [defs_eq]
  exact (θ_run Cert.KernelIdeal.defs _ _).mono (fun _ h => h) (run_frame (F := Bits) m ρ)
end Cert.Calls.Rglru
-- ==== Proof.RglruCells.lean ====
/-
  The gated recurrence h(n+1) = a(n) h(n) + b(n), inside a chunk. The kernel composes the steps of eight consecutive
  rows by three rounds of doubling and then goes through the chunk sixteen rows at a time; here the doubling is proved
  equal to the steps, and the values of one block of 256 columns are read at a row and a column.
-/
module

public import proofs.«01_k».proof.Proof.Scalars
public import proofs.«01_k».proof.Proof.RglruFrame
public import Idealize.ShloMosaic.Lib.Pointwise

@[expose] public section

set_option maxRecDepth 16384

noncomputable section

namespace Cert.Calls.Rglru

open Cert.KernelIdeal Cert.KernelIdeal.Gen
open Idealize.ShloMosaic Idealize.ShloMosaic.TcCoe Idealize.SL.Sem

/-! ## Doubling -/

/-- One round on the factors: each row's by the row's `w` before, where there is one; -/
def up (w : ℕ) (A : ℕ → EReal) (j : ℕ) : EReal := A j * (if w ≤ j then A (j - w) else 1)

/-- and on the offsets. -/
def upOff (w : ℕ) (A B : ℕ → EReal) (j : ℕ) : EReal := A j * (if w ≤ j then B (j - w) else 0) + B j

/-- The rows' factors and offsets span `w` steps of the recurrence, those before the first row not counted. -/
def Spans (w : ℕ) (A B h : ℕ → EReal) : Prop :=
  ∀ j < 8, 0 ≤ A j ∧ A j ≠ ⊤ ∧ B j + A j * h (j + 1 - w) = h (j + 1)

/-- A round doubles the span. -/
theorem Spans.double {w : ℕ} {A B h : ℕ → EReal} (H : Spans w A B h) : Spans (w + w) (up w A) (upOff w A B) h := by
  intro j hj
  obtain ⟨p, q, e⟩ := H j hj
  unfold up upOff
  by_cases hw : w ≤ j
  · obtain ⟨p', q', e'⟩ := H (j - w) (by omega)
    rw [if_pos hw, if_pos hw]
    refine ⟨mul_nonneg p p', EReal.mul_ne_top _ _ |>.mpr ?_, ?_⟩
    · exact ⟨.inr p', .inl p, .inl q, .inr q'⟩
    · rw [show j + 1 - (w + w) = j - w + 1 - w by omega, mul_assoc, add_right_comm,
        ← EReal.left_distrib_of_nonneg_of_ne_top p q, e', show j - w + 1 = j + 1 - w by omega, add_comm, e]
  · rw [if_neg hw, if_neg hw, mul_one, mul_zero, zero_add, show j + 1 - (w + w) = j + 1 - w by omega]
    exact ⟨p, q, e⟩

/-- Three rounds: each of eight rows' factor and offset give the state after it from the state before the first. -/
theorem eight {A B h : ℕ → EReal} (H : ∀ j < 8, 0 ≤ A j ∧ A j ≠ ⊤ ∧ B j + A j * h j = h (j + 1)) (j : ℕ) (hj : j < 8) :
    upOff 4 (up 2 (up 1 A)) (upOff 2 (up 1 A) (upOff 1 A B)) j + up 4 (up 2 (up 1 A)) j * h 0 = h (j + 1) := by
  have H1 : Spans 1 A B h := fun j hj => by simpa using H j hj
  have := (H1.double.double.double j hj).2.2
  rwa [show j + 1 - (1 + 1 + (1 + 1) + (1 + 1 + (1 + 1))) = 0 by omega] at this

/-! ## A block of 256 columns -/

section
variable {F : FTy → Type} [FloatOps F]

/-- A gate: the logistic function, by the hyperbolic tangent, of half of a block's product with its weights, shifted. -/
def gateCol (o : ℕ) (ho : S512x512.Slices ![0, o] S512x256) (x : FVec F S512x256 .f32) (w : Vec F S1x256x512 .bf16) (b : Vec F S1x256 .f32) : FVec F S512x256 .f32 :=
  addf (mulf (broadcast S512x256 (Scalar.ofBits .f32 0x3F000000#32)) (tanh (mulf (broadcast S512x256 (Scalar.ofBits .f32 0x3F000000#32))
    (addf (extractStridedSlice S512x256 ![0, o] (matmul dot_S512x256_S256x512_S512x512_1_0_0_1_n_n none (truncf .bf16 x bitsLt_bf16_f32)
        (shapeCast S256x512 w shapeCasts_S1x256x512_S256x512) (constant S512x512 .f32 0x00000000#32)) ho)
      (broadcastTo S512x256 (shapeCast S1x256 b shapeCasts_S1x256_S1x256) broadcasts_S1x256_S512x256)))))
    (broadcast S512x256 (Scalar.ofBits .f32 0x3F000000#32))

/-- The decay's logarithm, from the gate and the channels' rates. -/
def logCol (s : FVec F S1x256 .f32) (r : FVec F S512x256 .f32) : FVec F S512x256 .f32 :=
  mulf (mulf (broadcast S512x256 (Scalar.ofBits .f32 0xC1000000#32)) r) (broadcastTo S512x256 s broadcasts_S1x256_S512x256)

/-- What enters the state, from the decay's logarithm, the input gate and the block. -/
def inCol (l i x : FVec F S512x256 .f32) : FVec F S512x256 .f32 :=
  mulf (sqrt (mulf (subf (broadcast S512x256 (Scalar.ofBits .f32 0x00000000#32)) (tanh l))
    (addf (broadcast S512x256 (Scalar.ofBits .f32 0x3F800000#32)) (mulf (exp l) (exp l))))) (mulf i x)

/-- One round of doubling on the factors, the rows taken in groups of eight; -/
def upVec (io : IVec S64x8x256 32) (n : BitVec 32) (a : FVec F S64x8x256 .f32) : FVec F S64x8x256 .f32 :=
  mulf a (select (cmpi .sge io (broadcast S64x8x256 n)) (dynamicRotate 1 n none a rotates_S64x8x256_d1) (broadcast S64x8x256 (Scalar.ofBits .f32 0x3F800000#32)))

/-- and on the offsets. -/
def upOffVec (io : IVec S64x8x256 32) (n : BitVec 32) (a b : FVec F S64x8x256 .f32) : FVec F S64x8x256 .f32 :=
  addf (mulf a (select (cmpi .sge io (broadcast S64x8x256 n)) (dynamicRotate 1 n none b rotates_S64x8x256_d1) (broadcast S64x8x256 (Scalar.ofBits .f32 0x00000000#32)))) b

/-- The factors after three rounds, as rows again; -/
def factors (io : IVec S64x8x256 32) (a : FVec F S512x256 .f32) : FVec F S512x256 .f32 :=
  shapeCast S512x256 (shapeCast S512x256 (upVec io 4#32 (upVec io 2#32 (upVec io 1#32 (shapeCast S64x8x256 a shapeCasts_S512x256_S64x8x256))))
    shapeCasts_S64x8x256_S512x256) shapeCasts_S512x256_S512x256

/-- and the offsets. -/
def offsets (io : IVec S64x8x256 32) (a b : FVec F S512x256 .f32) : FVec F S512x256 .f32 :=
  shapeCast S512x256 (shapeCast S512x256 (upOffVec io 4#32 (upVec io 2#32 (upVec io 1#32 (shapeCast S64x8x256 a shapeCasts_S512x256_S64x8x256)))
    (upOffVec io 2#32 (upVec io 1#32 (shapeCast S64x8x256 a shapeCasts_S512x256_S64x8x256))
      (upOffVec io 1#32 (shapeCast S64x8x256 a shapeCasts_S512x256_S64x8x256) (shapeCast S64x8x256 b shapeCasts_S512x256_S64x8x256))))
    shapeCasts_S64x8x256_S512x256) shapeCasts_S512x256_S512x256

/-- The row of its group of eight, for every row. -/
def rowIds : IVec S64x8x256 32 := iota .tc S64x8x256 32 [1] iota_S64x8x256_d1_w32

end

/-- Whether a row has one `n` before it in its group. -/
theorem reach : ∀ j : Fin 8, IntOp.cmpi .sge (BitVec.ofNat 32 j.val) 1#32 = (if 1 ≤ j.val then 1#1 else 0#1)
    ∧ IntOp.cmpi .sge (BitVec.ofNat 32 j.val) 2#32 = (if 2 ≤ j.val then 1#1 else 0#1)
    ∧ IntOp.cmpi .sge (BitVec.ofNat 32 j.val) 4#32 = (if 4 ≤ j.val then 1#1 else 0#1) := by decide +kernel

theorem reach_of (n : ℕ) (hn : n = 1 ∨ n = 2 ∨ n = 4) (j : Fin 8) :
    IntOp.cmpi .sge (BitVec.ofNat 32 j.val) (BitVec.ofNat 32 n) = (if n ≤ j.val then 1#1 else 0#1)
    ∧ (n ≤ j.val → (j.val + 8 - (BitVec.ofNat 32 n).toNat % 8) % 8 = j.val - n) := by
  have hj := j.isLt
  rcases hn with rfl | rfl | rfl
  · exact ⟨(reach j).1, fun hl => by show (j.val + 8 - 1) % 8 = _; omega⟩
  · exact ⟨(reach j).2.1, fun hl => by show (j.val + 8 - 2) % 8 = _; omega⟩
  · exact ⟨(reach j).2.2, fun hl => by show (j.val + 8 - 4) % 8 = _; omega⟩

theorem upVec_apply (a : FVec Ideal S64x8x256 .f32) (n : ℕ) (hn : n = 1 ∨ n = 2 ∨ n = 4) (A : ℕ → EReal) (g : Fin 64) (c : Fin 256)
    (h : ∀ j : Fin 8, a (ix3 g j c) = A j.val) (j : Fin 8) :
    upVec (F := Ideal) rowIds (BitVec.ofNat 32 n) a (ix3 g j c) = up n A j.val := by
  obtain ⟨hr, e⟩ := reach_of n hn j
  pointwise [upVec, rowIds]
  rw [hr, h, h]
  unfold up
  by_cases hl : n ≤ j.val
  · rw [if_pos hl, if_pos hl]
    show A j.val * A ((j.val + 8 - (BitVec.ofNat 32 n).toNat % 8) % 8) = _
    rw [e hl]
  · rw [if_neg hl, if_neg hl]; rfl

theorem upOffVec_apply (a b : FVec Ideal S64x8x256 .f32) (n : ℕ) (hn : n = 1 ∨ n = 2 ∨ n = 4) (A B : ℕ → EReal) (g : Fin 64) (c : Fin 256)
    (h : ∀ j : Fin 8, a (ix3 g j c) = A j.val) (hb : ∀ j : Fin 8, b (ix3 g j c) = B j.val) (j : Fin 8) :
    upOffVec (F := Ideal) rowIds (BitVec.ofNat 32 n) a b (ix3 g j c) = upOff n A B j.val := by
  obtain ⟨hr, e⟩ := reach_of n hn j
  pointwise [upOffVec, rowIds]
  rw [hr, h, hb, hb]
  unfold upOff
  by_cases hl : n ≤ j.val
  · rw [if_pos hl, if_pos hl]
    show A j.val * B ((j.val + 8 - (BitVec.ofNat 32 n).toNat % 8) % 8) + _ = _
    rw [e hl]
  · rw [if_neg hl, if_neg hl, mul_zero]; rfl

/-- A block's rows in groups of eight. -/
theorem grouped (a : FVec Ideal S512x256 .f32) (g : Fin 64) (j : Fin 8) (c : Fin 256) :
    shapeCast S64x8x256 a shapeCasts_S512x256_S64x8x256 (ix3 g j c) = a (ix2 ⟨g.val * 8 + j.val, by omega⟩ c) := by
  pointwise

theorem ungrouped (a : FVec Ideal S64x8x256 .f32) (r : Fin 512) (c : Fin 256) :
    shapeCast S512x256 (shapeCast S512x256 a shapeCasts_S64x8x256_S512x256) shapeCasts_S512x256_S512x256 (ix2 r c)
      = a (ix3 ⟨r.val / 8, by omega⟩ ⟨r.val % 8, by omega⟩ c) := by
  pointwise

theorem gateCol_apply (o : ℕ) (ho) (x : FVec Ideal S512x256 .f32) (w : Vec Ideal S1x256x512 .bf16) (b : Vec Ideal S1x256 .f32) (r : Fin 512) (c : Fin 256) (eo : o + c.val < 512) :
    gateCol (F := Ideal) o ho x w b (ix2 r c) = Ideal.logistic ((∑ k : Fin 256, x (ix2 r k) * w (ix3 0 k ⟨o + c.val, eo⟩)) + b (ix2 0 c)) := by
  rw [← Cert.Scalars.sigmoid]
  pointwise [gateCol]

theorem logCol_apply (s : FVec Ideal S1x256 .f32) (q : FVec Ideal S512x256 .f32) (r : Fin 512) (c : Fin 256) :
    logCol (F := Ideal) s q (ix2 r c) = Ideal.ofBits .f32 0xC1000000#32 * q (ix2 r c) * s (ix2 0 c) := by
  pointwise [logCol]

theorem inCol_apply (l i x : FVec Ideal S512x256 .f32) (r : Fin 512) (c : Fin 256) :
    inCol (F := Ideal) l i x (ix2 r c) = Ideal.sqrt (-Ideal.tanh (l (ix2 r c)) * (1 + Ideal.exp (l (ix2 r c)) * Ideal.exp (l (ix2 r c)))) * (i (ix2 r c) * x (ix2 r c)) := by
  pointwise [inCol]
  rw [zero_sub]

/-- A block's factors at a row: three rounds over the row's group. -/
theorem factors_apply (a : FVec Ideal S512x256 .f32) (A : ℕ → EReal) (r : Fin 512) (c : Fin 256)
    (h : ∀ j : Fin 8, a (ix2 ⟨r.val / 8 * 8 + j.val, by omega⟩ c) = A j.val) :
    factors (F := Ideal) rowIds a (ix2 r c) = up 4 (up 2 (up 1 A)) (r.val % 8) := by
  unfold factors
  rw [ungrouped]
  refine upVec_apply _ 4 (.inr (.inr rfl)) _ _ _ (upVec_apply _ 2 (.inr (.inl rfl)) _ _ _ (upVec_apply _ 1 (.inl rfl) _ _ _ fun j => ?_)) _
  rw [grouped]
  exact h j

theorem offsets_apply (a b : FVec Ideal S512x256 .f32) (A B : ℕ → EReal) (r : Fin 512) (c : Fin 256)
    (h : ∀ j : Fin 8, a (ix2 ⟨r.val / 8 * 8 + j.val, by omega⟩ c) = A j.val)
    (hb : ∀ j : Fin 8, b (ix2 ⟨r.val / 8 * 8 + j.val, by omega⟩ c) = B j.val) :
    offsets (F := Ideal) rowIds a b (ix2 r c) = upOff 4 (up 2 (up 1 A)) (upOff 2 (up 1 A) (upOff 1 A B)) (r.val % 8) := by
  have e : ∀ j : Fin 8, shapeCast S64x8x256 a shapeCasts_S512x256_S64x8x256 (ix3 ⟨r.val / 8, by omega⟩ j c) = A j.val :=
    fun j => (grouped _ _ _ _).trans (h j)
  have eb : ∀ j : Fin 8, shapeCast S64x8x256 b shapeCasts_S512x256_S64x8x256 (ix3 ⟨r.val / 8, by omega⟩ j c) = B j.val :=
    fun j => (grouped _ _ _ _).trans (hb j)
  have e1 := upVec_apply _ 1 (.inl rfl) A _ _ e
  have e2 := upVec_apply _ 2 (.inr (.inl rfl)) _ _ _ e1
  have o1 := upOffVec_apply _ _ 1 (.inl rfl) A B _ _ e eb
  have o2 := upOffVec_apply _ _ 2 (.inr (.inl rfl)) _ _ _ _ e1 o1
  unfold offsets
  rw [ungrouped]
  exact upOffVec_apply _ _ 4 (.inr (.inr rfl)) _ _ _ _ e2 o2 _

end Cert.Calls.Rglru
-- ==== Proof.GmlpValue.lean ====
/-
  The chunked spatial gating: the pallas_call reads blocks of eight chunks of 128 rows of the packed projection's first
  two column ranges, normalises the activated rows of the second, mixes them within their chunk by the causal weights of
  four groups of 256 columns, and multiplies by the activated first range; it stores the result in 32 pieces. Here its
  result array is read as one function of the arguments, and the reference's as the same.
-/
module

public import proofs.«01_k».proof.Defs
public import proofs.«01_k».proof.Proof.Scalars
public import proofs.«01_k».proof.Proof.Gen.GmlpIdeal.Value
public import proofs.«01_k».proof.Proof.Gen.GmlpRefIdeal.Run
public import proofs.«01_k».proof.Proof.Gen.GmlpRefIdeal.Read
public import Idealize.ShloMosaic.Lib.Pipeline.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Calls.Gmlp

/-- The gated linear unit's activation, in its hyperbolic tangent form. -/
def gelu (x : EReal) : EReal :=
  x * (Ideal.ofBits .f32 0x3F000000#32 * (Ideal.ofBits .f32 0x3F800000#32 + Ideal.tanh (Ideal.ofBits .f32 0x3F4C422A#32
    * (x + Ideal.ofBits .f32 0x3D372713#32 * (x * (x * x))))))

/-- A row's mean. -/
def mean (v : Fin 1024 → EReal) : EReal := Ideal.div (∑ k, v k) (Ideal.ofBits .f32 0x44800000#32)

/-- A row, normalised to mean zero and variance one, scaled and shifted. -/
def normed (v g b : Fin 1024 → EReal) (k : Fin 1024) : EReal :=
  (v k - mean v) * Ideal.rsqrt (mean (fun k => (v k - mean v) * (v k - mean v)) + Ideal.ofBits .f32 0x358637BD#32) * g k + b k

/-- The comparison of two positions of a chunk. -/
theorem causal : ∀ t s : Fin 128, IntOp.cmpi .sge (IntOp.addi (BitVec.ofNat 32 t.val) 0#32) (BitVec.ofNat 32 s.val) = (if s.val ≤ t.val then 1#1 else 0#1)
    ∧ IntOp.cmpi .sle (BitVec.ofNat 32 s.val) (BitVec.ofNat 32 t.val) = (if s.val ≤ t.val then 1#1 else 0#1) := by
  decide +kernel

/-- One entry of a chunk's result, from the chunk's rows of the two halves, the group's weights and its offsets. -/
def cell (u v : Fin 128 → Fin 1024 → EReal) (g b : Fin 1024 → EReal) (w : Fin 128 → Fin 128 → EReal) (bs : Fin 128 → EReal)
    (t : Fin 128) (q : Fin 1024) : EReal :=
  gelu (u t q) * (∑ s : Fin 128, (if s.val ≤ t.val then w t s else 0) * normed (fun k => gelu (v s k)) g b q + bs t)

/-- The result at a row and a column, from the packed projection. -/
def result (z : (⟨2, ![16384, 10240]⟩ : Shape).Idx → EReal) (g b : Fin 1024 → EReal) (w : Fin 4 → Fin 128 → Fin 128 → EReal)
    (bs : Fin 4 → Fin 128 → EReal) (c : Fin 128) (t : Fin 128) (n : Fin 4) (d : Fin 256) : EReal :=
  cell (fun t k => z (ix2 ⟨c.val * 128 + t.val, by omega⟩ ⟨k.val, by omega⟩))
    (fun t k => z (ix2 ⟨c.val * 128 + t.val, by omega⟩ ⟨1024 + k.val, by omega⟩)) g b (w n) (bs n) t ⟨n.val * 256 + d.val, by omega⟩

end Cert.Calls.Gmlp

namespace Cert.Calls.Gmlp.Ref

open Cert.GmlpRefIdeal Cert.GmlpRefIdeal.Gen Cert.GmlpRefIdeal.Read

theorem read_gelu (z : FVec Ideal S16384x10240 .bf16) (r : Fin 16384) (k : Fin 1024) :
    val_main_v28 (F := Ideal) z (ix2 r k) = gelu (z (ix2 r ⟨1024 + k.val, by omega⟩)) := by
  pointwise [val_main_v28, val_main_v27, val_main_v26, val_main_v25, val_main_v24, val_main_v23, val_main_v22, val_main_v21,
    val_main_v20, val_main_v19, val_main_v18, val_main_v17, val_main_v16, val_main_v15, val_main_v0, val_main_cst_3, val_main_cst_4,
    val_main_cst_5, val_main_cst_6, gelu]
  simp only [mul_comm (_ * _) (z _)]

theorem read_gelu_u (z : FVec Ideal S16384x10240 .bf16) (r : Fin 16384) (k : Fin 1024) :
    val_main_v14 (F := Ideal) z (ix2 r k) = gelu (z (ix2 r ⟨k.val, by omega⟩)) := by
  pointwise [val_main_v14, val_main_v13, val_main_v12, val_main_v11, val_main_v10, val_main_v9, val_main_v8, val_main_v7,
    val_main_v6, val_main_v5, val_main_v4, val_main_v3, val_main_v2, val_main_v1, val_main_v0, val_main_cst, val_main_cst_0,
    val_main_cst_1, val_main_cst_2, gelu]
  simp only [mul_comm (_ * _) (z _)]

theorem read_normed (z : FVec Ideal S16384x10240 .bf16) (g b : FVec Ideal S1024 .f32) (r : Fin 16384) (k : Fin 1024) :
    val_main_v52 (F := Ideal) z g b (ix2 r k)
      = normed (fun k => gelu (z (ix2 r ⟨1024 + k.val, by omega⟩))) (fun k => g (ix1 k)) (fun k => b (ix1 k)) k := by
  have key := fun k => read_gelu z r k
  unfold val_main_v52 val_main_v49 val_main_v46 val_main_v45 val_main_v44 val_main_v43 val_main_v41 val_main_v40 val_main_v39 val_main_v37 val_main_v36
    val_main_v35 val_main_v34 val_main_v33 val_main_v32 val_main_v30 val_main_v29
  generalize val_main_v28 (F := Ideal) z = y at key
  pointwise [val_main_v51, val_main_v50, val_main_v48, val_main_v47, val_main_v42, val_main_v38, val_main_v31, val_main_cst_7,
    val_main_cst_8, val_main_cst_9, val_main_cst_10, val_main_cst_11, normed, mean]
  simp only [key]

theorem read_causal (t s : Fin 128) :
    val_main_v55 (F := Ideal) (ix2 t s) = if s.val ≤ t.val then 1 else 0 := by
  pointwise [val_main_v55, val_main_call0_v5, val_main_call0_v4, val_main_call0_v3, val_main_call0_v2, val_main_call0_v1, val_main_call0_v0,
    val_main_call0_cst, val_main_call0_c, val_main_v54, val_main_cst_12]
  rw [(causal t s).1]
  split <;> rfl

/-- The reference's composed term, at a row of a chunk and a column of a group. -/
theorem read (z : FVec Ideal S16384x10240 .bf16) (g b : FVec Ideal S1024 .f32) (w : FVec Ideal S4x128x128 .f32) (bs : FVec Ideal S4x128 .f32)
    (c t : Fin 128) (n : Fin 4) (d : Fin 256) :
    val_main_v67 (F := Ideal) z g b w bs (ix2 ⟨c.val * 128 + t.val, by omega⟩ ⟨n.val * 256 + d.val, by omega⟩)
      = result z (fun k => g (ix1 k)) (fun k => b (ix1 k)) (fun n t s => w (ix3 n t s)) (fun n t => bs (ix2 n t)) c t n d := by
  have key := fun r k => read_normed z g b r k
  have keyu := fun r k => read_gelu_u z r k
  have key2 := read_causal
  have ec : (c.val * 128 + t.val) / 128 = c.val := by omega
  unfold val_main_v67 val_main_v66 val_main_v65 val_main_v64 val_main_v60 val_main_v59 val_main_v58 val_main_v57 val_main_v56 val_main_v53
  generalize val_main_v52 (F := Ideal) z g b = y at key
  generalize val_main_v14 (F := Ideal) z = yu at keyu
  generalize val_main_v55 (F := Ideal) = y2 at key2
  pointwise [val_main_v63, val_main_v62, val_main_v61, result, cell]
  simp only [key, key2, keyu]
  refine congrArg _ (congrArg (· + _) (Finset.sum_congr rfl fun x _ => ?_))
  split <;> simp [mul_comm]

end Cert.Calls.Gmlp.Ref

namespace Cert.Calls.Gmlp.Ker

open Cert.GmlpIdeal Cert.GmlpIdeal.Gen

section
variable {F : FTy → Type} [FloatOps F]

theorem hz2 : (![0, 0] : Fin 2 → Nat) = fun _ => 0 := funext fun a => by fin_cases a <;> rfl

/-- The normalised rows of a chunk. -/
def rows (V : Vec F S128x1024 .bf16) (g b : Vec F S1x1024 .f32) : FVec F S128x1024 .bf16 :=
  k0_pay11 (k0_pay8 V) (k0_pay9 V) k0_pay10 g b

/-- The activation of a block of a chunk. -/
def act (u : Vec F S128x256 .bf16) : FVec F S128x256 .f32 :=
  mulf (extf .f32 u bitsLt_bf16_f32) (mulf (broadcast S128x256 (Scalar.ofBits .f32 0x3F000000#32))
    (addf (broadcast S128x256 (Scalar.ofBits .f32 0x3F800000#32)) (k0_pay14 u)))

/-- One chunk's result for one group of 256 columns. -/
def mixed (o n : ℕ) (ho : S128x1024.Slices ![0, o] S128x256) (hn : S128x4.Slices ![0, n] S128x1) (w : Vec F S1x128x128 .f32) (bs : Vec F S128x4 .f32) (vn : FVec F S128x1024 .bf16)
    (u : Vec F S128x256 .bf16) : FVec F S128x256 .bf16 :=
  truncf .bf16 (mulf (act u)
    (addf (matmul dot_S128x128_S128x256_S128x256_1_0_0_1_n_n none (k0_pay3 w) (extractStridedSlice S128x256 ![0, o] vn ho) (constant S128x256 .f32 0x00000000#32))
      (broadcastTo S128x256 (extractStridedSlice S128x1 ![0, n] (k0_pay7 bs) hn) broadcasts_S128x1_S128x256))) bitsLt_bf16_f32

end

theorem rows_apply (V : Vec Ideal S128x1024 .bf16) (g b : Vec Ideal S1x1024 .f32) (s : Fin 128) (k : Fin 1024) :
    rows (F := Ideal) V g b (ix2 s k) = normed (fun k => gelu (V (ix2 s k))) (fun k => g (ix2 0 k)) (fun k => b (ix2 0 k)) k := by
  pointwise [rows, k0_pay11, k0_pay8, k0_pay9, k0_pay10, normed, mean, gelu]

theorem act_apply (u : Vec Ideal S128x256 .bf16) (t : Fin 128) (d : Fin 256) : act (F := Ideal) u (ix2 t d) = gelu (u (ix2 t d)) := by
  pointwise [act, k0_pay14, k0_pay13, gelu]

theorem mixed_apply (o n : ℕ) (ho) (hn) (w : Vec Ideal S1x128x128 .f32) (bs : Vec Ideal S128x4 .f32) (V : Vec Ideal S128x1024 .bf16) (g b : Vec Ideal S1x1024 .f32)
    (u : Vec Ideal S128x256 .bf16) (t : Fin 128) (d : Fin 256) (eo : o + d.val < 1024) (en : n < 4) :
    mixed (F := Ideal) o n ho hn w bs (rows (F := Ideal) V g b) u (ix2 t d)
      = gelu (u (ix2 t d)) * (∑ s : Fin 128, (if s.val ≤ t.val then w (ix3 0 t s) else 0)
        * normed (fun k => gelu (V (ix2 s k))) (fun k => g (ix2 0 k)) (fun k => b (ix2 0 k)) ⟨o + d.val, eo⟩ + bs (ix2 t ⟨n, en⟩)) := by
  have key := rows_apply V g b
  have keyu := act_apply u
  unfold mixed
  generalize act (F := Ideal) u = yu at keyu ⊢
  generalize rows (F := Ideal) V g b = y at key ⊢
  pointwise [k0_pay3, k0_pay2, k0_pay7]
  simp only [key, keyu, (causal _ _).2]
  refine congrArg _ (congrArg (· + _) (Finset.sum_congr rfl fun x _ => ?_))
  split <;> simp [Scalar.select]

/-- A block's result, at a row `t` of its chunk `c` and a column `d` of the group `n`. -/
def blockCell (x0 x1 : Vec Ideal S1024x1024 .bf16) (x2 x3 : Vec Ideal S1x1024 .f32) (x4 : Vec Ideal S4x128x128 .f32) (x5 : Vec Ideal S128x4 .f32)
    (c : Fin 8) (t : Fin 128) (n : Fin 4) (d : Fin 256) : EReal :=
  cell (fun t k => x0 (ix2 ⟨c.val * 128 + t.val, by omega⟩ k)) (fun t k => x1 (ix2 ⟨c.val * 128 + t.val, by omega⟩ k))
    (fun k => x2 (ix2 0 k)) (fun k => x3 (ix2 0 k)) (fun t s => x4 (ix3 n t s)) (fun t => x5 (ix2 t n)) t ⟨n.val * 256 + d.val, by omega⟩

/-- The same at an index of the block. -/
def blockVal (x0 x1 : Vec Ideal S1024x1024 .bf16) (x2 x3 : Vec Ideal S1x1024 .f32) (x4 : Vec Ideal S4x128x128 .f32) (x5 : Vec Ideal S128x4 .f32)
    (r q : Fin 1024) : EReal :=
  blockCell x0 x1 x2 x3 x4 x5 ⟨r.val / 128, by omega⟩ ⟨r.val % 128, by omega⟩ ⟨q.val / 256, by omega⟩ ⟨q.val % 256, by omega⟩

/-- One stored piece: the chunk `c`'s rows `r ..` and the group `n`'s columns `o ..`. -/
theorem piece (x0 x1 : Vec Ideal S1024x1024 .bf16) (x2 x3 : Vec Ideal S1x1024 .f32) (x4 : Vec Ideal S4x128x128 .f32) (x5 : Vec Ideal S128x4 .f32)
    (c : Fin 8) (n : Fin 4) {r o k : ℕ} (er : r = c.val * 128) (eo : o = n.val * 256) (ek : k = n.val) (ho) (hn) (h4) (h1) (hr)
    (x : S128x256.Idx) :
    mixed (F := Ideal) o k ho hn (View.ld x4 (Rect.unit (s := S4x128x128) ![k, 0, 0] S1x128x128.size h4)) (View.ld x5 r0_4)
        (rows (F := Ideal) (View.ld x1 (Rect.unit (s := S1024x1024) ![r, 0] S128x1024.size h1)) (View.ld x2 r0_6) (View.ld x3 r0_6))
        (View.ld x0 (Rect.unit (s := S1024x1024) ![r, o] S128x256.size hr)) x
      = blockVal x0 x1 x2 x3 x4 x5 ((Rect.unit (s := S1024x1024) ![r, o] S128x256.size hr).emb x 0) ((Rect.unit (s := S1024x1024) ![r, o] S128x256.size hr).emb x 1) := by
  subst er eo ek
  obtain ⟨t, d, rfl⟩ : ∃ (t : Fin 128) (d : Fin 256), x = ix2 t d := ⟨x 0, x 1, eq_ix2 x⟩
  rw [mixed_apply _ _ _ _ _ _ _ _ _ _ _ _ (by omega) n.isLt]
  have e0 : (Rect.unit (s := S1024x1024) ![c.val * 128, n.val * 256] S128x256.size hr).emb (ix2 t d) 0 = (⟨c.val * 128 + t.val, by omega⟩ : Fin 1024) :=
    Fin.ext (by show c.val * 128 + 1 * t.val = _; dsimp only; omega)
  have e1 : (Rect.unit (s := S1024x1024) ![c.val * 128, n.val * 256] S128x256.size hr).emb (ix2 t d) 1 = (⟨n.val * 256 + d.val, by omega⟩ : Fin 1024) :=
    Fin.ext (by show n.val * 256 + 1 * d.val = _; dsimp only; omega)
  rw [e0, e1]
  have ed : blockVal x0 x1 x2 x3 x4 x5 ⟨c.val * 128 + t.val, by omega⟩ ⟨n.val * 256 + d.val, by omega⟩ = blockCell x0 x1 x2 x3 x4 x5 c t n d := by
    unfold blockVal
    congr 1 <;> (apply Fin.ext; dsimp only; omega)
  rw [ed]
  simp only [View.ld_unit, View.ld_unit_zero (S := S1x1024) hz2, View.ld_unit_zero (S := S128x4) hz2]
  pointwise [blockCell, cell]

/-- What a point leaves in the result's block. -/
theorem out_apply (x0 x1 : Vec Ideal S1024x1024 .bf16) (x2 x3 : Vec Ideal S1x1024 .f32) (x4 : Vec Ideal S4x128x128 .f32) (x5 : Vec Ideal S128x4 .f32) (y : S1024x1024.Idx) :
    out0_6 (F := Ideal) x0 x1 x2 x3 x4 x5 y = blockVal x0 x1 x2 x3 x4 x5 (y 0) (y 1) := by
  unfold out0_6
  refine View.canon_apply_of_pieces (Val := Elt Ideal) (S := S1024x1024) (e := .bf16) (fun y => blockVal x0 x1 x2 x3 x4 x5 (y 0) (y 1)) _ ?_ y ?_
  rotate_left
  · exact cover0_6 _ _ _ _ _ _ _ _ _ _ _ _ _ _ _ _ _ _ _ _ _ _ _ _ _ _ _ _ _ _ _ _ y
  have p := piece x0 x1 x2 x3 x4 x5
  refine List.forall_mem_cons.mpr ⟨p 7 3 rfl rfl rfl slices_S128x1024_o0_768_S128x256 _ _ _ _, ?_⟩
  refine List.forall_mem_cons.mpr ⟨p 7 2 rfl rfl rfl slices_S128x1024_o0_512_S128x256 _ _ _ _, ?_⟩
  refine List.forall_mem_cons.mpr ⟨p 7 1 rfl rfl rfl slices_S128x1024_o0_256_S128x256 _ _ _ _, ?_⟩
  refine List.forall_mem_cons.mpr ⟨p 7 0 rfl rfl rfl slices_S128x1024_o0_0_S128x256 _ _ _ _, ?_⟩
  refine List.forall_mem_cons.mpr ⟨p 6 3 rfl rfl rfl slices_S128x1024_o0_768_S128x256 _ _ _ _, ?_⟩
  refine List.forall_mem_cons.mpr ⟨p 6 2 rfl rfl rfl slices_S128x1024_o0_512_S128x256 _ _ _ _, ?_⟩
  refine List.forall_mem_cons.mpr ⟨p 6 1 rfl rfl rfl slices_S128x1024_o0_256_S128x256 _ _ _ _, ?_⟩
  refine List.forall_mem_cons.mpr ⟨p 6 0 rfl rfl rfl slices_S128x1024_o0_0_S128x256 _ _ _ _, ?_⟩
  refine List.forall_mem_cons.mpr ⟨p 5 3 rfl rfl rfl slices_S128x1024_o0_768_S128x256 _ _ _ _, ?_⟩
  refine List.forall_mem_cons.mpr ⟨p 5 2 rfl rfl rfl slices_S128x1024_o0_512_S128x256 _ _ _ _, ?_⟩
  refine List.forall_mem_cons.mpr ⟨p 5 1 rfl rfl rfl slices_S128x1024_o0_256_S128x256 _ _ _ _, ?_⟩
  refine List.forall_mem_cons.mpr ⟨p 5 0 rfl rfl rfl slices_S128x1024_o0_0_S128x256 _ _ _ _, ?_⟩
  refine List.forall_mem_cons.mpr ⟨p 4 3 rfl rfl rfl slices_S128x1024_o0_768_S128x256 _ _ _ _, ?_⟩
  refine List.forall_mem_cons.mpr ⟨p 4 2 rfl rfl rfl slices_S128x1024_o0_512_S128x256 _ _ _ _, ?_⟩
  refine List.forall_mem_cons.mpr ⟨p 4 1 rfl rfl rfl slices_S128x1024_o0_256_S128x256 _ _ _ _, ?_⟩
  refine List.forall_mem_cons.mpr ⟨p 4 0 rfl rfl rfl slices_S128x1024_o0_0_S128x256 _ _ _ _, ?_⟩
  refine List.forall_mem_cons.mpr ⟨p 3 3 rfl rfl rfl slices_S128x1024_o0_768_S128x256 _ _ _ _, ?_⟩
  refine List.forall_mem_cons.mpr ⟨p 3 2 rfl rfl rfl slices_S128x1024_o0_512_S128x256 _ _ _ _, ?_⟩
  refine List.forall_mem_cons.mpr ⟨p 3 1 rfl rfl rfl slices_S128x1024_o0_256_S128x256 _ _ _ _, ?_⟩
  refine List.forall_mem_cons.mpr ⟨p 3 0 rfl rfl rfl slices_S128x1024_o0_0_S128x256 _ _ _ _, ?_⟩
  refine List.forall_mem_cons.mpr ⟨p 2 3 rfl rfl rfl slices_S128x1024_o0_768_S128x256 _ _ _ _, ?_⟩
  refine List.forall_mem_cons.mpr ⟨p 2 2 rfl rfl rfl slices_S128x1024_o0_512_S128x256 _ _ _ _, ?_⟩
  refine List.forall_mem_cons.mpr ⟨p 2 1 rfl rfl rfl slices_S128x1024_o0_256_S128x256 _ _ _ _, ?_⟩
  refine List.forall_mem_cons.mpr ⟨p 2 0 rfl rfl rfl slices_S128x1024_o0_0_S128x256 _ _ _ _, ?_⟩
  refine List.forall_mem_cons.mpr ⟨p 1 3 rfl rfl rfl slices_S128x1024_o0_768_S128x256 _ _ _ _, ?_⟩
  refine List.forall_mem_cons.mpr ⟨p 1 2 rfl rfl rfl slices_S128x1024_o0_512_S128x256 _ _ _ _, ?_⟩
  refine List.forall_mem_cons.mpr ⟨p 1 1 rfl rfl rfl slices_S128x1024_o0_256_S128x256 _ _ _ _, ?_⟩
  refine List.forall_mem_cons.mpr ⟨p 1 0 rfl rfl rfl slices_S128x1024_o0_0_S128x256 _ _ _ _, ?_⟩
  refine List.forall_mem_cons.mpr ⟨p 0 3 rfl rfl rfl slices_S128x1024_o0_768_S128x256 _ _ _ _, ?_⟩
  refine List.forall_mem_cons.mpr ⟨p 0 2 rfl rfl rfl slices_S128x1024_o0_512_S128x256 _ _ _ _, ?_⟩
  refine List.forall_mem_cons.mpr ⟨p 0 1 rfl rfl rfl slices_S128x1024_o0_256_S128x256 _ _ _ _, ?_⟩
  refine List.forall_mem_cons.mpr ⟨p 0 0 rfl rfl rfl slices_S128x1024_o0_0_S128x256 _ _ _ _, ?_⟩
  exact List.forall_mem_nil _

/-! ## The blocks the points read -/

section
variable {F : FTy → Type} [FloatOps F]
variable (m : (ℓ : Loc nD τ sig) → Buf (Elt F) ℓ)

theorem idx (t : Fin cfg0.N) : win0_0.index t = ![t.val, 0] ∧ win0_1.index t = ![t.val, 1]
    ∧ win0_2.index t = ![0, 0] ∧ win0_3.index t = ![0, 0] ∧ win0_4.index t = ![0, 0, 0] ∧ win0_5.index t = ![0, 0] ∧ win0_6.index t = ![t.val, 0] :=
  (by decide +kernel : ∀ t : Fin grid0.N, win0_0.index t = ![t.val, 0] ∧ win0_1.index t = ![t.val, 1]
    ∧ win0_2.index t = ![0, 0] ∧ win0_3.index t = ![0, 0] ∧ win0_4.index t = ![0, 0, 0] ∧ win0_5.index t = ![0, 0] ∧ win0_6.index t = ![t.val, 0]) t

/-- The gain, the shift and the offsets, as the region finds them. -/
theorem V_gain (c : Dev nD) : (show FVec F S1x1024 .f32 from V m c main_v0)
    = shapeCast S1x1024 (show FVec F S1024 .f32 from m ((c : Thread nD τ).loc main_arg1)) shapeCasts_S1024_S1x1024 := by
  show V m c main_v0 = _
  after_results
  rfl

theorem V_shift (c : Dev nD) : (show FVec F S1x1024 .f32 from V m c main_v1)
    = shapeCast S1x1024 (show FVec F S1024 .f32 from m ((c : Thread nD τ).loc main_arg2)) shapeCasts_S1024_S1x1024 := by
  show V m c main_v1 = _
  after_results
  rfl

theorem V_offset (c : Dev nD) : (show FVec F S128x4 .f32 from V m c main_v2)
    = transpose S128x4 [1, 0] (show FVec F S4x128 .f32 from m ((c : Thread nD τ).loc main_arg4)) transposes_S4x128_S128x4_1_0 := by
  show V m c main_v2 = _
  after_results
  rfl

theorem blk0 (c : Dev nD) (t : Fin cfg0.N) (r k : Fin 1024) (h : t.val * 1024 + r.val < 16384) :
    (show FVec F S1024x1024 .bf16 from iblk m c 0 t) (ix2 r k)
      = (show FVec F S16384x10240 .bf16 from m ((c : Thread nD τ).loc main_arg0)) (ix2 ⟨t.val * 1024 + r.val, h⟩ ⟨k.val, by omega⟩) := by
  rw [← V_main_arg0 m c]
  show V m c main_arg0 _ = V m c main_arg0 _
  refine congrArg _ (funext fun a => Fin.ext ?_)
  match a with
  | ⟨0, _⟩ => show win0_0.index t 0 * 1024 + 1 * r.val = _; rw [(idx t).1, Nat.one_mul]; rfl
  | ⟨1, _⟩ => show win0_0.index t 1 * 1024 + 1 * k.val = _; rw [(idx t).1]; show 0 * 1024 + 1 * k.val = k.val; omega

theorem blk1 (c : Dev nD) (t : Fin cfg0.N) (r k : Fin 1024) (h : t.val * 1024 + r.val < 16384) :
    (show FVec F S1024x1024 .bf16 from iblk m c 1 t) (ix2 r k)
      = (show FVec F S16384x10240 .bf16 from m ((c : Thread nD τ).loc main_arg0)) (ix2 ⟨t.val * 1024 + r.val, h⟩ ⟨1024 + k.val, by omega⟩) := by
  rw [← V_main_arg0 m c]
  show V m c main_arg0 _ = V m c main_arg0 _
  refine congrArg _ (funext fun a => Fin.ext ?_)
  match a with
  | ⟨0, _⟩ => show win0_1.index t 0 * 1024 + 1 * r.val = _; rw [(idx t).2.1, Nat.one_mul]; rfl
  | ⟨1, _⟩ => show win0_1.index t 1 * 1024 + 1 * k.val = _; rw [(idx t).2.1]; show 1 * 1024 + 1 * k.val = 1024 + k.val; omega

theorem blk2 (c : Dev nD) (t : Fin cfg0.N) (k : Fin 1024) :
    (show FVec F S1x1024 .f32 from iblk m c 2 t) (ix2 0 k) = (show FVec F S1024 .f32 from m ((c : Thread nD τ).loc main_arg1)) (ix1 k) := by
  have e : (show FVec F S1x1024 .f32 from iblk m c 2 t) (ix2 0 k) = (show FVec F S1x1024 .f32 from V m c main_v0) (ix2 0 k) := by
    show V m c main_v0 _ = V m c main_v0 _
    refine congrArg _ (funext fun a => Fin.ext ?_)
    match a with
    | ⟨0, _⟩ => show win0_2.index t 0 * 1 + 1 * 0 = _; rw [(idx t).2.2.1]; rfl
    | ⟨1, _⟩ => show win0_2.index t 1 * 1024 + 1 * k.val = _; rw [(idx t).2.2.1]; show 0 * 1024 + 1 * k.val = k.val; omega
  rw [e, V_gain]
  pointwise

theorem blk3 (c : Dev nD) (t : Fin cfg0.N) (k : Fin 1024) :
    (show FVec F S1x1024 .f32 from iblk m c 3 t) (ix2 0 k) = (show FVec F S1024 .f32 from m ((c : Thread nD τ).loc main_arg2)) (ix1 k) := by
  have e : (show FVec F S1x1024 .f32 from iblk m c 3 t) (ix2 0 k) = (show FVec F S1x1024 .f32 from V m c main_v1) (ix2 0 k) := by
    show V m c main_v1 _ = V m c main_v1 _
    refine congrArg _ (funext fun a => Fin.ext ?_)
    match a with
    | ⟨0, _⟩ => show win0_3.index t 0 * 1 + 1 * 0 = _; rw [(idx t).2.2.2.1]; rfl
    | ⟨1, _⟩ => show win0_3.index t 1 * 1024 + 1 * k.val = _; rw [(idx t).2.2.2.1]; show 0 * 1024 + 1 * k.val = k.val; omega
  rw [e, V_shift]
  pointwise

theorem blk4 (c : Dev nD) (t : Fin cfg0.N) (n : Fin 4) (p q : Fin 128) :
    (show FVec F S4x128x128 .f32 from iblk m c 4 t) (ix3 n p q) = (show FVec F S4x128x128 .f32 from m ((c : Thread nD τ).loc main_arg3)) (ix3 n p q) := by
  rw [← V_main_arg3 m c]
  show V m c main_arg3 _ = V m c main_arg3 _
  refine congrArg _ (funext fun a => Fin.ext ?_)
  match a with
  | ⟨0, _⟩ => show win0_4.index t 0 * 4 + 1 * n.val = _; rw [(idx t).2.2.2.2.1]; show 0 * 4 + 1 * n.val = n.val; omega
  | ⟨1, _⟩ => show win0_4.index t 1 * 128 + 1 * p.val = _; rw [(idx t).2.2.2.2.1]; show 0 * 128 + 1 * p.val = p.val; omega
  | ⟨2, _⟩ => show win0_4.index t 2 * 128 + 1 * q.val = _; rw [(idx t).2.2.2.2.1]; show 0 * 128 + 1 * q.val = q.val; omega

theorem blk5 (c : Dev nD) (t : Fin cfg0.N) (p : Fin 128) (n : Fin 4) :
    (show FVec F S128x4 .f32 from iblk m c 5 t) (ix2 p n) = (show FVec F S4x128 .f32 from m ((c : Thread nD τ).loc main_arg4)) (ix2 n p) := by
  have e : (show FVec F S128x4 .f32 from iblk m c 5 t) (ix2 p n) = (show FVec F S128x4 .f32 from V m c main_v2) (ix2 p n) := by
    show V m c main_v2 _ = V m c main_v2 _
    refine congrArg _ (funext fun a => Fin.ext ?_)
    match a with
    | ⟨0, _⟩ => show win0_5.index t 0 * 128 + 1 * p.val = _; rw [(idx t).2.2.2.2.2.1]; show 0 * 128 + 1 * p.val = p.val; omega
    | ⟨1, _⟩ => show win0_5.index t 1 * 4 + 1 * n.val = _; rw [(idx t).2.2.2.2.2.1]; show 0 * 4 + 1 * n.val = n.val; omega
  rw [e, V_offset]
  pointwise

end

variable (m : (ℓ : Loc nD τ sig) → Buf (Elt Ideal) ℓ) (ρ : Dev nD → PrngReg)

/-- The result array as a function of the arguments. -/
def G (c : Dev nD) : Buf (Elt Ideal) ((c : Thread nD τ).loc main_v3) := fun i =>
  result (show FVec Ideal S16384x10240 .bf16 from m ((c : Thread nD τ).loc main_arg0))
    (fun k => (show FVec Ideal S1024 .f32 from m ((c : Thread nD τ).loc main_arg1)) (ix1 k))
    (fun k => (show FVec Ideal S1024 .f32 from m ((c : Thread nD τ).loc main_arg2)) (ix1 k))
    (fun n p q => (show FVec Ideal S4x128x128 .f32 from m ((c : Thread nD τ).loc main_arg3)) (ix3 n p q))
    (fun n p => (show FVec Ideal S4x128 .f32 from m ((c : Thread nD τ).loc main_arg4)) (ix2 n p))
    ⟨(i 0).val / 128, by have h : (i 0).val < 16384 := (i 0).isLt; omega⟩ ⟨(i 0).val % 128, by omega⟩
    ⟨(i 1).val / 256, by have h : (i 1).val < 1024 := (i 1).isLt; omega⟩ ⟨(i 1).val % 256, by omega⟩

/-- A block's entry is the result's, the chunk `c` of the point `t` being the chunk `8 t + c`. -/
theorem block_result (c : Dev nD) (t : Fin cfg0.N) (k : Fin 8) (p : Fin 128) (n : Fin 4) (d : Fin 256) (hk : t.val * 8 + k.val < 128) :
    blockCell (iblk m c 0 t) (iblk m c 1 t) (iblk m c 2 t) (iblk m c 3 t) (iblk m c 4 t) (iblk m c 5 t) k p n d
      = result (show FVec Ideal S16384x10240 .bf16 from m ((c : Thread nD τ).loc main_arg0))
        (fun k => (show FVec Ideal S1024 .f32 from m ((c : Thread nD τ).loc main_arg1)) (ix1 k))
        (fun k => (show FVec Ideal S1024 .f32 from m ((c : Thread nD τ).loc main_arg2)) (ix1 k))
        (fun n p q => (show FVec Ideal S4x128x128 .f32 from m ((c : Thread nD τ).loc main_arg3)) (ix3 n p q))
        (fun n p => (show FVec Ideal S4x128 .f32 from m ((c : Thread nD τ).loc main_arg4)) (ix2 n p)) ⟨t.val * 8 + k.val, hk⟩ p n d := by
  have h0 : ∀ (s : Fin 128) (q : Fin 1024), (show FVec Ideal S1024x1024 .bf16 from iblk m c 0 t) (ix2 ⟨k.val * 128 + s.val, by omega⟩ q)
      = (show FVec Ideal S16384x10240 .bf16 from m ((c : Thread nD τ).loc main_arg0)) (ix2 ⟨(t.val * 8 + k.val) * 128 + s.val, by omega⟩ ⟨q.val, by omega⟩) :=
    fun s q => (blk0 m c t _ q (by dsimp only; omega)).trans (congrArg (fun r => (show FVec Ideal S16384x10240 .bf16 from m ((c : Thread nD τ).loc main_arg0)) (ix2 r _)) (Fin.ext (by dsimp only; omega)))
  have h1 : ∀ (s : Fin 128) (q : Fin 1024), (show FVec Ideal S1024x1024 .bf16 from iblk m c 1 t) (ix2 ⟨k.val * 128 + s.val, by omega⟩ q)
      = (show FVec Ideal S16384x10240 .bf16 from m ((c : Thread nD τ).loc main_arg0)) (ix2 ⟨(t.val * 8 + k.val) * 128 + s.val, by omega⟩ ⟨1024 + q.val, by omega⟩) :=
    fun s q => (blk1 m c t _ q (by dsimp only; omega)).trans (congrArg (fun r => (show FVec Ideal S16384x10240 .bf16 from m ((c : Thread nD τ).loc main_arg0)) (ix2 r _)) (Fin.ext (by dsimp only; omega)))
  unfold blockCell result
  refine Eq.trans ?_ rfl
  have h2 := blk2 (F := Ideal) m c t
  have h3 := blk3 (F := Ideal) m c t
  have h4 := blk4 (F := Ideal) m c t
  have h5 := blk5 (F := Ideal) m c t
  generalize iblk m c 0 t = b0 at h0 ⊢
  generalize iblk m c 1 t = b1 at h1 ⊢
  generalize iblk m c 2 t = b2 at h2 ⊢
  generalize iblk m c 3 t = b3 at h3 ⊢
  generalize iblk m c 4 t = b4 at h4 ⊢
  generalize iblk m c 5 t = b5 at h5 ⊢
  simp only [h0, h1, h2, h3, h4, h5]

theorem flushed_eq (c : Dev nD) (t : Fin cfg0.N) :
    (dats m 0 c).flushed 6 t = ((cfg0.win 6).blk t).view.read (Elt Ideal) (G m c) := by
  rw [Value.flushed6]
  funext y
  have hN : t.val < 16 := lt_of_lt_of_eq t.isLt N_0
  obtain ⟨r, j, rfl⟩ : ∃ (r j : Fin 1024), y = ix2 r j := ⟨y 0, y 1, eq_ix2 y⟩
  have e0 : t.val * 1024 + r.val < 16384 := by omega
  have er : ((cfg0.win 6).blk t).view.read (Elt Ideal) (G m c) (ix2 r j)
      = G m c (ix2 ⟨t.val * 1024 + r.val, e0⟩ j) := by
    show G m c _ = G m c _
    refine congrArg _ (funext fun a => Fin.ext ?_)
    match a with
    | ⟨0, _⟩ => show win0_6.index t 0 * 1024 + 1 * r.val = _; rw [(idx t).2.2.2.2.2.2, Nat.one_mul]; rfl
    | ⟨1, _⟩ => show win0_6.index t 1 * 1024 + 1 * j.val = _; rw [(idx t).2.2.2.2.2.2]; show 0 * 1024 + 1 * j.val = j.val; omega
  rw [er]
  refine (out_apply (iblk m c 0 t) (iblk m c 1 t) (iblk m c 2 t) (iblk m c 3 t) (iblk m c 4 t) (iblk m c 5 t) (ix2 r j)).trans ?_
  refine (block_result m c t ⟨r.val / 128, by omega⟩ ⟨r.val % 128, by omega⟩ ⟨j.val / 256, by omega⟩ ⟨j.val % 256, by omega⟩ (by dsimp only; omega)).trans ?_
  unfold G
  have ea : (⟨t.val * 8 + r.val / 128, by omega⟩ : Fin 128) = ⟨(t.val * 1024 + r.val) / 128, by omega⟩ := Fin.ext (by dsimp only; omega)
  have eb : (⟨r.val % 128, by omega⟩ : Fin 128) = ⟨(t.val * 1024 + r.val) % 128, by omega⟩ := Fin.ext (by dsimp only; omega)
  dsimp only
  rw [ea, eb]
  rfl

/-- Every point writes its block back. -/
theorem flushes (t : Fin cfg0.N) : (cfg0.win 6).flush t = true :=
  (by decide +kernel : ∀ t : Fin grid0.N, win0_6.flush t = true) t

/-- An index is in a point's block when each coordinate is in the block's range. -/
theorem mem_blk (t : Fin cfg0.N) (i : S16384x1024.Idx) : i ∈ ((cfg0.win 6).blk t).view.set
    ↔ ∀ a : Fin 2, win0_6.index t a * S1024x1024.size a ≤ (i a).val ∧ (i a).val < win0_6.index t a * S1024x1024.size a + S1024x1024.size a := by
  show i ∈ ((View.whole main_v3).slice (win0_6.rect t)).set ↔ _
  rw [View.set_slice_whole, Rect.mem_set_unit]
  exact Iff.rfl

/-- The result's blocks cover the array. -/
theorem covered (i : S16384x1024.Idx) : ∃ t : Fin cfg0.N, (cfg0.win 6).flush t = true ∧ i ∈ ((cfg0.win 6).blk t).view.set := by
  have h0 : (i 0).val < 16384 := (i 0).isLt
  have h1 : (i 1).val < 1024 := (i 1).isLt
  have hN : (i 0).val / 1024 < cfg0.N := lt_of_lt_of_eq (by omega : (i 0).val / 1024 < 16) N_0.symm
  refine ⟨⟨(i 0).val / 1024, hN⟩, flushes _, ?_⟩
  rw [mem_blk]
  intro a
  rw [(idx _).2.2.2.2.2.2]
  match a with
  | ⟨0, _⟩ => show (i 0).val / 1024 * 1024 ≤ (i 0).val ∧ (i 0).val < (i 0).val / 1024 * 1024 + 1024; omega
  | ⟨1, _⟩ => show 0 * 1024 ≤ (i 1).val ∧ (i 1).val < 0 * 1024 + 1024; omega

theorem final (c : Dev nD) : (dats m 0 c).arrAt 6 cfg0.N = G m c :=
  (dats m 0 c).arrAt_eq_of_cover 6 _ (fun t _ => flushed_eq m c t) covered

end Cert.Calls.Gmlp.Ker

namespace Cert.Calls.Gmlp

/-- On equal arguments the kernel's result array is the reference's: both are `result`. -/
theorem algebraic : Cert.algebraic_GmlpIdeal_GmlpRefIdeal (hGmlpIdeal := GmlpIdeal.Gen.facts) (hGmlpRefIdeal := GmlpRefIdeal.Gen.facts) := by
  intro m ρ m' ρ' _ hag
  refine ⟨fun c => Ker.G m c, ?_, ?_⟩
  · exact (θ_run _ _ _).mono (fun _ h c => ⟨(h c).1.trans (Ker.final m c), (h c).2⟩) (GmlpIdeal.Value.run_blocks (F := Ideal) m ρ)
  · refine (θ_run _ _ _).mono (fun _ h c => ⟨(h c).1.trans ?_, (h c).2⟩) (GmlpRefIdeal.Value.run (F := Ideal) m' ρ')
    refine (GmlpRefIdeal.Read.val_main_v67_eq (F := Ideal) _ _).trans ?_
    funext i
    rw [(hag c).1, (hag c).2.1, (hag c).2.2.1, (hag c).2.2.2.1, (hag c).2.2.2.2]
    have h0 : (i 0).val < 16384 := (i 0).isLt
    have h1 : (i 1).val < 1024 := (i 1).isLt
    have e : i = ix2 ⟨(i 0).val / 128 * 128 + (i 0).val % 128, by omega⟩ ⟨(i 1).val / 256 * 256 + (i 1).val % 256, by omega⟩ := by
      refine (eq_ix2 i).trans ?_
      congr 1 <;> (apply Fin.ext; dsimp only; omega)
    refine (congrArg _ e).trans ?_
    exact Ref.read _ _ _ _ _ ⟨(i 0).val / 128, by omega⟩ ⟨(i 0).val % 128, by omega⟩ ⟨(i 1).val / 256, by omega⟩ ⟨(i 1).val % 256, by omega⟩

end Cert.Calls.Gmlp
-- ==== Proof.RglruChunk.lean ====
/-
  One chunk of 512 rows of the gated recurrence: what the body leaves in its output, in the rows it carries and in the
  state it carries, read at an index, from what it finds.
-/
module

public import proofs.«01_k».proof.Proof.RglruCells
public import proofs.«01_k».proof.Proof.GmlpValue
public import Idealize.ShloMosaic.Lib.Pipeline.Value

@[expose] public section

set_option maxRecDepth 16384

noncomputable section

namespace Cert.Calls.Rglru

open Cert.KernelIdeal Cert.KernelIdeal.Gen
open Idealize.ShloMosaic Idealize.ShloMosaic.TcCoe Idealize.SL.Sem
open Cert.Calls.Gmlp (gelu)

/-! ## The loop through the chunk, sixteen rows a trip -/

/-- A load of eight rows at a trip's first or second half. -/
theorem load8 (v : View sig .tc .vmem S512x1024 .f32) (X : BufTy.Contents (Elt Ideal) v.ty) (n o : ℕ) (off : Fin 2 → ℕ) (ho : off = ![16 * n + o, 0])
    (inb) (i : Fin 8) (c : Fin 1024) (hr : 16 * n + o + i.val < 512) :
    (show Vec Ideal S8x1024 .f32 from View.readAt (Elt Ideal) v (Rect.unit (s := S512x1024) off S8x1024.size inb).toLoadRect X) (ix2 i c) = v.read (Elt Ideal) X (ix2 ⟨16 * n + o + i.val, hr⟩ c) := by
  subst ho
  rw [View.readAt_eq_ld]
  show v.read (Elt Ideal) X _ = v.read (Elt Ideal) X _
  refine congrArg _ (funext fun a => Fin.ext ?_)
  match a with
  | ⟨0, _⟩ => show 16 * n + o + 1 * i.val = 16 * n + o + i.val; omega
  | ⟨1, _⟩ => show 0 + 1 * c.val = c.val; omega

/-- A load of the trip's sixteen rows. -/
theorem load16 (v : View sig .tc .vmem S512x1024 .bf16) (X : BufTy.Contents (Elt Ideal) v.ty) (n : ℕ) (off : Fin 2 → ℕ) (ho : off = ![16 * n, 0])
    (inb) (i : Fin 16) (c : Fin 1024) (hr : 16 * n + i.val < 512) :
    (show Vec Ideal S16x1024 .bf16 from View.readAt (Elt Ideal) v (Rect.unit (s := S512x1024) off S16x1024.size inb).toLoadRect X) (ix2 i c) = v.read (Elt Ideal) X (ix2 ⟨16 * n + i.val, hr⟩ c) := by
  subst ho
  rw [View.readAt_eq_ld]
  show v.read (Elt Ideal) X _ = v.read (Elt Ideal) X _
  refine congrArg _ (funext fun a => Fin.ext ?_)
  match a with
  | ⟨0, _⟩ => show 16 * n + 1 * i.val = 16 * n + i.val; omega
  | ⟨1, _⟩ => show 0 + 1 * c.val = c.val; omega

/-- Eight rows' states, from the state before them. -/
theorem rows8 (acc : Vec Ideal S1x1024 .f32) (b a : Vec Ideal S8x1024 .f32) (i : Fin 8) (c : Fin 1024) :
    k0_pay75 (F := Ideal) acc b a (ix2 i c) = b (ix2 i c) + a (ix2 i c) * acc (ix2 0 c) := by
  pointwise [k0_pay75]

theorem rows8' (acc : Vec Ideal S1x1024 .f32) (b a b' a' : Vec Ideal S8x1024 .f32) (i : Fin 8) (c : Fin 1024) :
    k0_pay76 (F := Ideal) acc b a b' a' (ix2 i c) = b' (ix2 i c) + a' (ix2 i c) * k0_pay75 (F := Ideal) acc b a (ix2 7 c) := by
  unfold k0_pay76
  generalize k0_pay75 (F := Ideal) acc b a = y
  pointwise

theorem last (acc : Vec Ideal S1x1024 .f32) (b a b' a' : Vec Ideal S8x1024 .f32) (c : Fin 1024) :
    k0_pay77 (F := Ideal) acc b a b' a' (ix2 0 c) = k0_pay76 (F := Ideal) acc b a b' a' (ix2 7 c) := by
  unfold k0_pay77
  generalize k0_pay76 (F := Ideal) acc b a b' a' = y
  pointwise

/-- What a trip stores: the states times the activated gates. -/
theorem stored (acc : Vec Ideal S1x1024 .f32) (g : Vec Ideal S16x1024 .bf16) (b a b' a' : Vec Ideal S8x1024 .f32) (i : Fin 16) (c : Fin 1024) :
    k0_pay78 (F := Ideal) acc g b a b' a' (ix2 i c)
      = (if h : i.val < 8 then k0_pay75 (F := Ideal) acc b a (ix2 ⟨i.val, h⟩ c) else k0_pay76 (F := Ideal) acc b a b' a' (ix2 ⟨i.val - 8, by omega⟩ c)) * gelu (g (ix2 i c)) := by
  unfold k0_pay78
  generalize k0_pay76 (F := Ideal) acc b a b' a' = y
  generalize k0_pay75 (F := Ideal) acc b a = y2
  pointwise [gelu]
  by_cases hi : i.val < 8
  · simp only [dif_pos hi]
  · have e : ∀ h, (⟨8 + (i.val - 8), h⟩ : Fin 16) = i := fun h => Fin.ext (by show 8 + (i.val - 8) = i.val; omega)
    simp only [dif_neg hi, e]

/-- A trip's states: the first eight rows' from the carried one, the next eight rows' from the first's last. -/
theorem trip_values (FA FB : Fin 512 → Fin 1024 → EReal) (H : ℕ → Fin 1024 → EReal)
    (hH : ∀ (r : Fin 512) (q), FB r q + FA r q * H (r.val / 8 * 8) q = H (r.val + 1) q)
    (n : ℕ) (hn : n < 32) (acc : Vec Ideal S1x1024 .f32) (b a b' a' : Vec Ideal S8x1024 .f32) (hacc : ∀ q, acc (ix2 0 q) = H (16 * n) q)
    (hb : ∀ (i : Fin 8) q, b (ix2 i q) = FB ⟨16 * n + 0 + i.val, by omega⟩ q) (ha : ∀ (i : Fin 8) q, a (ix2 i q) = FA ⟨16 * n + 0 + i.val, by omega⟩ q)
    (hb' : ∀ (i : Fin 8) q, b' (ix2 i q) = FB ⟨16 * n + 8 + i.val, by omega⟩ q) (ha' : ∀ (i : Fin 8) q, a' (ix2 i q) = FA ⟨16 * n + 8 + i.val, by omega⟩ q) :
    (∀ (i : Fin 8) q, k0_pay75 (F := Ideal) acc b a (ix2 i q) = H (16 * n + 0 + i.val + 1) q)
    ∧ ∀ (i : Fin 8) q, k0_pay76 (F := Ideal) acc b a b' a' (ix2 i q) = H (16 * n + 8 + i.val + 1) q := by
  have first : ∀ (i : Fin 8) q, k0_pay75 (F := Ideal) acc b a (ix2 i q) = H (16 * n + 0 + i.val + 1) q := by
    intro i q
    have h := hH ⟨16 * n + 0 + i.val, by omega⟩ q
    rw [rows8, hb, ha, hacc, ← h]
    dsimp only
    rw [show (16 * n + 0 + i.val) / 8 * 8 = 16 * n by omega]
  refine ⟨first, fun i q => ?_⟩
  have h := hH ⟨16 * n + 8 + i.val, by omega⟩ q
  rw [rows8', hb', ha', first, ← h]
  dsimp only
  rw [show (16 * n + 8 + i.val) / 8 * 8 = 16 * n + 0 + (7 : Fin 8).val + 1 by show _ = 16 * n + 0 + 7 + 1; omega]

set_option maxHeartbeats 1000000 in
/-- The loop: the carried row is the state after the rows done, and each piece stored is states times activated gates. -/
theorem loop_values (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S4x1024 .f32) (harg4 : arg4.IsWhole) (arg5 : Memref sig .tc .vmem S1x1024 .f32) (harg5 : arg5.IsWhole) (arg6 : Memref sig .tc .vmem S4x256x512 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .bf16) (harg10 : arg10.IsWhole) (arg11 : Memref sig .tc .vmem S520x1024 .f32) (harg11 : arg11.IsWhole) (arg12 : Memref sig .tc .vmem S512x1024 .f32) (harg12 : arg12.IsWhole) (arg13 : Memref sig .tc .vmem S512x1024 .f32) (harg13 : arg13.IsWhole) (arg14 : Memref sig .tc .vmem S8x1024 .f32) (harg14 : arg14.IsWhole) (X_arg3 : BufTy.Contents (Elt Ideal) arg3.view.ty) (X_arg12 : BufTy.Contents (Elt Ideal) arg12.view.ty) (X_arg13 : BufTy.Contents (Elt Ideal) arg13.view.ty) (init : Vec Ideal S1x1024 .f32)
    (FA FB gt : Fin 512 → Fin 1024 → EReal) (H : ℕ → Fin 1024 → EReal)
    (hA : ∀ r q, arg12.view.read (Elt Ideal) X_arg12 (ix2 r q) = FA r q) (hB : ∀ r q, arg13.view.read (Elt Ideal) X_arg13 (ix2 r q) = FB r q)
    (hG : ∀ r q, arg3.view.read (Elt Ideal) X_arg3 (ix2 r q) = gt r q)
    (hH : ∀ (r : Fin 512) (q), FB r q + FA r q * H (r.val / 8 * 8) q = H (r.val + 1) q) (h0 : ∀ q, init (ix2 0 q) = H 0 q)
    (n : ℕ) (hn : n ≤ k0_t1_loop.trips) :
    (∀ q, (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 X_arg3 X_arg12 X_arg13 init n).1 (ix2 0 q) = H (16 * n) q)
    ∧ ∀ pc ∈ (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 X_arg3 X_arg12 X_arg13 init n).2, ∀ x : pc.1.shape.Idx,
        pc.2 x = H ((pc.1.emb x 0).val + 1) (pc.1.emb x 1) * gelu (gt (pc.1.emb x 0) (pc.1.emb x 1)) := by
  induction n with
  | zero => exact ⟨h0, List.forall_mem_nil _⟩
  | succ n ih =>
    obtain ⟨ih1, ih2⟩ := ih (Nat.le_of_succ_le hn)
    have hn' : n < 32 := Nat.lt_of_lt_of_le hn k0_t1_abs.2.1
    have e := st_k0_t1_succ (F := Ideal) Variants.none c none i arg2 harg2 arg3 harg3 arg4 harg4 arg5 harg5 arg6 harg6 arg7 harg7 arg8 harg8 arg9 harg9 arg10 harg10 arg11 harg11 arg12 harg12 arg13 harg13 arg14 harg14 X_arg3 X_arg12 X_arg13 init ⟨n, hn⟩
    dsimp only at e
    rw [e]
    unfold tripR_k0_t1 tripL_k0_t1 trip_k0_t1
    dsimp only
    generalize (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 X_arg3 X_arg12 X_arg13 init n).1 = acc at ih1 ⊢
    generalize (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 X_arg3 X_arg12 X_arg13 init n).2 = L at ih2 ⊢
    have o0 : k0_off2 ⟨n, hn⟩ 0#32 = ![16 * n + 0, 0] := k0_off2_eq ⟨n, hn⟩ 0
    have o1 : k0_off2 ⟨n, hn⟩ 8#32 = ![16 * n + 8, 0] := k0_off2_eq ⟨n, hn⟩ 1
    have T := trip_values FA FB H hH n hn' acc _ _ _ _ ih1
      (fun (i : Fin 8) q => (load8 arg13.view X_arg13 n 0 _ o0 (k0_off2_inb ⟨n, hn⟩ 0) i q (by omega)).trans (hB _ _))
      (fun (i : Fin 8) q => (load8 arg12.view X_arg12 n 0 _ o0 (k0_off2_inb ⟨n, hn⟩ 0) i q (by omega)).trans (hA _ _))
      (fun (i : Fin 8) q => (load8 arg13.view X_arg13 n 8 _ o1 (k0_off2_inb ⟨n, hn⟩ 1) i q (by omega)).trans (hB _ _))
      (fun (i : Fin 8) q => (load8 arg12.view X_arg12 n 8 _ o1 (k0_off2_inb ⟨n, hn⟩ 1) i q (by omega)).trans (hA _ _))
    refine ⟨fun q => (last _ _ _ _ _ q).trans ((T.2 7 q).trans (congrArg (H · q) (show 16 * n + 8 + 7 + 1 = 16 * (n + 1) by omega))), fun pc hpc => ?_⟩
    rcases List.mem_append.mp hpc with h | h
    · obtain rfl := List.mem_singleton.mp h
      intro x
      obtain ⟨i, q, rfl⟩ : ∃ (i : Fin 16) (q : Fin 1024), x = ix2 i q := ⟨x 0, x 1, funext fun a => match a with | ⟨0, _⟩ => rfl | ⟨1, _⟩ => rfl⟩
      have e0 : ((Rect.unit (s := S512x1024) (k0_off1 ⟨n, hn⟩) S16x1024.size (k0_off1_inb ⟨n, hn⟩)).emb (ix2 i q) 0).val = 16 * n + i.val := by
        show k0_off1 ⟨n, hn⟩ 0 + 1 * i.val = _
        rw [k0_off1_eq ⟨n, hn⟩]
        show 16 * n + 1 * i.val = _
        omega
      have e1 : (Rect.unit (s := S512x1024) (k0_off1 ⟨n, hn⟩) S16x1024.size (k0_off1_inb ⟨n, hn⟩)).emb (ix2 i q) 1 = q := Fin.ext (by
        show k0_off1 ⟨n, hn⟩ 1 + 1 * q.val = _
        rw [k0_off1_eq ⟨n, hn⟩]
        show 0 + 1 * q.val = _
        omega)
      refine (stored _ _ _ _ _ _ i q).trans (congr (congrArg HMul.hMul ?_) (congrArg gelu ?_))
      · refine Eq.trans ?_ (congr (congrArg H (congrArg (· + 1) e0)) e1).symm
        by_cases hi : i.val < 8
        · exact (dif_pos hi).trans (T.1 ⟨i.val, hi⟩ q)
        · refine (dif_neg hi).trans ((T.2 ⟨i.val - 8, by omega⟩ q).trans (congrArg (H · q) ?_))
          show 16 * n + 8 + (i.val - 8) + 1 = _
          omega
      · exact (load16 arg3.view X_arg3 n _ (k0_off1_eq ⟨n, hn⟩) (k0_off1_inb ⟨n, hn⟩) i q (by omega)).trans
          ((hG _ _).trans (congr (congrArg gt (Fin.ext e0.symm)) e1.symm))
    · exact ih2 pc h

end Cert.Calls.Rglru
-- ==== Proof.RglruCols.lean ====
/-
  The gated recurrence's factors and offsets over one chunk of 512 rows: the body's words for a block of 256 columns, read
  at an index, are three rounds of doubling over the row's group of eight.
-/
module

public import proofs.«01_k».proof.Proof.RglruCells

@[expose] public section

set_option maxRecDepth 16384

noncomputable section

namespace Cert.Calls.Rglru

open Cert.KernelIdeal Cert.KernelIdeal.Gen
open Idealize.ShloMosaic Idealize.ShloMosaic.TcCoe Idealize.SL.Sem

/-! ## A block of columns in the body's words -/

section
variable {F : FTy → Type} [FloatOps F]

/-- The decay's logarithm in a block of columns. -/
def blockLog (o : ℕ) (hs : S512x1024.Slices ![0, o] S512x256) (hp : S1x1024.Slices ![0, o] S1x256) (XC : FVec F S512x1024 .f32) (SP : FVec F S1x1024 .f32)
    (W : Vec F S1x256x512 .bf16) (BA : Vec F S1x256 .f32) : FVec F S512x256 .f32 :=
  logCol (extractStridedSlice S1x256 ![0, o] SP hp) (gateCol 0 slices_S512x512_o0_0_S512x256 (extractStridedSlice S512x256 ![0, o] XC hs) W BA)

/-- The factors stored for a block; -/
def blockA (o : ℕ) (hs : S512x1024.Slices ![0, o] S512x256) (hp : S1x1024.Slices ![0, o] S1x256) (XC : FVec F S512x1024 .f32) (SP : FVec F S1x1024 .f32)
    (W : Vec F S1x256x512 .bf16) (BA : Vec F S1x256 .f32) : FVec F S512x256 .f32 :=
  factors rowIds (exp (blockLog o hs hp XC SP W BA))

/-- and the offsets. -/
def blockB (o : ℕ) (hs : S512x1024.Slices ![0, o] S512x256) (hp : S1x1024.Slices ![0, o] S1x256) (XC : FVec F S512x1024 .f32) (SP : FVec F S1x1024 .f32)
    (W : Vec F S1x256x512 .bf16) (BA BX : Vec F S1x256 .f32) : FVec F S512x256 .f32 :=
  offsets rowIds (exp (blockLog o hs hp XC SP W BA)) (inCol (blockLog o hs hp XC SP W BA)
    (gateCol 256 slices_S512x512_o0_256_S512x256 (extractStridedSlice S512x256 ![0, o] XC hs) W BX) (extractStridedSlice S512x256 ![0, o] XC hs))

variable (XC : FVec F S512x1024 .f32) (SP : FVec F S1x1024 .f32) (W : Vec F S1x256x512 .bf16) (BA BX : Vec F S1x256 .f32)

theorem words_a0 : k0_pay23 (k0_pay20 rowIds SP (k0_pay11 XC W BA) (Scalar.ofBits .f32 0xC1000000#32)) (k0_pay22 rowIds SP (k0_pay11 XC W BA) (Scalar.ofBits .f32 0xC1000000#32))
    = blockA 0 slices_S512x1024_o0_0_S512x256 slices_S1x1024_o0_0_S1x256 XC SP W BA := rfl

theorem words_a1 : k0_pay39 rowIds (k0_pay36 rowIds SP (k0_pay27 XC W BA)) k0_pay37
    = blockA 256 slices_S512x1024_o0_256_S512x256 slices_S1x1024_o0_256_S1x256 XC SP W BA := rfl

theorem words_a2 : k0_pay58 rowIds (k0_pay51 rowIds SP (k0_pay43 XC W BA)) (k0_pay53 rowIds SP (k0_pay43 XC W BA))
    = blockA 512 slices_S512x1024_o0_512_S512x256 slices_S1x1024_o0_512_S1x256 XC SP W BA := rfl

theorem words_a3 : k0_pay73 rowIds (k0_pay68 rowIds SP (k0_pay62 XC W BA)) (k0_pay69 rowIds) (k0_pay70 rowIds SP (k0_pay62 XC W BA)) (Scalar.ofBits .f32 0x3F800000#32)
    = blockA 768 slices_S512x1024_o0_768_S512x256 slices_S1x1024_o0_768_S1x256 XC SP W BA := rfl

theorem words_b0 : k0_pay24 (k0_pay19 rowIds SP (k0_pay9 XC) (k0_pay11 XC W BA) (k0_pay12 XC W BX) (Scalar.ofBits .f32 0xC1000000#32))
      (k0_pay20 rowIds SP (k0_pay11 XC W BA) (Scalar.ofBits .f32 0xC1000000#32)) (k0_pay21 rowIds)
    = blockB 0 slices_S512x1024_o0_0_S512x256 slices_S1x1024_o0_0_S1x256 XC SP W BA BX := rfl

theorem words_b1 : k0_pay40 rowIds (k0_pay35 rowIds SP (k0_pay25 XC) (k0_pay27 XC W BA) (k0_pay28 XC W BX) (Scalar.ofBits .f32 0x3F000000#32))
      (k0_pay36 rowIds SP (k0_pay27 XC W BA)) k0_pay37
    = blockB 256 slices_S512x1024_o0_256_S512x256 slices_S1x1024_o0_256_S1x256 XC SP W BA BX := rfl

theorem words_b2 : k0_pay59 rowIds (k0_pay50 rowIds SP (k0_pay41 XC) (k0_pay43 XC W BA) (k0_pay44 XC W) (k0_pay45 BX))
      (k0_pay51 rowIds SP (k0_pay43 XC W BA)) (k0_pay52 rowIds) (k0_pay53 rowIds SP (k0_pay43 XC W BA))
      (k0_pay54 rowIds SP (k0_pay41 XC) (k0_pay43 XC W BA) (k0_pay44 XC W) (k0_pay45 BX)) k0_pay55
    = blockB 512 slices_S512x1024_o0_512_S512x256 slices_S1x1024_o0_512_S1x256 XC SP W BA BX := rfl

theorem words_b3 : k0_pay74 rowIds (k0_pay67 rowIds SP (k0_pay60 XC) (k0_pay61 XC W) (k0_pay62 XC W BA) BX)
      (k0_pay68 rowIds SP (k0_pay62 XC W BA)) (k0_pay69 rowIds) (k0_pay70 rowIds SP (k0_pay62 XC W BA)) (Scalar.ofBits .f32 0x3F800000#32)
    = blockB 768 slices_S512x1024_o0_768_S512x256 slices_S1x1024_o0_768_S1x256 XC SP W BA BX := rfl

end

/-! ## The same at an index -/

/-- A column of a block of 256, among all. -/
def col (o : Fin 4) (c : Fin 256) : Fin 1024 := ⟨256 * o.val + c.val, by omega⟩

/-- The data of the recurrence at a row and a channel: convolved input, decay rates, gate weights by block, biases. -/
structure Data where
  xc : ℕ → Fin 1024 → EReal
  sp : Fin 1024 → EReal
  w : Fin 4 → Fin 256 → Fin 512 → EReal
  ba : Fin 1024 → EReal
  bx : Fin 1024 → EReal

namespace Data
variable (D : Data)

/-- A gate: the block's convolved inputs against the weights' column, `o` past the block's own. -/
def gate (o : ℕ) (b : Fin 1024 → EReal) (n : ℕ) (c : Fin 1024) : EReal :=
  Ideal.logistic ((∑ k : Fin 256, D.xc n ⟨c.val / 256 * 256 + k.val, by omega⟩ * D.w ⟨c.val / 256, by omega⟩ k ⟨(o + c.val % 256) % 512, Nat.mod_lt _ (by decide)⟩) + b c)

/-- The decay's logarithm, -/
def log (n : ℕ) (c : Fin 1024) : EReal := Ideal.ofBits .f32 0xC1000000#32 * D.gate 0 D.ba n c * D.sp c

/-- the decay, -/
def fa (n : ℕ) (c : Fin 1024) : EReal := Ideal.exp (D.log n c)

/-- and what enters the state. -/
def fb (n : ℕ) (c : Fin 1024) : EReal :=
  Ideal.sqrt (-Ideal.tanh (D.log n c) * (1 + Ideal.exp (D.log n c) * Ideal.exp (D.log n c))) * (D.gate 256 D.bx n c * D.xc n c)

/-- The state after `n` rows from the state `h`. -/
def state (h : Fin 1024 → EReal) : ℕ → Fin 1024 → EReal
  | 0 => h
  | n + 1 => fun c => D.fb n c + D.fa n c * state h n c

/-- A row's factor over its group of eight, and its offset. -/
def groupA (r : ℕ) (c : Fin 1024) : EReal := up 4 (up 2 (up 1 fun j => D.fa (r / 8 * 8 + j) c)) (r % 8)

def groupB (r : ℕ) (c : Fin 1024) : EReal :=
  upOff 4 (up 2 (up 1 fun j => D.fa (r / 8 * 8 + j) c)) (upOff 2 (up 1 fun j => D.fa (r / 8 * 8 + j) c) (upOff 1 (fun j => D.fa (r / 8 * 8 + j) c) fun j => D.fb (r / 8 * 8 + j) c)) (r % 8)

theorem log_le (hsp : ∀ c, 0 ≤ D.sp c) (n : ℕ) (c : Fin 1024) : D.log n c ≤ 0 := by
  have h8 : Ideal.ofBits .f32 0xC1000000#32 ≤ 0 := by
    have e : Ideal.ofBits .f32 0xC1000000#32 = ((-8 : ℝ) : EReal) := by
      simp [Ideal.ofBits, Ideal.ieee, -EReal.coe_mul]; norm_num
    rw [e]; exact_mod_cast (by norm_num : (-8 : ℝ) ≤ 0)
  exact EReal.mul_nonpos_iff.mpr (.inr ⟨EReal.mul_nonpos_iff.mpr (.inr ⟨h8, Cert.Scalars.logistic_nonneg _⟩), hsp c⟩)

/-- A row's state from its group's first. -/
theorem group (hsp : ∀ c, 0 ≤ D.sp c) (h : Fin 1024 → EReal) (r : ℕ) (c : Fin 1024) :
    D.groupB r c + D.groupA r c * D.state h (r / 8 * 8) c = D.state h (r + 1) c := by
  have := eight (A := fun j => D.fa (r / 8 * 8 + j) c) (B := fun j => D.fb (r / 8 * 8 + j) c) (h := fun j => D.state h (r / 8 * 8 + j) c)
    (fun j hj => ⟨Cert.Scalars.exp_nonneg _, Cert.Scalars.exp_ne_top (D.log_le hsp _ _), rfl⟩) (r % 8) (Nat.mod_lt _ (by decide))
  refine this.trans (congrArg (fun n => D.state h n c) ?_)
  show r / 8 * 8 + (r % 8 + 1) = r + 1
  omega

end Data

section
variable (D : Data) (o : Fin 4) (hs : S512x1024.Slices ![0, 256 * o.val] S512x256) (hp : S1x1024.Slices ![0, 256 * o.val] S1x256)
  (XC : FVec Ideal S512x1024 .f32) (SP : FVec Ideal S1x1024 .f32) (W : Vec Ideal S1x256x512 .bf16) (BA BX : Vec Ideal S1x256 .f32)
  (hx : ∀ (r : Fin 512) c, XC (ix2 r c) = D.xc r.val c) (hsp : ∀ c, SP (ix2 0 c) = D.sp c) (hw : ∀ k j, W (ix3 0 k j) = D.w o k j)
  (hba : ∀ c : Fin 256, BA (ix2 0 c) = D.ba (col o c)) (hbx : ∀ c : Fin 256, BX (ix2 0 c) = D.bx (col o c))
include hx

/-- The block of a vector's columns, at an index. -/
theorem slice_apply (r : Fin 512) (c : Fin 256) :
    extractStridedSlice S512x256 ![0, 256 * o.val] XC hs (ix2 r c) = D.xc r.val (col o c) := by
  refine Eq.trans ?_ (hx r _)
  pointwise
  rfl

theorem block_gate (g : ℕ) (hg : g + 256 ≤ 512) (ho) (b : Vec Ideal S1x256 .f32) (f : Fin 1024 → EReal)
    (hw : ∀ k j, W (ix3 0 k j) = D.w o k j) (hb : ∀ c : Fin 256, b (ix2 0 c) = f (col o c)) (r : Fin 512) (c : Fin 256) :
    gateCol (F := Ideal) g ho (extractStridedSlice S512x256 ![0, 256 * o.val] XC hs) W b (ix2 r c) = D.gate g f r.val (col o c) := by
  refine (gateCol_apply g ho _ W b r c (by omega)).trans ?_
  unfold Data.gate
  rw [hb]
  refine congrArg (fun s => Ideal.logistic (s + _)) (Finset.sum_congr rfl fun k _ => ?_)
  rw [slice_apply D o hs XC hx, hw]
  have e1 : (256 * o.val + c.val) / 256 = o.val := by omega
  have e2 : (g + (256 * o.val + c.val) % 256) % 512 = g + c.val := by omega
  show D.xc r.val (col o k) * _ = D.xc r.val ⟨(256 * o.val + c.val) / 256 * 256 + k.val, _⟩ * D.w ⟨(256 * o.val + c.val) / 256, _⟩ k ⟨(g + (256 * o.val + c.val) % 256) % 512, _⟩
  refine congr (congrArg HMul.hMul (congrArg (D.xc r.val) (Fin.ext ?_))) (congr (congr (congrArg D.w (Fin.ext ?_)) rfl) (Fin.ext ?_))
  · show 256 * o.val + k.val = (256 * o.val + c.val) / 256 * 256 + k.val
    omega
  · exact e1.symm
  · exact e2.symm

include hsp hw hba

theorem blockLog_apply (r : Fin 512) (c : Fin 256) :
    blockLog (F := Ideal) (256 * o.val) hs hp XC SP W BA (ix2 r c) = D.log r.val (col o c) := by
  unfold blockLog Data.log
  rw [logCol_apply, block_gate D o hs XC W hx 0 (by decide) _ _ D.ba hw hba, ← hsp]
  refine congrArg (HMul.hMul _) ?_
  pointwise
  rfl

/-- The factors stored, at an index; -/
theorem blockA_apply (r : Fin 512) (c : Fin 256) :
    blockA (F := Ideal) (256 * o.val) hs hp XC SP W BA (ix2 r c) = D.groupA r.val (col o c) := by
  unfold blockA Data.groupA
  refine factors_apply _ _ r c fun j => ?_
  show Ideal.exp _ = _
  rw [blockLog_apply D o hs hp XC SP W BA hx hsp hw hba]
  rfl

include hbx

/-- and the offsets. -/
theorem blockB_apply (r : Fin 512) (c : Fin 256) :
    blockB (F := Ideal) (256 * o.val) hs hp XC SP W BA BX (ix2 r c) = D.groupB r.val (col o c) := by
  unfold blockB Data.groupB
  refine offsets_apply _ _ _ _ r c (fun j => ?_) fun j => ?_
  · show Ideal.exp _ = _
    rw [blockLog_apply D o hs hp XC SP W BA hx hsp hw hba]
    rfl
  · rw [inCol_apply, blockLog_apply D o hs hp XC SP W BA hx hsp hw hba, block_gate D o hs XC W hx 256 (by decide) _ _ D.bx hw hbx, slice_apply D o hs XC hx]
    rfl

end

end Cert.Calls.Rglru
-- ==== Proof.RglruLeave.lean ====
/-
  One chunk of 512 rows of the gated recurrence: what the body leaves in its output, in the rows it carries and in the
  state it carries, read at an index, from what it finds.
-/
module

public import proofs.«01_k».proof.Proof.RglruChunk
public import proofs.«01_k».proof.Proof.RglruCols
public import proofs.«01_k».proof.Proof.RglruFrame
public import Idealize.ShloMosaic.Lib.VecWindow

@[expose] public section

set_option maxRecDepth 16384

noncomputable section

namespace Cert.Calls.Rglru

open Cert.KernelIdeal Cert.KernelIdeal.Gen
open Idealize.ShloMosaic Idealize.ShloMosaic.TcCoe Idealize.SL.Sem Idealize.ShloMosaic.Tactic
open Cert.Calls.Gmlp (gelu)

/-! ## What the body's loads and words read at an index -/

/-- The softplus the body computes. -/
def soft (x : EReal) : EReal := max (0 - x) 0 + Ideal.log1p (Ideal.exp (0 - max (0 - x) (-(0 - x))))

theorem soft_apply (v : Vec Ideal S1x1024 .f32) (c : Fin 1024) : k0_pay8 (F := Ideal) v (ix2 0 c) = soft (v (ix2 0 c)) := by
  pointwise [k0_pay8]
  rfl

theorem conv_apply (v4 : Vec Ideal S512x1024 .bf16) (v9 : Vec Ideal S4x1024 .f32) (v14 v19 v24 : Vec Ideal S512x1024 .f32) (v28 : Vec Ideal S1x1024 .f32) (r : Fin 512) (c : Fin 1024) :
    k0_pay6 (F := Ideal) v4 v9 v14 v19 v24 v28 (ix2 r c)
      = v9 (ix2 3 c) * v4 (ix2 r c) + v9 (ix2 2 c) * v14 (ix2 r c) + v9 (ix2 1 c) * v19 (ix2 r c) + v9 (ix2 0 c) * v24 (ix2 r c) + v28 (ix2 0 c) := by
  pointwise [k0_pay6, k0_pay4]

theorem rows_apply (v : Vec Ideal S512x1024 .bf16) (r : Fin 512) (c : Fin 1024) : k0_pay5 (F := Ideal) v (ix2 r c) = v (ix2 r c) := by
  pointwise [k0_pay5, k0_pay4]

theorem tail_apply (v : Vec Ideal S512x1024 .bf16) (r : Fin 8) (c : Fin 1024) : k0_pay7 (F := Ideal) v (ix2 r c) = v (ix2 ⟨504 + r.val, by omega⟩ c) := by
  pointwise [k0_pay7, k0_pay4]

theorem none_before (r : Fin 8) (c : Fin 1024) : k0_pay2 (F := Ideal) (ix2 r c) = 0 := by
  pointwise [k0_pay2]

theorem no_state (r : Fin 8) (c : Fin 1024) : k0_pay3 (F := Ideal) (ix2 r c) = 0 := by
  pointwise [k0_pay3]

theorem state_apply (v : Vec Ideal S1x1024 .f32) (r : Fin 8) (c : Fin 1024) : k0_pay1 (F := Ideal) (k0_pay79 v) (ix2 r c) = v (ix2 0 c) := by
  pointwise [k0_pay1, k0_pay79]

/-- A load of a whole buffer is its contents. -/
theorem load_whole {S : Shape} {e : EltTy} (a : Memref sig .tc .vmem S e) (h : a.IsWhole) (x : Vec Ideal S e) {off : Fin S.rank → ℕ} (z : off = fun _ => 0) (inb) :
    View.readAt (Elt Ideal) a.view (Rect.unit (s := S) off S.size inb).toLoadRect (h.unread x) = x := by
  rw [View.readAt_eq_ld, h.read_unread]
  exact View.ld_unit_zero (S := S) z inb x

/-- A load of 256 channels of a row, and of one block's gate weights. -/
theorem load_bias (a : Memref sig .tc .vmem S1x1024 .f32) (h : a.IsWhole) (x : Vec Ideal S1x1024 .f32) (o : Fin 4) (off : Fin 2 → ℕ) (ho : off = ![0, 256 * o.val]) (inb) (c : Fin 256) :
    (show Vec Ideal S1x256 .f32 from View.readAt (Elt Ideal) a.view (Rect.unit (s := S1x1024) off S1x256.size inb).toLoadRect (h.unread x)) (ix2 0 c) = x (ix2 0 (col o c)) := by
  subst ho
  rw [View.readAt_eq_ld, h.read_unread]
  show x _ = x _
  refine congrArg _ (funext fun a => Fin.ext ?_)
  match a with
  | ⟨0, _⟩ => rfl
  | ⟨1, _⟩ => show 256 * o.val + 1 * c.val = 256 * o.val + c.val; omega

theorem load_weights (a : Memref sig .tc .vmem S4x256x512 .bf16) (h : a.IsWhole) (x : Vec Ideal S4x256x512 .bf16) (o : Fin 4) (off : Fin 3 → ℕ) (ho : off = ![o.val, 0, 0]) (inb) (k : Fin 256) (j : Fin 512) :
    (show Vec Ideal S1x256x512 .bf16 from View.readAt (Elt Ideal) a.view (Rect.unit (s := S4x256x512) off S1x256x512.size inb).toLoadRect (h.unread x)) (ix3 0 k j) = x (ix3 o k j) := by
  subst ho
  rw [View.readAt_eq_ld, h.read_unread]
  show x _ = x _
  refine congrArg _ (funext fun a => Fin.ext ?_)
  match a with
  | ⟨0, _⟩ => show o.val + 1 * 0 = o.val; omega
  | ⟨1, _⟩ => show 0 + 1 * k.val = k.val; omega
  | ⟨2, _⟩ => show 0 + 1 * j.val = j.val; omega

/-- A load of 512 rows from the rows kept, `o` in. -/
theorem load_rows (v : View sig .tc .vmem S520x1024 .f32) (X : BufTy.Contents (Elt Ideal) v.ty) (E : ℕ → Fin 1024 → EReal)
    (hE : ∀ (r : Fin 520) c, v.read (Elt Ideal) X (ix2 r c) = E r.val c) (o : ℕ) (off : Fin 2 → ℕ) (ho : off = ![o, 0]) (hb : o ≤ 8) (inb) (r : Fin 512) (c : Fin 1024) :
    (show Vec Ideal S512x1024 .f32 from View.readAt (Elt Ideal) v (Rect.unit (s := S520x1024) off S512x1024.size inb).toLoadRect X) (ix2 r c) = E (o + r.val) c := by
  subst ho
  refine Eq.trans ?_ (hE ⟨o + r.val, by omega⟩ c)
  rw [View.readAt_eq_ld]
  show v.read (Elt Ideal) X _ = v.read (Elt Ideal) X _
  refine congrArg _ (funext fun a => Fin.ext ?_)
  match a with
  | ⟨0, _⟩ => show o + 1 * r.val = o + r.val; omega
  | ⟨1, _⟩ => show 0 + 1 * c.val = c.val; omega

theorem load_row (v : View sig .tc .vmem S8x1024 .f32) (X : BufTy.Contents (Elt Ideal) v.ty) (inb) (c : Fin 1024) :
    (show Vec Ideal S1x1024 .f32 from View.readAt (Elt Ideal) v (Rect.unit (s := S8x1024) ![0, 0] S1x1024.size inb).toLoadRect X) (ix2 0 c) = v.read (Elt Ideal) X (ix2 0 c) := by
  rw [View.readAt_eq_ld]
  show v.read (Elt Ideal) X _ = v.read (Elt Ideal) X _
  refine congrArg _ (funext fun a => Fin.ext ?_)
  match a with
  | ⟨0, _⟩ => rfl
  | ⟨1, _⟩ => show 0 + 1 * c.val = c.val; omega

/-- The rows kept, once the chunk's own are stored below the eight before them. -/
theorem rows_read (v : View sig .tc .vmem S520x1024 .f32) (f : BufTy.Contents (Elt Ideal) v.ty) (L : List (View.Piece (Elt Ideal) S520x1024 .f32)) (E : ℕ → Fin 1024 → EReal)
    (inb) (x : Vec Ideal S512x1024 .f32) (hx : ∀ (r : Fin 512) c, x (ix2 r c) = E (8 + r.val) c)
    (hl : ∀ (r : Fin 8) c, v.read (Elt Ideal) (v.writes (Elt Ideal) f L) (ix2 ⟨r.val, by omega⟩ c) = E r.val c) (r : Fin 520) (c : Fin 1024) :
    v.read (Elt Ideal) (v.writes (Elt Ideal) f (⟨Rect.unit (s := S520x1024) ![8, 0] S512x1024.size inb, x⟩ :: L)) (ix2 r c) = E r.val c := by
  by_cases h : r.val < 8
  · refine (View.read_writes_apply_of_forall_not_mem (v := v) (f := v.writes (Elt Ideal) f L) (ix2 r c) [_] ?_).trans (hl ⟨r.val, h⟩ c)
    intro p hp
    obtain rfl := List.mem_singleton.mp hp
    intro hm
    have hm' : (ix2 r c : S520x1024.Idx) ∈ (Rect.unit (s := S520x1024) ![8, 0] S512x1024.size inb).set := hm
    have h' : 8 ≤ r.val := (Rect.mem_set_unit.mp hm' 0).1
    omega
  · have e : (ix2 r c : S520x1024.Idx) = (Rect.unit (s := S520x1024) ![8, 0] S512x1024.size inb).emb (ix2 ⟨r.val - 8, by omega⟩ c) := by
      refine funext fun a => Fin.ext ?_
      match a with
      | ⟨0, _⟩ => show r.val = 8 + 1 * (r.val - 8); omega
      | ⟨1, _⟩ => show c.val = 0 + 1 * c.val; omega
    rw [e, View.read_writes_cons_emb]
    refine (hx ⟨r.val - 8, by omega⟩ c).trans (congrArg (E · c) ?_)
    show 8 + (r.val - 8) = r.val
    omega

/-- The four blocks of factors stored, at an index. -/
theorem canonA (D : Data) (XC : FVec Ideal S512x1024 .f32) (SP : FVec Ideal S1x1024 .f32) (W0 W1 W2 W3 : Vec Ideal S1x256x512 .bf16) (BA0 BA1 BA2 BA3 : Vec Ideal S1x256 .f32)
    (hx : ∀ (r : Fin 512) c, XC (ix2 r c) = D.xc r.val c) (hsp : ∀ c, SP (ix2 0 c) = D.sp c)
    (hw0 : ∀ i j, W0 (ix3 0 i j) = D.w 0 i j) (ha0 : ∀ c : Fin 256, BA0 (ix2 0 c) = D.ba (col 0 c)) (hw1 : ∀ i j, W1 (ix3 0 i j) = D.w 1 i j) (ha1 : ∀ c : Fin 256, BA1 (ix2 0 c) = D.ba (col 1 c)) (hw2 : ∀ i j, W2 (ix3 0 i j) = D.w 2 i j) (ha2 : ∀ c : Fin 256, BA2 (ix2 0 c) = D.ba (col 2 c)) (hw3 : ∀ i j, W3 (ix3 0 i j) = D.w 3 i j) (ha3 : ∀ c : Fin 256, BA3 (ix2 0 c) = D.ba (col 3 c)) (r : Fin 512) (c : Fin 1024) :
    View.canon ([⟨Rect.unit (s := S512x1024) ![0, 768] S512x256.size inb_S512x1024_S512x256_0_768, k0_pay73 (iota .tc S64x8x256 32 [1] iota_S64x8x256_d1_w32) (k0_pay68 (iota .tc S64x8x256 32 [1] iota_S64x8x256_d1_w32) SP (k0_pay62 XC W3 BA3)) (k0_pay69 (iota .tc S64x8x256 32 [1] iota_S64x8x256_d1_w32)) (k0_pay70 (iota .tc S64x8x256 32 [1] iota_S64x8x256_d1_w32) SP (k0_pay62 XC W3 BA3)) (Scalar.ofBits .f32 0x3F800000#32)⟩,
        ⟨Rect.unit (s := S512x1024) ![0, 512] S512x256.size inb_S512x1024_S512x256_0_512, k0_pay58 (iota .tc S64x8x256 32 [1] iota_S64x8x256_d1_w32) (k0_pay51 (iota .tc S64x8x256 32 [1] iota_S64x8x256_d1_w32) SP (k0_pay43 XC W2 BA2)) (k0_pay53 (iota .tc S64x8x256 32 [1] iota_S64x8x256_d1_w32) SP (k0_pay43 XC W2 BA2))⟩,
        ⟨Rect.unit (s := S512x1024) ![0, 256] S512x256.size inb_S512x1024_S512x256_0_256, k0_pay39 (iota .tc S64x8x256 32 [1] iota_S64x8x256_d1_w32) (k0_pay36 (iota .tc S64x8x256 32 [1] iota_S64x8x256_d1_w32) SP (k0_pay27 XC W1 BA1)) k0_pay37⟩,
        ⟨Rect.unit (s := S512x1024) ![0, 0] S512x256.size inb_S512x1024_S512x256_0_0, k0_pay23 (k0_pay20 (iota .tc S64x8x256 32 [1] iota_S64x8x256_d1_w32) SP (k0_pay11 XC W0 BA0) (Scalar.ofBits .f32 0xC1000000#32)) (k0_pay22 (iota .tc S64x8x256 32 [1] iota_S64x8x256_d1_w32) SP (k0_pay11 XC W0 BA0) (Scalar.ofBits .f32 0xC1000000#32))⟩] : List (View.Piece (Elt Ideal) S512x1024 .f32)) (ix2 r c) = D.groupA r.val c := by
  refine View.canon_apply_of_pieces (Val := Elt Ideal) (S := S512x1024) (e := .f32) (fun y => D.groupA (y 0).val (y 1)) _ ?_ (ix2 r c) ?cover
  case cover => exact View.cover_of_tiledL (s := S512x1024) _ S512x256.size (by sl_kernel_rfl) _
  refine List.forall_mem_cons.mpr ⟨fun x => ?_, ?_⟩
  · obtain ⟨i, q, rfl⟩ : ∃ (i : Fin 512) (q : Fin 256), x = ix2 i q := ⟨x 0, x 1, funext fun a => match a with | ⟨0, _⟩ => rfl | ⟨1, _⟩ => rfl⟩
    refine (congrFun (words_a3 XC SP W3 BA3) (ix2 i q)).trans ((blockA_apply D 3 _ _ XC SP W3 BA3 hx hsp hw3 ha3 i q).trans ?_)
    refine congr (congrArg D.groupA ?_) (Fin.ext ?_)
    · show i.val = 0 + 1 * i.val; omega
    · show 256 * 3 + q.val = 768 + 1 * q.val; omega
  refine List.forall_mem_cons.mpr ⟨fun x => ?_, ?_⟩
  · obtain ⟨i, q, rfl⟩ : ∃ (i : Fin 512) (q : Fin 256), x = ix2 i q := ⟨x 0, x 1, funext fun a => match a with | ⟨0, _⟩ => rfl | ⟨1, _⟩ => rfl⟩
    refine (congrFun (words_a2 XC SP W2 BA2) (ix2 i q)).trans ((blockA_apply D 2 _ _ XC SP W2 BA2 hx hsp hw2 ha2 i q).trans ?_)
    refine congr (congrArg D.groupA ?_) (Fin.ext ?_)
    · show i.val = 0 + 1 * i.val; omega
    · show 256 * 2 + q.val = 512 + 1 * q.val; omega
  refine List.forall_mem_cons.mpr ⟨fun x => ?_, ?_⟩
  · obtain ⟨i, q, rfl⟩ : ∃ (i : Fin 512) (q : Fin 256), x = ix2 i q := ⟨x 0, x 1, funext fun a => match a with | ⟨0, _⟩ => rfl | ⟨1, _⟩ => rfl⟩
    refine (congrFun (words_a1 XC SP W1 BA1) (ix2 i q)).trans ((blockA_apply D 1 _ _ XC SP W1 BA1 hx hsp hw1 ha1 i q).trans ?_)
    refine congr (congrArg D.groupA ?_) (Fin.ext ?_)
    · show i.val = 0 + 1 * i.val; omega
    · show 256 * 1 + q.val = 256 + 1 * q.val; omega
  refine List.forall_mem_cons.mpr ⟨fun x => ?_, ?_⟩
  · obtain ⟨i, q, rfl⟩ : ∃ (i : Fin 512) (q : Fin 256), x = ix2 i q := ⟨x 0, x 1, funext fun a => match a with | ⟨0, _⟩ => rfl | ⟨1, _⟩ => rfl⟩
    refine (congrFun (words_a0 XC SP W0 BA0) (ix2 i q)).trans ((blockA_apply D 0 _ _ XC SP W0 BA0 hx hsp hw0 ha0 i q).trans ?_)
    refine congr (congrArg D.groupA ?_) (Fin.ext ?_)
    · show i.val = 0 + 1 * i.val; omega
    · show 256 * 0 + q.val = 0 + 1 * q.val; omega
  exact List.forall_mem_nil _

/-- The four blocks of offsets stored, at an index. -/
theorem canonB (D : Data) (XC : FVec Ideal S512x1024 .f32) (SP : FVec Ideal S1x1024 .f32) (W0 W1 W2 W3 : Vec Ideal S1x256x512 .bf16) (BA0 BA1 BA2 BA3 BX0 BX1 BX2 BX3 : Vec Ideal S1x256 .f32)
    (hx : ∀ (r : Fin 512) c, XC (ix2 r c) = D.xc r.val c) (hsp : ∀ c, SP (ix2 0 c) = D.sp c)
    (hw0 : ∀ i j, W0 (ix3 0 i j) = D.w 0 i j) (ha0 : ∀ c : Fin 256, BA0 (ix2 0 c) = D.ba (col 0 c)) (hb0 : ∀ c : Fin 256, BX0 (ix2 0 c) = D.bx (col 0 c)) (hw1 : ∀ i j, W1 (ix3 0 i j) = D.w 1 i j) (ha1 : ∀ c : Fin 256, BA1 (ix2 0 c) = D.ba (col 1 c)) (hb1 : ∀ c : Fin 256, BX1 (ix2 0 c) = D.bx (col 1 c)) (hw2 : ∀ i j, W2 (ix3 0 i j) = D.w 2 i j) (ha2 : ∀ c : Fin 256, BA2 (ix2 0 c) = D.ba (col 2 c)) (hb2 : ∀ c : Fin 256, BX2 (ix2 0 c) = D.bx (col 2 c)) (hw3 : ∀ i j, W3 (ix3 0 i j) = D.w 3 i j) (ha3 : ∀ c : Fin 256, BA3 (ix2 0 c) = D.ba (col 3 c)) (hb3 : ∀ c : Fin 256, BX3 (ix2 0 c) = D.bx (col 3 c)) (r : Fin 512) (c : Fin 1024) :
    View.canon ([⟨Rect.unit (s := S512x1024) ![0, 768] S512x256.size inb_S512x1024_S512x256_0_768, k0_pay74 (iota .tc S64x8x256 32 [1] iota_S64x8x256_d1_w32) (k0_pay67 (iota .tc S64x8x256 32 [1] iota_S64x8x256_d1_w32) SP (k0_pay60 XC) (k0_pay61 XC W3) (k0_pay62 XC W3 BA3) BX3) (k0_pay68 (iota .tc S64x8x256 32 [1] iota_S64x8x256_d1_w32) SP (k0_pay62 XC W3 BA3)) (k0_pay69 (iota .tc S64x8x256 32 [1] iota_S64x8x256_d1_w32)) (k0_pay70 (iota .tc S64x8x256 32 [1] iota_S64x8x256_d1_w32) SP (k0_pay62 XC W3 BA3)) (Scalar.ofBits .f32 0x3F800000#32)⟩,
        ⟨Rect.unit (s := S512x1024) ![0, 512] S512x256.size inb_S512x1024_S512x256_0_512, k0_pay59 (iota .tc S64x8x256 32 [1] iota_S64x8x256_d1_w32) (k0_pay50 (iota .tc S64x8x256 32 [1] iota_S64x8x256_d1_w32) SP (k0_pay41 XC) (k0_pay43 XC W2 BA2) (k0_pay44 XC W2) (k0_pay45 BX2)) (k0_pay51 (iota .tc S64x8x256 32 [1] iota_S64x8x256_d1_w32) SP (k0_pay43 XC W2 BA2)) (k0_pay52 (iota .tc S64x8x256 32 [1] iota_S64x8x256_d1_w32)) (k0_pay53 (iota .tc S64x8x256 32 [1] iota_S64x8x256_d1_w32) SP (k0_pay43 XC W2 BA2)) (k0_pay54 (iota .tc S64x8x256 32 [1] iota_S64x8x256_d1_w32) SP (k0_pay41 XC) (k0_pay43 XC W2 BA2) (k0_pay44 XC W2) (k0_pay45 BX2)) k0_pay55⟩,
        ⟨Rect.unit (s := S512x1024) ![0, 256] S512x256.size inb_S512x1024_S512x256_0_256, k0_pay40 (iota .tc S64x8x256 32 [1] iota_S64x8x256_d1_w32) (k0_pay35 (iota .tc S64x8x256 32 [1] iota_S64x8x256_d1_w32) SP (k0_pay25 XC) (k0_pay27 XC W1 BA1) (k0_pay28 XC W1 BX1) (Scalar.ofBits .f32 0x3F000000#32)) (k0_pay36 (iota .tc S64x8x256 32 [1] iota_S64x8x256_d1_w32) SP (k0_pay27 XC W1 BA1)) k0_pay37⟩,
        ⟨Rect.unit (s := S512x1024) ![0, 0] S512x256.size inb_S512x1024_S512x256_0_0, k0_pay24 (k0_pay19 (iota .tc S64x8x256 32 [1] iota_S64x8x256_d1_w32) SP (k0_pay9 XC) (k0_pay11 XC W0 BA0) (k0_pay12 XC W0 BX0) (Scalar.ofBits .f32 0xC1000000#32)) (k0_pay20 (iota .tc S64x8x256 32 [1] iota_S64x8x256_d1_w32) SP (k0_pay11 XC W0 BA0) (Scalar.ofBits .f32 0xC1000000#32)) (k0_pay21 (iota .tc S64x8x256 32 [1] iota_S64x8x256_d1_w32))⟩] : List (View.Piece (Elt Ideal) S512x1024 .f32)) (ix2 r c) = D.groupB r.val c := by
  refine View.canon_apply_of_pieces (Val := Elt Ideal) (S := S512x1024) (e := .f32) (fun y => D.groupB (y 0).val (y 1)) _ ?_ (ix2 r c) ?cover
  case cover => exact View.cover_of_tiledL (s := S512x1024) _ S512x256.size (by sl_kernel_rfl) _
  refine List.forall_mem_cons.mpr ⟨fun x => ?_, ?_⟩
  · obtain ⟨i, q, rfl⟩ : ∃ (i : Fin 512) (q : Fin 256), x = ix2 i q := ⟨x 0, x 1, funext fun a => match a with | ⟨0, _⟩ => rfl | ⟨1, _⟩ => rfl⟩
    refine (congrFun (words_b3 XC SP W3 BA3 BX3) (ix2 i q)).trans ((blockB_apply D 3 _ _ XC SP W3 BA3 BX3 hx hsp hw3 ha3 hb3 i q).trans ?_)
    refine congr (congrArg D.groupB ?_) (Fin.ext ?_)
    · show i.val = 0 + 1 * i.val; omega
    · show 256 * 3 + q.val = 768 + 1 * q.val; omega
  refine List.forall_mem_cons.mpr ⟨fun x => ?_, ?_⟩
  · obtain ⟨i, q, rfl⟩ : ∃ (i : Fin 512) (q : Fin 256), x = ix2 i q := ⟨x 0, x 1, funext fun a => match a with | ⟨0, _⟩ => rfl | ⟨1, _⟩ => rfl⟩
    refine (congrFun (words_b2 XC SP W2 BA2 BX2) (ix2 i q)).trans ((blockB_apply D 2 _ _ XC SP W2 BA2 BX2 hx hsp hw2 ha2 hb2 i q).trans ?_)
    refine congr (congrArg D.groupB ?_) (Fin.ext ?_)
    · show i.val = 0 + 1 * i.val; omega
    · show 256 * 2 + q.val = 512 + 1 * q.val; omega
  refine List.forall_mem_cons.mpr ⟨fun x => ?_, ?_⟩
  · obtain ⟨i, q, rfl⟩ : ∃ (i : Fin 512) (q : Fin 256), x = ix2 i q := ⟨x 0, x 1, funext fun a => match a with | ⟨0, _⟩ => rfl | ⟨1, _⟩ => rfl⟩
    refine (congrFun (words_b1 XC SP W1 BA1 BX1) (ix2 i q)).trans ((blockB_apply D 1 _ _ XC SP W1 BA1 BX1 hx hsp hw1 ha1 hb1 i q).trans ?_)
    refine congr (congrArg D.groupB ?_) (Fin.ext ?_)
    · show i.val = 0 + 1 * i.val; omega
    · show 256 * 1 + q.val = 256 + 1 * q.val; omega
  refine List.forall_mem_cons.mpr ⟨fun x => ?_, ?_⟩
  · obtain ⟨i, q, rfl⟩ : ∃ (i : Fin 512) (q : Fin 256), x = ix2 i q := ⟨x 0, x 1, funext fun a => match a with | ⟨0, _⟩ => rfl | ⟨1, _⟩ => rfl⟩
    refine (congrFun (words_b0 XC SP W0 BA0 BX0) (ix2 i q)).trans ((blockB_apply D 0 _ _ XC SP W0 BA0 BX0 hx hsp hw0 ha0 hb0 i q).trans ?_)
    refine congr (congrArg D.groupB ?_) (Fin.ext ?_)
    · show i.val = 0 + 1 * i.val; omega
    · show 256 * 0 + q.val = 0 + 1 * q.val; omega
  exact List.forall_mem_nil _

/-! ## A chunk -/

/-- The chunk's data are the recurrence's: `E` gives the rows, the eight before the chunk's first, then the chunk's own. -/
structure Reads (D : Data) (E : ℕ → Fin 1024 → EReal) (x0 : Vec Ideal S512x1024 .bf16) (x2 : Vec Ideal S4x1024 .f32) (x3 : Vec Ideal S1x1024 .f32) (x4 : Vec Ideal S4x256x512 .bf16) (x5 x6 x7 : Vec Ideal S1x1024 .f32) : Prop where
  rows : ∀ (r : Fin 512) c, x0 (ix2 r c) = E (8 + r.val) c
  conv : ∀ (r : Fin 512) c, x2 (ix2 3 c) * E (8 + r.val) c + x2 (ix2 2 c) * E (7 + r.val) c + x2 (ix2 1 c) * E (6 + r.val) c + x2 (ix2 0 c) * E (5 + r.val) c + x3 (ix2 0 c) = D.xc r.val c
  rate : ∀ c, soft (x7 (ix2 0 c)) = D.sp c
  rate_nonneg : ∀ c, 0 ≤ D.sp c
  weights : ∀ o k j, x4 (ix3 o k j) = D.w o k j
  ba : ∀ c, x5 (ix2 0 c) = D.ba c
  bx : ∀ c, x6 (ix2 0 c) = D.bx c

/-- The convolved input, from what is loaded. -/
theorem conv_reads {D : Data} {E : ℕ → Fin 1024 → EReal} {x0 : Vec Ideal S512x1024 .bf16} {x2 : Vec Ideal S4x1024 .f32} {x3 : Vec Ideal S1x1024 .f32} {x4 : Vec Ideal S4x256x512 .bf16} {x5 x6 x7 : Vec Ideal S1x1024 .f32}
    (R : Reads D E x0 x2 x3 x4 x5 x6 x7) (v4 : Vec Ideal S512x1024 .bf16) (v9 : Vec Ideal S4x1024 .f32) (v14 v19 v24 : Vec Ideal S512x1024 .f32) (v28 : Vec Ideal S1x1024 .f32)
    (h4 : v4 = x0) (h9 : v9 = x2) (h14 : ∀ (r : Fin 512) c, v14 (ix2 r c) = E (7 + r.val) c) (h19 : ∀ (r : Fin 512) c, v19 (ix2 r c) = E (6 + r.val) c)
    (h24 : ∀ (r : Fin 512) c, v24 (ix2 r c) = E (5 + r.val) c) (h28 : v28 = x3) (r : Fin 512) (c : Fin 1024) :
    k0_pay6 (F := Ideal) v4 v9 v14 v19 v24 v28 (ix2 r c) = D.xc r.val c := by
  subst h4 h9 h28
  rw [conv_apply, h14, h19, h24, R.rows]
  exact R.conv r c

section
variable (c : Dev nD) (i : grid0.Coords) (arg2 : Memref sig .tc .vmem S512x1024 .bf16) (harg2 : arg2.IsWhole) (arg3 : Memref sig .tc .vmem S512x1024 .bf16) (harg3 : arg3.IsWhole) (arg4 : Memref sig .tc .vmem S4x1024 .f32) (harg4 : arg4.IsWhole) (arg5 : Memref sig .tc .vmem S1x1024 .f32) (harg5 : arg5.IsWhole) (arg6 : Memref sig .tc .vmem S4x256x512 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .bf16) (harg10 : arg10.IsWhole) (arg11 : Memref sig .tc .vmem S520x1024 .f32) (harg11 : arg11.IsWhole) (arg12 : Memref sig .tc .vmem S512x1024 .f32) (harg12 : arg12.IsWhole) (arg13 : Memref sig .tc .vmem S512x1024 .f32) (harg13 : arg13.IsWhole) (arg14 : Memref sig .tc .vmem S8x1024 .f32) (harg14 : arg14.IsWhole)
  (x0 x1 : Vec Ideal S512x1024 .bf16) (x2 : Vec Ideal S4x1024 .f32) (x3 : Vec Ideal S1x1024 .f32) (x4 : Vec Ideal S4x256x512 .bf16) (x5 x6 x7 : Vec Ideal S1x1024 .f32) (p0 : Vec Ideal S520x1024 .f32) (p3 : Vec Ideal S8x1024 .f32)
  (D : Data) (E : ℕ → Fin 1024 → EReal) (R : Reads D E x0 x2 x3 x4 x5 x6 x7)
include R

set_option maxHeartbeats 2000000 in
/-- The body's last loop, at any other chunk: what it reads, and what it leaves. -/
theorem later_form (hc : ¬Starts i) (hE : ∀ (r : Fin 8) q, p0 (ix2 ⟨r.val, by omega⟩ q) = E r.val q) :
    ∃ XA XB init, (laterRun (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 p0 p3).1 = (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 (harg3.unread x1) XA XB init k0_t1_loop.trips).2
      ∧ (∀ r q, arg12.view.read (Elt Ideal) XA (ix2 r q) = D.groupA r.val q) ∧ (∀ r q, arg13.view.read (Elt Ideal) XB (ix2 r q) = D.groupB r.val q)
      ∧ (∀ q, init (ix2 0 q) = p3 (ix2 0 q))
      ∧ ∀ r q, View.canon (laterRun (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 p0 p3).2.2.1 (ix2 r q) = (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 (harg3.unread x1) XA XB init k0_t1_loop.trips).1 (ix2 0 q) := by
  have z : (![0, 0] : Fin 2 → ℕ) = fun _ => 0 := funext fun a => match a with | ⟨0, _⟩ => rfl | ⟨1, _⟩ => rfl
  have low : ∀ (r : Fin 8) q, arg11.view.read (Elt Ideal) (arg11.view.writes (Elt Ideal) (harg11.unread p0) []) (ix2 ⟨r.val, by omega⟩ q) = E r.val q := fun r q => (congrFun (harg11.read_unread p0) _).trans (hE r q)
  have keep : ∀ (r : Fin 520) q, arg11.view.read (Elt Ideal) (arg11.view.writes (Elt Ideal) (harg11.unread p0) (⟨Rect.unit (s := S520x1024) ![8, 0] S512x1024.size inb_S520x1024_S512x1024_8_0, k0_pay5 (View.readAt (Elt Ideal) arg2.view (Rect.unit (s := S512x1024) ![0, 0] S512x1024.size inb_S512x1024_S512x1024_0_0).toLoadRect (harg2.unread x0))⟩ :: [])) (ix2 r q) = E r.val q :=
    fun r q => rows_read arg11.view _ _ E _ _ (fun r q => (rows_apply _ r q).trans ((congrFun (load_whole arg2 harg2 x0 z _) _).trans (R.rows r q))) low r q
  refine ⟨_, _, _, rfl, fun r q => ?_, fun r q => ?_, fun q => ?_, fun r q => ?_⟩
  · rw [View.read_writes_eq_canon _ _ _ (View.cover_of_tiledL (s := S512x1024) _ S512x256.size (by sl_kernel_rfl))]
    unfold laterRun.sl.HS1_4
    sl_unfold_words
    exact canonA D _ _ _ _ _ _ _ _ _ _ (fun r q => conv_reads R _ _ _ _ _ _ (load_whole arg2 harg2 x0 z _) (load_whole arg4 harg4 x2 z _) (fun r q => load_rows arg11.view _ E keep 7 _ rfl (by decide) _ r q) (fun r q => load_rows arg11.view _ E keep 6 _ rfl (by decide) _ r q) (fun r q => load_rows arg11.view _ E keep 5 _ rfl (by decide) _ r q) (load_whole arg5 harg5 x3 z _) r q) (fun q => (soft_apply _ q).trans ((congrArg soft (congrFun (load_whole arg9 harg9 x7 z _) _)).trans (R.rate q))) (fun a b => (load_weights arg6 harg6 x4 0 _ rfl _ a b).trans (R.weights _ _ _)) (fun q => (load_bias arg7 harg7 x5 0 _ rfl _ q).trans (R.ba _)) (fun a b => (load_weights arg6 harg6 x4 1 _ rfl _ a b).trans (R.weights _ _ _)) (fun q => (load_bias arg7 harg7 x5 1 _ rfl _ q).trans (R.ba _)) (fun a b => (load_weights arg6 harg6 x4 2 _ rfl _ a b).trans (R.weights _ _ _)) (fun q => (load_bias arg7 harg7 x5 2 _ rfl _ q).trans (R.ba _)) (fun a b => (load_weights arg6 harg6 x4 3 _ rfl _ a b).trans (R.weights _ _ _)) (fun q => (load_bias arg7 harg7 x5 3 _ rfl _ q).trans (R.ba _)) r q
  · rw [View.read_writes_eq_canon _ _ _ (View.cover_of_tiledL (s := S512x1024) _ S512x256.size (by sl_kernel_rfl))]
    unfold laterRun.sl.HS2_4
    sl_unfold_words
    exact canonB D _ _ _ _ _ _ _ _ _ _ _ _ _ _ (fun r q => conv_reads R _ _ _ _ _ _ (load_whole arg2 harg2 x0 z _) (load_whole arg4 harg4 x2 z _) (fun r q => load_rows arg11.view _ E keep 7 _ rfl (by decide) _ r q) (fun r q => load_rows arg11.view _ E keep 6 _ rfl (by decide) _ r q) (fun r q => load_rows arg11.view _ E keep 5 _ rfl (by decide) _ r q) (load_whole arg5 harg5 x3 z _) r q) (fun q => (soft_apply _ q).trans ((congrArg soft (congrFun (load_whole arg9 harg9 x7 z _) _)).trans (R.rate q))) (fun a b => (load_weights arg6 harg6 x4 0 _ rfl _ a b).trans (R.weights _ _ _)) (fun q => (load_bias arg7 harg7 x5 0 _ rfl _ q).trans (R.ba _)) (fun q => (load_bias arg8 harg8 x6 0 _ rfl _ q).trans (R.bx _)) (fun a b => (load_weights arg6 harg6 x4 1 _ rfl _ a b).trans (R.weights _ _ _)) (fun q => (load_bias arg7 harg7 x5 1 _ rfl _ q).trans (R.ba _)) (fun q => (load_bias arg8 harg8 x6 1 _ rfl _ q).trans (R.bx _)) (fun a b => (load_weights arg6 harg6 x4 2 _ rfl _ a b).trans (R.weights _ _ _)) (fun q => (load_bias arg7 harg7 x5 2 _ rfl _ q).trans (R.ba _)) (fun q => (load_bias arg8 harg8 x6 2 _ rfl _ q).trans (R.bx _)) (fun a b => (load_weights arg6 harg6 x4 3 _ rfl _ a b).trans (R.weights _ _ _)) (fun q => (load_bias arg7 harg7 x5 3 _ rfl _ q).trans (R.ba _)) (fun q => (load_bias arg8 harg8 x6 3 _ rfl _ q).trans (R.bx _)) r q
  · exact (load_row arg14.view _ _ q).trans (congrFun (harg14.read_unread p3) _)
  · unfold laterRun
    dsimp only
    rw [← View.read_writes_eq_canon arg14.view arg14.view.junk _ (View.cover_of_tiledL (s := S8x1024) _ S8x1024.size (by sl_kernel_rfl)), View.read_writes_full]
    exact state_apply _ r q

set_option maxHeartbeats 2000000 in
/-- The body's last loop, at a chunk that starts a sequence: what it reads, and what it leaves. -/
theorem first_form (hc : Starts i) (hE : ∀ (r : Fin 8) q, (0 : EReal) = E r.val q) :
    ∃ XA XB init, (firstRun (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 p0 p3).1 = (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 (harg3.unread x1) XA XB init k0_t1_loop.trips).2
      ∧ (∀ r q, arg12.view.read (Elt Ideal) XA (ix2 r q) = D.groupA r.val q) ∧ (∀ r q, arg13.view.read (Elt Ideal) XB (ix2 r q) = D.groupB r.val q)
      ∧ (∀ q, init (ix2 0 q) = 0)
      ∧ ∀ r q, View.canon (firstRun (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 p0 p3).2.2.1 (ix2 r q) = (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 (harg3.unread x1) XA XB init k0_t1_loop.trips).1 (ix2 0 q) := by
  have z : (![0, 0] : Fin 2 → ℕ) = fun _ => 0 := funext fun a => match a with | ⟨0, _⟩ => rfl | ⟨1, _⟩ => rfl
  have low : ∀ (r : Fin 8) q, arg11.view.read (Elt Ideal) (arg11.view.writes (Elt Ideal) arg11.view.junk [⟨Rect.unit (s := S520x1024) ![0, 0] S8x1024.size inb_S520x1024_S8x1024_0_0, k0_pay2 (F := Ideal)⟩]) (ix2 ⟨r.val, by omega⟩ q) = E r.val q := fun r q => by
    have e : (ix2 ⟨r.val, by omega⟩ q : S520x1024.Idx) = (Rect.unit (s := S520x1024) ![0, 0] S8x1024.size inb_S520x1024_S8x1024_0_0).emb (ix2 r q) := by
      refine funext fun a => Fin.ext ?_
      match a with
      | ⟨0, _⟩ => show r.val = 0 + 1 * r.val; omega
      | ⟨1, _⟩ => show q.val = 0 + 1 * q.val; omega
    rw [e, View.read_writes_cons_emb]
    exact (none_before r q).trans (hE r q)
  have keep : ∀ (r : Fin 520) q, arg11.view.read (Elt Ideal) (arg11.view.writes (Elt Ideal) arg11.view.junk (⟨Rect.unit (s := S520x1024) ![8, 0] S512x1024.size inb_S520x1024_S512x1024_8_0, k0_pay5 (View.readAt (Elt Ideal) arg2.view (Rect.unit (s := S512x1024) ![0, 0] S512x1024.size inb_S512x1024_S512x1024_0_0).toLoadRect (harg2.unread x0))⟩ :: [⟨Rect.unit (s := S520x1024) ![0, 0] S8x1024.size inb_S520x1024_S8x1024_0_0, k0_pay2 (F := Ideal)⟩])) (ix2 r q) = E r.val q :=
    fun r q => rows_read arg11.view _ _ E _ _ (fun r q => (rows_apply _ r q).trans ((congrFun (load_whole arg2 harg2 x0 z _) _).trans (R.rows r q))) low r q
  refine ⟨_, _, _, rfl, fun r q => ?_, fun r q => ?_, fun q => ?_, fun r q => ?_⟩
  · rw [View.read_writes_eq_canon _ _ _ (View.cover_of_tiledL (s := S512x1024) _ S512x256.size (by sl_kernel_rfl))]
    unfold firstRun.sl.HS1_4
    sl_unfold_words
    exact canonA D _ _ _ _ _ _ _ _ _ _ (fun r q => conv_reads R _ _ _ _ _ _ (load_whole arg2 harg2 x0 z _) (load_whole arg4 harg4 x2 z _) (fun r q => load_rows arg11.view _ E keep 7 _ rfl (by decide) _ r q) (fun r q => load_rows arg11.view _ E keep 6 _ rfl (by decide) _ r q) (fun r q => load_rows arg11.view _ E keep 5 _ rfl (by decide) _ r q) (load_whole arg5 harg5 x3 z _) r q) (fun q => (soft_apply _ q).trans ((congrArg soft (congrFun (load_whole arg9 harg9 x7 z _) _)).trans (R.rate q))) (fun a b => (load_weights arg6 harg6 x4 0 _ rfl _ a b).trans (R.weights _ _ _)) (fun q => (load_bias arg7 harg7 x5 0 _ rfl _ q).trans (R.ba _)) (fun a b => (load_weights arg6 harg6 x4 1 _ rfl _ a b).trans (R.weights _ _ _)) (fun q => (load_bias arg7 harg7 x5 1 _ rfl _ q).trans (R.ba _)) (fun a b => (load_weights arg6 harg6 x4 2 _ rfl _ a b).trans (R.weights _ _ _)) (fun q => (load_bias arg7 harg7 x5 2 _ rfl _ q).trans (R.ba _)) (fun a b => (load_weights arg6 harg6 x4 3 _ rfl _ a b).trans (R.weights _ _ _)) (fun q => (load_bias arg7 harg7 x5 3 _ rfl _ q).trans (R.ba _)) r q
  · rw [View.read_writes_eq_canon _ _ _ (View.cover_of_tiledL (s := S512x1024) _ S512x256.size (by sl_kernel_rfl))]
    unfold firstRun.sl.HS2_4
    sl_unfold_words
    exact canonB D _ _ _ _ _ _ _ _ _ _ _ _ _ _ (fun r q => conv_reads R _ _ _ _ _ _ (load_whole arg2 harg2 x0 z _) (load_whole arg4 harg4 x2 z _) (fun r q => load_rows arg11.view _ E keep 7 _ rfl (by decide) _ r q) (fun r q => load_rows arg11.view _ E keep 6 _ rfl (by decide) _ r q) (fun r q => load_rows arg11.view _ E keep 5 _ rfl (by decide) _ r q) (load_whole arg5 harg5 x3 z _) r q) (fun q => (soft_apply _ q).trans ((congrArg soft (congrFun (load_whole arg9 harg9 x7 z _) _)).trans (R.rate q))) (fun a b => (load_weights arg6 harg6 x4 0 _ rfl _ a b).trans (R.weights _ _ _)) (fun q => (load_bias arg7 harg7 x5 0 _ rfl _ q).trans (R.ba _)) (fun q => (load_bias arg8 harg8 x6 0 _ rfl _ q).trans (R.bx _)) (fun a b => (load_weights arg6 harg6 x4 1 _ rfl _ a b).trans (R.weights _ _ _)) (fun q => (load_bias arg7 harg7 x5 1 _ rfl _ q).trans (R.ba _)) (fun q => (load_bias arg8 harg8 x6 1 _ rfl _ q).trans (R.bx _)) (fun a b => (load_weights arg6 harg6 x4 2 _ rfl _ a b).trans (R.weights _ _ _)) (fun q => (load_bias arg7 harg7 x5 2 _ rfl _ q).trans (R.ba _)) (fun q => (load_bias arg8 harg8 x6 2 _ rfl _ q).trans (R.bx _)) (fun a b => (load_weights arg6 harg6 x4 3 _ rfl _ a b).trans (R.weights _ _ _)) (fun q => (load_bias arg7 harg7 x5 3 _ rfl _ q).trans (R.ba _)) (fun q => (load_bias arg8 harg8 x6 3 _ rfl _ q).trans (R.bx _)) r q
  · exact (load_row arg14.view _ _ q).trans ((congrFun (View.read_writes_full arg14.view _ _ _ _) _).trans (no_state 0 q))
  · unfold firstRun
    dsimp only
    rw [← View.read_writes_eq_canon arg14.view arg14.view.junk _ (View.cover_of_tiledL (s := S8x1024) _ S8x1024.size (by sl_kernel_rfl)), View.read_writes_full]
    exact state_apply _ r q

/-- The chunk's output, the last eight rows kept and the state kept. -/
theorem later_values (hc : ¬Starts i) (hE : ∀ (r : Fin 8) q, p0 (ix2 ⟨r.val, by omega⟩ q) = E r.val q) :
    (∀ r q, View.canon (laterRun (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 p0 p3).1 (ix2 r q) = D.state (fun q => p3 (ix2 0 q)) (r.val + 1) q * gelu (x1 (ix2 r q)))
      ∧ (∀ (r : Fin 8) q, View.canon (laterRun (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 p0 p3).2.1 (ix2 ⟨r.val, by omega⟩ q) = E (512 + r.val) q)
      ∧ ∀ r q, View.canon (laterRun (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 p0 p3).2.2.1 (ix2 r q) = D.state (fun q => p3 (ix2 0 q)) 512 q := by
  obtain ⟨XA, XB, init, hO, hA, hB, h0, hS⟩ := later_form c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 p0 p3 D E R hc hE
  have V := loop_values c i arg2 harg2 arg3 harg3 arg4 harg4 arg5 harg5 arg6 harg6 arg7 harg7 arg8 harg8 arg9 harg9 arg10 harg10 arg11 harg11 arg12 harg12 arg13 harg13 arg14 harg14 (harg3.unread x1) XA XB init (fun r => D.groupA r.val) (fun r => D.groupB r.val) (fun r q => x1 (ix2 r q)) (D.state (fun q => p3 (ix2 0 q)))
    hA hB (fun r q => congrFun (harg3.read_unread x1) _) (fun r q => D.group R.rate_nonneg (fun q => p3 (ix2 0 q)) r.val q) h0 k0_t1_loop.trips (Nat.le_refl _)
  refine ⟨fun r q => ?_, fun r q => ?_, fun r q => (hS r q).trans ((V.1 q).trans (congrArg (fun n => D.state (fun q => p3 (ix2 0 q)) n q) (by rw [trips_eq])))⟩
  · rw [hO]
    exact View.canon_apply_of_pieces (Val := Elt Ideal) (S := S512x1024) (e := .bf16) (fun y => D.state (fun q => p3 (ix2 0 q)) ((y 0).val + 1) (y 1) * gelu (x1 (ix2 (y 0) (y 1)))) _ V.2 (ix2 r q)
      (loop_cover c i arg2 harg2 arg3 harg3 arg4 harg4 arg5 harg5 arg6 harg6 arg7 harg7 arg8 harg8 arg9 harg9 arg10 harg10 arg11 harg11 arg12 harg12 arg13 harg13 arg14 harg14 _ _ _ _ k0_t1_loop.trips (Nat.le_refl _) (ix2 r q) (by rw [trips_eq]; exact r.isLt))
  · have z : (![0, 0] : Fin 2 → ℕ) = fun _ => 0 := funext fun a => match a with | ⟨0, _⟩ => rfl | ⟨1, _⟩ => rfl
    have e : (ix2 ⟨r.val, by omega⟩ q : S520x1024.Idx) = (Rect.unit (s := S520x1024) ![0, 0] S8x1024.size inb_S520x1024_S8x1024_0_0).emb (ix2 r q) := by
      refine funext fun a => Fin.ext ?_
      match a with
      | ⟨0, _⟩ => show r.val = 0 + 1 * r.val; omega
      | ⟨1, _⟩ => show q.val = 0 + 1 * q.val; omega
    unfold laterRun
    dsimp only
    rw [← View.read_writes_eq_canon arg11.view arg11.view.junk _ (View.cover_of_tiledBy (s := S520x1024) _ ![8, 1024] (by sl_kernel_rfl)), e]
    refine (View.read_writes_cons_emb arg11.view _ _ _ _ _).trans ((tail_apply _ r q).trans ((congrFun (load_whole arg2 harg2 x0 z _) _).trans ((R.rows _ q).trans (congrArg (E · q) ?_))))
    show 8 + (504 + r.val) = 512 + r.val
    omega

/-- The chunk's output, the last eight rows kept and the state kept. -/
theorem first_values (hc : Starts i) (hE : ∀ (r : Fin 8) q, (0 : EReal) = E r.val q) :
    (∀ r q, View.canon (firstRun (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 p0 p3).1 (ix2 r q) = D.state (fun _ => 0) (r.val + 1) q * gelu (x1 (ix2 r q)))
      ∧ (∀ (r : Fin 8) q, View.canon (firstRun (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 p0 p3).2.1 (ix2 ⟨r.val, by omega⟩ q) = E (512 + r.val) q)
      ∧ ∀ r q, View.canon (firstRun (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 p0 p3).2.2.1 (ix2 r q) = D.state (fun _ => 0) 512 q := by
  obtain ⟨XA, XB, init, hO, hA, hB, h0, hS⟩ := first_form c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 p0 p3 D E R hc hE
  have V := loop_values c i arg2 harg2 arg3 harg3 arg4 harg4 arg5 harg5 arg6 harg6 arg7 harg7 arg8 harg8 arg9 harg9 arg10 harg10 arg11 harg11 arg12 harg12 arg13 harg13 arg14 harg14 (harg3.unread x1) XA XB init (fun r => D.groupA r.val) (fun r => D.groupB r.val) (fun r q => x1 (ix2 r q)) (D.state (fun _ => 0))
    hA hB (fun r q => congrFun (harg3.read_unread x1) _) (fun r q => D.group R.rate_nonneg (fun _ => 0) r.val q) h0 k0_t1_loop.trips (Nat.le_refl _)
  refine ⟨fun r q => ?_, fun r q => ?_, fun r q => (hS r q).trans ((V.1 q).trans (congrArg (fun n => D.state (fun _ => 0) n q) (by rw [trips_eq])))⟩
  · rw [hO]
    exact View.canon_apply_of_pieces (Val := Elt Ideal) (S := S512x1024) (e := .bf16) (fun y => D.state (fun _ => 0) ((y 0).val + 1) (y 1) * gelu (x1 (ix2 (y 0) (y 1)))) _ V.2 (ix2 r q)
      (loop_cover c i arg2 harg2 arg3 harg3 arg4 harg4 arg5 harg5 arg6 harg6 arg7 harg7 arg8 harg8 arg9 harg9 arg10 harg10 arg11 harg11 arg12 harg12 arg13 harg13 arg14 harg14 _ _ _ _ k0_t1_loop.trips (Nat.le_refl _) (ix2 r q) (by rw [trips_eq]; exact r.isLt))
  · have z : (![0, 0] : Fin 2 → ℕ) = fun _ => 0 := funext fun a => match a with | ⟨0, _⟩ => rfl | ⟨1, _⟩ => rfl
    have e : (ix2 ⟨r.val, by omega⟩ q : S520x1024.Idx) = (Rect.unit (s := S520x1024) ![0, 0] S8x1024.size inb_S520x1024_S8x1024_0_0).emb (ix2 r q) := by
      refine funext fun a => Fin.ext ?_
      match a with
      | ⟨0, _⟩ => show r.val = 0 + 1 * r.val; omega
      | ⟨1, _⟩ => show q.val = 0 + 1 * q.val; omega
    unfold firstRun
    dsimp only
    rw [← View.read_writes_eq_canon arg11.view arg11.view.junk _ (View.cover_of_tiledBy (s := S520x1024) _ ![8, 1024] (by sl_kernel_rfl)), e]
    refine (View.read_writes_cons_emb arg11.view _ _ _ _ _).trans ((tail_apply _ r q).trans ((congrFun (load_whole arg2 harg2 x0 z _) _).trans ((R.rows _ q).trans (congrArg (E · q) ?_))))
    show 8 + (504 + r.val) = 512 + r.val
    omega

end

end Cert.Calls.Rglru
-- ==== Proof.RglruBlocks.lean ====
/-
  The gated recurrence: the blocks the points read, as entries of the arguments.
-/
module

public import proofs.«01_k».proof.Proof.RglruLeave
public import Idealize.ShloMosaic.Lib.Pipeline.ValueKit
public import Idealize.ShloMosaic.Lib.Pointwise

@[expose] public section

set_option maxRecDepth 16384

noncomputable section

namespace Cert.Calls.Rglru

open Cert.KernelIdeal Cert.KernelIdeal.Gen
open Idealize.ShloMosaic Idealize.ShloMosaic.TcCoe Idealize.SL.Sem

/-- The grid's windows: a point's chunk is its own number, the input's columns start at the third and fourth thousand. -/
theorem idx (t : Fin cfg0.N) : win0_0.index t = ![t.val, 2] ∧ win0_1.index t = ![t.val, 3] ∧ win0_2.index t = ![0, 0] ∧ win0_3.index t = ![0, 0]
    ∧ win0_4.index t = ![0, 0, 0] ∧ win0_5.index t = ![0, 0] ∧ win0_6.index t = ![0, 0] ∧ win0_7.index t = ![0, 0] ∧ win0_8.index t = ![t.val, 0] :=
  (by decide +kernel : ∀ t : Fin grid0.N, win0_0.index t = ![t.val, 2] ∧ win0_1.index t = ![t.val, 3] ∧ win0_2.index t = ![0, 0] ∧ win0_3.index t = ![0, 0]
    ∧ win0_4.index t = ![0, 0, 0] ∧ win0_5.index t = ![0, 0] ∧ win0_6.index t = ![0, 0] ∧ win0_7.index t = ![0, 0] ∧ win0_8.index t = ![t.val, 0]) t

section
variable {F : FTy → Type} [FloatOps F]

/-- The identity of four, as the program makes it. -/
def eye : FVec F S4x4 .f32 :=
  uitofp .f32 (cmpi .eq (addi (iotaInDim S4x4 32 0) (broadcastInDim S4x4 ![] bcast_S_S4x4 (constantI S_ 32 0#32))) (iotaInDim S4x4 32 1))

/-- Sixteen matrices of 64 by 64 as four block-diagonal ones of 256 by 256. -/
def spread (w : FVec F S16x64x64 .f32) : FVec F S4x256x256 .f32 :=
  shapeCast S4x256x256 (mulf
    (broadcastInDim S4x4x64x4x64 ![0, 1, 2, 3, 4] bcast_S4x4x64x1x64_S4x4x64x4x64_0_1_2_3_4
      (broadcastInDim S4x4x64x1x64 ![0, 1, 2, 4] bcast_S4x4x64x64_S4x4x64x1x64_0_1_2_4 (shapeCast S4x4x64x64 w shapeCasts_S16x64x64_S4x4x64x64)))
    (broadcastInDim S4x4x64x4x64 ![0, 1, 2, 3, 4] bcast_S1x4x1x4x1_S4x4x64x4x64_0_1_2_3_4 (broadcastInDim S1x4x1x4x1 ![1, 3] bcast_S4x4_S1x4x1x4x1_1_3 eye)))
    shapeCasts_S4x4x64x4x64_S4x256x256

variable (m : (ℓ : Loc nD τ sig) → Buf (Elt F) ℓ)

theorem V_gates (c : Dev nD) : (show FVec F S4x256x512 .bf16 from V m c main_v22)
    = truncf .bf16 (concatenate S4x256x512 2 [⟨S4x256x256, spread (show FVec F S16x64x64 .f32 from m ((c : Thread nD τ).loc main_arg3))⟩,
        ⟨S4x256x256, spread (show FVec F S16x64x64 .f32 from m ((c : Thread nD τ).loc main_arg5))⟩] concatenates_S4x256x256_S4x256x256_S4x256x512_d2) bitsLt_bf16_f32 := by
  show V m c main_v22 = _
  after_results
  rfl

theorem V_shift (c : Dev nD) : (show FVec F S1x1024 .f32 from V m c main_v0)
    = shapeCast S1x1024 (show FVec F S1024 .f32 from m ((c : Thread nD τ).loc main_arg2)) shapeCasts_S1024_S1x1024 := by
  show V m c main_v0 = _
  after_results
  rfl

theorem V_ba (c : Dev nD) : (show FVec F S1x1024 .f32 from V m c main_v23)
    = shapeCast S1x1024 (show FVec F S1024 .f32 from m ((c : Thread nD τ).loc main_arg4)) shapeCasts_S1024_S1x1024 := by
  show V m c main_v23 = _
  after_results
  rfl

theorem V_bx (c : Dev nD) : (show FVec F S1x1024 .f32 from V m c main_v24)
    = shapeCast S1x1024 (show FVec F S1024 .f32 from m ((c : Thread nD τ).loc main_arg6)) shapeCasts_S1024_S1x1024 := by
  show V m c main_v24 = _
  after_results
  rfl

theorem V_rate (c : Dev nD) : (show FVec F S1x1024 .f32 from V m c main_v25)
    = shapeCast S1x1024 (show FVec F S1024 .f32 from m ((c : Thread nD τ).loc main_arg7)) shapeCasts_S1024_S1x1024 := by
  show V m c main_v25 = _
  after_results
  rfl

theorem blk0 (c : Dev nD) (t : Fin cfg0.N) (r : Fin 512) (k : Fin 1024) (h : t.val * 512 + r.val < 16384) :
    (show FVec F S512x1024 .bf16 from iblk m c 0 t) (ix2 r k)
      = (show FVec F S16384x10240 .bf16 from m ((c : Thread nD τ).loc main_arg0)) (ix2 ⟨t.val * 512 + r.val, h⟩ ⟨2048 + k.val, by omega⟩) := by
  rw [← V_main_arg0 m c]
  show V m c main_arg0 _ = V m c main_arg0 _
  refine congrArg _ (funext fun a => Fin.ext ?_)
  match a with
  | ⟨0, _⟩ => show win0_0.index t 0 * 512 + 1 * r.val = _; rw [(idx t).1, Nat.one_mul]; rfl
  | ⟨1, _⟩ => show win0_0.index t 1 * 1024 + 1 * k.val = _; rw [(idx t).1]; show 2 * 1024 + 1 * k.val = 2048 + k.val; omega

theorem blk1 (c : Dev nD) (t : Fin cfg0.N) (r : Fin 512) (k : Fin 1024) (h : t.val * 512 + r.val < 16384) :
    (show FVec F S512x1024 .bf16 from iblk m c 1 t) (ix2 r k)
      = (show FVec F S16384x10240 .bf16 from m ((c : Thread nD τ).loc main_arg0)) (ix2 ⟨t.val * 512 + r.val, h⟩ ⟨3072 + k.val, by omega⟩) := by
  rw [← V_main_arg0 m c]
  show V m c main_arg0 _ = V m c main_arg0 _
  refine congrArg _ (funext fun a => Fin.ext ?_)
  match a with
  | ⟨0, _⟩ => show win0_1.index t 0 * 512 + 1 * r.val = _; rw [(idx t).2.1, Nat.one_mul]; rfl
  | ⟨1, _⟩ => show win0_1.index t 1 * 1024 + 1 * k.val = _; rw [(idx t).2.1]; show 3 * 1024 + 1 * k.val = 3072 + k.val; omega

theorem blk2 (c : Dev nD) (t : Fin cfg0.N) (r : Fin 4) (k : Fin 1024) :
    (show FVec F S4x1024 .f32 from iblk m c 2 t) (ix2 r k) = (show FVec F S4x1024 .f32 from m ((c : Thread nD τ).loc main_arg1)) (ix2 r k) := by
  rw [← V_main_arg1 m c]
  show V m c main_arg1 _ = V m c main_arg1 _
  refine congrArg _ (funext fun a => Fin.ext ?_)
  match a with
  | ⟨0, _⟩ => show win0_2.index t 0 * 4 + 1 * r.val = _; rw [(idx t).2.2.1]; show 0 * 4 + 1 * r.val = r.val; omega
  | ⟨1, _⟩ => show win0_2.index t 1 * 1024 + 1 * k.val = _; rw [(idx t).2.2.1]; show 0 * 1024 + 1 * k.val = k.val; omega

theorem blk3 (c : Dev nD) (t : Fin cfg0.N) (k : Fin 1024) :
    (show FVec F S1x1024 .f32 from iblk m c 3 t) (ix2 0 k) = (show FVec F S1024 .f32 from m ((c : Thread nD τ).loc main_arg2)) (ix1 k) := by
  have e : (show FVec F S1x1024 .f32 from iblk m c 3 t) (ix2 0 k) = (show FVec F S1x1024 .f32 from V m c main_v0) (ix2 0 k) := by
    show V m c main_v0 _ = V m c main_v0 _
    refine congrArg _ (funext fun a => Fin.ext ?_)
    match a with
    | ⟨0, _⟩ => show win0_3.index t 0 * 1 + 1 * 0 = _; rw [(idx t).2.2.2.1]; rfl
    | ⟨1, _⟩ => show win0_3.index t 1 * 1024 + 1 * k.val = _; rw [(idx t).2.2.2.1]; show 0 * 1024 + 1 * k.val = k.val; omega
  rw [e, V_shift]
  pointwise

theorem blk4 (c : Dev nD) (t : Fin cfg0.N) (o : Fin 4) (k : Fin 256) (j : Fin 512) :
    (show FVec F S4x256x512 .bf16 from iblk m c 4 t) (ix3 o k j) = (show FVec F S4x256x512 .bf16 from V m c main_v22) (ix3 o k j) := by
  show V m c main_v22 _ = V m c main_v22 _
  refine congrArg _ (funext fun a => Fin.ext ?_)
  match a with
  | ⟨0, _⟩ => show win0_4.index t 0 * 4 + 1 * o.val = _; rw [(idx t).2.2.2.2.1]; show 0 * 4 + 1 * o.val = o.val; omega
  | ⟨1, _⟩ => show win0_4.index t 1 * 256 + 1 * k.val = _; rw [(idx t).2.2.2.2.1]; show 0 * 256 + 1 * k.val = k.val; omega
  | ⟨2, _⟩ => show win0_4.index t 2 * 512 + 1 * j.val = _; rw [(idx t).2.2.2.2.1]; show 0 * 512 + 1 * j.val = j.val; omega

theorem blk5 (c : Dev nD) (t : Fin cfg0.N) (k : Fin 1024) :
    (show FVec F S1x1024 .f32 from iblk m c 5 t) (ix2 0 k) = (show FVec F S1024 .f32 from m ((c : Thread nD τ).loc main_arg4)) (ix1 k) := by
  have e : (show FVec F S1x1024 .f32 from iblk m c 5 t) (ix2 0 k) = (show FVec F S1x1024 .f32 from V m c main_v23) (ix2 0 k) := by
    show V m c main_v23 _ = V m c main_v23 _
    refine congrArg _ (funext fun a => Fin.ext ?_)
    match a with
    | ⟨0, _⟩ => show win0_5.index t 0 * 1 + 1 * 0 = _; rw [(idx t).2.2.2.2.2.1]; rfl
    | ⟨1, _⟩ => show win0_5.index t 1 * 1024 + 1 * k.val = _; rw [(idx t).2.2.2.2.2.1]; show 0 * 1024 + 1 * k.val = k.val; omega
  rw [e, V_ba]
  pointwise

theorem blk6 (c : Dev nD) (t : Fin cfg0.N) (k : Fin 1024) :
    (show FVec F S1x1024 .f32 from iblk m c 6 t) (ix2 0 k) = (show FVec F S1024 .f32 from m ((c : Thread nD τ).loc main_arg6)) (ix1 k) := by
  have e : (show FVec F S1x1024 .f32 from iblk m c 6 t) (ix2 0 k) = (show FVec F S1x1024 .f32 from V m c main_v24) (ix2 0 k) := by
    show V m c main_v24 _ = V m c main_v24 _
    refine congrArg _ (funext fun a => Fin.ext ?_)
    match a with
    | ⟨0, _⟩ => show win0_6.index t 0 * 1 + 1 * 0 = _; rw [(idx t).2.2.2.2.2.2.1]; rfl
    | ⟨1, _⟩ => show win0_6.index t 1 * 1024 + 1 * k.val = _; rw [(idx t).2.2.2.2.2.2.1]; show 0 * 1024 + 1 * k.val = k.val; omega
  rw [e, V_bx]
  pointwise

theorem blk7 (c : Dev nD) (t : Fin cfg0.N) (k : Fin 1024) :
    (show FVec F S1x1024 .f32 from iblk m c 7 t) (ix2 0 k) = (show FVec F S1024 .f32 from m ((c : Thread nD τ).loc main_arg7)) (ix1 k) := by
  have e : (show FVec F S1x1024 .f32 from iblk m c 7 t) (ix2 0 k) = (show FVec F S1x1024 .f32 from V m c main_v25) (ix2 0 k) := by
    show V m c main_v25 _ = V m c main_v25 _
    refine congrArg _ (funext fun a => Fin.ext ?_)
    match a with
    | ⟨0, _⟩ => show win0_7.index t 0 * 1 + 1 * 0 = _; rw [(idx t).2.2.2.2.2.2.2.1]; rfl
    | ⟨1, _⟩ => show win0_7.index t 1 * 1024 + 1 * k.val = _; rw [(idx t).2.2.2.2.2.2.2.1]; show 0 * 1024 + 1 * k.val = k.val; omega
  rw [e, V_rate]
  pointwise

end

/-- The identity at an index. -/
theorem eye_apply (p q : Fin 4) : eye (F := Ideal) (ix2 p q) = if p = q then 1 else 0 := by
  pointwise [eye]
  have e : ∀ p q : Fin 4, IntOp.cmpi CmpIPredicate.eq (IntOp.addi (BitVec.ofNat 32 p.val) 0#32) (BitVec.ofNat 32 q.val) = if p = q then 1#1 else 0#1 := by decide
  rw [e]
  by_cases h : p = q
  · rw [if_pos h, if_pos h]; show (((1#1 : BitVec 1).toNat : ℝ) : EReal) = 1; norm_num
  · rw [if_neg h, if_neg h]; show (((0#1 : BitVec 1).toNat : ℝ) : EReal) = 0; norm_num

/-- A block-diagonal matrix at an index: its head's own entry, or nothing. -/
theorem spread_apply (w : FVec Ideal S16x64x64 .f32) (o : Fin 4) (k j : Fin 256) :
    spread (F := Ideal) w (ix3 o k j) = if k.val / 64 = j.val / 64 then w (ix3 ⟨o.val * 4 + k.val / 64, by omega⟩ ⟨k.val % 64, by omega⟩ ⟨j.val % 64, by omega⟩) else 0 := by
  have key := eye_apply
  unfold spread
  generalize eye (F := Ideal) = y at key
  pointwise
  rw [key]
  by_cases h : k.val / 64 = j.val / 64
  · rw [if_pos h, if_pos (Fin.ext h), mul_one]
  · rw [if_neg h, if_neg (fun e => h (congrArg Fin.val e)), mul_zero]

/-- The gates' weights at an index: the first 256 columns are the recurrence gate's, the others the input gate's. -/
theorem gates_apply (a b : FVec Ideal S4x256x256 .f32) (o : Fin 4) (k : Fin 256) (j : Fin 512) :
    truncf (F := Ideal) .bf16 (concatenate S4x256x512 2 [⟨S4x256x256, a⟩, ⟨S4x256x256, b⟩] concatenates_S4x256x256_S4x256x256_S4x256x512_d2) bitsLt_bf16_f32 (ix3 o k j)
      = if h : j.val < 256 then a (ix3 o k ⟨j.val, h⟩) else b (ix3 o k ⟨j.val - 256, by omega⟩) := by
  pointwise

end Cert.Calls.Rglru
-- ==== Proof.RglruKernel.lean ====
/-
  The gated recurrence: the kernel's chunks joined. The state a chunk leaves is the recurrence's after all the rows up
  to there, so the array the grid leaves is the recurrence over the whole of each sequence.
-/
module

public import proofs.«01_k».proof.Proof.RglruBlocks

@[expose] public section

set_option maxRecDepth 16384

noncomputable section

namespace Cert.Calls.Rglru

open Cert.KernelIdeal Cert.KernelIdeal.Gen
open Idealize.ShloMosaic Idealize.ShloMosaic.TcCoe Idealize.SL.Sem

/-- The eight arguments. -/
structure Args where
  z : FVec Ideal S16384x10240 .bf16
  cw : FVec Ideal S4x1024 .f32
  cb : FVec Ideal S1024 .f32
  wa : FVec Ideal S16x64x64 .f32
  ba : FVec Ideal S1024 .f32
  wx : FVec Ideal S16x64x64 .f32
  bx : FVec Ideal S1024 .f32
  lam : FVec Ideal S1024 .f32

namespace Args

/-- The rows of a sequence, eight empty ones before the first. -/
def row (A : Args) (s n : ℕ) (c : Fin 1024) : EReal :=
  if h : 8 ≤ n ∧ s * 2048 + (n - 8) < 16384 then A.z (ix2 ⟨s * 2048 + (n - 8), h.2⟩ ⟨2048 + c.val, by omega⟩) else 0

/-- A sequence's data from its chunk `q` on. -/
def data (A : Args) (s q : ℕ) : Data where
  xc n c := A.cw (ix2 3 c) * A.row s (512 * q + (8 + n)) c + A.cw (ix2 2 c) * A.row s (512 * q + (7 + n)) c
    + A.cw (ix2 1 c) * A.row s (512 * q + (6 + n)) c + A.cw (ix2 0 c) * A.row s (512 * q + (5 + n)) c + A.cb (ix1 c)
  sp c := soft (A.lam (ix1 c))
  w o k j := if h : j.val < 256 then spread A.wa (ix3 o k ⟨j.val, h⟩) else spread A.wx (ix3 o k ⟨j.val - 256, by omega⟩)
  ba c := A.ba (ix1 c)
  bx c := A.bx (ix1 c)

/-- The recurrence's state after `n` rows of a sequence. -/
def hist (A : Args) (s n : ℕ) (c : Fin 1024) : EReal := (A.data s 0).state (fun _ => 0) n c

theorem xc_shift (A : Args) (s q n : ℕ) : (A.data s q).xc n = (A.data s 0).xc (512 * q + n) := by
  funext c
  show _ * A.row s (512 * q + (8 + n)) c + _ * A.row s (512 * q + (7 + n)) c + _ * A.row s (512 * q + (6 + n)) c + _ * A.row s (512 * q + (5 + n)) c + _
    = _ * A.row s (512 * 0 + (8 + (512 * q + n))) c + _ * A.row s (512 * 0 + (7 + (512 * q + n))) c + _ * A.row s (512 * 0 + (6 + (512 * q + n))) c
      + _ * A.row s (512 * 0 + (5 + (512 * q + n))) c + _
  rw [show 512 * 0 + (8 + (512 * q + n)) = 512 * q + (8 + n) by omega, show 512 * 0 + (7 + (512 * q + n)) = 512 * q + (7 + n) by omega,
    show 512 * 0 + (6 + (512 * q + n)) = 512 * q + (6 + n) by omega, show 512 * 0 + (5 + (512 * q + n)) = 512 * q + (5 + n) by omega]

theorem fa_shift (A : Args) (s q n : ℕ) (c : Fin 1024) : (A.data s q).fa n c = (A.data s 0).fa (512 * q + n) c := by
  unfold Data.fa Data.log Data.gate
  rw [xc_shift]
  rfl

theorem fb_shift (A : Args) (s q n : ℕ) (c : Fin 1024) : (A.data s q).fb n c = (A.data s 0).fb (512 * q + n) c := by
  unfold Data.fb Data.log Data.gate
  rw [xc_shift]
  rfl

/-- The state carried into a chunk goes on as if there were no chunks. -/
theorem state_shift (A : Args) (s q n : ℕ) : (A.data s q).state (A.hist s (512 * q)) n = A.hist s (512 * q + n) := by
  induction n with
  | zero => rfl
  | succ n ih =>
    funext c
    show (A.data s q).fb n c + (A.data s q).fa n c * (A.data s q).state (A.hist s (512 * q)) n c
      = (A.data s 0).fb (512 * q + n) c + (A.data s 0).fa (512 * q + n) c * A.hist s (512 * q + n) c
    rw [ih, fa_shift, fb_shift]

end Args

theorem log1p_nonneg {y : EReal} (h : 0 ≤ y) : 0 ≤ Ideal.log1p y := by
  unfold Ideal.log1p
  induction y with
  | bot => exact absurd h (by decide)
  | top => exact le_top
  | coe r =>
    have hr : (0 : ℝ) ≤ r := by exact_mod_cast h
    rw [show (1 : EReal) + (r : EReal) = ((1 + r : ℝ) : EReal) by norm_cast]
    unfold Ideal.log
    show (0 : EReal) ≤ if 1 + r ≤ 0 then ⊥ else (Real.log (1 + r) : EReal)
    rw [if_neg (by linarith)]
    exact_mod_cast Real.log_nonneg (by linarith)

theorem soft_nonneg (x : EReal) : 0 ≤ soft x :=
  add_nonneg (le_max_right _ _) (log1p_nonneg (Scalars.exp_nonneg _))

/-- The arguments of a device. -/
def argsOf (m : (ℓ : Loc nD τ sig) → Buf (Elt Ideal) ℓ) (c : Dev nD) : Args where
  z := m ((c : Thread nD τ).loc main_arg0)
  cw := m ((c : Thread nD τ).loc main_arg1)
  cb := m ((c : Thread nD τ).loc main_arg2)
  wa := m ((c : Thread nD τ).loc main_arg3)
  ba := m ((c : Thread nD τ).loc main_arg4)
  wx := m ((c : Thread nD τ).loc main_arg5)
  bx := m ((c : Thread nD τ).loc main_arg6)
  lam := m ((c : Thread nD τ).loc main_arg7)

variable (m : (ℓ : Loc nD τ sig) → Buf (Elt Ideal) ℓ)

/-- A row of a point's block is a row of its sequence. -/
theorem row_block (c : Dev nD) (t : Fin cfg0.N) (r : Fin 512) (k : Fin 1024) :
    (show FVec Ideal S512x1024 .bf16 from iblk m c 0 t) (ix2 r k) = (argsOf m c).row (t.val / 4) (512 * (t.val % 4) + (8 + r.val)) k := by
  have hN : t.val < 32 := lt_of_lt_of_eq t.isLt N_0
  rw [blk0 m c t r k (by omega)]
  unfold Args.row
  rw [dif_pos (by omega)]
  exact congrArg (fun a => (argsOf m c).z (ix2 a _)) (Fin.ext (by dsimp only; omega))

theorem reads (c : Dev nD) (t : Fin cfg0.N) :
    Reads ((argsOf m c).data (t.val / 4) (t.val % 4)) (fun n => (argsOf m c).row (t.val / 4) (512 * (t.val % 4) + n))
      (iblk m c 0 t) (iblk m c 2 t) (iblk m c 3 t) (iblk m c 4 t) (iblk m c 5 t) (iblk m c 6 t) (iblk m c 7 t) where
  rows r k := row_block m c t r k
  conv r k := by
    have h2 := fun r => blk2 m c t r k
    have h3 := blk3 m c t k
    dsimp only at h2 h3
    rw [h2 3, h2 2, h2 1, h2 0, h3]
    rfl
  rate k := congrArg soft (blk7 m c t k)
  rate_nonneg k := soft_nonneg _
  weights o k j := by
    refine (blk4 m c t o k j).trans ?_
    rw [V_gates]
    exact gates_apply _ _ o k j
  ba k := blk5 m c t k
  bx k := blk6 m c t k

/-- What stands after a point: the output of its rows, the last eight rows, the state. -/
structure After (A : Args) (s q : ℕ) (p : Vec Ideal S512x1024 .bf16 × Vec Ideal S520x1024 .f32 × Vec Ideal S8x1024 .f32) (x1 : Vec Ideal S512x1024 .bf16) : Prop where
  out : ∀ (r : Fin 512) k, p.1 (ix2 r k) = A.hist s (512 * q + (r.val + 1)) k * Gmlp.gelu (x1 (ix2 r k))
  rows : ∀ (r : Fin 8) k, p.2.1 (ix2 ⟨r.val, by omega⟩ k) = A.row s (512 * q + (512 + r.val)) k
  state : ∀ (r : Fin 8) k, p.2.2 (ix2 r k) = A.hist s (512 * q + 512) k

theorem after_first (c : Dev nD) (t : Fin cfg0.N) (h : Starts (grid0.coords t)) (p : Vec Ideal S520x1024 .f32 × Vec Ideal S8x1024 .f32) :
    After (argsOf m c) (t.val / 4) (t.val % 4) (left m c t p) (iblk m c 1 t) := by
  have hq : t.val % 4 = 0 := (starts_iff t).1 h
  have e : left m c t p = (View.canon (firstAt m c t h p.1 p.2).1, View.canon (firstAt m c t h p.1 p.2).2.1, View.canon (firstAt m c t h p.1 p.2).2.2.1) := dif_pos h
  have z : (argsOf m c).hist (t.val / 4) (512 * (t.val % 4)) = fun _ => 0 := by rw [hq]; rfl
  have sh := (argsOf m c).state_shift (t.val / 4) (t.val % 4)
  rw [z] at sh
  have V := first_values c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) scr0 (Memref.isWhole_whole _) scr1 (Memref.isWhole_whole _) scr2 (Memref.isWhole_whole _) scr3 (Memref.isWhole_whole _)
    (iblk m c 0 t) (iblk m c 1 t) (iblk m c 2 t) (iblk m c 3 t) (iblk m c 4 t) (iblk m c 5 t) (iblk m c 6 t) (iblk m c 7 t) p.1 p.2 _ _ (reads m c t) h
    (fun r q => by
      show (0 : EReal) = (argsOf m c).row _ _ _
      unfold Args.row
      rw [dif_neg (by omega)])
  rw [e]
  obtain ⟨V1, V2, V3⟩ := V
  simp only [sh] at V1 V3
  refine ⟨V1, ?_, ?_⟩
  · dsimp only
    exact V2
  · dsimp only
    exact V3

theorem after_later (c : Dev nD) (t : Fin cfg0.N) (h : ¬ Starts (grid0.coords t)) (p : Vec Ideal S520x1024 .f32 × Vec Ideal S8x1024 .f32)
    (hr : ∀ (r : Fin 8) k, p.1 (ix2 ⟨r.val, by omega⟩ k) = (argsOf m c).row (t.val / 4) (512 * (t.val % 4) + r.val) k)
    (hs : ∀ k, p.2 (ix2 0 k) = (argsOf m c).hist (t.val / 4) (512 * (t.val % 4)) k) :
    After (argsOf m c) (t.val / 4) (t.val % 4) (left m c t p) (iblk m c 1 t) := by
  have e : left m c t p = (View.canon (laterAt m c t h p.1 p.2).1, View.canon (laterAt m c t h p.1 p.2).2.1, View.canon (laterAt m c t h p.1 p.2).2.2.1) := dif_neg h
  have z : (fun k => p.2 (ix2 0 k)) = (argsOf m c).hist (t.val / 4) (512 * (t.val % 4)) := funext hs
  have sh := (argsOf m c).state_shift (t.val / 4) (t.val % 4)
  have V := later_values c (grid0.coords t) (mem0 t) (whole0 t) (mem1 t) (whole1 t) (mem2 t) (whole2 t) (mem3 t) (whole3 t) (mem4 t) (whole4 t) (mem5 t) (whole5 t) (mem6 t) (whole6 t) (mem7 t) (whole7 t) (mem8 t) (whole8 t) scr0 (Memref.isWhole_whole _) scr1 (Memref.isWhole_whole _) scr2 (Memref.isWhole_whole _) scr3 (Memref.isWhole_whole _)
    (iblk m c 0 t) (iblk m c 1 t) (iblk m c 2 t) (iblk m c 3 t) (iblk m c 4 t) (iblk m c 5 t) (iblk m c 6 t) (iblk m c 7 t) p.1 p.2 _ _ (reads m c t) h hr
  rw [z] at V
  rw [e]
  obtain ⟨V1, V2, V3⟩ := V
  simp only [sh] at V1 V3
  refine ⟨V1, ?_, ?_⟩
  · dsimp only
    exact V2
  · dsimp only
    exact V3

theorem after (c : Dev nD) : ∀ (n : ℕ) (h : n < cfg0.N), After (argsOf m c) (n / 4) (n % 4) (stateAfter m c n h) (iblk m c 1 ⟨n, h⟩)
  | 0, h => after_first m c ⟨0, h⟩ ((starts_iff ⟨0, h⟩).2 rfl) nothing
  | n + 1, h => by
    by_cases hs : Starts (grid0.coords ⟨n + 1, h⟩)
    · exact after_first m c ⟨n + 1, h⟩ hs _
    · have ih := after c n (Nat.lt_of_succ_lt h)
      have hq : ¬ (n + 1) % 4 = 0 := fun e => hs ((starts_iff ⟨n + 1, h⟩).2 e)
      have e1 : (n + 1) / 4 = n / 4 := by omega
      have e2 : (n + 1) % 4 = n % 4 + 1 := by omega
      refine after_later m c ⟨n + 1, h⟩ hs _ (fun r k => (ih.rows r k).trans ?_) (fun k => (ih.state 0 k).trans ?_)
      · dsimp only
        rw [e1, e2, show 512 * (n % 4) + (512 + r.val) = 512 * (n % 4 + 1) + r.val by omega]
      · dsimp only
        rw [e1, e2, show 512 * (n % 4) + 512 = 512 * (n % 4 + 1) by omega]

/-- The recurrence's result: its state after each row, times the gelu of the gate's column. -/
def result (A : Args) (i : Fin 16384) (j : Fin 1024) : EReal :=
  A.hist (i.val / 2048) (i.val % 2048 + 1) j * Gmlp.gelu (A.z (ix2 i ⟨3072 + j.val, by omega⟩))

/-- The array the kernel leaves. -/
def G (c : Dev nD) : Buf (Elt Ideal) ((c : Thread nD τ).loc main_v26) := fun i => result (argsOf m c) (i 0) (i 1)

theorem flushed_eq (c : Dev nD) (t : Fin cfg0.N) :
    (dats m 0 c).flushed 8 t = ((cfg0.win 8).blk t).view.read (Elt Ideal) (G m c) := by
  show (stateAfter m c t.val t.isLt).1 = _
  funext y
  have hN : t.val < 32 := lt_of_lt_of_eq t.isLt N_0
  obtain ⟨r, j, rfl⟩ : ∃ (r : Fin 512) (j : Fin 1024), y = ix2 r j := ⟨y 0, y 1, eq_ix2 y⟩
  have e0 : t.val * 512 + r.val < 16384 := by omega
  have er : ((cfg0.win 8).blk t).view.read (Elt Ideal) (G m c) (ix2 r j) = G m c (ix2 ⟨t.val * 512 + r.val, e0⟩ j) := by
    show G m c _ = G m c _
    refine congrArg _ (funext fun a => Fin.ext ?_)
    match a with
    | ⟨0, _⟩ => show win0_8.index t 0 * 512 + 1 * r.val = _; rw [(idx t).2.2.2.2.2.2.2.2, Nat.one_mul]; rfl
    | ⟨1, _⟩ => show win0_8.index t 1 * 1024 + 1 * j.val = _; rw [(idx t).2.2.2.2.2.2.2.2]; show 0 * 1024 + 1 * j.val = j.val; omega
  rw [er]
  refine ((after m c t.val t.isLt).out r j).trans ?_
  have b := blk1 m c t r j e0
  dsimp only at b
  rw [b]
  show _ = (argsOf m c).hist ((t.val * 512 + r.val) / 2048) ((t.val * 512 + r.val) % 2048 + 1) j * _
  rw [show (t.val * 512 + r.val) / 2048 = t.val / 4 by omega, show (t.val * 512 + r.val) % 2048 + 1 = 512 * (t.val % 4) + (r.val + 1) by omega]
  rfl

/-- Every point writes its block back. -/
theorem flushes (t : Fin cfg0.N) : (cfg0.win 8).flush t = true :=
  (by decide +kernel : ∀ t : Fin grid0.N, win0_8.flush t = true) t

/-- An index is in a point's block when each coordinate is in the block's range. -/
theorem mem_blk (t : Fin cfg0.N) (i : S16384x1024.Idx) : i ∈ ((cfg0.win 8).blk t).view.set
    ↔ ∀ a : Fin 2, win0_8.index t a * S512x1024.size a ≤ (i a).val ∧ (i a).val < win0_8.index t a * S512x1024.size a + S512x1024.size a := by
  show i ∈ ((View.whole main_v26).slice (win0_8.rect t)).set ↔ _
  rw [View.set_slice_whole, Rect.mem_set_unit]
  exact Iff.rfl

/-- The result's blocks cover the array. -/
theorem covered (i : S16384x1024.Idx) : ∃ t : Fin cfg0.N, (cfg0.win 8).flush t = true ∧ i ∈ ((cfg0.win 8).blk t).view.set := by
  have h0 : (i 0).val < 16384 := (i 0).isLt
  have h1 : (i 1).val < 1024 := (i 1).isLt
  have hN : (i 0).val / 512 < cfg0.N := lt_of_lt_of_eq (by omega : (i 0).val / 512 < 32) N_0.symm
  refine ⟨⟨(i 0).val / 512, hN⟩, flushes _, ?_⟩
  rw [mem_blk]
  intro a
  rw [(idx _).2.2.2.2.2.2.2.2]
  match a with
  | ⟨0, _⟩ => show (i 0).val / 512 * 512 ≤ (i 0).val ∧ (i 0).val < (i 0).val / 512 * 512 + 512; omega
  | ⟨1, _⟩ => show 0 * 1024 ≤ (i 1).val ∧ (i 1).val < 0 * 1024 + 1024; omega

theorem final (c : Dev nD) : (dats m 0 c).arrAt 8 cfg0.N = G m c :=
  (dats m 0 c).arrAt_eq_of_cover 8 _ (fun t _ => flushed_eq m c t) covered

end Cert.Calls.Rglru
-- ==== Proof.RglruRefRun.lean ====
/-
  The gated recurrence: the reference's run. What the host program holds before the scan, what a step of the scan
  leaves, and the arguments kept through all of it.
-/
module

public import proofs.«01_k».proof.Proof.Gen.ReferenceIdeal.Run
public import proofs.«01_k».proof.Defs
public import Idealize.ShloMosaic.Lib.Quiescent
public import Idealize.ShloMosaic.Lib.Pipeline.ValueKit
public import Idealize.ShloMosaic.Lib.Pointwise
public import Idealize.ShloMosaic.Lib.DynamicIndex
public import Idealize.ShloMosaic.Lib.WordCmp

@[expose] public section

set_option maxRecDepth 16384

noncomputable section

namespace Cert.Calls.Rglru.Ref

open Cert.ReferenceIdeal Cert.ReferenceIdeal.Gen Cert.ReferenceIdeal.Value
open Idealize.ShloMosaic Idealize.ShloMosaic.TcCoe Idealize.ShloMosaic.StableHlo Idealize.SL.Sem

variable {F : FTy → Type} [FloatOps F]
variable (m : (ℓ : Loc nD τ sig) → Buf (Elt F) ℓ) (ρ : Dev nD → PrngReg)

/-- What the operations after the scan write. -/
abbrev lastW : List (Ref sig .tc) := [main_v81, main_v82, main_v83, main_cst_8, main_v84, main_v85, main_v86, main_cst_9, main_v87, main_v88, main_v89, main_cst_10, main_v90, main_v91, main_cst_11, main_v92, main_v93, main_v94, main_v95, main_v96, main_v97]

theorem last_writes : (hostOps0_5 : List (HloOp τ sig (Elt F))).Forall fun op => op.writes ⊆ (lastW.map (Proc.devRef (τ := τ) .tc)).toFinset :=
  StableHlo.forall_writes_sub_of_map rfl

/-- A buffer nothing before the scan writes holds at the scan's entry what it held at the start; -/
theorem entry_keep (c : Dev nD) (r : Ref sig .tc) (h : r ∉ hostOps0_W ++ hostOps0_1_W ++ hostOps0_2_W ++ hostOps0_3_W ++ hostOps0_4_W) :
    entryContents preI m c (Proc.devRef .tc r) = launchContents m c (Proc.devRef .tc r) := by
  simp only [List.mem_append, not_or] at h
  show afterL preI (launchContents m c) _ = _
  simp only [afterL_cons, afterL_nil]
  exact (after_of_writes_sub _ _ hostOps0_4_writes h.2).trans ((after_of_writes_sub _ _ hostOps0_3_writes h.1.2).trans
    ((after_of_writes_sub _ _ hostOps0_2_writes h.1.1.2).trans ((after_of_writes_sub _ _ hostOps0_1_writes h.1.1.1.2).trans (after_of_writes_sub _ _ hostOps0_writes h.1.1.1.1))))

/-- one no step writes holds after any number of steps what it held before the first; -/
theorem trips_keep (c : Dev nD) (r : Ref sig .tc) (h : r ∉ condOps_W ++ while0Ops0_W ++ while0Ops0_1_W ++ while0Ops0_2_W ++ while0Ops0_3_W ++ while0Ops0_4_W) :
    ∀ k, atK m k c (Proc.devRef .tc r) = entryContents preI m c (Proc.devRef .tc r)
  | 0 => rfl
  | k + 1 => by
    have h' := h
    simp only [List.mem_append, not_or] at h'
    rw [show atK m (k + 1) c = afterL bodyI (after condOps (atK m k c)) from rfl]
    simp only [afterL_cons, afterL_nil]
    exact (after_of_writes_sub _ _ while0Ops0_4_writes h'.2).trans ((after_of_writes_sub _ _ while0Ops0_3_writes h'.1.2).trans
      ((after_of_writes_sub _ _ while0Ops0_2_writes h'.1.1.2).trans ((after_of_writes_sub _ _ while0Ops0_1_writes h'.1.1.1.2).trans
        ((after_of_writes_sub _ _ while0Ops0_writes h'.1.1.1.1.2).trans ((after_of_writes_sub _ _ condOps_writes h'.1.1.1.1.1).trans (trips_keep c r h k))))))

/-- and one nothing writes holds at the end what it held at the start. -/
theorem end_keep (c : Dev nD) (r : Ref sig .tc)
    (h : r ∉ (hostOps0_W ++ hostOps0_1_W ++ hostOps0_2_W ++ hostOps0_3_W ++ hostOps0_4_W) ++ (condOps_W ++ while0Ops0_W ++ while0Ops0_1_W ++ while0Ops0_2_W ++ while0Ops0_3_W ++ while0Ops0_4_W) ++ lastW) :
    finalContents condOps preI bodyI postI 2048 m c (Proc.devRef .tc r) = launchContents m c (Proc.devRef .tc r) := by
  obtain ⟨h, h3⟩ := not_or.1 (fun e => h (List.mem_append.2 e))
  obtain ⟨h1, h2⟩ := not_or.1 (fun e => h (List.mem_append.2 e))
  have hc : r ∉ condOps_W := fun e => h2 (by simp only [List.mem_append]; exact .inl (.inl (.inl (.inl (.inl e)))))
  show afterL postI (after condOps (atK m 2048 c)) _ = _
  simp only [afterL_cons, afterL_nil]
  exact (after_of_writes_sub _ _ last_writes h3).trans ((after_of_writes_sub _ _ condOps_writes hc).trans ((trips_keep m c r h2 2048).trans (entry_keep m c r h1)))

/-- The arguments end as they began. -/
theorem run_args : θ_run defs (onTc (τ := τ) (main (F := F))) ⟨m, fun _ => 0, ρ⟩ (fun r => ∀ c : Dev nD,
      r.2.mem ((c.tc : Thread nD τ).loc main_v97) = finalContents condOps preI bodyI postI 2048 m c (Proc.devRef .tc main_v97)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run _ _ _).mono (fun r h c => ⟨h c main_v97 rfl,
      (h c main_arg0 rfl).trans (end_keep m c main_arg0 (by decide +kernel)),
      (h c main_arg1 rfl).trans (end_keep m c main_arg1 (by decide +kernel)),
      (h c main_arg2 rfl).trans (end_keep m c main_arg2 (by decide +kernel)),
      (h c main_arg3 rfl).trans (end_keep m c main_arg3 (by decide +kernel)),
      (h c main_arg4 rfl).trans (end_keep m c main_arg4 (by decide +kernel)),
      (h c main_arg5 rfl).trans (end_keep m c main_arg5 (by decide +kernel)),
      (h c main_arg6 rfl).trans (end_keep m c main_arg6 (by decide +kernel)),
      (h c main_arg7 rfl).trans (end_keep m c main_arg7 (by decide +kernel))⟩) (run_fold m ρ)

/-! ## Before the scan -/

section Values
variable (z : FVec F S16384x10240 .bf16) (cw : FVec F S4x1024 .f32) (cb : FVec F S1024 .f32) (w : FVec F S16x64x64 .f32) (b : FVec F S1024 .f32) (lam : FVec F S1024 .f32)

/-- A row of 1024 over all sequences. -/
def over (v : FVec F S1024 .f32) : FVec F S8x2048x1024 .f32 :=
  broadcastInDim S8x2048x1024 ![0, 1, 2] bcast_S1x1x1024_S8x2048x1024_0_1_2 (broadcastInDim S1x1x1024 ![2] bcast_S1024_S1x1x1024_2 v)

/-- A number over all sequences. -/
def all (v : FVec F S_ .f32) : FVec F S8x2048x1024 .f32 := broadcastInDim S8x2048x1024 ![] bcast_S_S8x2048x1024 v

/-- The input's columns, three empty rows before the first. -/
def padded : FVec F S8x2051x1024 .f32 :=
  pad S8x2051x1024 ![0, 3, 0] ![0, 0, 0] ![0, 0, 0]
    (shapeCast S8x2048x1024 (extractStridedSlice S16384x1024 ![0, 2048] (extf .f32 z bitsLt_bf16_f32) slices_S16384x10240_S16384x1024_0_2048) shapeCasts_S16384x1024_S8x2048x1024)
    (sitofp .f32 (constantI S_ 32 0#32)) pads_S8x2048x1024_S8x2051x1024_000_300_000 h_S_

/-- The gate's columns. -/
def gateCols : FVec F S8x2048x1024 .f32 :=
  shapeCast S8x2048x1024 (extractStridedSlice S16384x1024 ![0, 3072] (extf .f32 z bitsLt_bf16_f32) slices_S16384x10240_S16384x1024_0_3072) shapeCasts_S16384x1024_S8x2048x1024

/-- The convolution along the rows. -/
def conv : FVec F S8x2048x1024 .f32 :=
  addf (addf (addf (addf
    (mulf (over (shapeCast S1024 (extractStridedSlice S1x1024 ![0, 0] cw slices_S4x1024_S1x1024_0_0) shapeCasts_S1x1024_S1024)) (extractStridedSlice S8x2048x1024 ![0, 0, 0] (padded z) slices_S8x2051x1024_S8x2048x1024_0_0_0))
    (mulf (over (shapeCast S1024 (extractStridedSlice S1x1024 ![1, 0] cw slices_S4x1024_S1x1024_1_0) shapeCasts_S1x1024_S1024)) (extractStridedSlice S8x2048x1024 ![0, 1, 0] (padded z) slices_S8x2051x1024_S8x2048x1024_0_1_0)))
    (mulf (over (shapeCast S1024 (extractStridedSlice S1x1024 ![2, 0] cw slices_S4x1024_S1x1024_2_0) shapeCasts_S1x1024_S1024)) (extractStridedSlice S8x2048x1024 ![0, 2, 0] (padded z) slices_S8x2051x1024_S8x2048x1024_0_2_0)))
    (mulf (over (shapeCast S1024 (extractStridedSlice S1x1024 ![3, 0] cw slices_S4x1024_S1x1024_3_0) shapeCasts_S1x1024_S1024)) (extractStridedSlice S8x2048x1024 ![0, 3, 0] (padded z) slices_S8x2051x1024_S8x2048x1024_0_3_0)))
    (over cb)

/-- A gate of rows. -/
def gate (x : FVec F S8x2048x1024 .f32) : FVec F S8x2048x1024 .f32 :=
  Host.divf (all (constant S_ .f32 0x3F800000#32)) (addf (all (constant S_ .f32 0x3F800000#32)) (Host.exp (Host.negf (addf
    (shapeCast S8x2048x1024 (transpose S8x2048x16x64 [2, 3, 0, 1]
      (Host.dotGeneral dot_S16x64x64_S8x2048x16x64_S16x64x8x2048_1_3_2_01_0_2 none w (shapeCast S8x2048x16x64 x shapeCasts_S8x2048x1024_S8x2048x16x64))
      transposes_S16x64x8x2048_S8x2048x16x64_2_3_0_1) shapeCasts_S8x2048x16x64_S8x2048x1024)
    (over b)))))

/-- The softplus of the rates, negated. -/
def plus : FVec F S1024 .f32 :=
  have x := Host.negf lam
  have o : FVec F S1024 .f32 := broadcastInDim S1024 ![] bcast_S_S1024 (constant S_ .f32 0x00000000#32)
  select (cmpf .une (subf x o) (subf x o)) (addf x o) (addf (maximumf x o) (Host.log1p (Host.exp (Host.negf (Host.absf (subf x o))))))

/-- The decay's logarithm. -/
def logs (x : FVec F S8x2048x1024 .f32) : FVec F S8x2048x1024 .f32 :=
  mulf (mulf (all (constant S_ .f32 0xC1000000#32)) (gate w b x)) (over (plus lam))

/-- The decay. -/
def decays (x : FVec F S8x2048x1024 .f32) : FVec F S8x2048x1024 .f32 := Host.exp (logs w b lam x)

/-- What a row adds to the state. -/
def adds (w' : FVec F S16x64x64 .f32) (b' : FVec F S1024 .f32) (x : FVec F S8x2048x1024 .f32) : FVec F S8x2048x1024 .f32 :=
  mulf (Host.sqrt (Host.negf (Host.expm1 (mulf (all (constant S_ .f32 0x40000000#32)) (logs w b lam x))))) (mulf (gate w' b' x) x)

end Values

abbrev arg0 (c : Dev nD) : FVec F S16384x10240 .bf16 := m ((c : Thread nD τ).loc main_arg0)
abbrev arg1 (c : Dev nD) : FVec F S4x1024 .f32 := m ((c : Thread nD τ).loc main_arg1)
abbrev arg2 (c : Dev nD) : FVec F S1024 .f32 := m ((c : Thread nD τ).loc main_arg2)
abbrev arg3 (c : Dev nD) : FVec F S16x64x64 .f32 := m ((c : Thread nD τ).loc main_arg3)
abbrev arg4 (c : Dev nD) : FVec F S1024 .f32 := m ((c : Thread nD τ).loc main_arg4)
abbrev arg5 (c : Dev nD) : FVec F S16x64x64 .f32 := m ((c : Thread nD τ).loc main_arg5)
abbrev arg6 (c : Dev nD) : FVec F S1024 .f32 := m ((c : Thread nD τ).loc main_arg6)
abbrev arg7 (c : Dev nD) : FVec F S1024 .f32 := m ((c : Thread nD τ).loc main_arg7)

theorem entry_gate (c : Dev nD) : entryContents preI m c (Proc.devRef .tc main_v4) = gateCols (arg0 m c) := by
  simp only [entryContents, afterL_cons, afterL_nil]
  after_reads_simp
  rfl

theorem entry_state (c : Dev nD) : entryContents preI m c (Proc.devRef .tc main_v80_3) = broadcastInDim S8x1024 ![] bcast_S_S8x1024 (constant S_ .f32 0x00000000#32) := by
  simp only [entryContents, afterL_cons, afterL_nil]
  after_reads_simp
  rfl

theorem entry_decays (c : Dev nD) : entryContents preI m c (Proc.devRef .tc main_v80_0)
    = transpose S2048x8x1024 [1, 0, 2] (decays (arg3 m c) (arg4 m c) (arg7 m c) (conv (arg0 m c) (arg1 m c) (arg2 m c))) transposes_S8x2048x1024_S2048x8x1024_1_0_2 := by
  simp only [entryContents, afterL_cons, afterL_nil]
  after_reads_simp
  rfl

theorem entry_adds (c : Dev nD) : entryContents preI m c (Proc.devRef .tc main_v80_1)
    = transpose S2048x8x1024 [1, 0, 2] (adds (arg3 m c) (arg4 m c) (arg7 m c) (arg5 m c) (arg6 m c) (conv (arg0 m c) (arg1 m c) (arg2 m c))) transposes_S8x2048x1024_S2048x8x1024_1_0_2 := by
  simp only [entryContents, afterL_cons, afterL_nil]
  after_reads_simp
  rfl

/-! ## The scan -/

theorem frame_reference : Cert.quiescent_ReferenceIdeal (hReferenceIdeal := ReferenceIdeal.Gen.facts) :=
  fun m ρ _ => (θ_run _ _ _).mono (fun r h => ⟨fun c => (h c).2, sem_eq_zero_of_no_sems rfl r.2⟩) (run_args m ρ)

theorem toInt_iv (k : ℕ) (h : k < 2048) : (Scf.iv 0#32 1#32 k).toInt = (k : Int) := by
  have e : Scf.iv 0#32 1#32 k = BitVec.ofNat 32 k := by
    induction k with
    | zero => rfl
    | succ k ih => rw [Scf.iv_succ, ih (by omega)]; exact (BitVec.ofNat_add k 1).symm
  rw [e, BitVec.toInt_eq_toNat_cond, BitVec.toNat_ofNat, Nat.mod_eq_of_lt (by omega), if_pos (by omega)]

theorem fits (k : ℕ) (h : k < 2048) : S2048x8x1024.Slices ![k, 0, 0] S1x8x1024 :=
  ⟨rfl, fun a => match a with
    | ⟨0, _⟩ => (show k + 1 ≤ 2048 by omega)
    | ⟨1, _⟩ => (show 0 + 8 ≤ 8 by omega)
    | ⟨2, _⟩ => (show 0 + 1024 ≤ 1024 by omega)⟩

section
variable {G : FTy → Type} [FloatOps G]

/-- The scan's place at the step `k`. -/
theorem place (V : Valuation τ sig (Elt G)) (k : ℕ) (hk : k < 2048) (hc : V (Proc.devRef .tc main_v80_2) = fun _ => Scf.iv 0#32 1#32 k) (a : Fin 3) :
    (((![V (Proc.devRef .tc main_v80_2), constantI S_ 32 0#32, constantI S_ 32 0#32] : Fin 3 → (⟨S_, .i32⟩ : BufTy).Contents (Elt G))) a (Shape.Idx.first h_S_)).toInt
      = (((![k, 0, 0] : Fin 3 → ℕ) a : ℕ) : Int) := by
  match a with
  | ⟨0, _⟩ => show (V (Proc.devRef .tc main_v80_2) (Shape.Idx.first h_S_)).toInt = (k : Int); rw [hc]; exact toInt_iv k hk
  | ⟨1, _⟩ => rfl
  | ⟨2, _⟩ => rfl

end

/-- A step's state: the row's decay times the state before, and what the row adds. -/
theorem step_state (V : Valuation τ sig (Elt Ideal)) (k : ℕ) (hk : k < 2048) (hc : V (Proc.devRef .tc main_v80_2) = fun _ => Scf.iv 0#32 1#32 k) (s : Fin 8) (j : Fin 1024) :
    (show FVec Ideal S8x1024 .f32 from res_main_while0b_v101 V) (ix2 s j)
      = (show FVec Ideal S2048x8x1024 .f32 from V (Proc.devRef .tc main_v80_0)) (ix3 ⟨k, hk⟩ s j) * (show FVec Ideal S8x1024 .f32 from V (Proc.devRef .tc main_v80_3)) (ix2 s j)
        + (show FVec Ideal S2048x8x1024 .f32 from V (Proc.devRef .tc main_v80_1)) (ix3 ⟨k, hk⟩ s j) := by
  unfold res_main_while0b_v101
  rw [Host.dynamicSlice_eq_extractStridedSlice S1x8x1024 (V (Proc.devRef .tc main_v80_0)) _ ![k, 0, 0] _ (fits k hk) (place V k hk hc),
    Host.dynamicSlice_eq_extractStridedSlice S1x8x1024 (V (Proc.devRef .tc main_v80_1)) _ ![k, 0, 0] _ (fits k hk) (place V k hk hc)]
  generalize V (Proc.devRef .tc main_v80_0) = A
  generalize V (Proc.devRef .tc main_v80_1) = B
  generalize V (Proc.devRef .tc main_v80_3) = H
  pointwise

/-- A step's rows: the step's own is its state, the others are as before. -/
theorem step_rows (V : Valuation τ sig (Elt Ideal)) (k : ℕ) (hk : k < 2048) (hc : V (Proc.devRef .tc main_v80_2) = fun _ => Scf.iv 0#32 1#32 k)
    (i : Fin 2048) (s : Fin 8) (j : Fin 1024) :
    (show FVec Ideal S2048x8x1024 .f32 from step_main_v80_4 V) (ix3 i s j)
      = if i.val = k then (show FVec Ideal S8x1024 .f32 from res_main_while0b_v101 V) (ix2 s j)
        else (show FVec Ideal S2048x8x1024 .f32 from V (Proc.devRef .tc main_v80_4)) (ix3 i s j) := by
  unfold step_main_v80_4
  rw [WordCmp.dynamicUpdateSlice_eq_update (V (Proc.devRef .tc main_v80_4)) _ _ _ ![k, 0, 0] (fits k hk) (place V k hk hc)]
  generalize V (Proc.devRef .tc main_v80_4) = O
  generalize res_main_while0b_v101 V = R
  show updateSlice O _ ![k, 0, 0] (fits k hk) (ix3 i s j) = _
  unfold updateSlice
  by_cases h : i.val = k
  · rw [if_pos h, dif_pos (fun a => match a with
      | ⟨0, _⟩ => (show k ≤ i.val ∧ i.val < k + 1 by omega)
      | ⟨1, _⟩ => (show 0 ≤ s.val ∧ s.val < 0 + 8 by omega)
      | ⟨2, _⟩ => (show 0 ≤ j.val ∧ j.val < 0 + 1024 by omega))]
    refine congrArg R (funext fun a => ?_)
    match a with
    | ⟨0, _⟩ => rfl
    | ⟨1, _⟩ => rfl
  · rw [if_neg h, dif_neg (fun e => h (by have := e 0; have : k ≤ i.val ∧ i.val < k + 1 := this; omega))]

/-- After `k` steps: the state, and the rows so far. -/
theorem scan (m : (ℓ : Loc nD τ sig) → Buf (Elt Ideal) ℓ) (c : Dev nD) (H : ℕ → Fin 8 → Fin 1024 → EReal)
    (h0 : ∀ s j, H 0 s j = 0)
    (hs : ∀ k (hk : k < 2048) s j, H (k + 1) s j = (show FVec Ideal S2048x8x1024 .f32 from entryContents preI m c (Proc.devRef .tc main_v80_0)) (ix3 ⟨k, hk⟩ s j) * H k s j
      + (show FVec Ideal S2048x8x1024 .f32 from entryContents preI m c (Proc.devRef .tc main_v80_1)) (ix3 ⟨k, hk⟩ s j)) :
    ∀ k, k ≤ 2048 → (∀ s j, (show FVec Ideal S8x1024 .f32 from atK m k c (Proc.devRef .tc main_v80_3)) (ix2 s j) = H k s j)
      ∧ ∀ (i : Fin 2048) s j, i.val < k → (show FVec Ideal S2048x8x1024 .f32 from atK m k c (Proc.devRef .tc main_v80_4)) (ix3 i s j) = H (i.val + 1) s j
  | 0, _ => by
    refine ⟨fun s j => ?_, fun i s j h => absurd h (Nat.not_lt_zero _)⟩
    rw [h0]
    show (show FVec Ideal S8x1024 .f32 from entryContents preI m c (Proc.devRef .tc main_v80_3)) (ix2 s j) = 0
    rw [entry_state]
    pointwise
  | k + 1, hk => by
    obtain ⟨i1, i2⟩ := scan m c H h0 hs k (by omega)
    have a0 : ∀ k, atK m k c (Proc.devRef .tc main_v80_0) = entryContents preI m c (Proc.devRef .tc main_v80_0) := trips_keep m c main_v80_0 (by decide +kernel)
    have a1 : ∀ k, atK m k c (Proc.devRef .tc main_v80_1) = entryContents preI m c (Proc.devRef .tc main_v80_1) := trips_keep m c main_v80_1 (by decide +kernel)
    have st := trip_agree (atK m k c)
    have r : ∀ s j, (show FVec Ideal S8x1024 .f32 from res_main_while0b_v101 (atK m k c)) (ix2 s j) = H (k + 1) s j := fun s j => by
      rw [step_state (atK m k c) k (by omega) (atK_ctr m c k) s j, a0, a1, hs k (by omega) s j]
      have e := i1 s j
      dsimp only at e ⊢
      rw [e]
    have e3 : atK m (k + 1) c (Proc.devRef .tc main_v80_3) = res_main_while0b_v101 (atK m k c) :=
      (st main_v80_3 (by decide)).trans (STEP_main_v80_3 _)
    have e4 : atK m (k + 1) c (Proc.devRef .tc main_v80_4) = step_main_v80_4 (atK m k c) :=
      (st main_v80_4 (by decide)).trans (STEP_main_v80_4 _)
    refine ⟨fun s j => ?_, fun i s j h => ?_⟩
    · rw [e3]; exact r s j
    · rw [e4, step_rows (atK m k c) k (by omega) (atK_ctr m c k) i s j]
      by_cases hi : i.val = k
      · rw [if_pos hi, hi]; exact r s j
      · rw [if_neg hi]; exact i2 i s j (by omega)

/-- What the operations after the scan make of the scan's rows and the gate's columns. -/
def gated {G : FTy → Type} [FloatOps G] (o : FVec G S2048x8x1024 .f32) (x : FVec G S8x2048x1024 .f32) : FVec G S16384x1024 .bf16 :=
  truncf .bf16 (shapeCast S16384x1024 (mulf (transpose S8x2048x1024 [1, 0, 2] o transposes_S2048x8x1024_S8x2048x1024_1_0_2)
    (mulf x (mulf (all (constant S_ .f32 0x3F000000#32)) (addf (all (constant S_ .f32 0x3F800000#32)) (Host.tanh (mulf (all (constant S_ .f32 0x3F4C422A#32))
      (addf x (mulf (all (constant S_ .f32 0x3D372713#32)) (mulf (mulf x x) x)))))))))
    shapeCasts_S8x2048x1024_S16384x1024) bitsLt_bf16_f32

theorem final_eq (m : (ℓ : Loc nD τ sig) → Buf (Elt Ideal) ℓ) (c : Dev nD) :
    finalContents condOps preI bodyI postI 2048 m c (Proc.devRef .tc main_v97) = gated (atK m 2048 c (Proc.devRef .tc main_v80_4)) (gateCols (arg0 m c)) := by
  have k4 : atK m 2048 c (Proc.devRef .tc main_v4) = gateCols (arg0 m c) := (trips_keep m c main_v4 (by decide +kernel) 2048).trans (entry_gate m c)
  have c4 : after condOps (atK m 2048 c) (Proc.devRef .tc main_v4) = atK m 2048 c (Proc.devRef .tc main_v4) := after_of_writes_sub _ _ condOps_writes (by decide +kernel)
  have c0 : after condOps (atK m 2048 c) (Proc.devRef .tc main_v80_4) = atK m 2048 c (Proc.devRef .tc main_v80_4) := after_of_writes_sub _ _ condOps_writes (by decide +kernel)
  rw [← k4, ← c4, ← c0]
  show afterL postI (after condOps (atK m 2048 c)) _ = _
  generalize after condOps (atK m 2048 c) = W
  simp only [afterL_cons, afterL_nil]
  after_reads_simp
  rfl

end Cert.Calls.Rglru.Ref
-- ==== Proof.RglruValue.lean ====
/-
  The gated recurrence: the reference's arrays entry by entry, and the kernel's result the reference's.
-/
module

public import proofs.«01_k».proof.Proof.RglruKernel
public import proofs.«01_k».proof.Proof.RglruRefRun

@[expose] public section

set_option maxRecDepth 16384

noncomputable section

namespace Cert.Calls.Rglru.Ref

open Cert.ReferenceIdeal Cert.ReferenceIdeal.Gen Cert.ReferenceIdeal.Value
open Idealize.ShloMosaic Idealize.ShloMosaic.TcCoe Idealize.ShloMosaic.StableHlo Idealize.SL.Sem

theorem over_apply (v : FVec Ideal S1024 .f32) (s : Fin 8) (n : Fin 2048) (j : Fin 1024) : over (F := Ideal) v (ix3 s n j) = v (ix1 j) := by
  pointwise [over]

theorem all_apply (v : BitVec 32) (s : Fin 8) (n : Fin 2048) (j : Fin 1024) : all (F := Ideal) (constant S_ .f32 v) (ix3 s n j) = Ideal.ofBits .f32 v := by
  pointwise [all]

theorem padded_apply (A : Args) (s : Fin 8) (n : Fin 2051) (j : Fin 1024) : padded (F := Ideal) A.z (ix3 s n j) = A.row s.val (5 + n.val) j := by
  pointwise [padded]
  unfold Args.row
  by_cases h : 3 ≤ n.val ∧ n.val - 3 < 2048
  · rw [dif_pos h, dif_pos (by omega)]
    exact congrArg (fun a => A.z (ix2 a _)) (Fin.ext (by dsimp only; omega))
  · rw [dif_neg h, dif_neg (by omega)]
    show (((0#32 : BitVec 32).toInt : ℝ) : EReal) = 0
    norm_num

theorem gateCols_apply (z : FVec Ideal S16384x10240 .bf16) (s : Fin 8) (n : Fin 2048) (j : Fin 1024) :
    gateCols (F := Ideal) z (ix3 s n j) = z (ix2 ⟨s.val * 2048 + n.val, by omega⟩ ⟨3072 + j.val, by omega⟩) := by
  pointwise [gateCols]

/-- A row of the convolution's weights. -/
theorem tap_apply (cw : FVec Ideal S4x1024 .f32) (i : Fin 4) (h : S4x1024.Slices ![i.val, 0] S1x1024) (j : Fin 1024) :
    (shapeCast S1024 (extractStridedSlice S1x1024 ![i.val, 0] cw h) shapeCasts_S1x1024_S1024) (ix1 j) = cw (ix2 i j) := by
  pointwise

theorem conv_apply (A : Args) (s : Fin 8) (n : Fin 2048) (j : Fin 1024) :
    conv (F := Ideal) A.z A.cw A.cb (ix3 s n j) = (A.data s.val 0).xc n.val j := by
  have ho := over_apply
  have hp := padded_apply A
  have t0 := tap_apply A.cw 0 slices_S4x1024_S1x1024_0_0 j
  have t1 := tap_apply A.cw 1 slices_S4x1024_S1x1024_1_0 j
  have t2 := tap_apply A.cw 2 slices_S4x1024_S1x1024_2_0 j
  have t3 := tap_apply A.cw 3 slices_S4x1024_S1x1024_3_0 j
  unfold conv
  generalize padded (F := Ideal) A.z = P at hp ⊢
  generalize over (F := Ideal) = O at ho ⊢
  pointwise
  rw [ho, ho, ho, ho, ho, hp, hp, hp, hp]
  refine (congrArg (· + _) (congr (congrArg HAdd.hAdd (congr (congrArg HAdd.hAdd (congr (congrArg HAdd.hAdd (congrArg (· * _) t0)) (congrArg (· * _) t1))) (congrArg (· * _) t2))) (congrArg (· * _) t3))).trans ?_
  show _ = A.cw (ix2 3 j) * A.row s.val (512 * 0 + (8 + n.val)) j + A.cw (ix2 2 j) * A.row s.val (512 * 0 + (7 + n.val)) j
    + A.cw (ix2 1 j) * A.row s.val (512 * 0 + (6 + n.val)) j + A.cw (ix2 0 j) * A.row s.val (512 * 0 + (5 + n.val)) j + A.cb (ix1 j)
  dsimp only
  rw [show 5 + (1 + n.val) = 512 * 0 + (6 + n.val) by omega, show 5 + (2 + n.val) = 512 * 0 + (7 + n.val) by omega,
    show 5 + (3 + n.val) = 512 * 0 + (8 + n.val) by omega, show 5 + n.val = 512 * 0 + (5 + n.val) by omega]
  congr 1
  ac_rfl

theorem gate_apply (w : FVec Ideal S16x64x64 .f32) (b : FVec Ideal S1024 .f32) (x : FVec Ideal S8x2048x1024 .f32) (s : Fin 8) (n : Fin 2048) (j : Fin 1024) :
    gate (F := Ideal) w b x (ix3 s n j) = Ideal.logistic ((∑ k : Fin 64, w (ix3 ⟨j.val / 64, by omega⟩ k ⟨j.val % 64, by omega⟩) * x (ix3 s n ⟨j.val / 64 * 64 + k.val, by omega⟩)) + b (ix1 j)) := by
  have ho := over_apply
  have ha := all_apply 0x3F800000#32
  unfold gate
  generalize over (F := Ideal) = O at ho ⊢
  generalize all (F := Ideal) (constant S_ .f32 0x3F800000#32) = C at ha ⊢
  pointwise
  rw [ho, ha, Scalars.one]
  rfl

theorem plus_apply (lam : FVec Ideal S1024 .f32) (j : Fin 1024) : plus (F := Ideal) lam (ix1 j) = soft (lam (ix1 j)) := by
  pointwise [plus]
  rw [if_neg (fun h => h rfl)]
  show max (-lam (ix1 j)) 0 + Ideal.log1p (Ideal.exp (-(max (-lam (ix1 j)) (- -lam (ix1 j))))) = soft (lam (ix1 j))
  unfold soft
  simp only [zero_sub]

theorem gated_apply (o : FVec Ideal S2048x8x1024 .f32) (x : FVec Ideal S8x2048x1024 .f32) (i : Fin 16384) (j : Fin 1024) :
    gated (G := Ideal) o x (ix2 i j) = o (ix3 ⟨i.val % 2048, by omega⟩ ⟨i.val / 2048, by omega⟩ j) * Gmlp.gelu (x (ix3 ⟨i.val / 2048, by omega⟩ ⟨i.val % 2048, by omega⟩ j)) := by
  have ha := all_apply
  unfold gated Gmlp.gelu
  generalize all (F := Ideal) = C at ha ⊢
  pointwise
  rw [ha, ha, ha, ha, Scalars.one]
  generalize x _ = y
  rw [mul_assoc y y y]

/-- A sum over a block-diagonal column is over its own 64 rows. -/
theorem sum_block (w : FVec Ideal S16x64x64 .f32) (x : Fin 1024 → EReal) (j : Fin 1024) :
    (∑ k : Fin 256, x ⟨j.val / 256 * 256 + k.val, by omega⟩ * spread (F := Ideal) w (ix3 ⟨j.val / 256, by omega⟩ k ⟨j.val % 256, by omega⟩))
      = ∑ k : Fin 64, w (ix3 ⟨j.val / 64, by omega⟩ k ⟨j.val % 64, by omega⟩) * x ⟨j.val / 64 * 64 + k.val, by omega⟩ := by
  simp only [spread_apply]
  rw [← finProdFinEquiv.sum_comp (M := EReal) (ι := Fin 4 × Fin 64) (κ := Fin 256), Fintype.sum_prod_type]
  have hj : j.val % 256 / 64 < 4 := by omega
  rw [Finset.sum_eq_single (⟨j.val % 256 / 64, hj⟩ : Fin 4)]
  · refine Finset.sum_congr rfl fun k _ => ?_
    have e : (finProdFinEquiv ((⟨j.val % 256 / 64, hj⟩ : Fin 4), k) : Fin (4 * 64)).val = k.val + 64 * (j.val % 256 / 64) := rfl
    rw [if_pos (by rw [e]; omega), mul_comm]
    congr 1
    · congr 2 <;> apply Fin.ext <;> dsimp only <;> (try rw [e]) <;> omega
    · congr 1; apply Fin.ext; dsimp only; rw [e]; omega
  · intro a _ ha
    refine Finset.sum_eq_zero fun k _ => ?_
    have e : (finProdFinEquiv (a, k) : Fin (4 * 64)).val = k.val + 64 * a.val := rfl
    rw [if_neg (fun h => ha (Fin.ext (by dsimp only at h ⊢; rw [e] at h; omega))), mul_zero]
  · intro h
    exact absurd (Finset.mem_univ _) h

/-- The gates are the kernel's. -/
theorem gate_a (A : Args) (s : Fin 8) (n : Fin 2048) (j : Fin 1024) :
    gate (F := Ideal) A.wa A.ba (conv A.z A.cw A.cb) (ix3 s n j) = (A.data s.val 0).gate 0 (A.data s.val 0).ba n.val j := by
  rw [gate_apply]
  simp only [conv_apply]
  rw [← sum_block A.wa ((A.data s.val 0).xc n.val) j]
  unfold Data.gate
  refine congrArg (fun v => Ideal.logistic (v + _)) (Finset.sum_congr rfl fun k _ => congrArg (_ * ·) ?_)
  show _ = if h : (0 + j.val % 256) % 512 < 256 then spread A.wa (ix3 ⟨j.val / 256, _⟩ k ⟨(0 + j.val % 256) % 512, h⟩) else _
  rw [dif_pos (by omega)]
  exact congrArg (fun a => spread (F := Ideal) A.wa (ix3 _ k a)) (Fin.ext (by dsimp only; omega))

theorem gate_x (A : Args) (s : Fin 8) (n : Fin 2048) (j : Fin 1024) :
    gate (F := Ideal) A.wx A.bx (conv A.z A.cw A.cb) (ix3 s n j) = (A.data s.val 0).gate 256 (A.data s.val 0).bx n.val j := by
  rw [gate_apply]
  simp only [conv_apply]
  rw [← sum_block A.wx ((A.data s.val 0).xc n.val) j]
  unfold Data.gate
  refine congrArg (fun v => Ideal.logistic (v + _)) (Finset.sum_congr rfl fun k _ => congrArg (_ * ·) ?_)
  show _ = if h : (256 + j.val % 256) % 512 < 256 then _ else spread A.wx (ix3 ⟨j.val / 256, _⟩ k ⟨(256 + j.val % 256) % 512 - 256, _⟩)
  rw [dif_neg (by omega)]
  exact congrArg (fun a => spread (F := Ideal) A.wx (ix3 _ k a)) (Fin.ext (by dsimp only; omega))

theorem logs_apply (A : Args) (s : Fin 8) (n : Fin 2048) (j : Fin 1024) :
    logs (F := Ideal) A.wa A.ba A.lam (conv A.z A.cw A.cb) (ix3 s n j) = (A.data s.val 0).log n.val j := by
  have h := gate_a A s n j
  have ho := over_apply
  have ha := all_apply 0xC1000000#32
  have hp := plus_apply A.lam j
  unfold logs
  generalize gate (F := Ideal) A.wa A.ba (conv A.z A.cw A.cb) = g at h ⊢
  generalize over (F := Ideal) = O at ho ⊢
  generalize plus (F := Ideal) A.lam = p at hp ⊢
  generalize all (F := Ideal) (constant S_ .f32 0xC1000000#32) = C at ha ⊢
  pointwise
  rw [ho, ha, h, hp]
  rfl

theorem decays_apply (A : Args) (s : Fin 8) (n : Fin 2048) (j : Fin 1024) :
    decays (F := Ideal) A.wa A.ba A.lam (conv A.z A.cw A.cb) (ix3 s n j) = (A.data s.val 0).fa n.val j := by
  have h := logs_apply A s n j
  unfold decays
  generalize logs (F := Ideal) A.wa A.ba A.lam (conv A.z A.cw A.cb) = g at h ⊢
  pointwise
  rw [h]
  rfl

theorem two : Ideal.ofBits .f32 0x40000000#32 = 2 := by
  simp [Ideal.ofBits, Ideal.ieee, -EReal.coe_mul]; norm_num
  rfl

theorem adds_apply (A : Args) (s : Fin 8) (n : Fin 2048) (j : Fin 1024) :
    adds (F := Ideal) A.wa A.ba A.lam A.wx A.bx (conv A.z A.cw A.cb) (ix3 s n j) = (A.data s.val 0).fb n.val j := by
  have h := logs_apply A s n j
  have hg := gate_x A s n j
  have hx := conv_apply A s n j
  have ha := all_apply 0x40000000#32
  unfold adds
  generalize logs (F := Ideal) A.wa A.ba A.lam (conv A.z A.cw A.cb) = g at h ⊢
  generalize gate (F := Ideal) A.wx A.bx (conv A.z A.cw A.cb) = i at hg ⊢
  generalize conv (F := Ideal) A.z A.cw A.cb = x at hx ⊢
  generalize all (F := Ideal) (constant S_ .f32 0x40000000#32) = C at ha ⊢
  pointwise
  rw [ha, h, hg, hx, two]
  unfold Data.fb
  rw [Scalars.decay _ (Data.log_le _ (fun c => soft_nonneg _) n.val j)]

/-- The reference's arguments. -/
def argsOf (m : (ℓ : Loc nD τ sig) → Buf (Elt Ideal) ℓ) (c : Dev nD) : Args :=
  ⟨arg0 m c, arg1 m c, arg2 m c, arg3 m c, arg4 m c, arg5 m c, arg6 m c, arg7 m c⟩

/-- The scan's states are the recurrence's. -/
theorem rows (m : (ℓ : Loc nD τ sig) → Buf (Elt Ideal) ℓ) (c : Dev nD) (i : Fin 2048) (s : Fin 8) (j : Fin 1024) :
    (show FVec Ideal S2048x8x1024 .f32 from atK m 2048 c (Proc.devRef .tc main_v80_4)) (ix3 i s j) = (argsOf m c).hist s.val (i.val + 1) j := by
  refine (scan m c (fun k s j => (argsOf m c).hist s.val k j) (fun _ _ => rfl) (fun k hk s j => ?_) 2048 (Nat.le_refl _)).2 i s j i.isLt
  have h1 := decays_apply (argsOf m c) s ⟨k, hk⟩ j
  have h2 := adds_apply (argsOf m c) s ⟨k, hk⟩ j
  rw [entry_decays, entry_adds]
  show (argsOf m c).hist s.val (k + 1) j
    = transpose S2048x8x1024 [1, 0, 2] (decays (F := Ideal) (argsOf m c).wa (argsOf m c).ba (argsOf m c).lam (conv (argsOf m c).z (argsOf m c).cw (argsOf m c).cb)) transposes_S8x2048x1024_S2048x8x1024_1_0_2 (ix3 ⟨k, hk⟩ s j)
        * (argsOf m c).hist s.val k j
      + transpose S2048x8x1024 [1, 0, 2] (adds (F := Ideal) (argsOf m c).wa (argsOf m c).ba (argsOf m c).lam (argsOf m c).wx (argsOf m c).bx (conv (argsOf m c).z (argsOf m c).cw (argsOf m c).cb)) transposes_S8x2048x1024_S2048x8x1024_1_0_2 (ix3 ⟨k, hk⟩ s j)
  generalize decays (F := Ideal) (argsOf m c).wa (argsOf m c).ba (argsOf m c).lam (conv (argsOf m c).z (argsOf m c).cw (argsOf m c).cb) = P at h1 ⊢
  generalize adds (F := Ideal) (argsOf m c).wa (argsOf m c).ba (argsOf m c).lam (argsOf m c).wx (argsOf m c).bx (conv (argsOf m c).z (argsOf m c).cw (argsOf m c).cb) = Q at h2 ⊢
  pointwise
  rw [h1, h2]
  exact add_comm _ _

/-- The reference's result. -/
theorem value (m : (ℓ : Loc nD τ sig) → Buf (Elt Ideal) ℓ) (c : Dev nD) (i : Fin 16384) (j : Fin 1024) :
    (show FVec Ideal S16384x1024 .bf16 from finalContents condOps preI bodyI postI 2048 m c (Proc.devRef .tc main_v97)) (ix2 i j) = result (argsOf m c) i j := by
  rw [final_eq]
  refine (gated_apply _ _ i j).trans ?_
  rw [gateCols_apply]
  have h := rows m c ⟨i.val % 2048, by omega⟩ ⟨i.val / 2048, by omega⟩ j
  unfold result
  refine congr (congrArg HMul.hMul h) (congrArg Gmlp.gelu (congrArg (fun a => arg0 m c (ix2 a _)) (Fin.ext ?_)))
  dsimp only
  omega

end Cert.Calls.Rglru.Ref

namespace Cert.Calls.Rglru

open Idealize.ShloMosaic Idealize.ShloMosaic.TcCoe Idealize.SL.Sem

theorem frame_reference : Cert.quiescent_ReferenceIdeal (hReferenceIdeal := ReferenceIdeal.Gen.facts) := Ref.frame_reference

/-- On equal arguments the kernel's result array is the reference's: both are `result`. -/
theorem algebraic : Cert.algebraic_KernelIdeal_ReferenceIdeal (hKernelIdeal := KernelIdeal.Gen.facts) (hReferenceIdeal := ReferenceIdeal.Gen.facts) := by
  intro m ρ m' ρ' _ hag
  refine ⟨fun c => G m c, ?_, ?_⟩
  · exact (θ_run _ _ _).mono (fun _ h c => ⟨((h.1.1 c).1 8).trans (final m c), h.2.1 c⟩) (θ_run_and (run_quiet (F := Ideal) m ρ) (run_frame m ρ))
  · refine (θ_run _ _ _).mono (fun _ h c => ⟨(h c).1.trans ?_, (h c).2⟩) (Ref.run_args (F := Ideal) m' ρ')
    have e : Ref.argsOf m' c = argsOf m c := by
      unfold Ref.argsOf argsOf Ref.arg0 Ref.arg1 Ref.arg2 Ref.arg3 Ref.arg4 Ref.arg5 Ref.arg6 Ref.arg7
      rw [(hag c).1, (hag c).2.1, (hag c).2.2.1, (hag c).2.2.2.1, (hag c).2.2.2.2.1, (hag c).2.2.2.2.2.1, (hag c).2.2.2.2.2.2.1, (hag c).2.2.2.2.2.2.2]
    funext i
    refine (congrArg _ (eq_ix2 i)).trans ((Ref.value m' c (i 0) (i 1)).trans ?_)
    rw [e]
    rfl

end Cert.Calls.Rglru
-- ==== Proof.FfnValue.lean ====
/-
  The feed-forward half: the pallas_call multiplies a block of 512 normalised rows with the gate and the up weights in
  two chunks of the hidden axis (1536 and 1280), accumulates the down projection of the chunks in a scratch buffer, and
  adds the normalised sum to the residual stream. Here its result array is read as one function of the arguments, and
  the reference's as the same.
-/
module

public import proofs.«01_k».proof.Defs
public import proofs.«01_k».proof.Proof.Scalars
public import proofs.«01_k».proof.Proof.Gen.FfnIdeal.Value
public import proofs.«01_k».proof.Proof.Gen.FfnRefIdeal.Run
public import proofs.«01_k».proof.Proof.Gen.FfnRefIdeal.Read
public import Idealize.ShloMosaic.Lib.Pipeline.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Calls.Ffn

/-- Row `r` of the activations against column `q` of layer 0's input weights (gate columns first, then up columns). -/
def inner {n : ℕ} (h : (⟨2, ![n, 1024]⟩ : Shape).Idx → EReal) {l : ℕ} (w : (⟨3, ![l + 1, 1024, 5632]⟩ : Shape).Idx → EReal)
    (r : Fin n) (q : Fin 5632) : EReal := ∑ k : Fin 1024, h (ix2 r k) * w (ix3 0 k q)

/-- The gated hidden unit `p` of row `r`. -/
def hidden {n : ℕ} (h : (⟨2, ![n, 1024]⟩ : Shape).Idx → EReal) {l : ℕ} (w : (⟨3, ![l + 1, 1024, 5632]⟩ : Shape).Idx → EReal)
    (r : Fin n) (p : Fin 2816) : EReal :=
  inner h w r ⟨p.val, by omega⟩ * Ideal.logistic (inner h w r ⟨p.val, by omega⟩) * inner h w r ⟨2816 + p.val, by omega⟩

/-- The down projection. -/
def down {n : ℕ} (h : (⟨2, ![n, 1024]⟩ : Shape).Idx → EReal) {l : ℕ} (w : (⟨3, ![l + 1, 1024, 5632]⟩ : Shape).Idx → EReal)
    (v : (⟨3, ![l + 1, 2816, 1024]⟩ : Shape).Idx → EReal) (r : Fin n) (j : Fin 1024) : EReal :=
  ∑ p : Fin 2816, hidden h w r p * v (ix3 0 p j)

/-- The result: the residual stream plus the normalised down projection. -/
def result {n : ℕ} (h x : (⟨2, ![n, 1024]⟩ : Shape).Idx → EReal) {l : ℕ} (w : (⟨3, ![l + 1, 1024, 5632]⟩ : Shape).Idx → EReal)
    (v : (⟨3, ![l + 1, 2816, 1024]⟩ : Shape).Idx → EReal) (g : Fin 1024 → EReal) (r : Fin n) (j : Fin 1024) : EReal :=
  x (ix2 r j) + down h w v r j * Ideal.rsqrt (Ideal.div (∑ k : Fin 1024, down h w v r k * down h w v r k) (Ideal.ofBits .f32 0x44800000#32)
    + Ideal.ofBits .f32 0x358637BD#32) * g j

end Cert.Calls.Ffn

namespace Cert.Calls.Ffn.Ref

open Cert.FfnRefIdeal Cert.FfnRefIdeal.Gen Cert.FfnRefIdeal.Read

/-- The reference's down projection at a row and a column. -/
theorem read_down (h : FVec Ideal S16384x1024 .bf16) (w : FVec Ideal S2x1024x5632 .f32)
    (v : FVec Ideal S2x2816x1024 .f32) (r : Fin 16384) (j : Fin 1024) :
    val_main_v10 (F := Ideal) h w v (ix2 r j) = down (l := 1) h w v r j := by
  have key : ∀ p : Fin 2816, val_main_v7 (F := Ideal) h w (ix2 r p) = hidden (l := 1) h w r p := by
    intro p
    pointwise [val_main_v7, val_main_v6, val_main_v5, val_main_v4, val_main_v3, val_main_v2, val_main_v1, val_main_v0,
      val_main_call0_v5, val_main_call0_v4, val_main_call0_v3, val_main_call0_v2, val_main_call0_v1, val_main_call0_v0,
      val_main_call0_cst, val_main_call0_cst_0, hidden, inner, Ideal.logistic, Scalars.one]
  unfold val_main_v10
  generalize val_main_v7 (F := Ideal) h w = y at key
  pointwise [val_main_v9, val_main_v8, down]
  simp only [key]

/-- The reference's composed term at a row and a column. -/
theorem read (h : FVec Ideal S16384x1024 .bf16) (x : FVec Ideal S16384x1024 .f32) (w : FVec Ideal S2x1024x5632 .f32)
    (v : FVec Ideal S2x2816x1024 .f32) (g : FVec Ideal S1024 .f32) (r : Fin 16384) (j : Fin 1024) :
    val_main_v24 (F := Ideal) h x w v g (ix2 r j) = result (l := 1) h x w v (fun k => g (ix1 k)) r j := by
  have key := fun j => read_down h w v r j
  unfold val_main_v24 val_main_v23 val_main_v20 val_main_v19 val_main_v18 val_main_v17 val_main_v15 val_main_v13 val_main_v12 val_main_v11
  generalize val_main_v10 (F := Ideal) h w v = y at key
  pointwise [val_main_v22, val_main_v21, val_main_v16, val_main_v14, val_main_cst, val_main_cst_0, val_main_cst_1, result]
  simp only [key]

end Cert.Calls.Ffn.Ref

namespace Cert.Calls.Ffn.Ker

open Cert.FfnIdeal Cert.FfnIdeal.Gen

theorem hz2 : (![0, 0] : Fin 2 → Nat) = fun _ => 0 := funext fun a => by fin_cases a <;> rfl
theorem hz3 : (![0, 0, 0] : Fin 3 → Nat) = fun _ => 0 := funext fun a => by fin_cases a <;> rfl

theorem z2 : ∀ a : Fin 2, (![0, 0] : Fin 2 → Nat) a = 0 := fun a => by fin_cases a <;> rfl

section
variable {F : FTy → Type} [FloatOps F]

/-- What the body accumulates in the scratch. -/
def acc (h : Vec F S512x1024 .bf16) (w : Vec F S1x1024x5632 .bf16) (v : Vec F S1x2816x1024 .bf16) : Vec F S512x1024 .f32 :=
  k0_pay1 (k0_pay4 h (extractStridedSlice S1x1024x1280 ![0, 0, 1536] w ⟨rfl, inb_S1x1024x5632_S1x1024x1280_0_0_1536⟩))
      (k0_pay5 h (extractStridedSlice S1x1024x1280 ![0, 0, 4352] w ⟨rfl, inb_S1x1024x5632_S1x1024x1280_0_0_4352⟩)) k0_pay6
      (extractStridedSlice S1x1280x1024 ![0, 1536, 0] v ⟨rfl, inb_S1x2816x1024_S1x1280x1024_0_1536_0⟩)
      (k0_pay3 h (extractStridedSlice S1x1024x1536 ![0, 0, 0] w ⟨rfl, inb_S1x1024x5632_S1x1024x1536_0_0_0⟩)
        (extractStridedSlice S1x1024x1536 ![0, 0, 2816] w ⟨rfl, inb_S1x1024x5632_S1x1024x1536_0_0_2816⟩)
        (extractStridedSlice S1x1536x1024 ![0, 0, 0] v ⟨rfl, inb_S1x2816x1024_S1x1536x1024_0_0_0⟩))

theorem out_A (c : Dev nD) (i : grid0.Coords) (a1) (h1) (a2) (h2) (a3) (h3) (a4) (h4) (a5) (h5) (a6) (h6) (a7) (h7) (h x w v g) :
    out0_A_5 (F := F) c i a1 h1 a2 h2 a3 h3 a4 h4 a5 h5 a6 h6 a7 h7 h x w v g = k0_pay2 x (acc h w v) g := by
  unfold out0_A_5
  rw [View.read_writes_eq_canon _ _ _ (cover0_A_5 c i a1 h1 a2 h2 a3 h3 a4 h4 a5 h5 a6 h6 a7 h7 h x w v g)]
  unfold kernelRun0_A
  dsimp only
  sl_unfold_words
  rw [View.canon_unit_zero (S := S512x1024) hz2,
    View.readCov_cons_unit_lit' (S := S512x1024) a7.view (off := ![0, 0]) (off' := ![0, 0]) _ _ _ _ z2 z2,
    View.readCov_unit_zero (S := S512x1024) _ hz2]
  simp only [View.readAt_eq_ld, h1.read_unread, h2.read_unread, h3.read_unread, h4.read_unread, h5.read_unread,
    View.ld_unit_zero (S := S512x1024) hz2, View.ld_unit_zero (S := S1x1024) hz2, View.ld_unit]
  rfl

end

/-- The first chunk's down projection. -/
theorem body_lo (h : Vec Ideal S512x1024 .bf16) (w : Vec Ideal S1x1024x5632 .bf16) (v : Vec Ideal S1x2816x1024 .bf16) (r : Fin 512) (j : Fin 1024) :
    k0_pay3 (F := Ideal) h (extractStridedSlice S1x1024x1536 ![0, 0, 0] w ⟨rfl, inb_S1x1024x5632_S1x1024x1536_0_0_0⟩)
        (extractStridedSlice S1x1024x1536 ![0, 0, 2816] w ⟨rfl, inb_S1x1024x5632_S1x1024x1536_0_0_2816⟩)
        (extractStridedSlice S1x1536x1024 ![0, 0, 0] v ⟨rfl, inb_S1x2816x1024_S1x1536x1024_0_0_0⟩) (ix2 r j)
      = ∑ p : Fin 1536, hidden (l := 0) h w r ⟨p.val, by omega⟩ * v (ix3 0 ⟨p.val, by omega⟩ j) := by
  pointwise [k0_pay3, Scalars.sigmoid, hidden, inner]

/-- The second chunk, on top of what the scratch holds. -/
theorem body_hi (h : Vec Ideal S512x1024 .bf16) (w : Vec Ideal S1x1024x5632 .bf16) (v : Vec Ideal S1x2816x1024 .bf16) (a : Vec Ideal S512x1024 .f32) (r : Fin 512) (j : Fin 1024) :
    k0_pay1 (F := Ideal) (k0_pay4 (F := Ideal) h (extractStridedSlice S1x1024x1280 ![0, 0, 1536] w ⟨rfl, inb_S1x1024x5632_S1x1024x1280_0_0_1536⟩))
      (k0_pay5 (F := Ideal) h (extractStridedSlice S1x1024x1280 ![0, 0, 4352] w ⟨rfl, inb_S1x1024x5632_S1x1024x1280_0_0_4352⟩)) (k0_pay6 (F := Ideal))
      (extractStridedSlice S1x1280x1024 ![0, 1536, 0] v ⟨rfl, inb_S1x2816x1024_S1x1280x1024_0_1536_0⟩) a (ix2 r j)
      = a (ix2 r j) + ∑ p : Fin 1280, hidden (l := 0) h w r ⟨1536 + p.val, by omega⟩ * v (ix3 0 ⟨1536 + p.val, by omega⟩ j) := by
  pointwise [k0_pay1, k0_pay4, k0_pay5, k0_pay6, Scalars.sigmoid, hidden, inner]
  refine congrArg _ (Finset.sum_congr rfl fun p _ => ?_)
  have e : (⟨2816 + (1536 + p.val), by omega⟩ : Fin 5632) = ⟨4352 + p.val, by omega⟩ := Fin.ext (by show 2816 + (1536 + p.val) = 4352 + p.val; omega)
  rw [e]

/-- A sum over the hidden axis is its two chunks' sums. -/
theorem split (f : Fin 2816 → EReal) :
    ∑ p, f p = ∑ p : Fin 1536, f ⟨p.val, by omega⟩ + ∑ p : Fin 1280, f ⟨1536 + p.val, by omega⟩ :=
  Fin.sum_univ_add (a := 1536) (b := 1280) f

theorem acc_apply (h : Vec Ideal S512x1024 .bf16) (w : Vec Ideal S1x1024x5632 .bf16) (v : Vec Ideal S1x2816x1024 .bf16) (r : Fin 512) (j : Fin 1024) :
    acc (F := Ideal) h w v (ix2 r j) = down (l := 0) h w v r j := by
  unfold acc down
  rw [body_hi, body_lo]
  exact (split fun p => hidden (l := 0) h w r p * v (ix3 0 p j)).symm

/-- The body's result at a row and a column. -/
theorem body_apply (h : Vec Ideal S512x1024 .bf16) (x : Vec Ideal S512x1024 .f32) (w : Vec Ideal S1x1024x5632 .bf16) (v : Vec Ideal S1x2816x1024 .bf16)
    (g : Vec Ideal S1x1024 .f32) (r : Fin 512) (j : Fin 1024) :
    k0_pay2 (F := Ideal) x (acc (F := Ideal) h w v) g (ix2 r j) = result (l := 0) h x w v (fun k => g (ix2 0 k)) r j := by
  have key := acc_apply h w v r
  generalize acc (F := Ideal) h w v = y at key ⊢
  pointwise [k0_pay2, result]
  simp only [key]

/-- The result at a row needs that row of the activations and of the residual stream, and the weights. -/
theorem result_congr {n n' l l' : ℕ} {h x : (⟨2, ![n, 1024]⟩ : Shape).Idx → EReal} {h' x' : (⟨2, ![n', 1024]⟩ : Shape).Idx → EReal}
    {w : (⟨3, ![l + 1, 1024, 5632]⟩ : Shape).Idx → EReal} {w' : (⟨3, ![l' + 1, 1024, 5632]⟩ : Shape).Idx → EReal}
    {v : (⟨3, ![l + 1, 2816, 1024]⟩ : Shape).Idx → EReal} {v' : (⟨3, ![l' + 1, 2816, 1024]⟩ : Shape).Idx → EReal}
    {g g' : Fin 1024 → EReal} {r : Fin n} {r' : Fin n'} (hh : ∀ k, h (ix2 r k) = h' (ix2 r' k)) (hx : ∀ k, x (ix2 r k) = x' (ix2 r' k))
    (hw : ∀ k q, w (ix3 0 k q) = w' (ix3 0 k q)) (hv : ∀ p j, v (ix3 0 p j) = v' (ix3 0 p j)) (hg : ∀ k, g k = g' k) (j : Fin 1024) :
    result h x w v g r j = result h' x' w' v' g' r' j := by
  simp only [result, down, hidden, inner, hh, hx, hw, hv, hg]

/-! ## The blocks the points read -/

section
variable {F : FTy → Type} [FloatOps F]
variable (m : (ℓ : Loc nD τ sig) → Buf (Elt F) ℓ)

theorem idx (t : Fin cfg0.N) : win0_0.index t = ![t.val, 0] ∧ win0_1.index t = ![t.val, 0]
    ∧ win0_2.index t = ![0, 0, 0] ∧ win0_3.index t = ![0, 0, 0] ∧ win0_4.index t = ![0, 0] ∧ win0_5.index t = ![t.val, 0] :=
  (by decide +kernel : ∀ t : Fin grid0.N, win0_0.index t = ![t.val, 0] ∧ win0_1.index t = ![t.val, 0]
    ∧ win0_2.index t = ![0, 0, 0] ∧ win0_3.index t = ![0, 0, 0] ∧ win0_4.index t = ![0, 0] ∧ win0_5.index t = ![t.val, 0]) t

/-- The gain, as the region finds it: the argument as a row. -/
theorem V_gain (c : Dev nD) : (show FVec F S1x1024 .f32 from V m c main_v2)
    = shapeCast S1x1024 (show FVec F S1024 .f32 from m ((c : Thread nD τ).loc main_arg4)) shapeCasts_S1024_S1x1024 := by
  show V m c main_v2 = _
  after_results
  rfl

/-- The input weights, as the region finds them: the argument rounded. -/
theorem V_win (c : Dev nD) : (show FVec F S2x1024x5632 .bf16 from V m c main_v0)
    = truncf .bf16 (show FVec F S2x1024x5632 .f32 from m ((c : Thread nD τ).loc main_arg2)) bitsLt_bf16_f32 := by
  show V m c main_v0 = _
  after_results
  rfl

theorem V_wout (c : Dev nD) : (show FVec F S2x2816x1024 .bf16 from V m c main_v1)
    = truncf .bf16 (show FVec F S2x2816x1024 .f32 from m ((c : Thread nD τ).loc main_arg3)) bitsLt_bf16_f32 := by
  show V m c main_v1 = _
  after_results
  rfl

theorem blk0 (c : Dev nD) (t : Fin cfg0.N) (r : Fin 512) (k : Fin 1024) (h : t.val * 512 + r.val < 16384) :
    (show FVec F S512x1024 .bf16 from iblk m c 0 t) (ix2 r k)
      = (show FVec F S16384x1024 .bf16 from m ((c : Thread nD τ).loc main_arg0)) (ix2 ⟨t.val * 512 + r.val, h⟩ k) := by
  rw [← V_main_arg0 m c]
  show V m c main_arg0 _ = V m c main_arg0 _
  refine congrArg _ (funext fun a => Fin.ext ?_)
  match a with
  | ⟨0, _⟩ => show win0_0.index t 0 * 512 + 1 * r.val = _; rw [(idx t).1, Nat.one_mul]; rfl
  | ⟨1, _⟩ => show win0_0.index t 1 * 1024 + 1 * k.val = _; rw [(idx t).1]; show 0 * 1024 + 1 * k.val = k.val; omega

theorem blk1 (c : Dev nD) (t : Fin cfg0.N) (r : Fin 512) (k : Fin 1024) (h : t.val * 512 + r.val < 16384) :
    (show FVec F S512x1024 .f32 from iblk m c 1 t) (ix2 r k)
      = (show FVec F S16384x1024 .f32 from m ((c : Thread nD τ).loc main_arg1)) (ix2 ⟨t.val * 512 + r.val, h⟩ k) := by
  rw [← V_main_arg1 m c]
  show V m c main_arg1 _ = V m c main_arg1 _
  refine congrArg _ (funext fun a => Fin.ext ?_)
  match a with
  | ⟨0, _⟩ => show win0_1.index t 0 * 512 + 1 * r.val = _; rw [(idx t).2.1, Nat.one_mul]; rfl
  | ⟨1, _⟩ => show win0_1.index t 1 * 1024 + 1 * k.val = _; rw [(idx t).2.1]; show 0 * 1024 + 1 * k.val = k.val; omega

theorem blk2 (c : Dev nD) (t : Fin cfg0.N) (k : Fin 1024) (q : Fin 5632) :
    (show FVec F S1x1024x5632 .bf16 from iblk m c 2 t) (ix3 0 k q)
      = (show FVec F S2x1024x5632 .bf16 from V m c main_v0) (ix3 0 k q) := by
  show V m c main_v0 _ = V m c main_v0 _
  refine congrArg _ (funext fun a => Fin.ext ?_)
  match a with
  | ⟨0, _⟩ => show win0_2.index t 0 * 1 + 1 * 0 = _; rw [(idx t).2.2.1]; rfl
  | ⟨1, _⟩ => show win0_2.index t 1 * 1024 + 1 * k.val = _; rw [(idx t).2.2.1]; show 0 * 1024 + 1 * k.val = k.val; omega
  | ⟨2, _⟩ => show win0_2.index t 2 * 5632 + 1 * q.val = _; rw [(idx t).2.2.1]; show 0 * 5632 + 1 * q.val = q.val; omega

theorem blk3 (c : Dev nD) (t : Fin cfg0.N) (k : Fin 2816) (q : Fin 1024) :
    (show FVec F S1x2816x1024 .bf16 from iblk m c 3 t) (ix3 0 k q)
      = (show FVec F S2x2816x1024 .bf16 from V m c main_v1) (ix3 0 k q) := by
  show V m c main_v1 _ = V m c main_v1 _
  refine congrArg _ (funext fun a => Fin.ext ?_)
  match a with
  | ⟨0, _⟩ => show win0_3.index t 0 * 1 + 1 * 0 = _; rw [(idx t).2.2.2.1]; rfl
  | ⟨1, _⟩ => show win0_3.index t 1 * 2816 + 1 * k.val = _; rw [(idx t).2.2.2.1]; show 0 * 2816 + 1 * k.val = k.val; omega
  | ⟨2, _⟩ => show win0_3.index t 2 * 1024 + 1 * q.val = _; rw [(idx t).2.2.2.1]; show 0 * 1024 + 1 * q.val = q.val; omega

theorem blk4 (c : Dev nD) (t : Fin cfg0.N) (k : Fin 1024) :
    (show FVec F S1x1024 .f32 from iblk m c 4 t) (ix2 0 k)
      = (show FVec F S1024 .f32 from m ((c : Thread nD τ).loc main_arg4)) (ix1 k) := by
  have e : (show FVec F S1x1024 .f32 from iblk m c 4 t) (ix2 0 k) = (show FVec F S1x1024 .f32 from V m c main_v2) (ix2 0 k) := by
    show V m c main_v2 _ = V m c main_v2 _
    refine congrArg _ (funext fun a => Fin.ext ?_)
    match a with
    | ⟨0, _⟩ => show win0_4.index t 0 * 1 + 1 * 0 = _; rw [(idx t).2.2.2.2.1]; rfl
    | ⟨1, _⟩ => show win0_4.index t 1 * 1024 + 1 * k.val = _; rw [(idx t).2.2.2.2.1]; show 0 * 1024 + 1 * k.val = k.val; omega
  rw [e, V_gain]
  pointwise

end

variable (m : (ℓ : Loc nD τ sig) → Buf (Elt Ideal) ℓ) (ρ : Dev nD → PrngReg)

/-- The result array as a function of the arguments. -/
def G (c : Dev nD) : Buf (Elt Ideal) ((c : Thread nD τ).loc main_v3) := fun i =>
  result (l := 1) (show FVec Ideal S16384x1024 .bf16 from m ((c : Thread nD τ).loc main_arg0))
    (show FVec Ideal S16384x1024 .f32 from m ((c : Thread nD τ).loc main_arg1))
    (show FVec Ideal S2x1024x5632 .f32 from m ((c : Thread nD τ).loc main_arg2))
    (show FVec Ideal S2x2816x1024 .f32 from m ((c : Thread nD τ).loc main_arg3))
    (fun k => (show FVec Ideal S1024 .f32 from m ((c : Thread nD τ).loc main_arg4)) (ix1 k)) (i 0) (i 1)

theorem flushed_eq (c : Dev nD) (t : Fin cfg0.N) :
    (dats m 0 c).flushed 5 t = ((cfg0.win 5).blk t).view.read (Elt Ideal) (G m c) := by
  rw [Value.flushed5_A, out_A]
  funext y
  have hN : t.val < 32 := lt_of_lt_of_eq t.isLt N_0
  obtain ⟨r, j, rfl⟩ : ∃ (r : Fin 512) (j : Fin 1024), y = ix2 r j := ⟨y 0, y 1, eq_ix2 y⟩
  have e0 : t.val * 512 + r.val < 16384 := by omega
  have er : ((cfg0.win 5).blk t).view.read (Elt Ideal) (G m c) (ix2 r j)
      = G m c (ix2 ⟨t.val * 512 + r.val, e0⟩ j) := by
    show G m c _ = G m c _
    refine congrArg _ (funext fun a => Fin.ext ?_)
    match a with
    | ⟨0, _⟩ => show win0_5.index t 0 * 512 + 1 * r.val = _; rw [(idx t).2.2.2.2.2, Nat.one_mul]; rfl
    | ⟨1, _⟩ => show win0_5.index t 1 * 1024 + 1 * j.val = _; rw [(idx t).2.2.2.2.2]; show 0 * 1024 + 1 * j.val = j.val; omega
  rw [er]
  refine (body_apply (iblk m c 0 t) (iblk m c 1 t) (iblk m c 2 t) (iblk m c 3 t) (iblk m c 4 t) r j).trans ?_
  exact result_congr (fun k => blk0 m c t r k e0) (fun k => blk1 m c t r k e0)
    (fun k q => (blk2 m c t k q).trans (congrFun (V_win m c) _)) (fun k q => (blk3 m c t k q).trans (congrFun (V_wout m c) _))
    (fun k => blk4 m c t k) j

/-- Every point writes its block back. -/
theorem flushes (t : Fin cfg0.N) : (cfg0.win 5).flush t = true :=
  (by decide +kernel : ∀ t : Fin grid0.N, win0_5.flush t = true) t

/-- An index is in a point's block when each coordinate is in the block's range. -/
theorem mem_blk (t : Fin cfg0.N) (i : S16384x1024.Idx) : i ∈ ((cfg0.win 5).blk t).view.set
    ↔ ∀ a : Fin 2, win0_5.index t a * S512x1024.size a ≤ (i a).val ∧ (i a).val < win0_5.index t a * S512x1024.size a + S512x1024.size a := by
  show i ∈ ((View.whole main_v3).slice (win0_5.rect t)).set ↔ _
  rw [View.set_slice_whole, Rect.mem_set_unit]
  exact Iff.rfl

/-- The result's blocks cover the array. -/
theorem covered (i : S16384x1024.Idx) : ∃ t : Fin cfg0.N, (cfg0.win 5).flush t = true ∧ i ∈ ((cfg0.win 5).blk t).view.set := by
  have h0 : (i 0).val < 16384 := (i 0).isLt
  have h1 : (i 1).val < 1024 := (i 1).isLt
  have hN : (i 0).val / 512 < cfg0.N := lt_of_lt_of_eq (by omega : (i 0).val / 512 < 32) N_0.symm
  refine ⟨⟨(i 0).val / 512, hN⟩, flushes _, ?_⟩
  rw [mem_blk]
  intro a
  rw [(idx _).2.2.2.2.2]
  match a with
  | ⟨0, _⟩ => show (i 0).val / 512 * 512 ≤ (i 0).val ∧ (i 0).val < (i 0).val / 512 * 512 + 512; omega
  | ⟨1, _⟩ => show 0 * 1024 ≤ (i 1).val ∧ (i 1).val < 0 * 1024 + 1024; omega

theorem final (c : Dev nD) : (dats m 0 c).arrAt 5 cfg0.N = G m c :=
  (dats m 0 c).arrAt_eq_of_cover 5 _ (fun t _ => flushed_eq m c t) covered

end Cert.Calls.Ffn.Ker

namespace Cert.Calls.Ffn

/-- On equal arguments the kernel's result array is the reference's: both are `result`. -/
theorem algebraic : Cert.algebraic_FfnIdeal_FfnRefIdeal (hFfnIdeal := FfnIdeal.Gen.facts) (hFfnRefIdeal := FfnRefIdeal.Gen.facts) := by
  intro m ρ m' ρ' _ hag
  refine ⟨fun c => Ker.G m c, ?_, ?_⟩
  · exact (θ_run _ _ _).mono (fun _ h c => ⟨(h c).1.trans (Ker.final m c), (h c).2⟩) (FfnIdeal.Value.run_blocks (F := Ideal) m ρ)
  · refine (θ_run _ _ _).mono (fun _ h c => ⟨(h c).1.trans ?_, (h c).2⟩) (FfnRefIdeal.Value.run (F := Ideal) m' ρ')
    refine (FfnRefIdeal.Read.val_main_v24_eq (F := Ideal) _ _).trans ?_
    funext i
    rw [(hag c).1, (hag c).2.1, (hag c).2.2.1, (hag c).2.2.2.1, (hag c).2.2.2.2]
    have e : i = ix2 (i 0) (i 1) := eq_ix2 i
    rw [e]
    exact Ref.read _ _ _ _ _ _ _

end Cert.Calls.Ffn
-- ==== Proof.MergeValue.lean ====
/-
  The merge: the pallas_call gates the three mixers' projected outputs with the logistic function of columns of the
  packed projection, projects the sum, adds its normalisation to the residual stream, and normalises that again for the
  feed-forward half. Here its two result arrays are read as functions of the arguments, and the reference's as the same.
-/
module

public import proofs.«01_k».proof.Defs
public import proofs.«01_k».proof.Proof.Scalars
public import proofs.«01_k».proof.Proof.Gen.MergeIdeal.Value
public import proofs.«01_k».proof.Proof.Gen.MergeRefIdeal.Run
public import proofs.«01_k».proof.Proof.Gen.MergeRefIdeal.Read
public import Idealize.ShloMosaic.Lib.Pipeline.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Calls.Merge

/-- What one row of the results is computed from: the row of each mixer's output (`ya`, `yb`, `yc`), of the gates'
    columns (`ma`, `mb`, `mc`) and of the residual stream (`x`), the four weights and the two gains. -/
structure Row where
  ya : Fin 1024 → EReal
  yb : Fin 1024 → EReal
  yc : Fin 1024 → EReal
  ma : Fin 1024 → EReal
  mb : Fin 1024 → EReal
  mc : Fin 1024 → EReal
  x : Fin 1024 → EReal
  wa : Fin 1024 → Fin 1024 → EReal
  wb : Fin 1024 → Fin 1024 → EReal
  wc : Fin 1024 → Fin 1024 → EReal
  wo : Fin 1024 → Fin 1024 → EReal
  gpost : Fin 1024 → EReal
  gpre : Fin 1024 → EReal

/-- A row over its root mean square, times a gain. -/
def norm (v g : Fin 1024 → EReal) (j : Fin 1024) : EReal :=
  v j * Ideal.rsqrt (Ideal.div (∑ k, v k * v k) (Ideal.ofBits .f32 0x44800000#32) + Ideal.ofBits .f32 0x358637BD#32) * g j

/-- The gated sum of the three projections. -/
def merged (a : Row) (k : Fin 1024) : EReal :=
  Ideal.logistic (a.ma k) * (∑ p, a.ya p * a.wa p k) + Ideal.logistic (a.mb k) * (∑ p, a.yb p * a.wb p k)
    + Ideal.logistic (a.mc k) * (∑ p, a.yc p * a.wc p k)

/-- Its projection. -/
def proj (a : Row) (j : Fin 1024) : EReal := ∑ k, merged a k * a.wo k j

/-- The first result: the new residual stream. -/
def result0 (a : Row) (j : Fin 1024) : EReal := a.x j + norm (proj a) a.gpost j

/-- The second result: its normalisation. -/
def result1 (a : Row) (j : Fin 1024) : EReal := norm (result0 a) a.gpre j

/-- Row `r` of the arguments. -/
def argRow (ya yb yc : (⟨2, ![16384, 1024]⟩ : Shape).Idx → EReal) (z : (⟨2, ![16384, 10240]⟩ : Shape).Idx → EReal)
    (x : (⟨2, ![16384, 1024]⟩ : Shape).Idx → EReal) (wa wb wc wo : (⟨3, ![2, 1024, 1024]⟩ : Shape).Idx → EReal)
    (gpost gpre : (⟨1, ![1024]⟩ : Shape).Idx → EReal) (r : Fin 16384) : Row where
  ya k := ya (ix2 r k)
  yb k := yb (ix2 r k)
  yc k := yc (ix2 r k)
  ma k := z (ix2 r ⟨4096 + k.val, by omega⟩)
  mb k := z (ix2 r ⟨5120 + k.val, by omega⟩)
  mc k := z (ix2 r ⟨6144 + k.val, by omega⟩)
  x k := x (ix2 r k)
  wa p q := wa (ix3 0 p q)
  wb p q := wb (ix3 0 p q)
  wc p q := wc (ix3 0 p q)
  wo p q := wo (ix3 0 p q)
  gpost k := gpost (ix1 k)
  gpre k := gpre (ix1 k)

end Cert.Calls.Merge

namespace Cert.Calls.Merge.Ref

open Cert.MergeRefIdeal Cert.MergeRefIdeal.Gen Cert.MergeRefIdeal.Read

variable (ya yb yc : FVec Ideal S16384x1024 .bf16) (z : FVec Ideal S16384x10240 .bf16) (x : FVec Ideal S16384x1024 .f32)
  (wa wb wc wo : FVec Ideal S2x1024x1024 .f32) (gpost gpre : FVec Ideal S1024 .f32) (r : Fin 16384)

/-- The reference's gated sum at a row and a column. -/
theorem read_merged (k : Fin 1024) :
    val_main_v27 (F := Ideal) ya yb yc z wa wb wc (ix2 r k) = merged (argRow ya yb yc z x wa wb wc wo gpost gpre r) k := by
  have e1 : (⟨4096 + (1024 + k.val), by omega⟩ : Fin 10240) = ⟨5120 + k.val, by omega⟩ := Fin.ext (by show 4096 + (1024 + k.val) = 5120 + k.val; omega)
  have e2 : (⟨4096 + (2048 + k.val), by omega⟩ : Fin 10240) = ⟨6144 + k.val, by omega⟩ := Fin.ext (by show 4096 + (2048 + k.val) = 6144 + k.val; omega)
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_cst, val_main_cst_0, merged, argRow, Ideal.logistic, Scalars.one]
  rw [e1, e2]

/-- The first result's term at a row and a column. -/
theorem read0 (j : Fin 1024) :
    val_main_v44 (F := Ideal) ya yb yc z x wa wb wc wo gpost (ix2 r j) = result0 (argRow ya yb yc z x wa wb wc wo gpost gpre r) j := by
  have k30 : ∀ j, val_main_v30 (F := Ideal) ya yb yc z wa wb wc wo (ix2 r j) = proj (argRow ya yb yc z x wa wb wc wo gpost gpre r) j := by
    intro j
    have k27 := read_merged ya yb yc z x wa wb wc wo gpost gpre r
    unfold val_main_v30
    generalize val_main_v27 (F := Ideal) ya yb yc z wa wb wc = y at k27
    pointwise [val_main_v29, val_main_v28, proj]
    simp only [k27]
    rfl
  unfold val_main_v44 val_main_v43 val_main_v40 val_main_v39 val_main_v38 val_main_v37 val_main_v35 val_main_v33 val_main_v32 val_main_v31
  generalize val_main_v30 (F := Ideal) ya yb yc z wa wb wc wo = y at k30
  unfold result0 norm
  pointwise [val_main_v42, val_main_v41, val_main_v36, val_main_v34, val_main_cst_1, val_main_cst_2, val_main_cst_3]
  simp only [k30]
  rfl

/-- The second result's term at a row and a column. -/
theorem read1 (j : Fin 1024) :
    val_main_v58 (F := Ideal) ya yb yc z x wa wb wc wo gpost gpre (ix2 r j) = result1 (argRow ya yb yc z x wa wb wc wo gpost gpre r) j := by
  have k44 := read0 ya yb yc z x wa wb wc wo gpost gpre r
  unfold val_main_v58 val_main_v57 val_main_v54 val_main_v53 val_main_v52 val_main_v51 val_main_v49 val_main_v47 val_main_v46 val_main_v45
  generalize val_main_v44 (F := Ideal) ya yb yc z x wa wb wc wo gpost = y at k44
  unfold result1 norm
  pointwise [val_main_v56, val_main_v55, val_main_v50, val_main_v48, val_main_cst_4, val_main_cst_5, val_main_cst_6]
  simp only [k44]
  rfl

end Cert.Calls.Merge.Ref

namespace Cert.Calls.Merge.Ker

open Cert.MergeIdeal Cert.MergeIdeal.Gen

theorem hz2 : (![0, 0] : Fin 2 → Nat) = fun _ => 0 := funext fun a => by fin_cases a <;> rfl
theorem hz3 : (![0, 0, 0] : Fin 3 → Nat) = fun _ => 0 := funext fun a => by fin_cases a <;> rfl

section
variable {F : FTy → Type} [FloatOps F]
variable (x0 x1 x2 x3 x4 x5 : Vec F S512x1024 .bf16) (x6 : Vec F S512x1024 .f32) (x7 x8 x9 x10 : Vec F S1x1024x1024 .bf16) (x11 x12 : Vec F S1x1024 .f32)

/-- The first result's block, of the blocks the body reads. -/
def body0 : FVec F S512x1024 .f32 := k0_pay4 (k0_pay2 x3 x0 x7 x4 x1 x8) (k0_pay3 x5) x2 x9 x10 x6 x11

theorem out13 : out0_13 x0 x1 x2 x3 x4 x5 x6 x7 x8 x9 x10 x11 x12 = body0 x0 x1 x2 x3 x4 x5 x6 x7 x8 x9 x10 x11 := by
  unfold out0_13 k0_pay7 k0_pay8 body0
  rw [View.canon_unit_zero (S := S512x1024) hz2]
  simp only [View.ld_unit_zero (S := S512x1024) hz2, View.ld_unit_zero (S := S1x1024) hz2, View.ld_unit_zero (S := S1x1024x1024) hz3]

theorem out14 : out0_14 x0 x1 x2 x3 x4 x5 x6 x7 x8 x9 x10 x11 x12
    = k0_pay1 (body0 x0 x1 x2 x3 x4 x5 x6 x7 x8 x9 x10 x11) (k0_pay5 x12) (k0_pay6 (k0_pay2 x3 x0 x7 x4 x1 x8) (k0_pay3 x5) x2 x9 x10 x6 x11) := by
  unfold out0_14 k0_pay7 k0_pay8 body0
  rw [View.canon_unit_zero (S := S512x1024) hz2]
  simp only [View.ld_unit_zero (S := S512x1024) hz2, View.ld_unit_zero (S := S1x1024) hz2, View.ld_unit_zero (S := S1x1024x1024) hz3]

end

section
variable (x0 x1 x2 x3 x4 x5 : FVec Ideal S512x1024 .bf16) (x6 : FVec Ideal S512x1024 .f32) (x7 x8 x9 x10 : FVec Ideal S1x1024x1024 .bf16) (x11 x12 : FVec Ideal S1x1024 .f32)

/-- Row `r` of the blocks. -/
def blkRow (r : Fin 512) : Row where
  ya k := x0 (ix2 r k)
  yb k := x1 (ix2 r k)
  yc k := x2 (ix2 r k)
  ma k := x3 (ix2 r k)
  mb k := x4 (ix2 r k)
  mc k := x5 (ix2 r k)
  x k := x6 (ix2 r k)
  wa p q := x7 (ix3 0 p q)
  wb p q := x8 (ix3 0 p q)
  wc p q := x9 (ix3 0 p q)
  wo p q := x10 (ix3 0 p q)
  gpost k := x11 (ix2 0 k)
  gpre k := x12 (ix2 0 k)

theorem body0_apply (r : Fin 512) (j : Fin 1024) :
    body0 (F := Ideal) x0 x1 x2 x3 x4 x5 x6 x7 x8 x9 x10 x11 (ix2 r j) = result0 (blkRow x0 x1 x2 x3 x4 x5 x6 x7 x8 x9 x10 x11 x12 r) j := by
  pointwise [body0, k0_pay2, k0_pay3, k0_pay4, Scalars.sigmoid, result0, norm, proj, merged, blkRow]

theorem pay6_apply (r : Fin 512) :
    k0_pay6 (F := Ideal) (k0_pay2 (F := Ideal) x3 x0 x7 x4 x1 x8) (k0_pay3 (F := Ideal) x5) x2 x9 x10 x6 x11 (ix1 r)
      = ∑ k, result0 (blkRow x0 x1 x2 x3 x4 x5 x6 x7 x8 x9 x10 x11 x12 r) k * result0 (blkRow x0 x1 x2 x3 x4 x5 x6 x7 x8 x9 x10 x11 x12 r) k := by
  have key : k0_pay6 (F := Ideal) (k0_pay2 (F := Ideal) x3 x0 x7 x4 x1 x8) (k0_pay3 (F := Ideal) x5) x2 x9 x10 x6 x11 (ix1 r)
      = ∑ k, body0 (F := Ideal) x0 x1 x2 x3 x4 x5 x6 x7 x8 x9 x10 x11 (ix2 r k) * body0 (F := Ideal) x0 x1 x2 x3 x4 x5 x6 x7 x8 x9 x10 x11 (ix2 r k) := by
    unfold k0_pay6
    show multiReduction .add [1] S512 (mulf (body0 (F := Ideal) x0 x1 x2 x3 x4 x5 x6 x7 x8 x9 x10 x11) (body0 (F := Ideal) x0 x1 x2 x3 x4 x5 x6 x7 x8 x9 x10 x11)) 0x00000000#32 reduces_S512x1024_S512 (.inl rfl) rfl (ix1 r) = _
    generalize body0 (F := Ideal) x0 x1 x2 x3 x4 x5 x6 x7 x8 x9 x10 x11 = y
    pointwise
  rw [key]
  exact Finset.sum_congr rfl fun k _ => by rw [body0_apply x0 x1 x2 x3 x4 x5 x6 x7 x8 x9 x10 x11 x12]

theorem body1_apply (r : Fin 512) (j : Fin 1024) :
    k0_pay1 (F := Ideal) (body0 (F := Ideal) x0 x1 x2 x3 x4 x5 x6 x7 x8 x9 x10 x11) (k0_pay5 (F := Ideal) x12)
      (k0_pay6 (F := Ideal) (k0_pay2 (F := Ideal) x3 x0 x7 x4 x1 x8) (k0_pay3 (F := Ideal) x5) x2 x9 x10 x6 x11) (ix2 r j)
      = result1 (blkRow x0 x1 x2 x3 x4 x5 x6 x7 x8 x9 x10 x11 x12 r) j := by
  have k0 := body0_apply x0 x1 x2 x3 x4 x5 x6 x7 x8 x9 x10 x11 x12 r
  have k1 := pay6_apply x0 x1 x2 x3 x4 x5 x6 x7 x8 x9 x10 x11 x12 r
  generalize k0_pay6 (F := Ideal) _ _ _ _ _ _ _ = q at k1 ⊢
  generalize body0 (F := Ideal) x0 x1 x2 x3 x4 x5 x6 x7 x8 x9 x10 x11 = y at k0 ⊢
  unfold result1 norm
  pointwise [k0_pay1, k0_pay5]
  simp only [k0, k1]
  rfl

end

/-! ## The blocks the points read -/

section
variable {F : FTy → Type} [FloatOps F]
variable (m : (ℓ : Loc nD τ sig) → Buf (Elt F) ℓ)

theorem idx0 (t : Fin cfg0.N) : win0_0.index t = ![t.val, 0] :=
  (by decide +kernel : ∀ t : Fin grid0.N, win0_0.index t = ![t.val, 0]) t

theorem idx1 (t : Fin cfg0.N) : win0_1.index t = ![t.val, 0] :=
  (by decide +kernel : ∀ t : Fin grid0.N, win0_1.index t = ![t.val, 0]) t

theorem idx2 (t : Fin cfg0.N) : win0_2.index t = ![t.val, 0] :=
  (by decide +kernel : ∀ t : Fin grid0.N, win0_2.index t = ![t.val, 0]) t

theorem idx3 (t : Fin cfg0.N) : win0_3.index t = ![t.val, 4] :=
  (by decide +kernel : ∀ t : Fin grid0.N, win0_3.index t = ![t.val, 4]) t

theorem idx4 (t : Fin cfg0.N) : win0_4.index t = ![t.val, 5] :=
  (by decide +kernel : ∀ t : Fin grid0.N, win0_4.index t = ![t.val, 5]) t

theorem idx5 (t : Fin cfg0.N) : win0_5.index t = ![t.val, 6] :=
  (by decide +kernel : ∀ t : Fin grid0.N, win0_5.index t = ![t.val, 6]) t

theorem idx6 (t : Fin cfg0.N) : win0_6.index t = ![t.val, 0] :=
  (by decide +kernel : ∀ t : Fin grid0.N, win0_6.index t = ![t.val, 0]) t

theorem idx7 (t : Fin cfg0.N) : win0_7.index t = ![0, 0, 0] :=
  (by decide +kernel : ∀ t : Fin grid0.N, win0_7.index t = ![0, 0, 0]) t

theorem idx8 (t : Fin cfg0.N) : win0_8.index t = ![0, 0, 0] :=
  (by decide +kernel : ∀ t : Fin grid0.N, win0_8.index t = ![0, 0, 0]) t

theorem idx9 (t : Fin cfg0.N) : win0_9.index t = ![0, 0, 0] :=
  (by decide +kernel : ∀ t : Fin grid0.N, win0_9.index t = ![0, 0, 0]) t

theorem idx10 (t : Fin cfg0.N) : win0_10.index t = ![0, 0, 0] :=
  (by decide +kernel : ∀ t : Fin grid0.N, win0_10.index t = ![0, 0, 0]) t

theorem idx11 (t : Fin cfg0.N) : win0_11.index t = ![0, 0] :=
  (by decide +kernel : ∀ t : Fin grid0.N, win0_11.index t = ![0, 0]) t

theorem idx12 (t : Fin cfg0.N) : win0_12.index t = ![0, 0] :=
  (by decide +kernel : ∀ t : Fin grid0.N, win0_12.index t = ![0, 0]) t

theorem idx13 (t : Fin cfg0.N) : win0_13.index t = ![t.val, 0] :=
  (by decide +kernel : ∀ t : Fin grid0.N, win0_13.index t = ![t.val, 0]) t

theorem idx14 (t : Fin cfg0.N) : win0_14.index t = ![t.val, 0] :=
  (by decide +kernel : ∀ t : Fin grid0.N, win0_14.index t = ![t.val, 0]) t

theorem blk0 (c : Dev nD) (t : Fin cfg0.N) (r : Fin 512) (k : Fin 1024) (h : t.val * 512 + r.val < 16384) :
    (show FVec F S512x1024 .bf16 from iblk m c 0 t) (ix2 r k)
      = (show FVec F S16384x1024 .bf16 from m ((c : Thread nD τ).loc main_arg0)) (ix2 ⟨t.val * 512 + r.val, h⟩ k) := by
  rw [← V_main_arg0 m c]
  show V m c main_arg0 _ = V m c main_arg0 _
  have e := idx0 t
  refine congrArg _ (funext fun a => Fin.ext ?_)
  match a with
  | ⟨0, _⟩ => show win0_0.index t 0 * 512 + 1 * r.val = _; rw [e, Nat.one_mul]; rfl
  | ⟨1, _⟩ => show win0_0.index t 1 * 1024 + 1 * k.val = _; rw [e]; show 0 * 1024 + 1 * k.val = k.val; omega

theorem blk1 (c : Dev nD) (t : Fin cfg0.N) (r : Fin 512) (k : Fin 1024) (h : t.val * 512 + r.val < 16384) :
    (show FVec F S512x1024 .bf16 from iblk m c 1 t) (ix2 r k)
      = (show FVec F S16384x1024 .bf16 from m ((c : Thread nD τ).loc main_arg1)) (ix2 ⟨t.val * 512 + r.val, h⟩ k) := by
  rw [← V_main_arg1 m c]
  show V m c main_arg1 _ = V m c main_arg1 _
  have e := idx1 t
  refine congrArg _ (funext fun a => Fin.ext ?_)
  match a with
  | ⟨0, _⟩ => show win0_1.index t 0 * 512 + 1 * r.val = _; rw [e, Nat.one_mul]; rfl
  | ⟨1, _⟩ => show win0_1.index t 1 * 1024 + 1 * k.val = _; rw [e]; show 0 * 1024 + 1 * k.val = k.val; omega

theorem blk2 (c : Dev nD) (t : Fin cfg0.N) (r : Fin 512) (k : Fin 1024) (h : t.val * 512 + r.val < 16384) :
    (show FVec F S512x1024 .bf16 from iblk m c 2 t) (ix2 r k)
      = (show FVec F S16384x1024 .bf16 from m ((c : Thread nD τ).loc main_arg2)) (ix2 ⟨t.val * 512 + r.val, h⟩ k) := by
  rw [← V_main_arg2 m c]
  show V m c main_arg2 _ = V m c main_arg2 _
  have e := idx2 t
  refine congrArg _ (funext fun a => Fin.ext ?_)
  match a with
  | ⟨0, _⟩ => show win0_2.index t 0 * 512 + 1 * r.val = _; rw [e, Nat.one_mul]; rfl
  | ⟨1, _⟩ => show win0_2.index t 1 * 1024 + 1 * k.val = _; rw [e]; show 0 * 1024 + 1 * k.val = k.val; omega

theorem blk3 (c : Dev nD) (t : Fin cfg0.N) (r : Fin 512) (k : Fin 1024) (h : t.val * 512 + r.val < 16384) :
    (show FVec F S512x1024 .bf16 from iblk m c 3 t) (ix2 r k)
      = (show FVec F S16384x10240 .bf16 from m ((c : Thread nD τ).loc main_arg3)) (ix2 ⟨t.val * 512 + r.val, h⟩ ⟨4096 + k.val, by omega⟩) := by
  rw [← V_main_arg3 m c]
  show V m c main_arg3 _ = V m c main_arg3 _
  have e := idx3 t
  refine congrArg _ (funext fun a => Fin.ext ?_)
  match a with
  | ⟨0, _⟩ => show win0_3.index t 0 * 512 + 1 * r.val = _; rw [e, Nat.one_mul]; rfl
  | ⟨1, _⟩ => show win0_3.index t 1 * 1024 + 1 * k.val = _; rw [e]; show 4 * 1024 + 1 * k.val = 4096 + k.val; omega

theorem blk4 (c : Dev nD) (t : Fin cfg0.N) (r : Fin 512) (k : Fin 1024) (h : t.val * 512 + r.val < 16384) :
    (show FVec F S512x1024 .bf16 from iblk m c 4 t) (ix2 r k)
      = (show FVec F S16384x10240 .bf16 from m ((c : Thread nD τ).loc main_arg3)) (ix2 ⟨t.val * 512 + r.val, h⟩ ⟨5120 + k.val, by omega⟩) := by
  rw [← V_main_arg3 m c]
  show V m c main_arg3 _ = V m c main_arg3 _
  have e := idx4 t
  refine congrArg _ (funext fun a => Fin.ext ?_)
  match a with
  | ⟨0, _⟩ => show win0_4.index t 0 * 512 + 1 * r.val = _; rw [e, Nat.one_mul]; rfl
  | ⟨1, _⟩ => show win0_4.index t 1 * 1024 + 1 * k.val = _; rw [e]; show 5 * 1024 + 1 * k.val = 5120 + k.val; omega

theorem blk5 (c : Dev nD) (t : Fin cfg0.N) (r : Fin 512) (k : Fin 1024) (h : t.val * 512 + r.val < 16384) :
    (show FVec F S512x1024 .bf16 from iblk m c 5 t) (ix2 r k)
      = (show FVec F S16384x10240 .bf16 from m ((c : Thread nD τ).loc main_arg3)) (ix2 ⟨t.val * 512 + r.val, h⟩ ⟨6144 + k.val, by omega⟩) := by
  rw [← V_main_arg3 m c]
  show V m c main_arg3 _ = V m c main_arg3 _
  have e := idx5 t
  refine congrArg _ (funext fun a => Fin.ext ?_)
  match a with
  | ⟨0, _⟩ => show win0_5.index t 0 * 512 + 1 * r.val = _; rw [e, Nat.one_mul]; rfl
  | ⟨1, _⟩ => show win0_5.index t 1 * 1024 + 1 * k.val = _; rw [e]; show 6 * 1024 + 1 * k.val = 6144 + k.val; omega

theorem blk6 (c : Dev nD) (t : Fin cfg0.N) (r : Fin 512) (k : Fin 1024) (h : t.val * 512 + r.val < 16384) :
    (show FVec F S512x1024 .f32 from iblk m c 6 t) (ix2 r k)
      = (show FVec F S16384x1024 .f32 from m ((c : Thread nD τ).loc main_arg4)) (ix2 ⟨t.val * 512 + r.val, h⟩ k) := by
  rw [← V_main_arg4 m c]
  show V m c main_arg4 _ = V m c main_arg4 _
  have e := idx6 t
  refine congrArg _ (funext fun a => Fin.ext ?_)
  match a with
  | ⟨0, _⟩ => show win0_6.index t 0 * 512 + 1 * r.val = _; rw [e, Nat.one_mul]; rfl
  | ⟨1, _⟩ => show win0_6.index t 1 * 1024 + 1 * k.val = _; rw [e]; show 0 * 1024 + 1 * k.val = k.val; omega

theorem blk7 (c : Dev nD) (t : Fin cfg0.N) (p q : Fin 1024) :
    (show FVec F S1x1024x1024 .bf16 from iblk m c 7 t) (ix3 0 p q)
      = truncf .bf16 (show FVec F S2x1024x1024 .f32 from m ((c : Thread nD τ).loc main_arg5)) bitsLt_bf16_f32 (ix3 0 p q) := by
  have e0 : (show FVec F S2x1024x1024 .bf16 from V m c main_v0)
      = truncf .bf16 (show FVec F S2x1024x1024 .f32 from m ((c : Thread nD τ).loc main_arg5)) bitsLt_bf16_f32 := by
    show V m c main_v0 = _
    after_results
    rfl
  rw [← e0]
  show V m c main_v0 _ = V m c main_v0 _
  have e := idx7 t
  refine congrArg _ (funext fun a => Fin.ext ?_)
  match a with
  | ⟨0, _⟩ => show win0_7.index t 0 * 1 + 1 * 0 = _; rw [e]; rfl
  | ⟨1, _⟩ => show win0_7.index t 1 * 1024 + 1 * p.val = _; rw [e]; show 0 * 1024 + 1 * p.val = p.val; omega
  | ⟨2, _⟩ => show win0_7.index t 2 * 1024 + 1 * q.val = _; rw [e]; show 0 * 1024 + 1 * q.val = q.val; omega

theorem blk8 (c : Dev nD) (t : Fin cfg0.N) (p q : Fin 1024) :
    (show FVec F S1x1024x1024 .bf16 from iblk m c 8 t) (ix3 0 p q)
      = truncf .bf16 (show FVec F S2x1024x1024 .f32 from m ((c : Thread nD τ).loc main_arg6)) bitsLt_bf16_f32 (ix3 0 p q) := by
  have e0 : (show FVec F S2x1024x1024 .bf16 from V m c main_v1)
      = truncf .bf16 (show FVec F S2x1024x1024 .f32 from m ((c : Thread nD τ).loc main_arg6)) bitsLt_bf16_f32 := by
    show V m c main_v1 = _
    after_results
    rfl
  rw [← e0]
  show V m c main_v1 _ = V m c main_v1 _
  have e := idx8 t
  refine congrArg _ (funext fun a => Fin.ext ?_)
  match a with
  | ⟨0, _⟩ => show win0_8.index t 0 * 1 + 1 * 0 = _; rw [e]; rfl
  | ⟨1, _⟩ => show win0_8.index t 1 * 1024 + 1 * p.val = _; rw [e]; show 0 * 1024 + 1 * p.val = p.val; omega
  | ⟨2, _⟩ => show win0_8.index t 2 * 1024 + 1 * q.val = _; rw [e]; show 0 * 1024 + 1 * q.val = q.val; omega

theorem blk9 (c : Dev nD) (t : Fin cfg0.N) (p q : Fin 1024) :
    (show FVec F S1x1024x1024 .bf16 from iblk m c 9 t) (ix3 0 p q)
      = truncf .bf16 (show FVec F S2x1024x1024 .f32 from m ((c : Thread nD τ).loc main_arg7)) bitsLt_bf16_f32 (ix3 0 p q) := by
  have e0 : (show FVec F S2x1024x1024 .bf16 from V m c main_v2)
      = truncf .bf16 (show FVec F S2x1024x1024 .f32 from m ((c : Thread nD τ).loc main_arg7)) bitsLt_bf16_f32 := by
    show V m c main_v2 = _
    after_results
    rfl
  rw [← e0]
  show V m c main_v2 _ = V m c main_v2 _
  have e := idx9 t
  refine congrArg _ (funext fun a => Fin.ext ?_)
  match a with
  | ⟨0, _⟩ => show win0_9.index t 0 * 1 + 1 * 0 = _; rw [e]; rfl
  | ⟨1, _⟩ => show win0_9.index t 1 * 1024 + 1 * p.val = _; rw [e]; show 0 * 1024 + 1 * p.val = p.val; omega
  | ⟨2, _⟩ => show win0_9.index t 2 * 1024 + 1 * q.val = _; rw [e]; show 0 * 1024 + 1 * q.val = q.val; omega

theorem blk10 (c : Dev nD) (t : Fin cfg0.N) (p q : Fin 1024) :
    (show FVec F S1x1024x1024 .bf16 from iblk m c 10 t) (ix3 0 p q)
      = truncf .bf16 (show FVec F S2x1024x1024 .f32 from m ((c : Thread nD τ).loc main_arg8)) bitsLt_bf16_f32 (ix3 0 p q) := by
  have e0 : (show FVec F S2x1024x1024 .bf16 from V m c main_v3)
      = truncf .bf16 (show FVec F S2x1024x1024 .f32 from m ((c : Thread nD τ).loc main_arg8)) bitsLt_bf16_f32 := by
    show V m c main_v3 = _
    after_results
    rfl
  rw [← e0]
  show V m c main_v3 _ = V m c main_v3 _
  have e := idx10 t
  refine congrArg _ (funext fun a => Fin.ext ?_)
  match a with
  | ⟨0, _⟩ => show win0_10.index t 0 * 1 + 1 * 0 = _; rw [e]; rfl
  | ⟨1, _⟩ => show win0_10.index t 1 * 1024 + 1 * p.val = _; rw [e]; show 0 * 1024 + 1 * p.val = p.val; omega
  | ⟨2, _⟩ => show win0_10.index t 2 * 1024 + 1 * q.val = _; rw [e]; show 0 * 1024 + 1 * q.val = q.val; omega

theorem blk11 (c : Dev nD) (t : Fin cfg0.N) (k : Fin 1024) :
    (show FVec F S1x1024 .f32 from iblk m c 11 t) (ix2 0 k)
      = (show FVec F S1024 .f32 from m ((c : Thread nD τ).loc main_arg9)) (ix1 k) := by
  have e0 : (show FVec F S1x1024 .f32 from V m c main_v4)
      = shapeCast S1x1024 (show FVec F S1024 .f32 from m ((c : Thread nD τ).loc main_arg9)) shapeCasts_S1024_S1x1024 := by
    show V m c main_v4 = _
    after_results
    rfl
  have e1 : (show FVec F S1x1024 .f32 from iblk m c 11 t) (ix2 0 k) = (show FVec F S1x1024 .f32 from V m c main_v4) (ix2 0 k) := by
    show V m c main_v4 _ = V m c main_v4 _
    have e := idx11 t
    refine congrArg _ (funext fun a => Fin.ext ?_)
    match a with
    | ⟨0, _⟩ => show win0_11.index t 0 * 1 + 1 * 0 = _; rw [e]; rfl
    | ⟨1, _⟩ => show win0_11.index t 1 * 1024 + 1 * k.val = _; rw [e]; show 0 * 1024 + 1 * k.val = k.val; omega
  rw [e1, e0]
  pointwise

theorem blk12 (c : Dev nD) (t : Fin cfg0.N) (k : Fin 1024) :
    (show FVec F S1x1024 .f32 from iblk m c 12 t) (ix2 0 k)
      = (show FVec F S1024 .f32 from m ((c : Thread nD τ).loc main_arg10)) (ix1 k) := by
  have e0 : (show FVec F S1x1024 .f32 from V m c main_v5)
      = shapeCast S1x1024 (show FVec F S1024 .f32 from m ((c : Thread nD τ).loc main_arg10)) shapeCasts_S1024_S1x1024 := by
    show V m c main_v5 = _
    after_results
    rfl
  have e1 : (show FVec F S1x1024 .f32 from iblk m c 12 t) (ix2 0 k) = (show FVec F S1x1024 .f32 from V m c main_v5) (ix2 0 k) := by
    show V m c main_v5 _ = V m c main_v5 _
    have e := idx12 t
    refine congrArg _ (funext fun a => Fin.ext ?_)
    match a with
    | ⟨0, _⟩ => show win0_12.index t 0 * 1 + 1 * 0 = _; rw [e]; rfl
    | ⟨1, _⟩ => show win0_12.index t 1 * 1024 + 1 * k.val = _; rw [e]; show 0 * 1024 + 1 * k.val = k.val; omega
  rw [e1, e0]
  pointwise

end

variable (m : (ℓ : Loc nD τ sig) → Buf (Elt Ideal) ℓ) (ρ : Dev nD → PrngReg)

/-- Row `r` of a point's blocks is a row of the arguments. -/
theorem row_eq (c : Dev nD) (t : Fin cfg0.N) (r : Fin 512) (h : t.val * 512 + r.val < 16384) :
    blkRow (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t) r
      = argRow (show FVec Ideal S16384x1024 .bf16 from m ((c : Thread nD τ).loc main_arg0))
    (show FVec Ideal S16384x1024 .bf16 from m ((c : Thread nD τ).loc main_arg1))
    (show FVec Ideal S16384x1024 .bf16 from m ((c : Thread nD τ).loc main_arg2))
    (show FVec Ideal S16384x10240 .bf16 from m ((c : Thread nD τ).loc main_arg3))
    (show FVec Ideal S16384x1024 .f32 from m ((c : Thread nD τ).loc main_arg4))
    (show FVec Ideal S2x1024x1024 .f32 from m ((c : Thread nD τ).loc main_arg5))
    (show FVec Ideal S2x1024x1024 .f32 from m ((c : Thread nD τ).loc main_arg6))
    (show FVec Ideal S2x1024x1024 .f32 from m ((c : Thread nD τ).loc main_arg7))
    (show FVec Ideal S2x1024x1024 .f32 from m ((c : Thread nD τ).loc main_arg8))
    (show FVec Ideal S1024 .f32 from m ((c : Thread nD τ).loc main_arg9))
    (show FVec Ideal S1024 .f32 from m ((c : Thread nD τ).loc main_arg10)) ⟨t.val * 512 + r.val, h⟩ := by
  unfold blkRow argRow
  congr 1
  · exact funext fun k => blk0 m c t r k h
  · exact funext fun k => blk1 m c t r k h
  · exact funext fun k => blk2 m c t r k h
  · exact funext fun k => blk3 m c t r k h
  · exact funext fun k => blk4 m c t r k h
  · exact funext fun k => blk5 m c t r k h
  · exact funext fun k => blk6 m c t r k h
  · exact funext fun p => funext fun q => blk7 m c t p q
  · exact funext fun p => funext fun q => blk8 m c t p q
  · exact funext fun p => funext fun q => blk9 m c t p q
  · exact funext fun p => funext fun q => blk10 m c t p q
  · exact funext fun k => blk11 m c t k
  · exact funext fun k => blk12 m c t k

/-- The result array 0 as a function of the arguments. -/
def G13 (c : Dev nD) : Buf (Elt Ideal) ((c : Thread nD τ).loc main_v6_0) := fun i =>
  result0 (argRow (show FVec Ideal S16384x1024 .bf16 from m ((c : Thread nD τ).loc main_arg0))
    (show FVec Ideal S16384x1024 .bf16 from m ((c : Thread nD τ).loc main_arg1))
    (show FVec Ideal S16384x1024 .bf16 from m ((c : Thread nD τ).loc main_arg2))
    (show FVec Ideal S16384x10240 .bf16 from m ((c : Thread nD τ).loc main_arg3))
    (show FVec Ideal S16384x1024 .f32 from m ((c : Thread nD τ).loc main_arg4))
    (show FVec Ideal S2x1024x1024 .f32 from m ((c : Thread nD τ).loc main_arg5))
    (show FVec Ideal S2x1024x1024 .f32 from m ((c : Thread nD τ).loc main_arg6))
    (show FVec Ideal S2x1024x1024 .f32 from m ((c : Thread nD τ).loc main_arg7))
    (show FVec Ideal S2x1024x1024 .f32 from m ((c : Thread nD τ).loc main_arg8))
    (show FVec Ideal S1024 .f32 from m ((c : Thread nD τ).loc main_arg9))
    (show FVec Ideal S1024 .f32 from m ((c : Thread nD τ).loc main_arg10)) (i 0)) (i 1)

theorem flushed13_eq (c : Dev nD) (t : Fin cfg0.N) :
    (dats m 0 c).flushed 13 t = ((cfg0.win 13).blk t).view.read (Elt Ideal) (G13 m c) := by
  rw [Value.flushed13]
  funext y
  have hN : t.val < 32 := lt_of_lt_of_eq t.isLt N_0
  obtain ⟨r, j, rfl⟩ : ∃ (r : Fin 512) (j : Fin 1024), y = ix2 r j := ⟨y 0, y 1, eq_ix2 y⟩
  have e0 : t.val * 512 + r.val < 16384 := by omega
  have er : ((cfg0.win 13).blk t).view.read (Elt Ideal) (G13 m c) (ix2 r j)
      = G13 m c (ix2 ⟨t.val * 512 + r.val, e0⟩ j) := by
    show G13 m c _ = G13 m c _
    have e := idx13 t
    refine congrArg _ (funext fun a => Fin.ext ?_)
    match a with
    | ⟨0, _⟩ => show win0_13.index t 0 * 512 + 1 * r.val = _; rw [e, Nat.one_mul]; rfl
    | ⟨1, _⟩ => show win0_13.index t 1 * 1024 + 1 * j.val = _; rw [e]; show 0 * 1024 + 1 * j.val = j.val; omega
  rw [er]
  refine (congrFun (out13 ..) (ix2 r j)).trans ((body0_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r j).trans ?_)
  unfold G13
  exact congrFun (congrArg result0 (row_eq m c t r e0)) j

theorem mem_blk13 (t : Fin cfg0.N) (i : S16384x1024.Idx) : i ∈ ((cfg0.win 13).blk t).view.set
    ↔ ∀ a : Fin 2, win0_13.index t a * S512x1024.size a ≤ (i a).val ∧ (i a).val < win0_13.index t a * S512x1024.size a + S512x1024.size a := by
  show i ∈ ((View.whole main_v6_0).slice (win0_13.rect t)).set ↔ _
  rw [View.set_slice_whole, Rect.mem_set_unit]
  exact Iff.rfl

/-- The result's blocks cover the array. -/
theorem covered13 (i : S16384x1024.Idx) : ∃ t : Fin cfg0.N, (cfg0.win 13).flush t = true ∧ i ∈ ((cfg0.win 13).blk t).view.set := by
  have h0 : (i 0).val < 16384 := (i 0).isLt
  have h1 : (i 1).val < 1024 := (i 1).isLt
  have hN : (i 0).val / 512 < cfg0.N := lt_of_lt_of_eq (by omega : (i 0).val / 512 < 32) N_0.symm
  refine ⟨⟨(i 0).val / 512, hN⟩, (by decide +kernel : ∀ t : Fin grid0.N, win0_13.flush t = true) _, ?_⟩
  rw [mem_blk13]
  intro a
  rw [idx13]
  match a with
  | ⟨0, _⟩ => show (i 0).val / 512 * 512 ≤ (i 0).val ∧ (i 0).val < (i 0).val / 512 * 512 + 512; omega
  | ⟨1, _⟩ => show 0 * 1024 ≤ (i 1).val ∧ (i 1).val < 0 * 1024 + 1024; omega

theorem final13 (c : Dev nD) : (dats m 0 c).arrAt 13 cfg0.N = G13 m c :=
  (dats m 0 c).arrAt_eq_of_cover 13 _ (fun t _ => flushed13_eq m c t) covered13

/-- The result array 1 as a function of the arguments. -/
def G14 (c : Dev nD) : Buf (Elt Ideal) ((c : Thread nD τ).loc main_v6_1) := fun i =>
  result1 (argRow (show FVec Ideal S16384x1024 .bf16 from m ((c : Thread nD τ).loc main_arg0))
    (show FVec Ideal S16384x1024 .bf16 from m ((c : Thread nD τ).loc main_arg1))
    (show FVec Ideal S16384x1024 .bf16 from m ((c : Thread nD τ).loc main_arg2))
    (show FVec Ideal S16384x10240 .bf16 from m ((c : Thread nD τ).loc main_arg3))
    (show FVec Ideal S16384x1024 .f32 from m ((c : Thread nD τ).loc main_arg4))
    (show FVec Ideal S2x1024x1024 .f32 from m ((c : Thread nD τ).loc main_arg5))
    (show FVec Ideal S2x1024x1024 .f32 from m ((c : Thread nD τ).loc main_arg6))
    (show FVec Ideal S2x1024x1024 .f32 from m ((c : Thread nD τ).loc main_arg7))
    (show FVec Ideal S2x1024x1024 .f32 from m ((c : Thread nD τ).loc main_arg8))
    (show FVec Ideal S1024 .f32 from m ((c : Thread nD τ).loc main_arg9))
    (show FVec Ideal S1024 .f32 from m ((c : Thread nD τ).loc main_arg10)) (i 0)) (i 1)

theorem flushed14_eq (c : Dev nD) (t : Fin cfg0.N) :
    (dats m 0 c).flushed 14 t = ((cfg0.win 14).blk t).view.read (Elt Ideal) (G14 m c) := by
  rw [Value.flushed14]
  funext y
  have hN : t.val < 32 := lt_of_lt_of_eq t.isLt N_0
  obtain ⟨r, j, rfl⟩ : ∃ (r : Fin 512) (j : Fin 1024), y = ix2 r j := ⟨y 0, y 1, eq_ix2 y⟩
  have e0 : t.val * 512 + r.val < 16384 := by omega
  have er : ((cfg0.win 14).blk t).view.read (Elt Ideal) (G14 m c) (ix2 r j)
      = G14 m c (ix2 ⟨t.val * 512 + r.val, e0⟩ j) := by
    show G14 m c _ = G14 m c _
    have e := idx14 t
    refine congrArg _ (funext fun a => Fin.ext ?_)
    match a with
    | ⟨0, _⟩ => show win0_14.index t 0 * 512 + 1 * r.val = _; rw [e, Nat.one_mul]; rfl
    | ⟨1, _⟩ => show win0_14.index t 1 * 1024 + 1 * j.val = _; rw [e]; show 0 * 1024 + 1 * j.val = j.val; omega
  rw [er]
  refine (congrFun (out14 ..) (ix2 r j)).trans ((body1_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r j).trans ?_)
  unfold G14
  exact congrFun (congrArg result1 (row_eq m c t r e0)) j

theorem mem_blk14 (t : Fin cfg0.N) (i : S16384x1024.Idx) : i ∈ ((cfg0.win 14).blk t).view.set
    ↔ ∀ a : Fin 2, win0_14.index t a * S512x1024.size a ≤ (i a).val ∧ (i a).val < win0_14.index t a * S512x1024.size a + S512x1024.size a := by
  show i ∈ ((View.whole main_v6_1).slice (win0_14.rect t)).set ↔ _
  rw [View.set_slice_whole, Rect.mem_set_unit]
  exact Iff.rfl

/-- The result's blocks cover the array. -/
theorem covered14 (i : S16384x1024.Idx) : ∃ t : Fin cfg0.N, (cfg0.win 14).flush t = true ∧ i ∈ ((cfg0.win 14).blk t).view.set := by
  have h0 : (i 0).val < 16384 := (i 0).isLt
  have h1 : (i 1).val < 1024 := (i 1).isLt
  have hN : (i 0).val / 512 < cfg0.N := lt_of_lt_of_eq (by omega : (i 0).val / 512 < 32) N_0.symm
  refine ⟨⟨(i 0).val / 512, hN⟩, (by decide +kernel : ∀ t : Fin grid0.N, win0_14.flush t = true) _, ?_⟩
  rw [mem_blk14]
  intro a
  rw [idx14]
  match a with
  | ⟨0, _⟩ => show (i 0).val / 512 * 512 ≤ (i 0).val ∧ (i 0).val < (i 0).val / 512 * 512 + 512; omega
  | ⟨1, _⟩ => show 0 * 1024 ≤ (i 1).val ∧ (i 1).val < 0 * 1024 + 1024; omega

theorem final14 (c : Dev nD) : (dats m 0 c).arrAt 14 cfg0.N = G14 m c :=
  (dats m 0 c).arrAt_eq_of_cover 14 _ (fun t _ => flushed14_eq m c t) covered14

end Cert.Calls.Merge.Ker

namespace Cert.Calls.Merge

/-- On equal arguments the kernel's two result arrays are the reference's: they are `result0` and `result1`. -/
theorem algebraic : Cert.algebraic_MergeIdeal_MergeRefIdeal (hMergeIdeal := MergeIdeal.Gen.facts) (hMergeRefIdeal := MergeRefIdeal.Gen.facts) := by
  intro m ρ m' ρ' _ hag
  refine ⟨fun c => Ker.G13 m c, fun c => Ker.G14 m c, ?_, ?_⟩
  · exact (θ_run _ _ _).mono (fun _ h c => ⟨(h c).1.trans (Ker.final13 m c), (h c).2.1.trans (Ker.final14 m c), (h c).2.2⟩) (MergeIdeal.Value.run_blocks (F := Ideal) m ρ)
  · refine (θ_run _ _ _).mono (fun _ h c => ⟨(h c).1.trans ?_, (h c).2.1.trans ?_, (h c).2.2⟩) (MergeRefIdeal.Value.run (F := Ideal) m' ρ')
    · refine (MergeRefIdeal.Read.val_main_v44_eq (F := Ideal) _ _).trans ?_
      funext i
      obtain ⟨h0, h1, h2, h3, h4, h5, h6, h7, h8, h9, h10⟩ := hag c
      rw [h0, h1, h2, h3, h4, h5, h6, h7, h8, h9]
      have e : i = ix2 (i 0) (i 1) := eq_ix2 i
      rw [e]
      exact Ref.read0 _ _ _ _ _ _ _ _ _ _ _ _ _
    · refine (MergeRefIdeal.Read.val_main_v58_eq (F := Ideal) _ _).trans ?_
      funext i
      obtain ⟨h0, h1, h2, h3, h4, h5, h6, h7, h8, h9, h10⟩ := hag c
      rw [h0, h1, h2, h3, h4, h5, h6, h7, h8, h9, h10]
      have e : i = ix2 (i 0) (i 1) := eq_ix2 i
      rw [e]
      exact Ref.read1 _ _ _ _ _ _ _ _ _ _ _ _ _

end Cert.Calls.Merge
-- ==== Proof.InProjValue.lean ====
/-
  The combined projection: the pallas_call normalises a block of 2048 rows of the residual stream once (at the first of
  the five column blocks it is multiplied with), keeps it in a scratch buffer, and multiplies it with one block of the
  weights after another. Here its result array is read as one function of the arguments, and the reference's as the same.
-/
module

public import proofs.«01_k».proof.Defs
public import proofs.«01_k».proof.Proof.Gen.InProjIdeal.Value
public import proofs.«01_k».proof.Proof.Gen.InProjRefIdeal.Run
public import proofs.«01_k».proof.Proof.Gen.InProjRefIdeal.Read
public import Idealize.ShloMosaic.Lib.Pipeline.Value
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Calls.InProj

/-- One over the root mean square of row `r` of `x`, as both programs compute it. -/
def scale (x : (⟨2, ![16384, 1024]⟩ : Shape).Idx → EReal) (r : Fin 16384) : EReal :=
  Ideal.rsqrt (Ideal.div (∑ k : Fin 1024, x (ix2 r k) * x (ix2 r k)) (Ideal.ofBits .f32 0x44800000#32)
    + Ideal.ofBits .f32 0x358637BD#32)

/-- The projection: the normalised row against row `j` of layer 0's transposed weights. -/
def result (x : (⟨2, ![16384, 1024]⟩ : Shape).Idx → EReal) (g : (⟨1, ![1024]⟩ : Shape).Idx → EReal)
    (w : (⟨3, ![2, 10240, 1024]⟩ : Shape).Idx → EReal) (r : Fin 16384) (j : Fin 10240) : EReal :=
  ∑ k : Fin 1024, x (ix2 r k) * scale x r * g (ix1 k) * w (ix3 0 j k)

end Cert.Calls.InProj

namespace Cert.Calls.InProj.Ref

open Cert.InProjRefIdeal Cert.InProjRefIdeal.Gen

/-- The reference's composed term, read at a row and a column. -/
theorem read (x : FVec Ideal S16384x1024 .f32) (g : FVec Ideal S1024 .f32) (w : FVec Ideal S2x10240x1024 .bf16)
    (r : Fin 16384) (j : Fin 10240) :
    Read.val_main_v18 (F := Ideal) x g w (ix2 r j) = result x g w r j := by
  pointwise [Read.val_main_v18, Read.val_main_v17, Read.val_main_v16, Read.val_main_v15, Read.val_main_v14,
    Read.val_main_v13, Read.val_main_v12, Read.val_main_v11, Read.val_main_v10, Read.val_main_v9, Read.val_main_v8,
    Read.val_main_v7, Read.val_main_v6, Read.val_main_v5, Read.val_main_cst_1, Read.val_main_v4, Read.val_main_v3,
    Read.val_main_cst_0, Read.val_main_v2, Read.val_main_v1, Read.val_main_cst, Read.val_main_v0, result, scale]

end Cert.Calls.InProj.Ref

namespace Cert.Calls.InProj.Ker

open Cert.InProjIdeal Cert.InProjIdeal.Gen

theorem hz2 : (![0, 0] : Fin 2 → Nat) = fun _ => 0 := funext fun a => by fin_cases a <;> rfl
theorem hz3 : (![0, 0, 0] : Fin 3 → Nat) = fun _ => 0 := funext fun a => by fin_cases a <;> rfl

/-- The payload chain at an index. -/
theorem pay (x : FVec Ideal S2048x1024 .f32) (g : FVec Ideal S1x1024 .f32) (w : FVec Ideal S1x2048x1024 .bf16)
    (r : Fin 2048) (j : Fin 2048) :
    k0_pay2 (F := Ideal) (k0_pay1 (F := Ideal) x g) w (ix2 r j)
      = ∑ k : Fin 1024, x (ix2 r k) * Ideal.rsqrt (Ideal.div (∑ k : Fin 1024, x (ix2 r k) * x (ix2 r k)) (Ideal.ofBits .f32 0x44800000#32)
    + Ideal.ofBits .f32 0x358637BD#32) * g (ix2 0 k) * w (ix3 0 j k) := by
  pointwise [k0_pay1, k0_pay2]

variable {F : FTy → Type} [FloatOps F]
variable (m : (ℓ : Loc nD τ sig) → Buf (Elt F) ℓ) (ρ : Dev nD → PrngReg)

/-- At a first column block the scratch ends holding the normalised rows. -/
theorem sout_A (c : Dev nD) (i : grid0.Coords) (a2) (h2) (a3) (h3) (a4) (h4) (a5) (h5) (a6) (h6) (hc) (x g w) :
    sout0_A_0 (F := F) c i a2 h2 a3 h3 a4 h4 a5 h5 a6 h6 hc x g w = k0_pay1 x g := by
  unfold sout0_A_0
  rw [View.read_writes_eq_canon _ _ _ (scover0_A_0 c i a2 h2 a3 h3 a4 h4 a5 h5 a6 h6 hc x g w)]
  unfold kernelRun0_A
  dsimp only
  sl_unfold_words
  rw [View.canon_unit_zero (S := S2048x1024) hz2]
  simp only [View.readAt_eq_ld, h2.read_unread, h3.read_unread, View.ld_unit_zero (S := S2048x1024) hz2, View.ld_unit_zero (S := S1x1024) hz2]

theorem out_A (c : Dev nD) (i : grid0.Coords) (a2) (h2) (a3) (h3) (a4) (h4) (a5) (h5) (a6) (h6) (hc) (x g w) :
    out0_A_3 (F := F) c i a2 h2 a3 h3 a4 h4 a5 h5 a6 h6 hc x g w = k0_pay2 (k0_pay1 x g) w := by
  unfold out0_A_3
  rw [View.read_writes_eq_canon _ _ _ (cover0_A_3 c i a2 h2 a3 h3 a4 h4 a5 h5 a6 h6 hc x g w)]
  unfold kernelRun0_A
  dsimp only
  sl_unfold_words
  rw [View.canon_unit_zero (S := S2048x2048) hz2, View.readCov_unit_zero (S := S2048x1024) _ hz2]
  simp only [View.readAt_eq_ld, h2.read_unread, h3.read_unread, h4.read_unread, View.ld_unit_zero (S := S2048x1024) hz2, View.ld_unit_zero (S := S1x1024) hz2, View.ld_unit_zero (S := S1x2048x1024) hz3]

theorem out_B (c : Dev nD) (i : grid0.Coords) (a2) (h2) (a3) (h3) (a4) (h4) (a5) (h5) (a6) (h6) (hc) (x g w s) :
    out0_B_3 (F := F) c i a2 h2 a3 h3 a4 h4 a5 h5 a6 h6 hc x g w s = k0_pay2 s w := by
  unfold out0_B_3
  rw [View.read_writes_eq_canon _ _ _ (cover0_B_3 c i a2 h2 a3 h3 a4 h4 a5 h5 a6 h6 hc x g w s)]
  unfold kernelRun0_B
  dsimp only
  sl_unfold_words
  rw [View.canon_unit_zero (S := S2048x2048) hz2]
  simp only [View.readAt_eq_ld, h6.read_unread, h4.read_unread, View.ld_unit_zero (S := S2048x1024) hz2, View.ld_unit_zero (S := S1x2048x1024) hz3]

/-- At a later column block the scratch is left as it was. -/
theorem sout_B (c : Dev nD) (i : grid0.Coords) (a2) (h2) (a3) (h3) (a4) (h4) (a5) (h5) (a6) (h6) (hc) (x g w s) :
    sout0_B_0 (F := F) c i a2 h2 a3 h3 a4 h4 a5 h5 a6 h6 hc x g w s = s := by
  rfl

/-! ## The blocks the points read -/

/-- The block of the residual stream at point `t` is number `t / 5` of eight, the weights' number `t % 5` of five. -/
theorem idx (t : Fin cfg0.N) : win0_0.index t = ![t.val / 5, 0] ∧ win0_1.index t = ![0, 0]
    ∧ win0_2.index t = ![0, t.val % 5, 0] ∧ win0_3.index t = ![t.val / 5, t.val % 5] :=
  (by decide +kernel : ∀ t : Fin grid0.N, win0_0.index t = ![t.val / 5, 0] ∧ win0_1.index t = ![0, 0]
    ∧ win0_2.index t = ![0, t.val % 5, 0] ∧ win0_3.index t = ![t.val / 5, t.val % 5]) t

/-- The normalisation's gain, as the region finds it: the argument as a row. -/
theorem V_gain (c : Dev nD) : (show FVec F S1x1024 .f32 from V m c main_v0)
    = shapeCast S1x1024 (show FVec F S1024 .f32 from m ((c : Thread nD τ).loc main_arg1)) shapeCasts_S1024_S1x1024 := by
  show V m c main_v0 = _
  after_results
  rfl

theorem blk0 (c : Dev nD) (t : Fin cfg0.N) (r : Fin 2048) (k : Fin 1024) (h : t.val / 5 * 2048 + r.val < 16384) :
    (show FVec F S2048x1024 .f32 from iblk m c 0 t) (ix2 r k)
      = (show FVec F S16384x1024 .f32 from m ((c : Thread nD τ).loc main_arg0)) (ix2 ⟨t.val / 5 * 2048 + r.val, h⟩ k) := by
  rw [← V_main_arg0 m c]
  show V m c main_arg0 _ = V m c main_arg0 _
  refine congrArg _ (funext fun a => Fin.ext ?_)
  match a with
  | ⟨0, _⟩ => show win0_0.index t 0 * 2048 + 1 * r.val = _; rw [(idx t).1, Nat.one_mul]; rfl
  | ⟨1, _⟩ => show win0_0.index t 1 * 1024 + 1 * k.val = _; rw [(idx t).1]; show 0 * 1024 + 1 * k.val = k.val; omega

theorem blk1 (c : Dev nD) (t : Fin cfg0.N) (k : Fin 1024) :
    (show FVec F S1x1024 .f32 from iblk m c 1 t) (ix2 0 k)
      = (show FVec F S1024 .f32 from m ((c : Thread nD τ).loc main_arg1)) (ix1 k) := by
  have e : (show FVec F S1x1024 .f32 from iblk m c 1 t) (ix2 0 k) = (show FVec F S1x1024 .f32 from V m c main_v0) (ix2 0 k) := by
    show V m c main_v0 _ = V m c main_v0 _
    refine congrArg _ (funext fun a => Fin.ext ?_)
    match a with
    | ⟨0, _⟩ => show win0_1.index t 0 * 1 + 1 * 0 = _; rw [(idx t).2.1]; rfl
    | ⟨1, _⟩ => show win0_1.index t 1 * 1024 + 1 * k.val = _; rw [(idx t).2.1]; show 0 * 1024 + 1 * k.val = k.val; omega
  rw [e, V_gain]
  pointwise

theorem blk2 (c : Dev nD) (t : Fin cfg0.N) (j : Fin 2048) (k : Fin 1024) (h : t.val % 5 * 2048 + j.val < 10240) :
    (show FVec F S1x2048x1024 .bf16 from iblk m c 2 t) (ix3 0 j k)
      = (show FVec F S2x10240x1024 .bf16 from m ((c : Thread nD τ).loc main_arg2)) (ix3 0 ⟨t.val % 5 * 2048 + j.val, h⟩ k) := by
  rw [← V_main_arg2 m c]
  show V m c main_arg2 _ = V m c main_arg2 _
  refine congrArg _ (funext fun a => Fin.ext ?_)
  match a with
  | ⟨0, _⟩ => show win0_2.index t 0 * 1 + 1 * 0 = _; rw [(idx t).2.2.1]; rfl
  | ⟨1, _⟩ => show win0_2.index t 1 * 2048 + 1 * j.val = _; rw [(idx t).2.2.1, Nat.one_mul]; rfl
  | ⟨2, _⟩ => show win0_2.index t 2 * 1024 + 1 * k.val = _; rw [(idx t).2.2.1]; show 0 * 1024 + 1 * k.val = k.val; omega

/-- The rows and the gain a point reads are those of the point before, unless its column block is the first. -/
theorem blk_same (c : Dev nD) (n : ℕ) (h : n + 1 < cfg0.N) (h0 : ¬(n + 1) % 5 = 0) :
    iblk m c 0 ⟨n + 1, h⟩ = iblk m c 0 ⟨n, Nat.lt_of_succ_lt h⟩ ∧ iblk m c 1 ⟨n + 1, h⟩ = iblk m c 1 ⟨n, Nat.lt_of_succ_lt h⟩ := by
  constructor
  · funext y
    show V m c main_arg0 _ = V m c main_arg0 _
    refine congrArg _ (funext fun a => Fin.ext ?_)
    show win0_0.index _ a * _ + 1 * (y a).val = win0_0.index _ a * _ + 1 * (y a).val
    rw [(idx _).1, (idx _).1, show (⟨n + 1, h⟩ : Fin cfg0.N).val / 5 = (⟨n, Nat.lt_of_succ_lt h⟩ : Fin cfg0.N).val / 5 by show (n + 1) / 5 = n / 5; omega]
  · funext y
    show V m c main_v0 _ = V m c main_v0 _
    refine congrArg _ (funext fun a => Fin.ext ?_)
    show win0_1.index _ a * _ + 1 * (y a).val = win0_1.index _ a * _ + 1 * (y a).val
    rw [(idx _).2.1, (idx _).2.1]

/-- The scratch holds, after every point, the normalised rows of that point's block. -/
theorem scratch (c : Dev nD) : ∀ (n : ℕ) (h : n < cfg0.N),
    (outsAt0 m c n h).2 = k0_pay1 (F := F) (iblk m c 0 ⟨n, h⟩) (iblk m c 1 ⟨n, h⟩) := by
  intro n
  induction n with
  | zero =>
    intro h
    have e := congrArg Prod.snd (outsAt0_A m c ⟨0, h⟩ (Nat.zero_mod 5))
    dsimp only at e
    rw [sout_A] at e
    exact e
  | succ n ih =>
    intro h
    by_cases h0 : (n + 1) % 5 = 0
    · have e := congrArg Prod.snd (outsAt0_A m c ⟨n + 1, h⟩ h0)
      dsimp only at e
      rw [sout_A] at e
      exact e
    · have e := congrArg Prod.snd (outsAt0_B m c ⟨n + 1, h⟩ h0)
      dsimp only [Nat.add_sub_cancel] at e
      rw [sout_B] at e
      exact e.trans ((ih _).trans (by rw [(blk_same m c n h h0).1, (blk_same m c n h h0).2]))

/-- What a point leaves in the result's block: the normalised rows times its block of weights. -/
theorem block (c : Dev nD) (t : Fin cfg0.N) :
    (outsAt0 m c t.val t.isLt).1 = k0_pay2 (F := F) (k0_pay1 (F := F) (iblk m c 0 t) (iblk m c 1 t)) (iblk m c 2 t) := by
  by_cases h0 : t.val % 5 = 0
  · have e := congrArg Prod.fst (outsAt0_A m c t h0)
    dsimp only at e
    rw [out_A] at e
    exact e
  · obtain ⟨n, hn⟩ := t
    cases n with
    | zero => exact absurd (Nat.zero_mod 5) h0
    | succ n =>
      have e := congrArg Prod.fst (outsAt0_B m c ⟨n + 1, hn⟩ h0)
      dsimp only [Nat.add_sub_cancel] at e
      rw [out_B, scratch] at e
      refine e.trans ?_
      rw [(blk_same m c n hn h0).1, (blk_same m c n hn h0).2]
      rfl

end Cert.Calls.InProj.Ker

namespace Cert.Calls.InProj.Ker

open Cert.InProjIdeal Cert.InProjIdeal.Gen

variable (m : (ℓ : Loc nD τ sig) → Buf (Elt Ideal) ℓ) (ρ : Dev nD → PrngReg)

/-- The result array as a function of the arguments. -/
def G (c : Dev nD) : Buf (Elt Ideal) ((c : Thread nD τ).loc main_v1) := fun i =>
  result (show FVec Ideal S16384x1024 .f32 from m ((c : Thread nD τ).loc main_arg0))
    (show FVec Ideal S1024 .f32 from m ((c : Thread nD τ).loc main_arg1))
    (show FVec Ideal S2x10240x1024 .bf16 from m ((c : Thread nD τ).loc main_arg2)) (i 0) (i 1)

theorem flushed_eq (c : Dev nD) (t : Fin cfg0.N) :
    (dats m 0 c).flushed 3 t = ((cfg0.win 3).blk t).view.read (Elt Ideal) (G m c) := by
  rw [Value.flushed3, block]
  funext y
  have hN : t.val < 40 := lt_of_lt_of_eq t.isLt N_0
  obtain ⟨r, j, rfl⟩ : ∃ (r j : Fin 2048), y = ix2 r j := ⟨y 0, y 1, eq_ix2 y⟩
  have e0 : t.val / 5 * 2048 + r.val < 16384 := by omega
  have e1 : t.val % 5 * 2048 + j.val < 10240 := by omega
  have er : ((cfg0.win 3).blk t).view.read (Elt Ideal) (G m c) (ix2 r j)
      = G m c (ix2 ⟨t.val / 5 * 2048 + r.val, e0⟩ ⟨t.val % 5 * 2048 + j.val, e1⟩) := by
    show G m c _ = G m c _
    refine congrArg _ (funext fun a => Fin.ext ?_)
    match a with
    | ⟨0, _⟩ => show win0_3.index t 0 * 2048 + 1 * r.val = _; rw [(idx t).2.2.2, Nat.one_mul]; rfl
    | ⟨1, _⟩ => show win0_3.index t 1 * 2048 + 1 * j.val = _; rw [(idx t).2.2.2, Nat.one_mul]; rfl
  rw [er]
  refine (pay (iblk m c 0 t) (iblk m c 1 t) (iblk m c 2 t) r j).trans ?_
  unfold G result scale
  refine Finset.sum_congr rfl fun k _ => ?_
  have b0 := fun k => blk0 m c t r k e0
  have b1 := blk1 m c t k
  have b2 := blk2 m c t j k e1
  dsimp only at b0 b1 b2
  simp only [b0, b1, b2]
  rfl

theorem final (c : Dev nD) : (dats m 0 c).arrAt 3 cfg0.N = G m c :=
  (dats m 0 c).arrAt_eq_of_cover 3 _ (fun t _ => flushed_eq m c t) (fun i => (Value.covered_iff3 i).2 (by
    have h0 : (i 0).val < 16384 := (i 0).isLt; have h1 : (i 1).val < 10240 := (i 1).isLt; omega))

end Cert.Calls.InProj.Ker

namespace Cert.Calls.InProj

/-- On equal arguments the kernel's result array is the reference's: both are `result`. -/
theorem algebraic : Cert.algebraic_InProjIdeal_InProjRefIdeal (hInProjIdeal := InProjIdeal.Gen.facts) (hInProjRefIdeal := InProjRefIdeal.Gen.facts) := by
  intro m ρ m' ρ' _ hag
  refine ⟨fun c => Ker.G m c, ?_, ?_⟩
  · exact (θ_run _ _ _).mono (fun _ h c => ⟨(h c).1.trans (Ker.final m c), (h c).2⟩) (InProjIdeal.Value.run_blocks (F := Ideal) m ρ)
  · refine (θ_run _ _ _).mono (fun _ h c => ⟨(h c).1.trans ?_, (h c).2⟩) (InProjRefIdeal.Value.run (F := Ideal) m' ρ')
    refine (InProjRefIdeal.Read.val_main_v18_eq (F := Ideal) _ _ _).trans ?_
    funext i
    rw [(hag c).1, (hag c).2.1, (hag c).2.2]
    have e : i = ix2 (i 0) (i 1) := eq_ix2 i
    rw [e]
    exact Ref.read _ _ _ _ _

end Cert.Calls.InProj
-- ==== Proof.ReorderValue.lean ====
/-
  The packing of the projection's weights: the pallas_call copies ranges of rows of the transposed weights into the
  packed order, scales the query rows, and clears the rows that pad the selection gates. Here its result array is read
  as one function of the argument, and the reference's as the same.
-/
module

public import proofs.«01_k».proof.Defs
public import proofs.«01_k».proof.Proof.Scalars
public import proofs.«01_k».proof.Proof.Gen.ReorderIdeal.Value
public import proofs.«01_k».proof.Proof.Gen.ReorderRefIdeal.Run
public import proofs.«01_k».proof.Proof.Gen.ReorderRefIdeal.Read
public import Idealize.ShloMosaic.Lib.Pipeline.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Calls.Reorder

/-- The packed order: row `j` of the packed weights, of one column `w` of the unpacked ones. -/
def packed (w : Fin 9776 → EReal) (j : Fin 10240) : EReal :=
  if h1 : j.val < 2048 then w ⟨j.val, by omega⟩
  else if h2 : j.val < 7168 then w ⟨4656 + (j.val - 2048), by omega⟩
  else if h3 : j.val < 7680 then w ⟨3072 + (j.val - 7168), by omega⟩
  else if h4 : j.val < 7728 then w ⟨4608 + (j.val - 7680), by omega⟩
  else if h5 : j.val < 8192 then 0
  else if h6 : j.val < 9216 then w ⟨2048 + (j.val - 8192), by omega⟩ * Ideal.ofBits .f32 0x3E38AA3B#32
  else w ⟨3584 + (j.val - 9216), by omega⟩

/-- A row that is copied as it is. -/
theorem packed_copy (w : Fin 9776 → EReal) (j : Fin 10240) (i : Fin 9776)
    (h : (j.val < 2048 ∧ i.val = j.val) ∨ (2048 ≤ j.val ∧ j.val < 7168 ∧ i.val = j.val + 2608)
      ∨ (7168 ≤ j.val ∧ j.val < 7680 ∧ i.val + 4096 = j.val) ∨ (7680 ≤ j.val ∧ j.val < 7728 ∧ i.val + 3072 = j.val)
      ∨ (9216 ≤ j.val ∧ i.val + 5632 = j.val)) : packed w j = w i := by
  unfold packed
  split_ifs <;> first
    | (exfalso; omega)
    | (refine congrArg w (Fin.ext ?_); dsimp only; omega)

/-- A row of the padding. -/
theorem packed_zero (w : Fin 9776 → EReal) (j : Fin 10240) (h : 7728 ≤ j.val ∧ j.val < 8192) : packed w j = 0 := by
  unfold packed
  split_ifs <;> first
    | rfl
    | (exfalso; omega)

/-- A row of the queries, scaled. -/
theorem packed_query (w : Fin 9776 → EReal) (j : Fin 10240) (i : Fin 9776)
    (h : 8192 ≤ j.val ∧ j.val < 9216 ∧ i.val + 6144 = j.val) : packed w j = w i * Ideal.ofBits .f32 0x3E38AA3B#32 := by
  unfold packed
  split_ifs <;> first
    | (exfalso; omega)
    | (refine congrArg (fun i => w i * Ideal.ofBits .f32 0x3E38AA3B#32) (Fin.ext ?_); dsimp only; omega)

end Cert.Calls.Reorder

namespace Cert.Calls.Reorder.Ref

open Cert.ReorderRefIdeal Cert.ReorderRefIdeal.Gen Cert.ReorderRefIdeal.Read

theorem read (w : FVec Ideal S2x1024x9776 .f32) (l : Fin 2) (j : Fin 10240) (d : Fin 1024) :
    val_main_v13 (F := Ideal) w (ix3 l j d) = packed (fun i => w (ix3 l d i)) j := by
  pointwise [val_main_v13, val_main_v12, val_main_v11, val_main_v10, val_main_v9, val_main_v8, val_main_v7, val_main_v6, val_main_v5, val_main_v4, val_main_v3, val_main_v2, val_main_v1, val_main_v0, val_main_cst, val_main_cst_0]
  split_ifs <;> first
    | exact (packed_zero _ _ (by omega)).symm
    | exact (packed_query (fun i => w (ix3 l d i)) j _ (by dsimp only; omega)).symm
    | exact (packed_copy (fun i => w (ix3 l d i)) j _ (by dsimp only; omega)).symm

end Cert.Calls.Reorder.Ref

namespace Cert.Calls.Reorder.Ker

open Cert.ReorderIdeal Cert.ReorderIdeal.Gen

theorem piece3 (x : Vec Ideal S1x9776x256 .f32) (h) (q : Fin 1024) (k : Fin 256) :
    k0_pay3 (F := Ideal) (extractStridedSlice ⟨3, ![1, 1024, 256]⟩ ![0, 3584, 0] x h) (ix3 0 q k)
      = x (ix3 0 ⟨3584 + q.val, by omega⟩ k) := by
  pointwise [k0_pay3]

theorem piece2 (x : Vec Ideal S1x9776x256 .f32) (h) (q : Fin 1024) (k : Fin 256) :
    k0_pay2 (F := Ideal) (extractStridedSlice ⟨3, ![1, 1024, 256]⟩ ![0, 2048, 0] x h) (ix3 0 q k)
      = x (ix3 0 ⟨2048 + q.val, by omega⟩ k) * Ideal.ofBits .f32 0x3E38AA3B#32 := by
  pointwise [k0_pay2]

theorem piece1 (q : Fin 464) (k : Fin 256) : k0_pay1 (F := Ideal) (k0_pay8 (F := Ideal)) (ix3 0 q k) = 0 := by
  pointwise [k0_pay1, k0_pay8]

theorem piece7 (x : Vec Ideal S1x9776x256 .f32) (h) (q : Fin 48) (k : Fin 256) :
    k0_pay7 (F := Ideal) (extractStridedSlice ⟨3, ![1, 48, 256]⟩ ![0, 4608, 0] x h) (ix3 0 q k)
      = x (ix3 0 ⟨4608 + q.val, by omega⟩ k) := by
  pointwise [k0_pay7]

theorem piece6 (x : Vec Ideal S1x9776x256 .f32) (h) (q : Fin 512) (k : Fin 256) :
    k0_pay6 (F := Ideal) (extractStridedSlice ⟨3, ![1, 512, 256]⟩ ![0, 3072, 0] x h) (ix3 0 q k)
      = x (ix3 0 ⟨3072 + q.val, by omega⟩ k) := by
  pointwise [k0_pay6]

theorem piece5 (x : Vec Ideal S1x9776x256 .f32) (h) (q : Fin 5120) (k : Fin 256) :
    k0_pay5 (F := Ideal) (extractStridedSlice ⟨3, ![1, 5120, 256]⟩ ![0, 4656, 0] x h) (ix3 0 q k)
      = x (ix3 0 ⟨4656 + q.val, by omega⟩ k) := by
  pointwise [k0_pay5]

theorem piece4 (x : Vec Ideal S1x9776x256 .f32) (h) (q : Fin 2048) (k : Fin 256) :
    k0_pay4 (F := Ideal) (extractStridedSlice ⟨3, ![1, 2048, 256]⟩ ![0, 0, 0] x h) (ix3 0 q k)
      = x (ix3 0 ⟨0 + q.val, by omega⟩ k) := by
  pointwise [k0_pay4]

/-- What a point leaves in the result's block: its block of weights, packed. -/
theorem out_A (c : Dev nD) (i : grid0.Coords) (a2) (h2) (a3) (h3) (x) (j : Fin 10240) (d : Fin 256) :
    out0_A_1 (F := Ideal) c i a2 h2 a3 h3 x (ix3 0 j d) = packed (fun i => x (ix3 0 i d)) j := by
  unfold out0_A_1
  rw [View.read_writes_eq_canon _ _ _ (cover0_A_1 c i a2 h2 a3 h3 x)]
  refine View.canon_apply_of_pieces (fun y => packed (fun i => x (ix3 0 i (y 2))) (y 1)) _ ?_ _ (cover0_A_1 c i a2 h2 a3 h3 x _)
  unfold kernelRun0_A
  dsimp only
  sl_unfold_words
  simp only [View.readAt_eq_ld, h2.read_unread, View.ld_unit]
  have ew : ∀ (k k' : Fin 256) (r r' : Fin 10240), k' = k → r' = r →
      packed (fun i => x (ix3 0 i k)) r = packed (fun i => x (ix3 0 i k')) r' := by
    rintro k _ r _ rfl rfl; rfl
  intro pc hpc
  rcases List.mem_cons.mp hpc with rfl | hpc
  · intro y
    obtain ⟨q, k, rfl⟩ : ∃ (q : Fin 1024) (k : Fin 256), y = ix3 0 q k := ⟨y 1, y 2, by
      refine (eq_ix3 y).trans ?_; rw [show y 0 = (0 : Fin 1) from Subsingleton.elim (α := Fin 1) _ _]⟩
    have e1 : (Rect.unit (s := S1x10240x256) ![0, 9216, 0] ![1, 1024, 256] inb_S1x10240x256_S1x1024x256_0_9216_0).emb (ix3 0 q k) 1
        = (⟨9216 + q.val, by omega⟩ : Fin 10240) := Fin.ext (by show 9216 + 1 * q.val = 9216 + q.val; omega)
    have e2 : (Rect.unit (s := S1x10240x256) ![0, 9216, 0] ![1, 1024, 256] inb_S1x10240x256_S1x1024x256_0_9216_0).emb (ix3 0 q k) 2 = k :=
      Fin.ext (by show 0 + 1 * k.val = k.val; omega)
    exact (piece3 x ⟨rfl, inb_S1x9776x256_S1x1024x256_0_3584_0⟩ q k).trans ((packed_copy (fun i => x (ix3 0 i k)) ⟨9216 + q.val, by omega⟩ ⟨3584 + q.val, by omega⟩ (by dsimp only; omega)).symm.trans (ew k _ ⟨9216 + q.val, by omega⟩ _ e2 e1))
  rcases List.mem_cons.mp hpc with rfl | hpc
  · intro y
    obtain ⟨q, k, rfl⟩ : ∃ (q : Fin 1024) (k : Fin 256), y = ix3 0 q k := ⟨y 1, y 2, by
      refine (eq_ix3 y).trans ?_; rw [show y 0 = (0 : Fin 1) from Subsingleton.elim (α := Fin 1) _ _]⟩
    have e1 : (Rect.unit (s := S1x10240x256) ![0, 8192, 0] ![1, 1024, 256] inb_S1x10240x256_S1x1024x256_0_8192_0).emb (ix3 0 q k) 1
        = (⟨8192 + q.val, by omega⟩ : Fin 10240) := Fin.ext (by show 8192 + 1 * q.val = 8192 + q.val; omega)
    have e2 : (Rect.unit (s := S1x10240x256) ![0, 8192, 0] ![1, 1024, 256] inb_S1x10240x256_S1x1024x256_0_8192_0).emb (ix3 0 q k) 2 = k :=
      Fin.ext (by show 0 + 1 * k.val = k.val; omega)
    exact (piece2 x ⟨rfl, inb_S1x9776x256_S1x1024x256_0_2048_0⟩ q k).trans ((packed_query (fun i => x (ix3 0 i k)) ⟨8192 + q.val, by omega⟩ ⟨2048 + q.val, by omega⟩ (by dsimp only; omega)).symm.trans (ew k _ ⟨8192 + q.val, by omega⟩ _ e2 e1))
  rcases List.mem_cons.mp hpc with rfl | hpc
  · intro y
    obtain ⟨q, k, rfl⟩ : ∃ (q : Fin 464) (k : Fin 256), y = ix3 0 q k := ⟨y 1, y 2, by
      refine (eq_ix3 y).trans ?_; rw [show y 0 = (0 : Fin 1) from Subsingleton.elim (α := Fin 1) _ _]⟩
    have e1 : (Rect.unit (s := S1x10240x256) ![0, 7728, 0] ![1, 464, 256] inb_S1x10240x256_S1x464x256_0_7728_0).emb (ix3 0 q k) 1
        = (⟨7728 + q.val, by omega⟩ : Fin 10240) := Fin.ext (by show 7728 + 1 * q.val = 7728 + q.val; omega)
    have e2 : (Rect.unit (s := S1x10240x256) ![0, 7728, 0] ![1, 464, 256] inb_S1x10240x256_S1x464x256_0_7728_0).emb (ix3 0 q k) 2 = k :=
      Fin.ext (by show 0 + 1 * k.val = k.val; omega)
    exact (piece1 q k).trans ((packed_zero (fun i => x (ix3 0 i k)) ⟨7728 + q.val, by omega⟩ (by dsimp only; omega)).symm.trans (ew k _ ⟨7728 + q.val, by omega⟩ _ e2 e1))
  rcases List.mem_cons.mp hpc with rfl | hpc
  · intro y
    obtain ⟨q, k, rfl⟩ : ∃ (q : Fin 48) (k : Fin 256), y = ix3 0 q k := ⟨y 1, y 2, by
      refine (eq_ix3 y).trans ?_; rw [show y 0 = (0 : Fin 1) from Subsingleton.elim (α := Fin 1) _ _]⟩
    have e1 : (Rect.unit (s := S1x10240x256) ![0, 7680, 0] ![1, 48, 256] inb_S1x10240x256_S1x48x256_0_7680_0).emb (ix3 0 q k) 1
        = (⟨7680 + q.val, by omega⟩ : Fin 10240) := Fin.ext (by show 7680 + 1 * q.val = 7680 + q.val; omega)
    have e2 : (Rect.unit (s := S1x10240x256) ![0, 7680, 0] ![1, 48, 256] inb_S1x10240x256_S1x48x256_0_7680_0).emb (ix3 0 q k) 2 = k :=
      Fin.ext (by show 0 + 1 * k.val = k.val; omega)
    exact (piece7 x ⟨rfl, inb_S1x9776x256_S1x48x256_0_4608_0⟩ q k).trans ((packed_copy (fun i => x (ix3 0 i k)) ⟨7680 + q.val, by omega⟩ ⟨4608 + q.val, by omega⟩ (by dsimp only; omega)).symm.trans (ew k _ ⟨7680 + q.val, by omega⟩ _ e2 e1))
  rcases List.mem_cons.mp hpc with rfl | hpc
  · intro y
    obtain ⟨q, k, rfl⟩ : ∃ (q : Fin 512) (k : Fin 256), y = ix3 0 q k := ⟨y 1, y 2, by
      refine (eq_ix3 y).trans ?_; rw [show y 0 = (0 : Fin 1) from Subsingleton.elim (α := Fin 1) _ _]⟩
    have e1 : (Rect.unit (s := S1x10240x256) ![0, 7168, 0] ![1, 512, 256] inb_S1x10240x256_S1x512x256_0_7168_0).emb (ix3 0 q k) 1
        = (⟨7168 + q.val, by omega⟩ : Fin 10240) := Fin.ext (by show 7168 + 1 * q.val = 7168 + q.val; omega)
    have e2 : (Rect.unit (s := S1x10240x256) ![0, 7168, 0] ![1, 512, 256] inb_S1x10240x256_S1x512x256_0_7168_0).emb (ix3 0 q k) 2 = k :=
      Fin.ext (by show 0 + 1 * k.val = k.val; omega)
    exact (piece6 x ⟨rfl, inb_S1x9776x256_S1x512x256_0_3072_0⟩ q k).trans ((packed_copy (fun i => x (ix3 0 i k)) ⟨7168 + q.val, by omega⟩ ⟨3072 + q.val, by omega⟩ (by dsimp only; omega)).symm.trans (ew k _ ⟨7168 + q.val, by omega⟩ _ e2 e1))
  rcases List.mem_cons.mp hpc with rfl | hpc
  · intro y
    obtain ⟨q, k, rfl⟩ : ∃ (q : Fin 5120) (k : Fin 256), y = ix3 0 q k := ⟨y 1, y 2, by
      refine (eq_ix3 y).trans ?_; rw [show y 0 = (0 : Fin 1) from Subsingleton.elim (α := Fin 1) _ _]⟩
    have e1 : (Rect.unit (s := S1x10240x256) ![0, 2048, 0] ![1, 5120, 256] inb_S1x10240x256_S1x5120x256_0_2048_0).emb (ix3 0 q k) 1
        = (⟨2048 + q.val, by omega⟩ : Fin 10240) := Fin.ext (by show 2048 + 1 * q.val = 2048 + q.val; omega)
    have e2 : (Rect.unit (s := S1x10240x256) ![0, 2048, 0] ![1, 5120, 256] inb_S1x10240x256_S1x5120x256_0_2048_0).emb (ix3 0 q k) 2 = k :=
      Fin.ext (by show 0 + 1 * k.val = k.val; omega)
    exact (piece5 x ⟨rfl, inb_S1x9776x256_S1x5120x256_0_4656_0⟩ q k).trans ((packed_copy (fun i => x (ix3 0 i k)) ⟨2048 + q.val, by omega⟩ ⟨4656 + q.val, by omega⟩ (by dsimp only; omega)).symm.trans (ew k _ ⟨2048 + q.val, by omega⟩ _ e2 e1))
  rcases List.mem_cons.mp hpc with rfl | hpc
  · intro y
    obtain ⟨q, k, rfl⟩ : ∃ (q : Fin 2048) (k : Fin 256), y = ix3 0 q k := ⟨y 1, y 2, by
      refine (eq_ix3 y).trans ?_; rw [show y 0 = (0 : Fin 1) from Subsingleton.elim (α := Fin 1) _ _]⟩
    have e1 : (Rect.unit (s := S1x10240x256) ![0, 0, 0] ![1, 2048, 256] inb_S1x10240x256_S1x2048x256_0_0_0).emb (ix3 0 q k) 1
        = (⟨0 + q.val, by omega⟩ : Fin 10240) := Fin.ext (by show 0 + 1 * q.val = 0 + q.val; omega)
    have e2 : (Rect.unit (s := S1x10240x256) ![0, 0, 0] ![1, 2048, 256] inb_S1x10240x256_S1x2048x256_0_0_0).emb (ix3 0 q k) 2 = k :=
      Fin.ext (by show 0 + 1 * k.val = k.val; omega)
    exact (piece4 x ⟨rfl, inb_S1x9776x256_S1x2048x256_0_0_0⟩ q k).trans ((packed_copy (fun i => x (ix3 0 i k)) ⟨0 + q.val, by omega⟩ ⟨0 + q.val, by omega⟩ (by dsimp only; omega)).symm.trans (ew k _ ⟨0 + q.val, by omega⟩ _ e2 e1))
  nomatch hpc

/-! ## The blocks the points read, and the array after the run -/

variable {F : FTy → Type} [FloatOps F]

/-- Both blocks of point `t` lie in layer `t / 4`, the block of columns number `t % 4` of four. -/
theorem idx (t : Fin cfg0.N) : win0_0.index t = ![t.val / 4, 0, t.val % 4] ∧ win0_1.index t = ![t.val / 4, 0, t.val % 4] :=
  (by decide +kernel : ∀ t : Fin grid0.N, win0_0.index t = ![t.val / 4, 0, t.val % 4]
    ∧ win0_1.index t = ![t.val / 4, 0, t.val % 4]) t

/-- The weights, as the region finds them: the argument transposed. -/
theorem V_w (m : (ℓ : Loc nD τ sig) → Buf (Elt F) ℓ) (c : Dev nD) : (show FVec F S2x9776x1024 .f32 from V m c main_v0)
    = transpose S2x9776x1024 [0, 2, 1] (show FVec F S2x1024x9776 .f32 from m ((c : Thread nD τ).loc main_arg0)) transposes_S2x1024x9776_S2x9776x1024_0_2_1 := by
  show V m c main_v0 = _
  after_results
  rfl

theorem blk0 (m : (ℓ : Loc nD τ sig) → Buf (Elt F) ℓ) (c : Dev nD) (t : Fin cfg0.N) (i : Fin 9776) (k : Fin 256) (h0 : t.val / 4 < 2) (h : t.val % 4 * 256 + k.val < 1024) :
    (show FVec F S1x9776x256 .f32 from iblk m c 0 t) (ix3 0 i k)
      = (show FVec F S2x1024x9776 .f32 from m ((c : Thread nD τ).loc main_arg0)) (ix3 ⟨t.val / 4, h0⟩ ⟨t.val % 4 * 256 + k.val, h⟩ i) := by
  have e : (show FVec F S1x9776x256 .f32 from iblk m c 0 t) (ix3 0 i k)
      = (show FVec F S2x9776x1024 .f32 from V m c main_v0) (ix3 ⟨t.val / 4, h0⟩ i ⟨t.val % 4 * 256 + k.val, h⟩) := by
    show V m c main_v0 _ = V m c main_v0 _
    refine congrArg _ (funext fun a => Fin.ext ?_)
    match a with
    | ⟨0, _⟩ => show win0_0.index t 0 * 1 + 1 * 0 = _; rw [(idx t).1]; show t.val / 4 * 1 + 1 * 0 = t.val / 4; omega
    | ⟨1, _⟩ => show win0_0.index t 1 * 9776 + 1 * i.val = _; rw [(idx t).1]; show 0 * 9776 + 1 * i.val = i.val; omega
    | ⟨2, _⟩ => show win0_0.index t 2 * 256 + 1 * k.val = _; rw [(idx t).1, Nat.one_mul]; rfl
  rw [e, V_w]
  pointwise

variable (m : (ℓ : Loc nD τ sig) → Buf (Elt Ideal) ℓ) (ρ : Dev nD → PrngReg)

/-- The result array as a function of the argument. -/
def G (c : Dev nD) : Buf (Elt Ideal) ((c : Thread nD τ).loc main_v1) := fun i =>
  packed (fun q => (show FVec Ideal S2x1024x9776 .f32 from m ((c : Thread nD τ).loc main_arg0)) (ix3 (i 0) (i 2) q)) (i 1)

theorem flushed_eq (c : Dev nD) (t : Fin cfg0.N) :
    (dats m 0 c).flushed 1 t = ((cfg0.win 1).blk t).view.read (Elt Ideal) (G m c) := by
  rw [Value.flushed1_A]
  funext y
  have hN : t.val < 8 := lt_of_lt_of_eq t.isLt N_0
  obtain ⟨j, k, rfl⟩ : ∃ (j : Fin 10240) (k : Fin 256), y = ix3 0 j k := ⟨y 1, y 2, by
    refine (eq_ix3 y).trans ?_; rw [show y 0 = (0 : Fin 1) from Subsingleton.elim (α := Fin 1) _ _]⟩
  have e0 : t.val / 4 < 2 := by omega
  have e1 : t.val % 4 * 256 + k.val < 1024 := by omega
  have er : ((cfg0.win 1).blk t).view.read (Elt Ideal) (G m c) (ix3 0 j k)
      = G m c (ix3 ⟨t.val / 4, e0⟩ j ⟨t.val % 4 * 256 + k.val, e1⟩) := by
    show G m c _ = G m c _
    refine congrArg _ (funext fun a => Fin.ext ?_)
    match a with
    | ⟨0, _⟩ => show win0_1.index t 0 * 1 + 1 * 0 = _; rw [(idx t).2]; show t.val / 4 * 1 + 1 * 0 = t.val / 4; omega
    | ⟨1, _⟩ => show win0_1.index t 1 * 10240 + 1 * j.val = _; rw [(idx t).2]; show 0 * 10240 + 1 * j.val = j.val; omega
    | ⟨2, _⟩ => show win0_1.index t 2 * 256 + 1 * k.val = _; rw [(idx t).2, Nat.one_mul]; rfl
  rw [er]
  refine (out_A c (grid0.coords t) _ _ _ _ _ j k).trans ?_
  unfold G
  exact congrArg (fun f => packed f j) (funext fun q => blk0 m c t q k e0 e1)

theorem mem_blk (t : Fin cfg0.N) (i : S2x10240x1024.Idx) : i ∈ ((cfg0.win 1).blk t).view.set
    ↔ ∀ a : Fin 3, win0_1.index t a * S1x10240x256.size a ≤ (i a).val ∧ (i a).val < win0_1.index t a * S1x10240x256.size a + S1x10240x256.size a := by
  show i ∈ ((View.whole main_v1).slice (win0_1.rect t)).set ↔ _
  rw [View.set_slice_whole, Rect.mem_set_unit]
  exact Iff.rfl

/-- The result's blocks cover the array. -/
theorem covered (i : S2x10240x1024.Idx) : ∃ t : Fin cfg0.N, (cfg0.win 1).flush t = true ∧ i ∈ ((cfg0.win 1).blk t).view.set := by
  have h0 : (i 0).val < 2 := (i 0).isLt
  have h1 : (i 1).val < 10240 := (i 1).isLt
  have h2 : (i 2).val < 1024 := (i 2).isLt
  have hN : (i 0).val * 4 + (i 2).val / 256 < cfg0.N := lt_of_lt_of_eq (by omega : (i 0).val * 4 + (i 2).val / 256 < 8) N_0.symm
  refine ⟨⟨(i 0).val * 4 + (i 2).val / 256, hN⟩, (by decide +kernel : ∀ t : Fin grid0.N, win0_1.flush t = true) _, ?_⟩
  rw [mem_blk]
  intro a
  rw [(idx _).2]
  match a with
  | ⟨0, _⟩ => show ((i 0).val * 4 + (i 2).val / 256) / 4 * 1 ≤ (i 0).val ∧ (i 0).val < ((i 0).val * 4 + (i 2).val / 256) / 4 * 1 + 1; omega
  | ⟨1, _⟩ => show 0 * 10240 ≤ (i 1).val ∧ (i 1).val < 0 * 10240 + 10240; omega
  | ⟨2, _⟩ => show ((i 0).val * 4 + (i 2).val / 256) % 4 * 256 ≤ (i 2).val ∧ (i 2).val < ((i 0).val * 4 + (i 2).val / 256) % 4 * 256 + 256; omega

theorem final (c : Dev nD) : (dats m 0 c).arrAt 1 cfg0.N = G m c :=
  (dats m 0 c).arrAt_eq_of_cover 1 _ (fun t _ => flushed_eq m c t) covered

end Cert.Calls.Reorder.Ker

namespace Cert.Calls.Reorder

/-- On equal arguments the kernel's result array is the reference's: both are the argument, packed. -/
theorem algebraic : Cert.algebraic_ReorderIdeal_ReorderRefIdeal (hReorderIdeal := ReorderIdeal.Gen.facts) (hReorderRefIdeal := ReorderRefIdeal.Gen.facts) := by
  intro m ρ m' ρ' _ hag
  refine ⟨fun c => Ker.G m c, ?_, ?_⟩
  · exact (θ_run _ _ _).mono (fun _ h c => ⟨(h c).1.trans (Ker.final m c), (h c).2⟩) (ReorderIdeal.Value.run_blocks (F := Ideal) m ρ)
  · refine (θ_run _ _ _).mono (fun _ h c => ⟨(h c).1.trans ?_, (h c).2⟩) (ReorderRefIdeal.Value.run (F := Ideal) m' ρ')
    refine (ReorderRefIdeal.Read.val_main_v13_eq (F := Ideal) _).trans ?_
    funext i
    rw [hag c]
    have e : i = ix3 (i 0) (i 1) (i 2) := eq_ix3 i
    rw [e]
    exact Ref.read _ _ _ _

end Cert.Calls.Reorder
-- ==== Proof.CompressBody.lean ====
/-
  The compression of the attention's keys and values: what one point's body leaves. The body copies its block of columns
  into two planes, reads them back sixteen rows apart, and joins the sixteen phases of each of the four groups into rows
  of 1024 entries, half a window each.
-/
module

public import proofs.«01_k».proof.Proof.Gen.CompressIdeal.Frame
public import Idealize.ShloMosaic.Lib.Pipeline.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Calls.Compress

open Cert.CompressIdeal Cert.CompressIdeal.Gen
open Idealize.ShloMosaic Idealize.ShloMosaic.TcCoe Idealize.SL.Sem

/-- Rows `l`, `l + 16`, `l + 32`, … of the 128 columns number `q` of a block. -/
def phase (X : Vec Ideal S2048x256 .bf16) (q l : Nat) : Vec Ideal S1x128x128 .f32 := fun j =>
  X (ix2 (⟨((j 1).val * 16 + l) % 2048, by omega⟩ : Fin 2048) (⟨(q * 128 + (j 2).val) % 256, by omega⟩ : Fin 256))

theorem plane0 (X : Vec Ideal S2048x256 .bf16) (r : Fin 2048) (d : Fin 128) :
    k0_pay3 (F := Ideal) X (ix3 0 r d) = X (ix2 r ⟨d.val, by omega⟩) := by
  pointwise [k0_pay3, k0_pay2]

theorem plane1 (X : Vec Ideal S2048x256 .bf16) (r : Fin 2048) (d : Fin 128) :
    k0_pay4 (F := Ideal) X (ix3 0 r d) = X (ix2 r ⟨128 + d.val, by omega⟩) := by
  pointwise [k0_pay4, k0_pay2]

/-- The two planes: plane `q` is the 128 columns number `q` of the block. -/
def planes (X : Vec Ideal S2048x256 .bf16) (q : Fin 2) (r : Fin 2048) (d : Fin 128) : EReal :=
  X (ix2 r (⟨q.val * 128 + d.val, by omega⟩ : Fin 256))

theorem planes_congr (X : Vec Ideal S2048x256 .bf16) {q q' : Fin 2} {r r' : Fin 2048} {d d' : Fin 128}
    (hq : q = q') (hr : r = r') (hd : d = d') : planes X q r d = planes X q' r' d' := by
  subst hq hr hd; rfl

theorem piece1 (X : Vec Ideal S2048x256 .bf16) (h1) (y : S1x2048x128.Idx) :
    k0_pay4 (F := Ideal) X y = planes X ((Rect.unit (s := S2x2048x128) ![1, 0, 0] S1x2048x128.size h1).emb y 0)
      ((Rect.unit (s := S2x2048x128) ![1, 0, 0] S1x2048x128.size h1).emb y 1) ((Rect.unit (s := S2x2048x128) ![1, 0, 0] S1x2048x128.size h1).emb y 2) := by
  obtain ⟨r, d, rfl⟩ : ∃ (r : Fin 2048) (d : Fin 128), y = ix3 0 r d := ⟨y 1, y 2, by
    refine (eq_ix3 y).trans ?_; rw [show y 0 = (0 : Fin 1) from Subsingleton.elim (α := Fin 1) _ _]⟩
  have e0 : (Rect.unit (s := S2x2048x128) ![1, 0, 0] S1x2048x128.size h1).emb (ix3 0 r d) 0 = (1 : Fin 2) := rfl
  have e1 : (Rect.unit (s := S2x2048x128) ![1, 0, 0] S1x2048x128.size h1).emb (ix3 0 r d) 1 = r :=
    Fin.ext (by show 0 + 1 * r.val = r.val; omega)
  have e2 : (Rect.unit (s := S2x2048x128) ![1, 0, 0] S1x2048x128.size h1).emb (ix3 0 r d) 2 = d :=
    Fin.ext (by show 0 + 1 * d.val = d.val; omega)
  exact (plane1 X r d).trans (planes_congr X e0.symm e1.symm e2.symm)

theorem piece0 (X : Vec Ideal S2048x256 .bf16) (h0) (y : S1x2048x128.Idx) :
    k0_pay3 (F := Ideal) X y = planes X ((Rect.unit (s := S2x2048x128) ![0, 0, 0] S1x2048x128.size h0).emb y 0)
      ((Rect.unit (s := S2x2048x128) ![0, 0, 0] S1x2048x128.size h0).emb y 1) ((Rect.unit (s := S2x2048x128) ![0, 0, 0] S1x2048x128.size h0).emb y 2) := by
  obtain ⟨r, d, rfl⟩ : ∃ (r : Fin 2048) (d : Fin 128), y = ix3 0 r d := ⟨y 1, y 2, by
    refine (eq_ix3 y).trans ?_; rw [show y 0 = (0 : Fin 1) from Subsingleton.elim (α := Fin 1) _ _]⟩
  have e0 : (Rect.unit (s := S2x2048x128) ![0, 0, 0] S1x2048x128.size h0).emb (ix3 0 r d) 0 = (0 : Fin 2) := rfl
  have e1 : (Rect.unit (s := S2x2048x128) ![0, 0, 0] S1x2048x128.size h0).emb (ix3 0 r d) 1 = r :=
    Fin.ext (by show 0 + 1 * r.val = r.val; omega)
  have e2 : (Rect.unit (s := S2x2048x128) ![0, 0, 0] S1x2048x128.size h0).emb (ix3 0 r d) 2 = d :=
    Fin.ext (by show 0 + 1 * d.val = d.val; omega)
  exact (plane0 X r d).trans ((congrArg (fun k => X (ix2 r k)) (Fin.ext (by show d.val = 0 * 128 + d.val; omega))).trans (planes_congr X e0.symm e1.symm e2.symm))

theorem mem_piece (q : Nat) (h) (y : S2x2048x128.Idx) (hy : (y 0).val = q) :
    y ∈ (Rect.unit (s := S2x2048x128) ![q, 0, 0] S1x2048x128.size h).set := by
  have h1 : (y 1).val < 2048 := (y 1).isLt
  have h2 : (y 2).val < 128 := (y 2).isLt
  rw [Rect.mem_set_unit]
  intro a
  match a with
  | ⟨0, _⟩ => show q ≤ (y 0).val ∧ (y 0).val < q + 1; omega
  | ⟨1, _⟩ => show 0 ≤ (y 1).val ∧ (y 1).val < 0 + 2048; omega
  | ⟨2, _⟩ => show 0 ≤ (y 2).val ∧ (y 2).val < 0 + 128; omega

/-- The planes read back, whatever the buffer held before them. -/
theorem planes_read (X : Vec Ideal S2048x256 .bf16) (h1 h0) (L : List (View.Piece (Elt Ideal) S2x2048x128 .f32)) (y : S2x2048x128.Idx) :
    View.canon (⟨Rect.unit (s := S2x2048x128) ![1, 0, 0] S1x2048x128.size h1, k0_pay4 (F := Ideal) X⟩
        :: ⟨Rect.unit (s := S2x2048x128) ![0, 0, 0] S1x2048x128.size h0, k0_pay3 (F := Ideal) X⟩ :: L) y = planes X (y 0) (y 1) (y 2) := by
  refine View.canon_append_of_piecesOf (Val := Elt Ideal) (e := .f32) (fun y : S2x2048x128.Idx => planes X (y 0) (y 1) (y 2)) L
    [⟨Rect.unit (s := S2x2048x128) ![1, 0, 0] S1x2048x128.size h1, k0_pay4 (F := Ideal) X⟩, ⟨Rect.unit (s := S2x2048x128) ![0, 0, 0] S1x2048x128.size h0, k0_pay3 (F := Ideal) X⟩]
    ⟨piece1 X h1, piece0 X h0, trivial⟩ y ?_
  have hy : (y 0).val < 2 := (y 0).isLt
  rcases (by omega : (y 0).val = 1 ∨ (y 0).val = 0) with h | h
  · exact ⟨_, List.mem_cons_self, mem_piece 1 h1 y h⟩
  · exact ⟨_, List.mem_cons_of_mem _ List.mem_cons_self, mem_piece 0 h0 y h⟩

/-- A strided load of the two planes. -/
theorem load_phase (v : View sig .tc .vmem S2x2048x128 .f32) (X : Vec Ideal S2048x256 .bf16) (h1 h0)
    (L : List (View.Piece (Elt Ideal) S2x2048x128 .f32)) (q l : Nat) (inb) :
    v.readCov (⟨Rect.unit (s := S2x2048x128) ![1, 0, 0] ![1, 2048, 128] h1, k0_pay4 (F := Ideal) X⟩
        :: ⟨Rect.unit (s := S2x2048x128) ![0, 0, 0] ![1, 2048, 128] h0, k0_pay3 (F := Ideal) X⟩ :: L)
      ⟨![q, l, 0], ![1, 128, 128], ![1, 16, 1], inb⟩ = phase X q l := by
  have hq : q < 2 := by
    rcases inb 0 with h | h
    · exact absurd h (show ¬ (1 = 0) by omega)
    · exact lt_of_le_of_lt (Nat.le_add_right _ _) (show q + 1 * (1 - 1) < 2 from h)
  have hl : l < 16 := by
    rcases inb 1 with h | h
    · exact absurd h (show ¬ (128 = 0) by omega)
    · have : l + 16 * (128 - 1) < 2048 := h
      omega
  rw [View.readCov_eq_canon']
  funext j
  have j0 : (j 0).val < 1 := (j 0).isLt
  have j1 : (j 1).val < 128 := (j 1).isLt
  have j2 : (j 2).val < 128 := (j 2).isLt
  refine (planes_read X h1 h0 L _).trans ((planes_congr X (q' := ⟨q, hq⟩) (r' := ⟨(j 1).val * 16 + l, by omega⟩) (d' := ⟨(j 2).val, by omega⟩) ?_ ?_ ?_).trans ?_)
  · exact Fin.ext (by show q + 1 * (j 0).val = q; omega)
  · exact Fin.ext (by show l + 16 * (j 1).val = (j 1).val * 16 + l; omega)
  · exact Fin.ext (by show 0 + 1 * (j 2).val = (j 2).val; omega)
  · have e1 : (⟨(j 1).val * 16 + l, by omega⟩ : Fin 2048) = ⟨((j 1).val * 16 + l) % 2048, by omega⟩ := Fin.ext (Nat.mod_eq_of_lt (by omega)).symm
    have e2 : (⟨q * 128 + (j 2).val, by omega⟩ : Fin 256) = ⟨(q * 128 + (j 2).val) % 256, by omega⟩ := Fin.ext (Nat.mod_eq_of_lt (by omega)).symm
    unfold planes phase
    exact congrArg X (congrArg₂ ix2 e1 e2)

/-- The 64 columns number `g` of the rows `l`, `l + 16`, … of a block. -/
def strip (X : Vec Ideal S2048x256 .bf16) (g l : Nat) : FVec Ideal S128x64 .f32 := fun j =>
  X (ix2 (⟨((j 0).val * 16 + l) % 2048, by omega⟩ : Fin 2048) (⟨(g * 64 + (j 1).val) % 256, by omega⟩ : Fin 256))

theorem strip_left (X : Vec Ideal S2048x256 .bf16) (q l : Nat) :
    extractStridedSlice S128x64 ![0, 0] (shapeCast S128x128 (phase X q l) shapeCasts_S1x128x128_S128x128) slices_S128x128_o0_0_S128x64
      = strip X (2 * q) l := by
  funext j
  rw [eq_ix2 j]
  generalize j 0 = n
  generalize j 1 = d
  pointwise
  refine congrArg X (funext fun a => Fin.ext ?_)
  match a with
  | ⟨0, _⟩ => rfl
  | ⟨1, _⟩ => show (q * 128 + d.val) % 256 = (2 * q * 64 + d.val) % 256; omega

theorem strip_right (X : Vec Ideal S2048x256 .bf16) (q l : Nat) :
    extractStridedSlice S128x64 ![0, 64] (shapeCast S128x128 (phase X q l) shapeCasts_S1x128x128_S128x128) slices_S128x128_o0_64_S128x64
      = strip X (2 * q + 1) l := by
  funext j
  rw [eq_ix2 j]
  generalize j 0 = n
  generalize j 1 = d
  pointwise
  refine congrArg X (funext fun a => Fin.ext ?_)
  match a with
  | ⟨0, _⟩ => rfl
  | ⟨1, _⟩ => show (q * 128 + (64 + d.val)) % 256 = ((2 * q + 1) * 64 + d.val) % 256; omega

/-- Half windows of one group: row `n` is rows `16 n … 16 n + 15` of the group's columns, one after the other. -/
def group (X : Vec Ideal S2048x256 .bf16) (g : Nat) : FVec Ideal S128x1024 .f32 := fun j =>
  X (ix2 (⟨((j 0).val * 16 + (j 1).val / 64) % 2048, by omega⟩ : Fin 2048) (⟨(g * 64 + (j 1).val % 64) % 256, by omega⟩ : Fin 256))

theorem strips (X : Vec Ideal S2048x256 .bf16) (g : Nat) (h) :
    concatenate S128x1024 1 [⟨S128x64, strip X g 0⟩, ⟨S128x64, strip X g 1⟩, ⟨S128x64, strip X g 2⟩, ⟨S128x64, strip X g 3⟩,
      ⟨S128x64, strip X g 4⟩, ⟨S128x64, strip X g 5⟩, ⟨S128x64, strip X g 6⟩, ⟨S128x64, strip X g 7⟩, ⟨S128x64, strip X g 8⟩,
      ⟨S128x64, strip X g 9⟩, ⟨S128x64, strip X g 10⟩, ⟨S128x64, strip X g 11⟩, ⟨S128x64, strip X g 12⟩, ⟨S128x64, strip X g 13⟩,
      ⟨S128x64, strip X g 14⟩, ⟨S128x64, strip X g 15⟩] h = group X g := by
  funext j
  have j1 : (j 1).val < 1024 := (j 1).isLt
  have e := concatenate_ofFn_apply (t := S128x1024) (s₁ := S128x64) 1 (N := 16) (fun l => strip X g l.val) h rfl 64 rfl j
    ⟨(j 1).val / 64, by omega⟩ rfl (ix2 (j 0) ⟨(j 1).val % 64, by omega⟩) rfl (fun b hb => by
      match b with
      | ⟨0, _⟩ => rfl
      | ⟨1, _⟩ => exact absurd rfl hb)
  exact e

/-- Half windows of the four groups. -/
def halves (X : Vec Ideal S2048x256 .bf16) : FVec Ideal S512x1024 .f32 := fun j =>
  X (ix2 (⟨((j 0).val % 128 * 16 + (j 1).val / 64) % 2048, by omega⟩ : Fin 2048)
    (⟨((j 0).val / 128 * 64 + (j 1).val % 64) % 256, by omega⟩ : Fin 256))

theorem groups (X : Vec Ideal S2048x256 .bf16) (h) :
    concatenate S512x1024 0 [⟨S128x1024, group X 0⟩, ⟨S128x1024, group X 1⟩, ⟨S128x1024, group X 2⟩, ⟨S128x1024, group X 3⟩] h = halves X := by
  funext j
  have j0 : (j 0).val < 512 := (j 0).isLt
  have e := concatenate_ofFn_apply (t := S512x1024) (s₁ := S128x1024) 0 (N := 4) (fun g => group X g.val) h rfl 128 rfl j
    ⟨(j 0).val / 128, by omega⟩ rfl (ix2 ⟨(j 0).val % 128, by omega⟩ (j 1)) rfl (fun b hb => by
      match b with
      | ⟨0, _⟩ => exact absurd rfl hb
      | ⟨1, _⟩ => rfl)
  exact e

theorem group_left (X : Vec Ideal S2048x256 .bf16) (q : Nat) :
    concatenate S128x1024 1 [⟨S128x64, extractStridedSlice S128x64 ![0, 0] (shapeCast S128x128 (phase X q 0) shapeCasts_S1x128x128_S128x128) slices_S128x128_o0_0_S128x64⟩,
      ⟨S128x64, extractStridedSlice S128x64 ![0, 0] (shapeCast S128x128 (phase X q 1) shapeCasts_S1x128x128_S128x128) slices_S128x128_o0_0_S128x64⟩,
      ⟨S128x64, extractStridedSlice S128x64 ![0, 0] (shapeCast S128x128 (phase X q 2) shapeCasts_S1x128x128_S128x128) slices_S128x128_o0_0_S128x64⟩,
      ⟨S128x64, extractStridedSlice S128x64 ![0, 0] (shapeCast S128x128 (phase X q 3) shapeCasts_S1x128x128_S128x128) slices_S128x128_o0_0_S128x64⟩,
      ⟨S128x64, extractStridedSlice S128x64 ![0, 0] (shapeCast S128x128 (phase X q 4) shapeCasts_S1x128x128_S128x128) slices_S128x128_o0_0_S128x64⟩,
      ⟨S128x64, extractStridedSlice S128x64 ![0, 0] (shapeCast S128x128 (phase X q 5) shapeCasts_S1x128x128_S128x128) slices_S128x128_o0_0_S128x64⟩,
      ⟨S128x64, extractStridedSlice S128x64 ![0, 0] (shapeCast S128x128 (phase X q 6) shapeCasts_S1x128x128_S128x128) slices_S128x128_o0_0_S128x64⟩,
      ⟨S128x64, extractStridedSlice S128x64 ![0, 0] (shapeCast S128x128 (phase X q 7) shapeCasts_S1x128x128_S128x128) slices_S128x128_o0_0_S128x64⟩,
      ⟨S128x64, extractStridedSlice S128x64 ![0, 0] (shapeCast S128x128 (phase X q 8) shapeCasts_S1x128x128_S128x128) slices_S128x128_o0_0_S128x64⟩,
      ⟨S128x64, extractStridedSlice S128x64 ![0, 0] (shapeCast S128x128 (phase X q 9) shapeCasts_S1x128x128_S128x128) slices_S128x128_o0_0_S128x64⟩,
      ⟨S128x64, extractStridedSlice S128x64 ![0, 0] (shapeCast S128x128 (phase X q 10) shapeCasts_S1x128x128_S128x128) slices_S128x128_o0_0_S128x64⟩,
      ⟨S128x64, extractStridedSlice S128x64 ![0, 0] (shapeCast S128x128 (phase X q 11) shapeCasts_S1x128x128_S128x128) slices_S128x128_o0_0_S128x64⟩,
      ⟨S128x64, extractStridedSlice S128x64 ![0, 0] (shapeCast S128x128 (phase X q 12) shapeCasts_S1x128x128_S128x128) slices_S128x128_o0_0_S128x64⟩,
      ⟨S128x64, extractStridedSlice S128x64 ![0, 0] (shapeCast S128x128 (phase X q 13) shapeCasts_S1x128x128_S128x128) slices_S128x128_o0_0_S128x64⟩,
      ⟨S128x64, extractStridedSlice S128x64 ![0, 0] (shapeCast S128x128 (phase X q 14) shapeCasts_S1x128x128_S128x128) slices_S128x128_o0_0_S128x64⟩,
      ⟨S128x64, extractStridedSlice S128x64 ![0, 0] (shapeCast S128x128 (phase X q 15) shapeCasts_S1x128x128_S128x128) slices_S128x128_o0_0_S128x64⟩] concatenates_S128x64_S128x64_S128x64_S128x64_S128x64_S128x64_S128x64_S128x64_S128x64_S128x64_S128x64_S128x64_S128x64_S128x64_S128x64_S128x64_S128x1024_d1 = group X (2 * q) := by
  rw [strip_left X q 0, strip_left X q 1, strip_left X q 2, strip_left X q 3, strip_left X q 4, strip_left X q 5, strip_left X q 6, strip_left X q 7, strip_left X q 8, strip_left X q 9, strip_left X q 10, strip_left X q 11, strip_left X q 12, strip_left X q 13, strip_left X q 14, strip_left X q 15]
  exact strips X _ _

theorem group_right (X : Vec Ideal S2048x256 .bf16) (q : Nat) :
    concatenate S128x1024 1 [⟨S128x64, extractStridedSlice S128x64 ![0, 64] (shapeCast S128x128 (phase X q 0) shapeCasts_S1x128x128_S128x128) slices_S128x128_o0_64_S128x64⟩,
      ⟨S128x64, extractStridedSlice S128x64 ![0, 64] (shapeCast S128x128 (phase X q 1) shapeCasts_S1x128x128_S128x128) slices_S128x128_o0_64_S128x64⟩,
      ⟨S128x64, extractStridedSlice S128x64 ![0, 64] (shapeCast S128x128 (phase X q 2) shapeCasts_S1x128x128_S128x128) slices_S128x128_o0_64_S128x64⟩,
      ⟨S128x64, extractStridedSlice S128x64 ![0, 64] (shapeCast S128x128 (phase X q 3) shapeCasts_S1x128x128_S128x128) slices_S128x128_o0_64_S128x64⟩,
      ⟨S128x64, extractStridedSlice S128x64 ![0, 64] (shapeCast S128x128 (phase X q 4) shapeCasts_S1x128x128_S128x128) slices_S128x128_o0_64_S128x64⟩,
      ⟨S128x64, extractStridedSlice S128x64 ![0, 64] (shapeCast S128x128 (phase X q 5) shapeCasts_S1x128x128_S128x128) slices_S128x128_o0_64_S128x64⟩,
      ⟨S128x64, extractStridedSlice S128x64 ![0, 64] (shapeCast S128x128 (phase X q 6) shapeCasts_S1x128x128_S128x128) slices_S128x128_o0_64_S128x64⟩,
      ⟨S128x64, extractStridedSlice S128x64 ![0, 64] (shapeCast S128x128 (phase X q 7) shapeCasts_S1x128x128_S128x128) slices_S128x128_o0_64_S128x64⟩,
      ⟨S128x64, extractStridedSlice S128x64 ![0, 64] (shapeCast S128x128 (phase X q 8) shapeCasts_S1x128x128_S128x128) slices_S128x128_o0_64_S128x64⟩,
      ⟨S128x64, extractStridedSlice S128x64 ![0, 64] (shapeCast S128x128 (phase X q 9) shapeCasts_S1x128x128_S128x128) slices_S128x128_o0_64_S128x64⟩,
      ⟨S128x64, extractStridedSlice S128x64 ![0, 64] (shapeCast S128x128 (phase X q 10) shapeCasts_S1x128x128_S128x128) slices_S128x128_o0_64_S128x64⟩,
      ⟨S128x64, extractStridedSlice S128x64 ![0, 64] (shapeCast S128x128 (phase X q 11) shapeCasts_S1x128x128_S128x128) slices_S128x128_o0_64_S128x64⟩,
      ⟨S128x64, extractStridedSlice S128x64 ![0, 64] (shapeCast S128x128 (phase X q 12) shapeCasts_S1x128x128_S128x128) slices_S128x128_o0_64_S128x64⟩,
      ⟨S128x64, extractStridedSlice S128x64 ![0, 64] (shapeCast S128x128 (phase X q 13) shapeCasts_S1x128x128_S128x128) slices_S128x128_o0_64_S128x64⟩,
      ⟨S128x64, extractStridedSlice S128x64 ![0, 64] (shapeCast S128x128 (phase X q 14) shapeCasts_S1x128x128_S128x128) slices_S128x128_o0_64_S128x64⟩,
      ⟨S128x64, extractStridedSlice S128x64 ![0, 64] (shapeCast S128x128 (phase X q 15) shapeCasts_S1x128x128_S128x128) slices_S128x128_o0_64_S128x64⟩] concatenates_S128x64_S128x64_S128x64_S128x64_S128x64_S128x64_S128x64_S128x64_S128x64_S128x64_S128x64_S128x64_S128x64_S128x64_S128x64_S128x64_S128x1024_d1 = group X (2 * q + 1) := by
  rw [strip_right X q 0, strip_right X q 1, strip_right X q 2, strip_right X q 3, strip_right X q 4, strip_right X q 5, strip_right X q 6, strip_right X q 7, strip_right X q 8, strip_right X q 9, strip_right X q 10, strip_right X q 11, strip_right X q 12, strip_right X q 13, strip_right X q 14, strip_right X q 15]
  exact strips X _ _

/-- The joined rows, from the phases. -/
theorem joined (X : Vec Ideal S2048x256 .bf16) :
    concatenate S512x1024 0 [⟨S128x1024, concatenate S128x1024 1 [⟨S128x64, extractStridedSlice S128x64 ![0, 0] (shapeCast S128x128 (phase X 0 0) shapeCasts_S1x128x128_S128x128) slices_S128x128_o0_0_S128x64⟩,
      ⟨S128x64, extractStridedSlice S128x64 ![0, 0] (shapeCast S128x128 (phase X 0 1) shapeCasts_S1x128x128_S128x128) slices_S128x128_o0_0_S128x64⟩,
      ⟨S128x64, extractStridedSlice S128x64 ![0, 0] (shapeCast S128x128 (phase X 0 2) shapeCasts_S1x128x128_S128x128) slices_S128x128_o0_0_S128x64⟩,
      ⟨S128x64, extractStridedSlice S128x64 ![0, 0] (shapeCast S128x128 (phase X 0 3) shapeCasts_S1x128x128_S128x128) slices_S128x128_o0_0_S128x64⟩,
      ⟨S128x64, extractStridedSlice S128x64 ![0, 0] (shapeCast S128x128 (phase X 0 4) shapeCasts_S1x128x128_S128x128) slices_S128x128_o0_0_S128x64⟩,
      ⟨S128x64, extractStridedSlice S128x64 ![0, 0] (shapeCast S128x128 (phase X 0 5) shapeCasts_S1x128x128_S128x128) slices_S128x128_o0_0_S128x64⟩,
      ⟨S128x64, extractStridedSlice S128x64 ![0, 0] (shapeCast S128x128 (phase X 0 6) shapeCasts_S1x128x128_S128x128) slices_S128x128_o0_0_S128x64⟩,
      ⟨S128x64, extractStridedSlice S128x64 ![0, 0] (shapeCast S128x128 (phase X 0 7) shapeCasts_S1x128x128_S128x128) slices_S128x128_o0_0_S128x64⟩,
      ⟨S128x64, extractStridedSlice S128x64 ![0, 0] (shapeCast S128x128 (phase X 0 8) shapeCasts_S1x128x128_S128x128) slices_S128x128_o0_0_S128x64⟩,
      ⟨S128x64, extractStridedSlice S128x64 ![0, 0] (shapeCast S128x128 (phase X 0 9) shapeCasts_S1x128x128_S128x128) slices_S128x128_o0_0_S128x64⟩,
      ⟨S128x64, extractStridedSlice S128x64 ![0, 0] (shapeCast S128x128 (phase X 0 10) shapeCasts_S1x128x128_S128x128) slices_S128x128_o0_0_S128x64⟩,
      ⟨S128x64, extractStridedSlice S128x64 ![0, 0] (shapeCast S128x128 (phase X 0 11) shapeCasts_S1x128x128_S128x128) slices_S128x128_o0_0_S128x64⟩,
      ⟨S128x64, extractStridedSlice S128x64 ![0, 0] (shapeCast S128x128 (phase X 0 12) shapeCasts_S1x128x128_S128x128) slices_S128x128_o0_0_S128x64⟩,
      ⟨S128x64, extractStridedSlice S128x64 ![0, 0] (shapeCast S128x128 (phase X 0 13) shapeCasts_S1x128x128_S128x128) slices_S128x128_o0_0_S128x64⟩,
      ⟨S128x64, extractStridedSlice S128x64 ![0, 0] (shapeCast S128x128 (phase X 0 14) shapeCasts_S1x128x128_S128x128) slices_S128x128_o0_0_S128x64⟩,
      ⟨S128x64, extractStridedSlice S128x64 ![0, 0] (shapeCast S128x128 (phase X 0 15) shapeCasts_S1x128x128_S128x128) slices_S128x128_o0_0_S128x64⟩] concatenates_S128x64_S128x64_S128x64_S128x64_S128x64_S128x64_S128x64_S128x64_S128x64_S128x64_S128x64_S128x64_S128x64_S128x64_S128x64_S128x64_S128x1024_d1⟩, ⟨S128x1024, concatenate S128x1024 1 [⟨S128x64, extractStridedSlice S128x64 ![0, 64] (shapeCast S128x128 (phase X 0 0) shapeCasts_S1x128x128_S128x128) slices_S128x128_o0_64_S128x64⟩,
      ⟨S128x64, extractStridedSlice S128x64 ![0, 64] (shapeCast S128x128 (phase X 0 1) shapeCasts_S1x128x128_S128x128) slices_S128x128_o0_64_S128x64⟩,
      ⟨S128x64, extractStridedSlice S128x64 ![0, 64] (shapeCast S128x128 (phase X 0 2) shapeCasts_S1x128x128_S128x128) slices_S128x128_o0_64_S128x64⟩,
      ⟨S128x64, extractStridedSlice S128x64 ![0, 64] (shapeCast S128x128 (phase X 0 3) shapeCasts_S1x128x128_S128x128) slices_S128x128_o0_64_S128x64⟩,
      ⟨S128x64, extractStridedSlice S128x64 ![0, 64] (shapeCast S128x128 (phase X 0 4) shapeCasts_S1x128x128_S128x128) slices_S128x128_o0_64_S128x64⟩,
      ⟨S128x64, extractStridedSlice S128x64 ![0, 64] (shapeCast S128x128 (phase X 0 5) shapeCasts_S1x128x128_S128x128) slices_S128x128_o0_64_S128x64⟩,
      ⟨S128x64, extractStridedSlice S128x64 ![0, 64] (shapeCast S128x128 (phase X 0 6) shapeCasts_S1x128x128_S128x128) slices_S128x128_o0_64_S128x64⟩,
      ⟨S128x64, extractStridedSlice S128x64 ![0, 64] (shapeCast S128x128 (phase X 0 7) shapeCasts_S1x128x128_S128x128) slices_S128x128_o0_64_S128x64⟩,
      ⟨S128x64, extractStridedSlice S128x64 ![0, 64] (shapeCast S128x128 (phase X 0 8) shapeCasts_S1x128x128_S128x128) slices_S128x128_o0_64_S128x64⟩,
      ⟨S128x64, extractStridedSlice S128x64 ![0, 64] (shapeCast S128x128 (phase X 0 9) shapeCasts_S1x128x128_S128x128) slices_S128x128_o0_64_S128x64⟩,
      ⟨S128x64, extractStridedSlice S128x64 ![0, 64] (shapeCast S128x128 (phase X 0 10) shapeCasts_S1x128x128_S128x128) slices_S128x128_o0_64_S128x64⟩,
      ⟨S128x64, extractStridedSlice S128x64 ![0, 64] (shapeCast S128x128 (phase X 0 11) shapeCasts_S1x128x128_S128x128) slices_S128x128_o0_64_S128x64⟩,
      ⟨S128x64, extractStridedSlice S128x64 ![0, 64] (shapeCast S128x128 (phase X 0 12) shapeCasts_S1x128x128_S128x128) slices_S128x128_o0_64_S128x64⟩,
      ⟨S128x64, extractStridedSlice S128x64 ![0, 64] (shapeCast S128x128 (phase X 0 13) shapeCasts_S1x128x128_S128x128) slices_S128x128_o0_64_S128x64⟩,
      ⟨S128x64, extractStridedSlice S128x64 ![0, 64] (shapeCast S128x128 (phase X 0 14) shapeCasts_S1x128x128_S128x128) slices_S128x128_o0_64_S128x64⟩,
      ⟨S128x64, extractStridedSlice S128x64 ![0, 64] (shapeCast S128x128 (phase X 0 15) shapeCasts_S1x128x128_S128x128) slices_S128x128_o0_64_S128x64⟩] concatenates_S128x64_S128x64_S128x64_S128x64_S128x64_S128x64_S128x64_S128x64_S128x64_S128x64_S128x64_S128x64_S128x64_S128x64_S128x64_S128x64_S128x1024_d1⟩, ⟨S128x1024, concatenate S128x1024 1 [⟨S128x64, extractStridedSlice S128x64 ![0, 0] (shapeCast S128x128 (phase X 1 0) shapeCasts_S1x128x128_S128x128) slices_S128x128_o0_0_S128x64⟩,
      ⟨S128x64, extractStridedSlice S128x64 ![0, 0] (shapeCast S128x128 (phase X 1 1) shapeCasts_S1x128x128_S128x128) slices_S128x128_o0_0_S128x64⟩,
      ⟨S128x64, extractStridedSlice S128x64 ![0, 0] (shapeCast S128x128 (phase X 1 2) shapeCasts_S1x128x128_S128x128) slices_S128x128_o0_0_S128x64⟩,
      ⟨S128x64, extractStridedSlice S128x64 ![0, 0] (shapeCast S128x128 (phase X 1 3) shapeCasts_S1x128x128_S128x128) slices_S128x128_o0_0_S128x64⟩,
      ⟨S128x64, extractStridedSlice S128x64 ![0, 0] (shapeCast S128x128 (phase X 1 4) shapeCasts_S1x128x128_S128x128) slices_S128x128_o0_0_S128x64⟩,
      ⟨S128x64, extractStridedSlice S128x64 ![0, 0] (shapeCast S128x128 (phase X 1 5) shapeCasts_S1x128x128_S128x128) slices_S128x128_o0_0_S128x64⟩,
      ⟨S128x64, extractStridedSlice S128x64 ![0, 0] (shapeCast S128x128 (phase X 1 6) shapeCasts_S1x128x128_S128x128) slices_S128x128_o0_0_S128x64⟩,
      ⟨S128x64, extractStridedSlice S128x64 ![0, 0] (shapeCast S128x128 (phase X 1 7) shapeCasts_S1x128x128_S128x128) slices_S128x128_o0_0_S128x64⟩,
      ⟨S128x64, extractStridedSlice S128x64 ![0, 0] (shapeCast S128x128 (phase X 1 8) shapeCasts_S1x128x128_S128x128) slices_S128x128_o0_0_S128x64⟩,
      ⟨S128x64, extractStridedSlice S128x64 ![0, 0] (shapeCast S128x128 (phase X 1 9) shapeCasts_S1x128x128_S128x128) slices_S128x128_o0_0_S128x64⟩,
      ⟨S128x64, extractStridedSlice S128x64 ![0, 0] (shapeCast S128x128 (phase X 1 10) shapeCasts_S1x128x128_S128x128) slices_S128x128_o0_0_S128x64⟩,
      ⟨S128x64, extractStridedSlice S128x64 ![0, 0] (shapeCast S128x128 (phase X 1 11) shapeCasts_S1x128x128_S128x128) slices_S128x128_o0_0_S128x64⟩,
      ⟨S128x64, extractStridedSlice S128x64 ![0, 0] (shapeCast S128x128 (phase X 1 12) shapeCasts_S1x128x128_S128x128) slices_S128x128_o0_0_S128x64⟩,
      ⟨S128x64, extractStridedSlice S128x64 ![0, 0] (shapeCast S128x128 (phase X 1 13) shapeCasts_S1x128x128_S128x128) slices_S128x128_o0_0_S128x64⟩,
      ⟨S128x64, extractStridedSlice S128x64 ![0, 0] (shapeCast S128x128 (phase X 1 14) shapeCasts_S1x128x128_S128x128) slices_S128x128_o0_0_S128x64⟩,
      ⟨S128x64, extractStridedSlice S128x64 ![0, 0] (shapeCast S128x128 (phase X 1 15) shapeCasts_S1x128x128_S128x128) slices_S128x128_o0_0_S128x64⟩] concatenates_S128x64_S128x64_S128x64_S128x64_S128x64_S128x64_S128x64_S128x64_S128x64_S128x64_S128x64_S128x64_S128x64_S128x64_S128x64_S128x64_S128x1024_d1⟩, ⟨S128x1024, concatenate S128x1024 1 [⟨S128x64, extractStridedSlice S128x64 ![0, 64] (shapeCast S128x128 (phase X 1 0) shapeCasts_S1x128x128_S128x128) slices_S128x128_o0_64_S128x64⟩,
      ⟨S128x64, extractStridedSlice S128x64 ![0, 64] (shapeCast S128x128 (phase X 1 1) shapeCasts_S1x128x128_S128x128) slices_S128x128_o0_64_S128x64⟩,
      ⟨S128x64, extractStridedSlice S128x64 ![0, 64] (shapeCast S128x128 (phase X 1 2) shapeCasts_S1x128x128_S128x128) slices_S128x128_o0_64_S128x64⟩,
      ⟨S128x64, extractStridedSlice S128x64 ![0, 64] (shapeCast S128x128 (phase X 1 3) shapeCasts_S1x128x128_S128x128) slices_S128x128_o0_64_S128x64⟩,
      ⟨S128x64, extractStridedSlice S128x64 ![0, 64] (shapeCast S128x128 (phase X 1 4) shapeCasts_S1x128x128_S128x128) slices_S128x128_o0_64_S128x64⟩,
      ⟨S128x64, extractStridedSlice S128x64 ![0, 64] (shapeCast S128x128 (phase X 1 5) shapeCasts_S1x128x128_S128x128) slices_S128x128_o0_64_S128x64⟩,
      ⟨S128x64, extractStridedSlice S128x64 ![0, 64] (shapeCast S128x128 (phase X 1 6) shapeCasts_S1x128x128_S128x128) slices_S128x128_o0_64_S128x64⟩,
      ⟨S128x64, extractStridedSlice S128x64 ![0, 64] (shapeCast S128x128 (phase X 1 7) shapeCasts_S1x128x128_S128x128) slices_S128x128_o0_64_S128x64⟩,
      ⟨S128x64, extractStridedSlice S128x64 ![0, 64] (shapeCast S128x128 (phase X 1 8) shapeCasts_S1x128x128_S128x128) slices_S128x128_o0_64_S128x64⟩,
      ⟨S128x64, extractStridedSlice S128x64 ![0, 64] (shapeCast S128x128 (phase X 1 9) shapeCasts_S1x128x128_S128x128) slices_S128x128_o0_64_S128x64⟩,
      ⟨S128x64, extractStridedSlice S128x64 ![0, 64] (shapeCast S128x128 (phase X 1 10) shapeCasts_S1x128x128_S128x128) slices_S128x128_o0_64_S128x64⟩,
      ⟨S128x64, extractStridedSlice S128x64 ![0, 64] (shapeCast S128x128 (phase X 1 11) shapeCasts_S1x128x128_S128x128) slices_S128x128_o0_64_S128x64⟩,
      ⟨S128x64, extractStridedSlice S128x64 ![0, 64] (shapeCast S128x128 (phase X 1 12) shapeCasts_S1x128x128_S128x128) slices_S128x128_o0_64_S128x64⟩,
      ⟨S128x64, extractStridedSlice S128x64 ![0, 64] (shapeCast S128x128 (phase X 1 13) shapeCasts_S1x128x128_S128x128) slices_S128x128_o0_64_S128x64⟩,
      ⟨S128x64, extractStridedSlice S128x64 ![0, 64] (shapeCast S128x128 (phase X 1 14) shapeCasts_S1x128x128_S128x128) slices_S128x128_o0_64_S128x64⟩,
      ⟨S128x64, extractStridedSlice S128x64 ![0, 64] (shapeCast S128x128 (phase X 1 15) shapeCasts_S1x128x128_S128x128) slices_S128x128_o0_64_S128x64⟩] concatenates_S128x64_S128x64_S128x64_S128x64_S128x64_S128x64_S128x64_S128x64_S128x64_S128x64_S128x64_S128x64_S128x64_S128x64_S128x64_S128x64_S128x1024_d1⟩]
      concatenates_S128x1024_S128x1024_S128x1024_S128x1024_S512x1024_d0 = halves X := by
  rw [group_left X 0, group_right X 0, group_left X 1, group_right X 1]
  exact groups X _

/-- The hidden layer before its activation: the half windows times the upper half of the weights, the next half windows
    times the lower half, and the position embedding times both. -/
def pre (H : FVec Ideal S512x1024 .f32) (hi lo : FVec Ideal S1024x256 .bf16) (p : FVec Ideal S1x2048 .f32) (w : FVec Ideal S2048x256 .bf16) : FVec Ideal S512x256 .f32 :=
  addf (addf (matmul dot_S512x1024_S1024x256_S512x256_1_0_0_1_n_n none (truncf .bf16 H bitsLt_bf16_f32) (shapeCast S1024x256 hi shapeCasts_S1024x256_S1024x256) (constant S512x256 .f32 0x00000000#32))
      (dynamicRotate 0 511#32 none (matmul dot_S512x1024_S1024x256_S512x256_1_0_0_1_n_n none (truncf .bf16 H bitsLt_bf16_f32) (shapeCast S1024x256 lo shapeCasts_S1024x256_S1024x256) (constant S512x256 .f32 0x00000000#32)) rotates_S512x256_d0))
    (broadcastTo S512x256 (extractStridedSlice S1x256 ![0, 0] (matmul dot_S8x2048_S2048x256_S8x256_1_0_0_1_n_n none
      (truncf .bf16 (broadcastTo S8x2048 (shapeCast S1x2048 (shapeCast S1x2048 p shapeCasts_S1x2048_S1x2048) shapeCasts_S1x2048_S1x2048) broadcasts_S1x2048_S8x2048) bitsLt_bf16_f32)
      (shapeCast S2048x256 w shapeCasts_S2048x256_S2048x256) (constant S8x256 .f32 0x00000000#32)) slices_S8x256_o0_0_S1x256) broadcasts_S1x256_S512x256)

/-- The activation. -/
def act (x : FVec Ideal S512x256 .f32) : FVec Ideal S512x256 .bf16 :=
  truncf .bf16 (mulf x (mulf (broadcast S512x256 (Scalar.ofBits .f32 0x3F000000#32)) (addf (broadcast S512x256 (Scalar.ofBits .f32 0x3F800000#32))
    (tanh (mulf (broadcast S512x256 (Scalar.ofBits .f32 0x3F4C422A#32)) (addf x (mulf (broadcast S512x256 (Scalar.ofBits .f32 0x3D372713#32)) (mulf x (mulf x x)))))))))
    bitsLt_bf16_f32

/-- The upper and the lower half of the first weights. -/
def upper (w : Vec Ideal S2048x256 .bf16) : Vec Ideal S1024x256 .bf16 :=
  View.ld w (Rect.unit (s := S2048x256) ![0, 0] S1024x256.size inb_S2048x256_S1024x256_0_0)

def lower (w : Vec Ideal S2048x256 .bf16) : Vec Ideal S1024x256 .bf16 :=
  View.ld w (Rect.unit (s := S2048x256) ![1024, 0] S1024x256.size inb_S2048x256_S1024x256_1024_0)

/-- A load of a whole input buffer. -/
theorem load_whole {S : Shape} {e : EltTy} (off : Fin S.rank → Nat) (z : off = fun _ => 0) (inb : ∀ a, off a + S.size a ≤ S.size a) (x : Vec Ideal S e) :
    View.ld x (Rect.unit (s := S) off S.size inb) = x := View.ld_unit_zero (S := S) z inb x

theorem zero2 : (![0, 0] : Fin 2 → Nat) = fun _ => 0 := by
  funext a
  match a with
  | ⟨0, _⟩ => rfl
  | ⟨1, _⟩ => rfl

theorem pay53_eq (X : Vec Ideal S2048x256 .bf16) : k0_pay53 (F := Ideal) X = k0_pay4 (F := Ideal) X := rfl

theorem pay52_eq (X : Vec Ideal S2048x256 .bf16) : k0_pay52 (F := Ideal) X = k0_pay3 (F := Ideal) X := rfl

set_option maxHeartbeats 400000 in
/-- What a point leaves of the compressed keys. -/
theorem out8 (c : Dev nD) (i : grid0.Coords) (a1 h1 a2 h2 a3 h3 a4 h4 a5 h5 a6 h6 a7 h7 a8 h8 a9 h9 a10 h10 a11 h11 x0 x1 x2 x3 x4 x5 x6 x7) :
    out0_A_8 (F := Ideal) c i a1 h1 a2 h2 a3 h3 a4 h4 a5 h5 a6 h6 a7 h7 a8 h8 a9 h9 a10 h10 a11 h11 x0 x1 x2 x3 x4 x5 x6 x7
      = k0_pay49 (F := Ideal) (act (pre (halves x0) (upper x4) (lower x4) x2 x4)) x5 := by
  unfold out0_A_8
  rw [View.read_writes_eq_canon _ _ _ (cover0_A_8 c i a1 h1 a2 h2 a3 h3 a4 h4 a5 h5 a6 h6 a7 h7 a8 h8 a9 h9 a10 h10 a11 h11 x0 x1 x2 x3 x4 x5 x6 x7)]
  unfold kernelRun0_A
  dsimp only
  rw [View.canon_unit_zero zero2]
  sl_unfold_words
  simp only [load_phase, View.readAt_eq_ld, h1.read_unread, h3.read_unread, h5.read_unread, h6.read_unread]
  simp only [View.ld_unit_zero (S := S2048x256) zero2, View.ld_unit_zero (S := S1x2048) zero2, View.ld_unit_zero (S := S256x64) zero2]
  simp only [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48]
  unfold act pre upper lower
  rw [← joined x0]

/-- The compressed values: the second weights, transposed, times the activations, both read by rows. -/
def valuesT (h : FVec Ideal S512x256 .bf16) (w : FVec Ideal S64x256 .bf16) : FVec Ideal S64x512 .f32 :=
  matmul dot_S64x256_S512x256_S64x512_1_1_0_0_n_n none (shapeCast S64x256 w shapeCasts_S64x256_S64x256) h (constant S64x512 .f32 0x00000000#32)

set_option maxHeartbeats 400000 in
/-- What a point leaves of the compressed values. -/
theorem out9 (c : Dev nD) (i : grid0.Coords) (a1 h1 a2 h2 a3 h3 a4 h4 a5 h5 a6 h6 a7 h7 a8 h8 a9 h9 a10 h10 a11 h11 x0 x1 x2 x3 x4 x5 x6 x7) :
    out0_A_9 (F := Ideal) c i a1 h1 a2 h2 a3 h3 a4 h4 a5 h5 a6 h6 a7 h7 a8 h8 a9 h9 a10 h10 a11 h11 x0 x1 x2 x3 x4 x5 x6 x7
      = valuesT (act (pre (halves x1) (upper x6) (lower x6) x3 x6)) x7 := by
  unfold out0_A_9
  rw [View.read_writes_eq_canon _ _ _ (cover0_A_9 c i a1 h1 a2 h2 a3 h3 a4 h4 a5 h5 a6 h6 a7 h7 a8 h8 a9 h9 a10 h10 a11 h11 x0 x1 x2 x3 x4 x5 x6 x7)]
  unfold kernelRun0_A
  dsimp only
  rw [View.canon_unit_zero zero2]
  sl_unfold_words
  simp only [pay52_eq, pay53_eq, load_phase, View.readAt_eq_ld, h2.read_unread, h4.read_unread, h7.read_unread, h8.read_unread]
  simp only [View.ld_unit_zero (S := S2048x256) zero2, View.ld_unit_zero (S := S1x2048) zero2, View.ld_unit_zero (S := S64x256) zero2]
  simp only [k0_pay1, k0_pay50, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101]
  unfold valuesT act pre upper lower
  rw [← joined x1]

end Cert.Calls.Compress
-- ==== Proof.CompressRef.lean ====
/- The reference of the compression, read entry by entry: a window is thirty-two consecutive rows of a head's sixty-four
   columns, laid end to end; the position embedding is added, and the two layers follow with the activation between them. -/
module

public import proofs.«01_k».proof.Defs
public import proofs.«01_k».proof.Proof.GmlpValue
public import proofs.«01_k».proof.Proof.Gen.CompressRefIdeal.Run
public import Idealize.ShloMosaic.Lib.Pointwise

@[expose] public section

noncomputable section

open Idealize.ShloMosaic Idealize.ShloMosaic.TcCoe Idealize.SL.Sem

namespace Cert.Calls.Compress.Ref

open Cert.CompressRefIdeal Cert.CompressRefIdeal.Gen

/-- The row numbers `16 n + l` of the windows, before the test for negative ones. -/
def rowNumbers : IVec S127x32 32 :=
  addi (broadcastInDim S127x32 ![0, 1] bcast_S127x1_S127x32_0_1 (muli (broadcastInDim S127x1 ![0] bcast_S127_S127x1_0 (iotaInDim S127 32 0)) (broadcastInDim S127x1 ![] bcast_S_S127x1 (constantI S_ 32 16#32)))) (broadcastInDim S127x32 ![0, 1] bcast_S1x32_S127x32_0_1 (broadcastInDim S1x32 ![1] bcast_S32_S1x32_1 (iotaInDim S32 32 0)))

/-- The table of rows the gather is given. -/
def table : IVec S127x32x1 32 :=
  broadcastInDim S127x32x1 ![0, 1] bcast_S127x32_S127x32x1_0_1 (select (cmpi .slt rowNumbers (broadcastInDim S127x32 ![] bcast_S_S127x32 (constantI S_ 32 0#32))) (addi rowNumbers (broadcastInDim S127x32 ![] bcast_S_S127x32 (constantI S_ 32 2048#32))) rowNumbers)

/-- The heads' rows of one of the two column groups. -/
def heads (z : FVec Ideal S16384x256 .bf16) : FVec Ideal S8x4x2048x64 .f32 :=
  transpose S8x4x2048x64 [0, 2, 1, 3] (shapeCast _ (extf .f32 z bitsLt_bf16_f32) shapeCasts_S16384x256_S8x2048x4x64) transposes_S8x2048x4x64_S8x4x2048x64_0_2_1_3

/-- The windows with the position embedding added. -/
def windows (z : FVec Ideal S16384x256 .bf16) (p : FVec Ideal S32x64 .f32) : FVec Ideal S8x4x127x2048 .f32 :=
  shapeCast _ (addf (Host.gather gather_S8x4x2048x64_S127x32x1_S8x4x127x32x64_014_2_n_n_2_2_84164 (heads z) table)
    (broadcastInDim S8x4x127x32x64 ![0, 1, 2, 3, 4] bcast_S1x1x1x32x64_S8x4x127x32x64_0_1_2_3_4 (broadcastInDim S1x1x1x32x64 ![3, 4] bcast_S32x64_S1x1x1x32x64_3_4 p))) shapeCasts_S8x4x127x32x64_S8x4x127x2048

/-- The hidden layer before its activation. -/
def hidden (z : FVec Ideal S16384x256 .bf16) (p : FVec Ideal S32x64 .f32) (w1 : FVec Ideal S2048x256 .f32) : FVec Ideal S8x4x127x256 .f32 :=
  Host.dotGeneral dot_S8x4x127x2048_S2048x256_S8x4x127x256_3_0_012_1_n_n none (windows z p) w1

/-- The compression of one of the two column groups. -/
def result (z : FVec Ideal S16384x256 .bf16) (p : FVec Ideal S32x64 .f32) (w1 : FVec Ideal S2048x256 .f32) (w2 : FVec Ideal S256x64 .f32) : FVec Ideal S8x4x127x64 .f32 :=
  Host.dotGeneral dot_S8x4x127x256_S256x64_S8x4x127x64_3_0_012_1_n_n none (mulf (hidden z p w1) (mulf (broadcastInDim S8x4x127x256 ![] bcast_S_S8x4x127x256 (constant S_ .f32 0x3F000000#32)) (addf (broadcastInDim S8x4x127x256 ![] bcast_S_S8x4x127x256 (constant S_ .f32 0x3F800000#32)) (Host.tanh (mulf (broadcastInDim S8x4x127x256 ![] bcast_S_S8x4x127x256 (constant S_ .f32 0x3F4C422A#32)) (addf (hidden z p w1) (mulf (broadcastInDim S8x4x127x256 ![] bcast_S_S8x4x127x256 (constant S_ .f32 0x3D372713#32)) (mulf (mulf (hidden z p w1) (hidden z p w1)) (hidden z p w1))))))))) w2

set_option maxRecDepth 8192 in
theorem keys_eq (m : (ℓ : Loc nD τ sig) → Buf (Elt Ideal) ℓ) (c : Dev nD) : Value.res_main_v38 (F := Ideal) m c
    = result (extractStridedSlice S16384x256 ![0, 7168] (show FVec Ideal S16384x10240 .bf16 from m ((c.tc : Thread nD τ).loc main_arg0)) slices_S16384x10240_S16384x256_0_7168)
        (m ((c.tc : Thread nD τ).loc main_arg1)) (m ((c.tc : Thread nD τ).loc main_arg3)) (m ((c.tc : Thread nD τ).loc main_arg4)) := rfl

set_option maxRecDepth 8192 in
theorem values_eq (m : (ℓ : Loc nD τ sig) → Buf (Elt Ideal) ℓ) (c : Dev nD) : Value.res_main_v78 (F := Ideal) m c
    = transpose S64x8x4x127 [3, 0, 1, 2] (result (extractStridedSlice S16384x256 ![0, 7424] (show FVec Ideal S16384x10240 .bf16 from m ((c.tc : Thread nD τ).loc main_arg0)) slices_S16384x10240_S16384x256_0_7424)
        (m ((c.tc : Thread nD τ).loc main_arg2)) (m ((c.tc : Thread nD τ).loc main_arg5)) (m ((c.tc : Thread nD τ).loc main_arg6))) transposes_S8x4x127x64_S64x8x4x127_3_0_1_2 := rfl

theorem table_words : ∀ (n : Fin 127) (l : Fin 32),
    Scalar.select (IntOp.cmpi .slt (IntOp.addi (IntOp.muli (BitVec.ofNat 32 n.val) 16#32) (BitVec.ofNat 32 l.val)) 0#32)
      (IntOp.addi (IntOp.addi (IntOp.muli (BitVec.ofNat 32 n.val) 16#32) (BitVec.ofNat 32 l.val)) 2048#32)
      (IntOp.addi (IntOp.muli (BitVec.ofNat 32 n.val) 16#32) (BitVec.ofNat 32 l.val)) = BitVec.ofNat 32 (16 * n.val + l.val) := by
  decide +kernel

theorem table_apply (n : Fin 127) (l : Fin 32) (u : Fin 1) : table (ix3 n l u) = BitVec.ofNat 32 (16 * n.val + l.val) := by
  unfold table rowNumbers
  pointwise
  exact table_words n l

/-- The gather takes row `16 n + l`. -/
theorem gather_apply (x : FVec Ideal S8x4x2048x64 .f32) (b : Fin 8) (g : Fin 4) (n : Fin 127) (l : Fin 32) (d : Fin 64) :
    Host.gather gather_S8x4x2048x64_S127x32x1_S8x4x127x32x64_014_2_n_n_2_2_84164 x table (ix5 b g n l d)
      = x (ix4 b g ⟨16 * n.val + l.val, by omega⟩ d) := by
  unfold Host.gather
  refine congrArg x (funext fun a => Fin.ext ?_)
  show GatherDims.start _ (ix5 b g n l d) table a + GatherDims.batchCoord _ (ix5 b g n l d) a + GatherDims.offCoord _ (ix5 b g n l d) a = _
  rw [GatherDims.batchCoord_eq_zero _ _ _ (List.not_mem_nil)]
  match a with
  | ⟨0, _⟩ => show 0 + 0 + b.val = b.val; omega
  | ⟨1, _⟩ => show 0 + 0 + g.val = g.val; omega
  | ⟨2, _⟩ =>
    rw [GatherDims.offCoord_eq_zero _ _ _ (fun h => ((GatherDims.mem_sKept _ _).mp h).1 (List.mem_singleton.mpr rfl))]
    show GatherDims.start gather_S8x4x2048x64_S127x32x1_S8x4x127x32x64_014_2_n_n_2_2_84164 (ix5 b g n l d) table 2 + 0 + 0 = 16 * n.val + l.val
    unfold GatherDims.start
    rw [dif_pos (show (2 : Fin 4) ∈ gather_S8x4x2048x64_S127x32x1_S8x4x127x32x64_014_2_n_n_2_2_84164.startIndexMap from List.mem_singleton.mpr rfl)]
    have hsi : gather_S8x4x2048x64_S127x32x1_S8x4x127x32x64_014_2_n_n_2_2_84164.siIdx (ix5 b g n l d) ⟨List.idxOf (2 : Fin 4) gather_S8x4x2048x64_S127x32x1_S8x4x127x32x64_014_2_n_n_2_2_84164.startIndexMap,
        List.idxOf_lt_length_iff.2 (List.mem_singleton.mpr rfl)⟩ = ix3 n l (0 : Fin 1) := by
      funext q; refine Fin.ext ?_
      match q with
      | ⟨0, _⟩ => rfl
      | ⟨1, _⟩ => rfl
      | ⟨2, _⟩ => rfl
    rw [hsi, table_apply]
    have ht : (BitVec.ofNat 32 (16 * n.val + l.val)).toInt = ((16 * n.val + l.val : Nat) : Int) := by
      have h : (BitVec.ofNat 32 (16 * n.val + l.val)).toNat = 16 * n.val + l.val := by
        rw [BitVec.toNat_ofNat]; omega
      rw [BitVec.toInt_eq_toNat_of_lt (by omega), h]
    rw [ht]
    show min (((16 * n.val + l.val : Nat) : Int)).toNat (2048 - 1) + 0 + 0 = _
    omega
  | ⟨3, _⟩ => show 0 + 0 + d.val = d.val; omega

theorem windows_apply (z : FVec Ideal S16384x256 .bf16) (p : FVec Ideal S32x64 .f32) (b : Fin 8) (g : Fin 4) (n : Fin 127) (k : Fin 2048) :
    windows z p (ix4 b g n k) = z (ix2 ⟨b.val * 2048 + (16 * n.val + k.val / 64), by omega⟩ ⟨g.val * 64 + k.val % 64, by omega⟩)
      + p (ix2 ⟨k.val / 64, by omega⟩ ⟨k.val % 64, by omega⟩) := by
  have e : windows z p (ix4 b g n k) = Host.gather gather_S8x4x2048x64_S127x32x1_S8x4x127x32x64_014_2_n_n_2_2_84164 (heads z) table
        (ix5 b g n ⟨k.val / 64, by omega⟩ ⟨k.val % 64, by omega⟩) + p (ix2 ⟨k.val / 64, by omega⟩ ⟨k.val % 64, by omega⟩) := by
    unfold windows
    pointwise
  rw [e, gather_apply]
  refine congrArg (· + _) ?_
  unfold heads
  pointwise

theorem hidden_apply (z : FVec Ideal S16384x256 .bf16) (p : FVec Ideal S32x64 .f32) (w1 : FVec Ideal S2048x256 .f32) (b : Fin 8) (g : Fin 4) (n : Fin 127) (j : Fin 256) :
    hidden z p w1 (ix4 b g n j) = ∑ k : Fin 2048, windows z p (ix4 b g n k) * w1 (ix2 k j) := by
  unfold hidden
  pointwise

theorem one : Ideal.ofBits .f32 0x3F800000#32 = 1 := by
  simp [Ideal.ofBits, Ideal.ieee, -EReal.coe_mul]
  norm_num

/-- One entry of the compression. -/
theorem result_apply (z : FVec Ideal S16384x256 .bf16) (p : FVec Ideal S32x64 .f32) (w1 : FVec Ideal S2048x256 .f32) (w2 : FVec Ideal S256x64 .f32) (b : Fin 8) (g : Fin 4) (n : Fin 127) (d : Fin 64) :
    result z p w1 w2 (ix4 b g n d) = ∑ j : Fin 256, Gmlp.gelu (hidden z p w1 (ix4 b g n j)) * w2 (ix2 j d) := by
  unfold result
  generalize hidden z p w1 = h
  pointwise
  unfold Gmlp.gelu
  refine Finset.sum_congr rfl fun j _ => ?_
  rw [one, mul_assoc (h _) (h _) (h _)]

end Cert.Calls.Compress.Ref
-- ==== Proof.CompressCells.lean ====
/- One block of the compression's results, read entry by entry: the joined rows hold sixteen consecutive rows of a head's
   columns; a window is such a row and the next one. -/
module

public import proofs.«01_k».proof.Proof.CompressBody
public import proofs.«01_k».proof.Proof.CompressRef

@[expose] public section

noncomputable section

open Idealize.ShloMosaic Idealize.ShloMosaic.TcCoe Idealize.SL.Sem
open Idealize.ShloMosaic.Pipeline (Dat)

namespace Cert.Calls.Compress

open Cert.CompressIdeal Cert.CompressIdeal.Gen

/-- The hidden layer at an entry: three sums. -/
theorem pre_apply (H : FVec Ideal S512x1024 .f32) (hi lo : FVec Ideal S1024x256 .bf16) (p : FVec Ideal S1x2048 .f32) (w : FVec Ideal S2048x256 .bf16) (r : Fin 512) (j : Fin 256) :
    pre H hi lo p w (ix2 r j) = (∑ k : Fin 1024, H (ix2 r k) * hi (ix2 k j)) + (∑ k : Fin 1024, H (ix2 ⟨(r.val + 512 - 511) % 512, by omega⟩ k) * lo (ix2 k j))
      + ∑ k : Fin 2048, p (ix2 0 k) * w (ix2 k j) := by
  unfold pre
  pointwise

theorem act_apply (x : FVec Ideal S512x256 .f32) (r : Fin 512) (j : Fin 256) : act x (ix2 r j) = Gmlp.gelu (x (ix2 r j)) := by
  unfold act Gmlp.gelu
  pointwise

theorem keys_apply (h : FVec Ideal S512x256 .bf16) (w : FVec Ideal S256x64 .bf16) (r : Fin 512) (d : Fin 64) :
    k0_pay49 (F := Ideal) h w (ix2 r d) = ∑ j : Fin 256, h (ix2 r j) * w (ix2 j d) := by
  unfold k0_pay49
  pointwise

theorem values_apply (h : FVec Ideal S512x256 .bf16) (w : FVec Ideal S64x256 .bf16) (r : Fin 512) (d : Fin 64) :
    valuesT h w (ix2 d r) = ∑ j : Fin 256, w (ix2 d j) * h (ix2 r j) := by
  unfold valuesT
  pointwise

theorem upper_apply (w : Vec Ideal S2048x256 .bf16) (k : Fin 1024) (j : Fin 256) : upper w (ix2 k j) = w (ix2 ⟨k.val, by omega⟩ j) := by
  unfold upper
  pointwise

theorem lower_apply (w : Vec Ideal S2048x256 .bf16) (k : Fin 1024) (j : Fin 256) : lower w (ix2 k j) = w (ix2 ⟨1024 + k.val, by omega⟩ j) := by
  unfold lower
  pointwise

end Cert.Calls.Compress
-- ==== Proof.CompressBlocks.lean ====
/- The compression's two result arrays: the blocks each point reads, what it leaves of them, and the host's reshaping and
   trimming after the region. -/
module

public import proofs.«01_k».proof.Proof.CompressCells
public import proofs.«01_k».proof.Proof.Gen.CompressIdeal.Frame
public import Idealize.ShloMosaic.Lib.Pipeline.Value
public import Idealize.ShloMosaic.Lib.Pipeline.ValueKit

@[expose] public section

noncomputable section

open Idealize.ShloMosaic Idealize.ShloMosaic.TcCoe Idealize.SL.Sem
open Idealize.ShloMosaic.Pipeline (Dat)

namespace Cert.Calls.Compress

open Cert.CompressIdeal Cert.CompressIdeal.Gen

variable (m : (ℓ : Loc nD τ sig) → Buf (Elt Ideal) ℓ) (ρ : Dev nD → PrngReg)

/-- Point `t` reads and writes block `t`; the weights are read whole. -/
theorem idx : ∀ t : Fin grid0.N, win0_0.index t = ![t.val, 28] ∧ win0_1.index t = ![t.val, 29]
    ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![t.val, 0] ∧ win0_9.index t = ![0, t.val] := by
  decide +kernel

/-! ## The arguments as the region finds them -/

/-- One batch's two hundred and fifty-six columns from column `o`. -/
def rowsOf (z : FVec Ideal S16384x10240 .bf16) (b : Fin 8) (o : Fin 9985) : Vec Ideal S2048x256 .bf16 := fun j =>
  z (ix2 ⟨b.val * 2048 + (j 0).val, by have h0 : (j 0).val < 2048 := (j 0).isLt; omega⟩ ⟨o.val + (j 1).val, by have h1 : (j 1).val < 256 := (j 1).isLt; omega⟩)

abbrev Z (c : Dev nD) : FVec Ideal S16384x10240 .bf16 := m ((c : Thread nD τ).loc main_arg0)

/-- The position embedding of the keys laid out in one row, and that of the values. -/
abbrev PK (c : Dev nD) : FVec Ideal S1x2048 .f32 := shapeCast S1x2048 (show FVec Ideal S32x64 .f32 from m ((c : Thread nD τ).loc main_arg1)) shapeCasts_S32x64_S1x2048
abbrev PV (c : Dev nD) : FVec Ideal S1x2048 .f32 := shapeCast S1x2048 (show FVec Ideal S32x64 .f32 from m ((c : Thread nD τ).loc main_arg2)) shapeCasts_S32x64_S1x2048
abbrev WK1 (c : Dev nD) : FVec Ideal S2048x256 .bf16 := m ((c : Thread nD τ).loc main_arg3)
abbrev WK2 (c : Dev nD) : FVec Ideal S256x64 .bf16 := m ((c : Thread nD τ).loc main_arg4)
abbrev WV1 (c : Dev nD) : FVec Ideal S2048x256 .bf16 := m ((c : Thread nD τ).loc main_arg5)
abbrev WV2 (c : Dev nD) : FVec Ideal S64x256 .bf16 := transpose S64x256 [1, 0] (show FVec Ideal S256x64 .f32 from m ((c : Thread nD τ).loc main_arg6)) transposes_S256x64_S64x256_1_0

theorem V_pk (c : Dev nD) : (show FVec Ideal S1x2048 .f32 from V m c main_v0) = PK m c := by
  show StableHlo.after hostOps0 (fun b => m (c, b)) (Proc.devRef .tc main_v0) = _
  after_results
  rfl

theorem V_pv (c : Dev nD) : (show FVec Ideal S1x2048 .f32 from V m c main_v1) = PV m c := by
  show StableHlo.after hostOps0 (fun b => m (c, b)) (Proc.devRef .tc main_v1) = _
  after_results
  rfl

theorem V_wk1 (c : Dev nD) : (show FVec Ideal S2048x256 .bf16 from V m c main_v2) = WK1 m c := by
  show StableHlo.after hostOps0 (fun b => m (c, b)) (Proc.devRef .tc main_v2) = _
  after_results
  rfl

theorem V_wk2 (c : Dev nD) : (show FVec Ideal S256x64 .bf16 from V m c main_v3) = WK2 m c := by
  show StableHlo.after hostOps0 (fun b => m (c, b)) (Proc.devRef .tc main_v3) = _
  after_results
  rfl

theorem V_wv1 (c : Dev nD) : (show FVec Ideal S2048x256 .bf16 from V m c main_v4) = WV1 m c := by
  show StableHlo.after hostOps0 (fun b => m (c, b)) (Proc.devRef .tc main_v4) = _
  after_results
  rfl

theorem V_wv2 (c : Dev nD) : (show FVec Ideal S64x256 .bf16 from V m c main_v6) = WV2 m c := by
  show StableHlo.after hostOps0 (fun b => m (c, b)) (Proc.devRef .tc main_v6) = _
  after_results
  rfl

/-! ## The blocks -/

theorem blk0 (c : Dev nD) (t : Fin cfg0.N) (b : Fin 8) (hb : b.val = t.val) :
    (show Vec Ideal S2048x256 .bf16 from iblk m c 0 t) = rowsOf (Z m c) b ⟨7168, by omega⟩ := by
  funext j
  obtain ⟨r, k, rfl⟩ : ∃ (r : Fin 2048) (k : Fin 256), j = ix2 r k := ⟨j 0, j 1, eq_ix2 j⟩
  show _ = (show FVec Ideal S16384x10240 .bf16 from m ((c : Thread nD τ).loc main_arg0)) _
  rw [← V_main_arg0 m c]
  show V m c main_arg0 _ = V m c main_arg0 _
  refine congrArg _ (funext fun a => Fin.ext ?_)
  match a with
  | ⟨0, _⟩ => show win0_0.index t 0 * 2048 + 1 * r.val = b.val * 2048 + r.val; rw [(idx t).1]; show t.val * 2048 + 1 * r.val = _; omega
  | ⟨1, _⟩ => show win0_0.index t 1 * 256 + 1 * k.val = 7168 + k.val; rw [(idx t).1]; show 28 * 256 + 1 * k.val = _; omega

theorem blk1 (c : Dev nD) (t : Fin cfg0.N) (b : Fin 8) (hb : b.val = t.val) :
    (show Vec Ideal S2048x256 .bf16 from iblk m c 1 t) = rowsOf (Z m c) b ⟨7424, by omega⟩ := by
  funext j
  obtain ⟨r, k, rfl⟩ : ∃ (r : Fin 2048) (k : Fin 256), j = ix2 r k := ⟨j 0, j 1, eq_ix2 j⟩
  show _ = (show FVec Ideal S16384x10240 .bf16 from m ((c : Thread nD τ).loc main_arg0)) _
  rw [← V_main_arg0 m c]
  show V m c main_arg0 _ = V m c main_arg0 _
  refine congrArg _ (funext fun a => Fin.ext ?_)
  match a with
  | ⟨0, _⟩ => show win0_1.index t 0 * 2048 + 1 * r.val = b.val * 2048 + r.val; rw [(idx t).2.1]; show t.val * 2048 + 1 * r.val = _; omega
  | ⟨1, _⟩ => show win0_1.index t 1 * 256 + 1 * k.val = 7424 + k.val; rw [(idx t).2.1]; show 29 * 256 + 1 * k.val = _; omega

theorem blk2 (c : Dev nD) (t : Fin cfg0.N) : (show Vec Ideal S1x2048 .f32 from iblk m c 2 t) = PK m c := by
  rw [← V_pk]
  funext j
  show V m c main_v0 _ = V m c main_v0 _
  refine congrArg _ (funext fun a => Fin.ext ?_)
  match a with
  | ⟨0, _⟩ => show win0_2.index t 0 * 1 + 1 * (j 0).val = (j 0).val; rw [(idx t).2.2.1]; show 0 * 1 + 1 * (j 0).val = _; omega
  | ⟨1, _⟩ => show win0_2.index t 1 * 2048 + 1 * (j 1).val = (j 1).val; rw [(idx t).2.2.1]; show 0 * 2048 + 1 * (j 1).val = _; omega

theorem blk3 (c : Dev nD) (t : Fin cfg0.N) : (show Vec Ideal S1x2048 .f32 from iblk m c 3 t) = PV m c := by
  rw [← V_pv]
  funext j
  show V m c main_v1 _ = V m c main_v1 _
  refine congrArg _ (funext fun a => Fin.ext ?_)
  match a with
  | ⟨0, _⟩ => show win0_3.index t 0 * 1 + 1 * (j 0).val = (j 0).val; rw [(idx t).2.2.2.1]; show 0 * 1 + 1 * (j 0).val = _; omega
  | ⟨1, _⟩ => show win0_3.index t 1 * 2048 + 1 * (j 1).val = (j 1).val; rw [(idx t).2.2.2.1]; show 0 * 2048 + 1 * (j 1).val = _; omega

theorem blk4 (c : Dev nD) (t : Fin cfg0.N) : (show Vec Ideal S2048x256 .bf16 from iblk m c 4 t) = WK1 m c := by
  rw [← V_wk1]
  funext j
  show V m c main_v2 _ = V m c main_v2 _
  refine congrArg _ (funext fun a => Fin.ext ?_)
  match a with
  | ⟨0, _⟩ => show win0_4.index t 0 * 2048 + 1 * (j 0).val = (j 0).val; rw [(idx t).2.2.2.2.1]; show 0 * 2048 + 1 * (j 0).val = _; omega
  | ⟨1, _⟩ => show win0_4.index t 1 * 256 + 1 * (j 1).val = (j 1).val; rw [(idx t).2.2.2.2.1]; show 0 * 256 + 1 * (j 1).val = _; omega

theorem blk5 (c : Dev nD) (t : Fin cfg0.N) : (show Vec Ideal S256x64 .bf16 from iblk m c 5 t) = WK2 m c := by
  rw [← V_wk2]
  funext j
  show V m c main_v3 _ = V m c main_v3 _
  refine congrArg _ (funext fun a => Fin.ext ?_)
  match a with
  | ⟨0, _⟩ => show win0_5.index t 0 * 256 + 1 * (j 0).val = (j 0).val; rw [(idx t).2.2.2.2.2.1]; show 0 * 256 + 1 * (j 0).val = _; omega
  | ⟨1, _⟩ => show win0_5.index t 1 * 64 + 1 * (j 1).val = (j 1).val; rw [(idx t).2.2.2.2.2.1]; show 0 * 64 + 1 * (j 1).val = _; omega

theorem blk6 (c : Dev nD) (t : Fin cfg0.N) : (show Vec Ideal S2048x256 .bf16 from iblk m c 6 t) = WV1 m c := by
  rw [← V_wv1]
  funext j
  show V m c main_v4 _ = V m c main_v4 _
  refine congrArg _ (funext fun a => Fin.ext ?_)
  match a with
  | ⟨0, _⟩ => show win0_6.index t 0 * 2048 + 1 * (j 0).val = (j 0).val; rw [(idx t).2.2.2.2.2.2.1]; show 0 * 2048 + 1 * (j 0).val = _; omega
  | ⟨1, _⟩ => show win0_6.index t 1 * 256 + 1 * (j 1).val = (j 1).val; rw [(idx t).2.2.2.2.2.2.1]; show 0 * 256 + 1 * (j 1).val = _; omega

theorem blk7 (c : Dev nD) (t : Fin cfg0.N) : (show Vec Ideal S64x256 .bf16 from iblk m c 7 t) = WV2 m c := by
  rw [← V_wv2]
  funext j
  show V m c main_v6 _ = V m c main_v6 _
  refine congrArg _ (funext fun a => Fin.ext ?_)
  match a with
  | ⟨0, _⟩ => show win0_7.index t 0 * 64 + 1 * (j 0).val = (j 0).val; rw [(idx t).2.2.2.2.2.2.2.1]; show 0 * 64 + 1 * (j 0).val = _; omega
  | ⟨1, _⟩ => show win0_7.index t 1 * 256 + 1 * (j 1).val = (j 1).val; rw [(idx t).2.2.2.2.2.2.2.1]; show 0 * 256 + 1 * (j 1).val = _; omega

/-! ## The result arrays after the region -/

/-- One batch's compressed keys, and its compressed values. -/
def keysOf (c : Dev nD) (b : Fin 8) : FVec Ideal S512x64 .f32 :=
  k0_pay49 (F := Ideal) (act (pre (halves (rowsOf (Z m c) b ⟨7168, by omega⟩)) (upper (WK1 m c)) (lower (WK1 m c)) (PK m c) (WK1 m c))) (WK2 m c)

def valuesOf (c : Dev nD) (b : Fin 8) : FVec Ideal S64x512 .f32 :=
  valuesT (act (pre (halves (rowsOf (Z m c) b ⟨7424, by omega⟩)) (upper (WV1 m c)) (lower (WV1 m c)) (PV m c) (WV1 m c))) (WV2 m c)

def G8 (c : Dev nD) : FVec Ideal S4096x64 .f32 := fun i =>
  keysOf m c ⟨(i 0).val / 512, by have h : (i 0).val < 4096 := (i 0).isLt; omega⟩ (ix2 ⟨(i 0).val % 512, by omega⟩ (i 1))

def G9 (c : Dev nD) : FVec Ideal S64x4096 .f32 := fun i =>
  valuesOf m c ⟨(i 1).val / 512, by have h : (i 1).val < 4096 := (i 1).isLt; omega⟩ (ix2 (i 0) ⟨(i 1).val % 512, by omega⟩)

theorem after8 (c : Dev nD) (t : Fin cfg0.N) (b : Fin 8) (hb : b.val = t.val) : (outsAt0 m c t).1 = keysOf m c b := by
  unfold outsAt0
  dsimp only
  rw [out8]
  unfold keysOf
  rw [← blk0 m c t b hb, ← blk2 m c t, ← blk4 m c t, ← blk5 m c t]

theorem after9 (c : Dev nD) (t : Fin cfg0.N) (b : Fin 8) (hb : b.val = t.val) : (outsAt0 m c t).2 = valuesOf m c b := by
  unfold outsAt0
  dsimp only
  rw [out9]
  unfold valuesOf
  rw [← blk1 m c t b hb, ← blk3 m c t, ← blk6 m c t, ← blk7 m c t]

theorem flushed8 (c : Dev nD) (t : Fin cfg0.N) : (dats m 0 c).flushed 8 t = ((cfg0.win 8).blk t).view.read (Elt Ideal) (G8 m c) := by
  have hN : t.val < 8 := lt_of_lt_of_eq t.isLt N_0
  have e : (dats m 0 c).flushed 8 t = (cfg0.win 8).cut (grid0.coords t) (outsAt0 m c t).1 := by
    show (cfg0.win 8).cut (grid0.coords t) ((dats m 0 c).after 8 t) = _
    rw [after0_8]
  rw [e, after8 m c t ⟨t.val, hN⟩ rfl]
  funext y
  obtain ⟨r, k, rfl⟩ : ∃ (r : Fin 512) (k : Fin 64), y = ix2 r k := ⟨y 0, y 1, eq_ix2 y⟩
  have er : ((cfg0.win 8).blk t).view.read (Elt Ideal) (G8 m c) (ix2 r k) = G8 m c (ix2 ⟨t.val * 512 + r.val, by omega⟩ k) := by
    show G8 m c _ = G8 m c _
    refine congrArg _ (funext fun a => Fin.ext ?_)
    match a with
    | ⟨0, _⟩ => show win0_8.index t 0 * 512 + 1 * r.val = t.val * 512 + r.val; rw [(idx t).2.2.2.2.2.2.2.2.1]; show t.val * 512 + 1 * r.val = _; omega
    | ⟨1, _⟩ => show win0_8.index t 1 * 64 + 1 * k.val = k.val; rw [(idx t).2.2.2.2.2.2.2.2.1]; show 0 * 64 + 1 * k.val = _; omega
  rw [er]
  unfold G8
  have e1 : (⟨t.val, hN⟩ : Fin 8) = ⟨(t.val * 512 + r.val) / 512, by omega⟩ := Fin.ext (by show t.val = (t.val * 512 + r.val) / 512; omega)
  have e2 : r = ⟨(t.val * 512 + r.val) % 512, by omega⟩ := Fin.ext (by show r.val = (t.val * 512 + r.val) % 512; omega)
  show keysOf m c ⟨t.val, hN⟩ (ix2 r k) = keysOf m c ⟨(t.val * 512 + r.val) / 512, _⟩ (ix2 ⟨(t.val * 512 + r.val) % 512, _⟩ k)
  rw [← e1, ← e2]

theorem flushed9 (c : Dev nD) (t : Fin cfg0.N) : (dats m 0 c).flushed 9 t = ((cfg0.win 9).blk t).view.read (Elt Ideal) (G9 m c) := by
  have hN : t.val < 8 := lt_of_lt_of_eq t.isLt N_0
  have e : (dats m 0 c).flushed 9 t = (cfg0.win 9).cut (grid0.coords t) (outsAt0 m c t).2 := by
    show (cfg0.win 9).cut (grid0.coords t) ((dats m 0 c).after 9 t) = _
    rw [after0_9]
  rw [e, after9 m c t ⟨t.val, hN⟩ rfl]
  funext y
  obtain ⟨k, r, rfl⟩ : ∃ (k : Fin 64) (r : Fin 512), y = ix2 k r := ⟨y 0, y 1, eq_ix2 y⟩
  have er : ((cfg0.win 9).blk t).view.read (Elt Ideal) (G9 m c) (ix2 k r) = G9 m c (ix2 k ⟨t.val * 512 + r.val, by omega⟩) := by
    show G9 m c _ = G9 m c _
    refine congrArg _ (funext fun a => Fin.ext ?_)
    match a with
    | ⟨0, _⟩ => show win0_9.index t 0 * 64 + 1 * k.val = k.val; rw [(idx t).2.2.2.2.2.2.2.2.2]; show 0 * 64 + 1 * k.val = _; omega
    | ⟨1, _⟩ => show win0_9.index t 1 * 512 + 1 * r.val = t.val * 512 + r.val; rw [(idx t).2.2.2.2.2.2.2.2.2]; show t.val * 512 + 1 * r.val = _; omega
  rw [er]
  unfold G9
  have e1 : (⟨t.val, hN⟩ : Fin 8) = ⟨(t.val * 512 + r.val) / 512, by omega⟩ := Fin.ext (by show t.val = (t.val * 512 + r.val) / 512; omega)
  have e2 : r = ⟨(t.val * 512 + r.val) % 512, by omega⟩ := Fin.ext (by show r.val = (t.val * 512 + r.val) % 512; omega)
  show valuesOf m c ⟨t.val, hN⟩ (ix2 k r) = valuesOf m c ⟨(t.val * 512 + r.val) / 512, _⟩ (ix2 k ⟨(t.val * 512 + r.val) % 512, _⟩)
  rw [← e1, ← e2]

theorem mem_blk8 (t : Fin cfg0.N) (i : S4096x64.Idx) : i ∈ ((cfg0.win 8).blk t).view.set
    ↔ ∀ a : Fin 2, win0_8.index t a * S512x64.size a ≤ (i a).val ∧ (i a).val < win0_8.index t a * S512x64.size a + S512x64.size a := by
  show i ∈ ((View.whole main_v7_0).slice (win0_8.rect t)).set ↔ _
  rw [View.set_slice_whole, Rect.mem_set_unit]
  exact Iff.rfl

theorem mem_blk9 (t : Fin cfg0.N) (i : S64x4096.Idx) : i ∈ ((cfg0.win 9).blk t).view.set
    ↔ ∀ a : Fin 2, win0_9.index t a * S64x512.size a ≤ (i a).val ∧ (i a).val < win0_9.index t a * S64x512.size a + S64x512.size a := by
  show i ∈ ((View.whole main_v7_1).slice (win0_9.rect t)).set ↔ _
  rw [View.set_slice_whole, Rect.mem_set_unit]
  exact Iff.rfl

theorem covered8 (i : S4096x64.Idx) : ∃ t : Fin cfg0.N, (cfg0.win 8).flush t = true ∧ i ∈ ((cfg0.win 8).blk t).view.set := by
  have h0 : (i 0).val < 4096 := (i 0).isLt
  have h1 : (i 1).val < 64 := (i 1).isLt
  refine ⟨⟨(i 0).val / 512, lt_of_lt_of_eq (by omega : (i 0).val / 512 < 8) N_0.symm⟩, (by decide +kernel : ∀ t : Fin grid0.N, win0_8.flush t = true) _, ?_⟩
  rw [mem_blk8]
  intro a
  rw [(idx _).2.2.2.2.2.2.2.2.1]
  match a with
  | ⟨0, _⟩ => show (i 0).val / 512 * 512 ≤ (i 0).val ∧ (i 0).val < (i 0).val / 512 * 512 + 512; omega
  | ⟨1, _⟩ => show 0 * 64 ≤ (i 1).val ∧ (i 1).val < 0 * 64 + 64; omega

theorem covered9 (i : S64x4096.Idx) : ∃ t : Fin cfg0.N, (cfg0.win 9).flush t = true ∧ i ∈ ((cfg0.win 9).blk t).view.set := by
  have h0 : (i 0).val < 64 := (i 0).isLt
  have h1 : (i 1).val < 4096 := (i 1).isLt
  refine ⟨⟨(i 1).val / 512, lt_of_lt_of_eq (by omega : (i 1).val / 512 < 8) N_0.symm⟩, (by decide +kernel : ∀ t : Fin grid0.N, win0_9.flush t = true) _, ?_⟩
  rw [mem_blk9]
  intro a
  rw [(idx _).2.2.2.2.2.2.2.2.2]
  match a with
  | ⟨0, _⟩ => show 0 * 64 ≤ (i 0).val ∧ (i 0).val < 0 * 64 + 64; omega
  | ⟨1, _⟩ => show (i 1).val / 512 * 512 ≤ (i 1).val ∧ (i 1).val < (i 1).val / 512 * 512 + 512; omega

theorem final8 (c : Dev nD) : (dats m 0 c).arrAt 8 cfg0.N = G8 m c :=
  (dats m 0 c).arrAt_eq_of_cover 8 _ (fun t _ => flushed8 m c t) covered8

theorem final9 (c : Dev nD) : (dats m 0 c).arrAt 9 cfg0.N = G9 m c :=
  (dats m 0 c).arrAt_eq_of_cover 9 _ (fun t _ => flushed9 m c t) covered9

/-! ## The host's lines after the region -/

theorem arr8 (c : Dev nD) : Pipeline.withArrays spec0 c (V0 m c) (fun w => (dats m 0 c).arrAt w cfg0.N) (Proc.devRef .tc main_v7_0) = G8 m c :=
  (Pipeline.withArrays_arr_shared spec0 c _ _ ((dats m 0 c).arrAt_sharedIn sharedIn0 (V0 m c) (A_eq m c) _) 8).trans (final8 m c)

theorem arr9 (c : Dev nD) : Pipeline.withArrays spec0 c (V0 m c) (fun w => (dats m 0 c).arrAt w cfg0.N) (Proc.devRef .tc main_v7_1) = G9 m c :=
  (Pipeline.withArrays_arr_shared spec0 c _ _ ((dats m 0 c).arrAt_sharedIn sharedIn0 (V0 m c) (A_eq m c) _) 9).trans (final9 m c)

/-- The compressed keys the program returns, and the compressed values. -/
def keysRes (c : Dev nD) : FVec Ideal S8x4x127x64 .f32 :=
  extractStridedSlice S8x4x127x64 ![0, 0, 0, 0] (shapeCast S8x4x128x64 (G8 m c) shapeCasts_S4096x64_S8x4x128x64) slices_S8x4x128x64_S8x4x127x64_0_0_0_0

def valuesRes (c : Dev nD) : FVec Ideal S64x8x4x127 .f32 :=
  extractStridedSlice S64x8x4x127 ![0, 0, 0, 0] (shapeCast S64x8x4x128 (G9 m c) shapeCasts_S64x4096_S64x8x4x128) slices_S64x8x4x128_S64x8x4x127_0_0_0_0

theorem tail8 (c : Dev nD) : (show FVec Ideal S8x4x127x64 .f32 from Pipeline.afterTail₀ cfgs (dats m) 0 (V0 m) [hostOps1] c main_v9) = keysRes m c := by
  unfold keysRes
  rw [← arr8]
  show StableHlo.after hostOps1 _ (Proc.devRef .tc main_v9) = _
  after_results
  rfl

theorem tail9 (c : Dev nD) : (show FVec Ideal S64x8x4x127 .f32 from Pipeline.afterTail₀ cfgs (dats m) 0 (V0 m) [hostOps1] c main_v11) = valuesRes m c := by
  unfold valuesRes
  rw [← arr9]
  show StableHlo.after hostOps1 _ (Proc.devRef .tc main_v11) = _
  after_results
  rfl

/-- The program leaves these results and its arguments as they were. -/
theorem run : θ_run defs (onTc (τ := τ) (main (F := Ideal))) ⟨m, fun _ => 0, ρ⟩ fun r => ∀ c : Dev nD,
    r.2.mem ((c : Thread nD τ).loc main_v9) = keysRes m c ∧ r.2.mem ((c : Thread nD τ).loc main_v11) = valuesRes m c :=
  (θ_run defs _ _).mono (fun r h c =>
    ⟨((h c).2 main_v9 (Pipeline.mem_restRefs_of main_v9 (by decide) (by decide))).trans (tail8 m c),
      ((h c).2 main_v11 (Pipeline.mem_restRefs_of main_v11 (by decide) (by decide))).trans (tail9 m c)⟩) (run_main m ρ)

end Cert.Calls.Compress
-- ==== Proof.CompressValue.lean ====
/- The compression's values: on finite position embeddings and first layers, the kernel's results are the reference's. -/
module

public import proofs.«01_k».proof.Defs
public import proofs.«01_k».proof.Proof.CompressBlocks
public import Idealize.ShloMosaic.Lib.ReduceAll

@[expose] public section

noncomputable section

open Idealize.ShloMosaic Idealize.ShloMosaic.TcCoe Idealize.SL.Sem

namespace Cert.Calls.Compress

/-! ## What the precondition says -/

theorem preFacts : Cert.Pre_finite_compression.Facts where
  bcast_S_S32x64 := by decide
  reducesTo_S32x64_S_d0_1 := by decide
  h_S_ := by decide
  bcast_S_S2048x256 := by decide
  reducesTo_S2048x256_S_d0_1 := by decide

/-- A number below plus infinity in size is neither infinity. -/
theorem finite_of_olt (x : EReal)
    (h : FloatOps.cmpf (F := Ideal) (φ := .f32) .olt (FloatOps.hostAbsf (F := Ideal) (φ := .f32) x) (FloatOps.ofBits (F := Ideal) .f32 0x7F800000#32) = 1#1) :
    x ≠ ⊤ ∧ x ≠ ⊥ := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  unfold Ideal.cmp at h'
  refine ⟨?_, ?_⟩ <;> (rintro rfl; simp at h')

section
open Cert.Pre_finite_compression

instance : Subsingleton S_.Idx := ⟨fun a b => funext fun i => i.elim0⟩

theorem finite_embedding [Facts] (x : FVec Ideal S32x64 .f32) (j : S_.Idx)
    (e : Host.reduce IntOp.andi (cmpf .olt (Host.absf x) (broadcastInDim S32x64 ![] Facts.bcast_S_S32x64 (constant S_ .f32 0x7F800000#32))) (constantI S_ 1 1#1)
      Facts.reducesTo_S32x64_S_d0_1 Facts.h_S_ j = 1#1) (i : S32x64.Idx) : x i ≠ (⊤ : EReal) ∧ x i ≠ (⊥ : EReal) :=
  finite_of_olt (x i) (Host.reduce_andi_all _ _ _ _ j e i)

theorem finite_layer [Facts] (x : FVec Ideal S2048x256 .f32) (j : S_.Idx)
    (e : Host.reduce IntOp.andi (cmpf .olt (Host.absf x) (broadcastInDim S2048x256 ![] Facts.bcast_S_S2048x256 (constant S_ .f32 0x7F800000#32))) (constantI S_ 1 1#1)
      Facts.reducesTo_S2048x256_S_d0_1 Facts.h_S_ j = 1#1) (i : S2048x256.Idx) : x i ≠ (⊤ : EReal) ∧ x i ≠ (⊥ : EReal) :=
  finite_of_olt (x i) (Host.reduce_andi_all _ _ _ _ j e i)

/-- The precondition, entry by entry. -/
theorem finite_arguments [Facts] (a0 : FVec Ideal S16384x10240 .bf16) (a1 a2 : FVec Ideal S32x64 .f32) (a3 : FVec Ideal S2048x256 .f32)
    (a4 : FVec Ideal S256x64 .f32) (a5 : FVec Ideal S2048x256 .f32) (a6 : FVec Ideal S256x64 .f32)
    (h : fn (F := Ideal) a0 a1 a2 a3 a4 a5 a6 = fun _ => 1#1) :
    (∀ i, a1 i ≠ (⊤ : EReal) ∧ a1 i ≠ (⊥ : EReal)) ∧ (∀ i, a3 i ≠ (⊤ : EReal) ∧ a3 i ≠ (⊥ : EReal))
      ∧ (∀ i, a2 i ≠ (⊤ : EReal) ∧ a2 i ≠ (⊥ : EReal)) ∧ (∀ i, a5 i ≠ (⊤ : EReal) ∧ a5 i ≠ (⊥ : EReal)) := by
  have h0 := congrFun h (fun i => i.elim0)
  obtain ⟨h123, h5⟩ := IntOp.andi_eq_one.1 h0
  obtain ⟨h13, h2⟩ := IntOp.andi_eq_one.1 h123
  obtain ⟨h1, h3⟩ := IntOp.andi_eq_one.1 h13
  exact ⟨finite_embedding a1 _ h1, finite_layer a3 _ h3, finite_embedding a2 _ h2, finite_layer a5 _ h5⟩

end

/-! ## The hidden layers agree -/

/-- A finite factor distributes over a sum with a finite term. -/
theorem distrib (x p w : EReal) (hp : p ≠ ⊤ ∧ p ≠ ⊥) (hw : w ≠ ⊤ ∧ w ≠ ⊥) : (x + p) * w = x * w + p * w := by
  lift p to ℝ using hp
  lift w to ℝ using hw
  induction x with
  | coe x => norm_cast; ring
  | top =>
    rw [EReal.top_add_coe]
    rcases lt_trichotomy w 0 with h | h | h
    · rw [EReal.top_mul_coe_of_neg h, ← EReal.coe_mul, EReal.bot_add]
    · subst h; simp
    · rw [EReal.top_mul_coe_of_pos h, ← EReal.coe_mul, EReal.top_add_coe]
  | bot =>
    rw [EReal.bot_add]
    rcases lt_trichotomy w 0 with h | h | h
    · rw [EReal.bot_mul_coe_of_neg h, ← EReal.coe_mul, EReal.top_add_coe]
    · subst h; simp
    · rw [EReal.bot_mul_coe_of_pos h, EReal.bot_add]

open Cert.CompressIdeal Cert.CompressIdeal.Gen

theorem embedding_apply (p : FVec Ideal S32x64 .f32) (k : Fin 2048) :
    shapeCast S1x2048 p shapeCasts_S32x64_S1x2048 (ix2 0 k) = p (ix2 ⟨k.val / 64, by omega⟩ ⟨k.val % 64, by omega⟩) := by
  pointwise

theorem halves_apply (z : FVec Ideal S16384x10240 .bf16) (b : Fin 8) (o : Fin 9985) (r : Fin 512) (k : Fin 1024) :
    halves (rowsOf z b o) (ix2 r k)
      = z (ix2 ⟨b.val * 2048 + (r.val % 128 * 16 + k.val / 64) % 2048, by omega⟩ ⟨o.val + (r.val / 128 * 64 + k.val % 64) % 256, by omega⟩) := rfl

theorem hidden_eq (z : FVec Ideal S16384x10240 .bf16) (z' : FVec Ideal Cert.CompressRefIdeal.S16384x256 .bf16) (o : Fin 9985)
    (hz : ∀ (r : Fin 16384) (k : Fin 256), z' (ix2 r k) = z (ix2 r ⟨o.val + k.val, by omega⟩))
    (p : FVec Ideal S32x64 .f32) (w : FVec Ideal S2048x256 .f32) (hp : ∀ i, p i ≠ (⊤ : EReal) ∧ p i ≠ (⊥ : EReal)) (hw : ∀ i, w i ≠ (⊤ : EReal) ∧ w i ≠ (⊥ : EReal))
    (b : Fin 8) (g : Fin 4) (n : Fin 127) (j : Fin 256) :
    pre (halves (rowsOf z b o)) (upper w) (lower w) (shapeCast S1x2048 p shapeCasts_S32x64_S1x2048) w (ix2 ⟨g.val * 128 + n.val, by omega⟩ j)
      = Ref.hidden z' p w (ix4 b g n j) := by
  rw [pre_apply, Ref.hidden_apply]
  have hs : ∀ k : Fin 2048, (Ref.windows z' p (ix4 b g n k) * w (ix2 k j) : EReal)
      = (z' (ix2 ⟨b.val * 2048 + (16 * n.val + k.val / 64), by omega⟩ ⟨g.val * 64 + k.val % 64, by omega⟩) * w (ix2 k j) : EReal)
        + (shapeCast S1x2048 p shapeCasts_S32x64_S1x2048 (ix2 0 k) * w (ix2 k j) : EReal) := by
    intro k
    rw [Ref.windows_apply, embedding_apply]
    exact distrib _ _ _ (hp _) (hw _)
  refine Eq.trans ?_ (Finset.sum_congr rfl fun k _ => hs k).symm
  rw [Finset.sum_add_distrib]
  refine congrArg₂ (· + ·) ?_ rfl
  refine Eq.trans ?_ (Fin.sum_univ_add (a := 1024) (b := 1024) _).symm
  refine congrArg₂ (· + ·) (Finset.sum_congr rfl fun k _ => ?_) (Finset.sum_congr rfl fun k _ => ?_)
  · rw [halves_apply, upper_apply, hz]
    refine congrArg₂ (· * ·) (congrArg z ?_) (congrArg w ?_)
    · congr 1 <;> (apply Fin.ext; simp only [Fin.val_castAdd]; omega)
    · congr 1
  · rw [halves_apply, lower_apply, hz]
    refine congrArg₂ (· * ·) (congrArg z ?_) (congrArg w ?_)
    · congr 1 <;> (apply Fin.ext; simp only [Fin.val_natAdd]; omega)
    · congr 1

/-! ## The results agree -/

variable (m : (ℓ : Loc nD τ sig) → Buf (Elt Ideal) ℓ)

theorem keysRes_apply (c : Dev nD) (b : Fin 8) (g : Fin 4) (n : Fin 127) (d : Fin 64) :
    keysRes m c (ix4 b g n d) = keysOf m c b (ix2 ⟨g.val * 128 + n.val, by omega⟩ d) := by
  have e : keysRes m c (ix4 b g n d) = G8 m c (ix2 ⟨b.val * 512 + g.val * 128 + n.val, by omega⟩ d) := by
    unfold keysRes
    pointwise
  rw [e]
  have e1 : (⟨(b.val * 512 + g.val * 128 + n.val) / 512, by omega⟩ : Fin 8) = b := Fin.ext (by dsimp only; omega)
  have e2 : (⟨(b.val * 512 + g.val * 128 + n.val) % 512, by omega⟩ : Fin 512) = ⟨g.val * 128 + n.val, by omega⟩ := Fin.ext (by dsimp only; omega)
  show keysOf m c ⟨(b.val * 512 + g.val * 128 + n.val) / 512, _⟩ (ix2 ⟨(b.val * 512 + g.val * 128 + n.val) % 512, _⟩ d) = _
  rw [e1, e2]

theorem valuesRes_apply (c : Dev nD) (b : Fin 8) (g : Fin 4) (n : Fin 127) (d : Fin 64) :
    valuesRes m c (ix4 d b g n) = valuesOf m c b (ix2 d ⟨g.val * 128 + n.val, by omega⟩) := by
  have e : valuesRes m c (ix4 d b g n) = G9 m c (ix2 d ⟨b.val * 512 + g.val * 128 + n.val, by omega⟩) := by
    unfold valuesRes
    pointwise
  rw [e]
  have e1 : (⟨(b.val * 512 + g.val * 128 + n.val) / 512, by omega⟩ : Fin 8) = b := Fin.ext (by dsimp only; omega)
  have e2 : (⟨(b.val * 512 + g.val * 128 + n.val) % 512, by omega⟩ : Fin 512) = ⟨g.val * 128 + n.val, by omega⟩ := Fin.ext (by dsimp only; omega)
  show valuesOf m c ⟨(b.val * 512 + g.val * 128 + n.val) / 512, _⟩ (ix2 d ⟨(b.val * 512 + g.val * 128 + n.val) % 512, _⟩) = _
  rw [e1, e2]

theorem columns_keys (z : FVec Ideal S16384x10240 .bf16) (r : Fin 16384) (k : Fin 256) :
    extractStridedSlice Cert.CompressRefIdeal.S16384x256 ![0, 7168] z Cert.CompressRefIdeal.Gen.slices_S16384x10240_S16384x256_0_7168 (ix2 r k) = z (ix2 r ⟨7168 + k.val, by omega⟩) := by
  pointwise

theorem columns_values (z : FVec Ideal S16384x10240 .bf16) (r : Fin 16384) (k : Fin 256) :
    extractStridedSlice Cert.CompressRefIdeal.S16384x256 ![0, 7424] z Cert.CompressRefIdeal.Gen.slices_S16384x10240_S16384x256_0_7424 (ix2 r k) = z (ix2 r ⟨7424 + k.val, by omega⟩) := by
  pointwise

theorem wv2_apply (w : FVec Ideal S256x64 .f32) (d : Fin 64) (j : Fin 256) : transpose S64x256 [1, 0] w transposes_S256x64_S64x256_1_0 (ix2 d j) = w (ix2 j d) := by
  pointwise

theorem turned_apply (x : FVec Ideal Cert.CompressRefIdeal.S8x4x127x64 .f32) (b : Fin 8) (g : Fin 4) (n : Fin 127) (d : Fin 64) :
    transpose Cert.CompressRefIdeal.S64x8x4x127 [3, 0, 1, 2] x Cert.CompressRefIdeal.Gen.transposes_S8x4x127x64_S64x8x4x127_3_0_1_2 (ix4 d b g n) = x (ix4 b g n d) := by
  pointwise

theorem keys_agree (c : Dev nD) (hp : ∀ i, (show FVec Ideal S32x64 .f32 from m ((c : Thread nD τ).loc main_arg1)) i ≠ (⊤ : EReal) ∧ (show FVec Ideal S32x64 .f32 from m ((c : Thread nD τ).loc main_arg1)) i ≠ (⊥ : EReal))
    (hw : ∀ i, (show FVec Ideal S2048x256 .f32 from m ((c : Thread nD τ).loc main_arg3)) i ≠ (⊤ : EReal) ∧ (show FVec Ideal S2048x256 .f32 from m ((c : Thread nD τ).loc main_arg3)) i ≠ (⊥ : EReal)) :
    Ref.result (extractStridedSlice Cert.CompressRefIdeal.S16384x256 ![0, 7168] (Z m c) Cert.CompressRefIdeal.Gen.slices_S16384x10240_S16384x256_0_7168)
      (m ((c : Thread nD τ).loc main_arg1)) (m ((c : Thread nD τ).loc main_arg3)) (m ((c : Thread nD τ).loc main_arg4)) = keysRes m c := by
  funext i
  obtain ⟨b, g, n, d, rfl⟩ : ∃ (b : Fin 8) (g : Fin 4) (n : Fin 127) (d : Fin 64), i = ix4 b g n d := ⟨i 0, i 1, i 2, i 3, eq_ix4 i⟩
  rw [keysRes_apply, Ref.result_apply]
  unfold keysOf
  rw [keys_apply]
  refine Finset.sum_congr rfl fun j _ => congrArg (· * _) ?_
  rw [act_apply]
  exact congrArg Gmlp.gelu (hidden_eq (Z m c) _ ⟨7168, by omega⟩ (columns_keys (Z m c)) _ _ hp hw b g n j).symm

theorem values_agree (c : Dev nD) (hp : ∀ i, (show FVec Ideal S32x64 .f32 from m ((c : Thread nD τ).loc main_arg2)) i ≠ (⊤ : EReal) ∧ (show FVec Ideal S32x64 .f32 from m ((c : Thread nD τ).loc main_arg2)) i ≠ (⊥ : EReal))
    (hw : ∀ i, (show FVec Ideal S2048x256 .f32 from m ((c : Thread nD τ).loc main_arg5)) i ≠ (⊤ : EReal) ∧ (show FVec Ideal S2048x256 .f32 from m ((c : Thread nD τ).loc main_arg5)) i ≠ (⊥ : EReal)) :
    transpose Cert.CompressRefIdeal.S64x8x4x127 [3, 0, 1, 2] (Ref.result (extractStridedSlice Cert.CompressRefIdeal.S16384x256 ![0, 7424] (Z m c) Cert.CompressRefIdeal.Gen.slices_S16384x10240_S16384x256_0_7424)
      (m ((c : Thread nD τ).loc main_arg2)) (m ((c : Thread nD τ).loc main_arg5)) (m ((c : Thread nD τ).loc main_arg6))) Cert.CompressRefIdeal.Gen.transposes_S8x4x127x64_S64x8x4x127_3_0_1_2 = valuesRes m c := by
  funext i
  obtain ⟨d, b, g, n, rfl⟩ : ∃ (d : Fin 64) (b : Fin 8) (g : Fin 4) (n : Fin 127), i = ix4 d b g n := ⟨i 0, i 1, i 2, i 3, eq_ix4 i⟩
  rw [valuesRes_apply, turned_apply, Ref.result_apply]
  unfold valuesOf
  rw [values_apply]
  refine Finset.sum_congr rfl fun j _ => ?_
  rw [act_apply]
  refine (mul_comm _ _).trans (congrArg₂ (· * ·) (wv2_apply _ d j).symm ?_)
  exact congrArg Gmlp.gelu (hidden_eq (Z m c) _ ⟨7424, by omega⟩ (columns_values (Z m c)) _ _ hp hw b g n j).symm

/-- On finite position embeddings and first layers, the kernel computes the compressed keys and values. -/
theorem algebraic : Cert.algebraic_CompressIdeal_CompressRefIdeal_pre_finite_compression (hCompressIdeal := CompressIdeal.Gen.facts) (hCompressRefIdeal := CompressRefIdeal.Gen.facts)
    (hPre_finite_compression := preFacts) := by
  intro m ρ m' ρ' hpre hag
  refine ⟨fun c => keysRes m c, fun c => valuesRes m c, ?_, ?_⟩
  · exact (θ_run _ _ _).mono (fun _ h c => ⟨(h.1 c).1, (h.1 c).2, h.2 c⟩) (θ_run_and (run m ρ) (Cert.CompressIdeal.Gen.unchanged (F := Ideal) m ρ))
  · refine (θ_run _ _ _).mono (fun _ h c => ⟨(h c).1.trans ?_, (h c).2.1.trans ?_, (h c).2.2⟩) (Cert.CompressRefIdeal.Value.run (F := Ideal) m' ρ')
    · obtain ⟨h1, h3, -, -⟩ := @finite_arguments preFacts _ _ _ _ _ _ _ (hpre c)
      rw [Ref.keys_eq, (hag c).1, (hag c).2.1, (hag c).2.2.2.1, (hag c).2.2.2.2.1]
      exact keys_agree m c h1 h3
    · obtain ⟨-, -, h2, h5⟩ := @finite_arguments preFacts _ _ _ _ _ _ _ (hpre c)
      rw [Ref.values_eq, (hag c).1, (hag c).2.2.1, (hag c).2.2.2.2.2.1, (hag c).2.2.2.2.2.2]
      exact values_agree m c h2 h5

end Cert.Calls.Compress
-- ==== Proof.lean ====
/- The claims of the layer's calls, from the modules that prove them. -/
module

public import proofs.«01_k».proof.Defs
public import proofs.«01_k».proof.Proof.Gen.Kernel.Frame
public import proofs.«01_k».proof.Proof.RglruValue
public import proofs.«01_k».proof.Proof.Gen.Ffn.Frame
public import proofs.«01_k».proof.Proof.Gen.FfnIdeal.Frame
public import proofs.«01_k».proof.Proof.Gen.FfnRefIdeal.Run
public import proofs.«01_k».proof.Proof.FfnValue
public import proofs.«01_k».proof.Proof.Gen.Merge.Frame
public import proofs.«01_k».proof.Proof.Gen.MergeIdeal.Frame
public import proofs.«01_k».proof.Proof.Gen.MergeRefIdeal.Run
public import proofs.«01_k».proof.Proof.MergeValue
public import proofs.«01_k».proof.Proof.Gen.InProj.Frame
public import proofs.«01_k».proof.Proof.Gen.InProjIdeal.Frame
public import proofs.«01_k».proof.Proof.Gen.InProjRefIdeal.Run
public import proofs.«01_k».proof.Proof.InProjValue
public import proofs.«01_k».proof.Proof.Gen.Gmlp.Frame
public import proofs.«01_k».proof.Proof.Gen.GmlpIdeal.Frame
public import proofs.«01_k».proof.Proof.Gen.GmlpRefIdeal.Run
public import proofs.«01_k».proof.Proof.GmlpValue
public import proofs.«01_k».proof.Proof.Gen.Reorder.Frame
public import proofs.«01_k».proof.Proof.Gen.ReorderIdeal.Frame
public import proofs.«01_k».proof.Proof.Gen.ReorderRefIdeal.Run
public import proofs.«01_k».proof.Proof.ReorderValue
public import proofs.«01_k».proof.Proof.Gen.Compress.Frame
public import proofs.«01_k».proof.Proof.Gen.CompressIdeal.Frame
public import proofs.«01_k».proof.Proof.Gen.CompressRefIdeal.Run
public import proofs.«01_k».proof.Proof.CompressValue
public import Idealize.ShloMosaic.Adequacy
public import Idealize.ShloMosaic.Init
public import Idealize.ShloMosaic.Lib.Quiescent

@[expose] public section

noncomputable section

namespace Cert.Proof

open Idealize.ShloMosaic Idealize.SL.Sem

/-- Every claim of the calls: the runs' frames, and the values against the plain mathematics. -/
theorem claim : Cert.Claim :=
  ⟨Cert.Kernel.Gen.facts, Cert.KernelIdeal.Gen.facts, Cert.ReferenceIdeal.Gen.facts, Cert.Ffn.Gen.facts, Cert.FfnIdeal.Gen.facts, Cert.FfnRefIdeal.Gen.facts, Cert.Merge.Gen.facts, Cert.MergeIdeal.Gen.facts, Cert.MergeRefIdeal.Gen.facts, Cert.InProj.Gen.facts, Cert.InProjIdeal.Gen.facts, Cert.InProjRefIdeal.Gen.facts, Cert.Gmlp.Gen.facts, Cert.GmlpIdeal.Gen.facts, Cert.GmlpRefIdeal.Gen.facts, Cert.Reorder.Gen.facts, Cert.ReorderIdeal.Gen.facts, Cert.ReorderRefIdeal.Gen.facts, Cert.Compress.Gen.facts, Cert.CompressIdeal.Gen.facts, Cert.CompressRefIdeal.Gen.facts, Cert.Calls.Compress.preFacts,
    Cert.Calls.Rglru.frame_kernel, Cert.Calls.Rglru.frame_ideal, Cert.Calls.Rglru.frame_reference,
    fun m ρ _ => Cert.Ffn.Gen.frame m ρ, fun m ρ _ => Cert.FfnIdeal.Gen.frame m ρ, fun m ρ _ => (θ_run _ _ _).mono (fun r h => ⟨fun c => (h c).2, sem_eq_zero_of_no_sems rfl r.2⟩) (Cert.FfnRefIdeal.Value.run (F := Ideal) m ρ),
    fun m ρ _ => Cert.Merge.Gen.frame m ρ, fun m ρ _ => Cert.MergeIdeal.Gen.frame m ρ, fun m ρ _ => (θ_run _ _ _).mono (fun r h => ⟨fun c => (h c).2.2, sem_eq_zero_of_no_sems rfl r.2⟩) (Cert.MergeRefIdeal.Value.run (F := Ideal) m ρ),
    fun m ρ _ => Cert.InProj.Gen.frame m ρ, fun m ρ _ => Cert.InProjIdeal.Gen.frame m ρ, fun m ρ _ => (θ_run _ _ _).mono (fun r h => ⟨fun c => (h c).2, sem_eq_zero_of_no_sems rfl r.2⟩) (Cert.InProjRefIdeal.Value.run (F := Ideal) m ρ),
    fun m ρ _ => Cert.Gmlp.Gen.frame m ρ, fun m ρ _ => Cert.GmlpIdeal.Gen.frame m ρ, fun m ρ _ => (θ_run _ _ _).mono (fun r h => ⟨fun c => (h c).2, sem_eq_zero_of_no_sems rfl r.2⟩) (Cert.GmlpRefIdeal.Value.run (F := Ideal) m ρ),
    fun m ρ _ => Cert.Reorder.Gen.frame m ρ, fun m ρ _ => Cert.ReorderIdeal.Gen.frame m ρ, fun m ρ _ => (θ_run _ _ _).mono (fun r h => ⟨fun c => (h c).2, sem_eq_zero_of_no_sems rfl r.2⟩) (Cert.ReorderRefIdeal.Value.run (F := Ideal) m ρ),
    fun m ρ _ => Cert.Compress.Gen.frame m ρ, fun m ρ _ => Cert.CompressIdeal.Gen.frame m ρ, fun m ρ _ => Cert.CompressIdeal.Gen.frame m ρ,
    fun m ρ _ => (θ_run _ _ _).mono (fun r h => ⟨fun c => (h c).2.2, sem_eq_zero_of_no_sems rfl r.2⟩) (Cert.CompressRefIdeal.Value.run (F := Ideal) m ρ),
    fun m ρ _ => (θ_run _ _ _).mono (fun r h => ⟨fun c => (h c).2.2, sem_eq_zero_of_no_sems rfl r.2⟩) (Cert.CompressRefIdeal.Value.run (F := Ideal) m ρ),
    trivial, Cert.Calls.Rglru.algebraic,
    trivial, Cert.Calls.Ffn.algebraic,
    trivial, Cert.Calls.Merge.algebraic,
    trivial, Cert.Calls.InProj.algebraic,
    trivial, Cert.Calls.Gmlp.algebraic,
    trivial, Cert.Calls.Reorder.algebraic,
    trivial, Cert.Calls.Compress.algebraic⟩

end Cert.Proof

end
